-- ==== Defs.lean ====
def Pre_Kernel [hPre_counts_ok : Cert.Pre_counts_ok.Facts] (m : (ℓ : Loc Cert.Kernel.nD Cert.Kernel.τ Cert.Kernel.sig) → Buf (Elt Bits) ℓ) : Prop :=
  ∀ c : Dev Cert.Kernel.nD,
    (Cert.Pre_counts_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_Reference [hPre_counts_ok : Cert.Pre_counts_ok.Facts] (m : (ℓ : Loc Cert.Reference.nD Cert.Reference.τ Cert.Reference.sig) → Buf (Elt Bits) ℓ) : Prop :=
  ∀ c : Dev Cert.Reference.nD,
    (Cert.Pre_counts_ok.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4))) = (fun _ => 1#1)

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def quiescent_Kernel [hKernel : Cert.Kernel.Facts] [hPre_counts_ok : Cert.Pre_counts_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_Reference [hReference : Cert.Reference.Facts] [hPre_counts_ok : Cert.Pre_counts_ok.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7)
      ∧ r.2.mem ((c.tc : Thread Cert.MixKernel.nD Cert.MixKernel.τ).loc Cert.MixKernel.main_arg8) = m ((c.tc : Thread Cert.MixKernel.nD Cert.MixKernel.τ).loc Cert.MixKernel.main_arg8)
      ∧ r.2.mem ((c.tc : Thread Cert.MixKernel.nD Cert.MixKernel.τ).loc Cert.MixKernel.main_arg9) = m ((c.tc : Thread Cert.MixKernel.nD Cert.MixKernel.τ).loc Cert.MixKernel.main_arg9)
      ∧ r.2.mem ((c.tc : Thread Cert.MixKernel.nD Cert.MixKernel.τ).loc Cert.MixKernel.main_arg10) = m ((c.tc : Thread Cert.MixKernel.nD Cert.MixKernel.τ).loc Cert.MixKernel.main_arg10)
      ∧ r.2.mem ((c.tc : Thread Cert.MixKernel.nD Cert.MixKernel.τ).loc Cert.MixKernel.main_arg11) = m ((c.tc : Thread Cert.MixKernel.nD Cert.MixKernel.τ).loc Cert.MixKernel.main_arg11)
      ∧ r.2.mem ((c.tc : Thread Cert.MixKernel.nD Cert.MixKernel.τ).loc Cert.MixKernel.main_arg12) = m ((c.tc : Thread Cert.MixKernel.nD Cert.MixKernel.τ).loc Cert.MixKernel.main_arg12)
      ∧ r.2.mem ((c.tc : Thread Cert.MixKernel.nD Cert.MixKernel.τ).loc Cert.MixKernel.main_arg13) = m ((c.tc : Thread Cert.MixKernel.nD Cert.MixKernel.τ).loc Cert.MixKernel.main_arg13)
      ∧ r.2.mem ((c.tc : Thread Cert.MixKernel.nD Cert.MixKernel.τ).loc Cert.MixKernel.main_arg14) = m ((c.tc : Thread Cert.MixKernel.nD Cert.MixKernel.τ).loc Cert.MixKernel.main_arg14)
      ∧ r.2.mem ((c.tc : Thread Cert.MixKernel.nD Cert.MixKernel.τ).loc Cert.MixKernel.main_arg15) = m ((c.tc : Thread Cert.MixKernel.nD Cert.MixKernel.τ).loc Cert.MixKernel.main_arg15))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
      ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
      ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10)
      ∧ r.2.mem ((c.tc : Thread Cert.MixKernelIdeal.nD Cert.MixKernelIdeal.τ).loc Cert.MixKernelIdeal.main_arg11) = m ((c.tc : Thread Cert.MixKernelIdeal.nD Cert.MixKernelIdeal.τ).loc Cert.MixKernelIdeal.main_arg11)
      ∧ r.2.mem ((c.tc : Thread Cert.MixKernelIdeal.nD Cert.MixKernelIdeal.τ).loc Cert.MixKernelIdeal.main_arg12) = m ((c.tc : Thread Cert.MixKernelIdeal.nD Cert.MixKernelIdeal.τ).loc Cert.MixKernelIdeal.main_arg12)
      ∧ r.2.mem ((c.tc : Thread Cert.MixKernelIdeal.nD Cert.MixKernelIdeal.τ).loc Cert.MixKernelIdeal.main_arg13) = m ((c.tc : Thread Cert.MixKernelIdeal.nD Cert.MixKernelIdeal.τ).loc Cert.MixKernelIdeal.main_arg13)
      ∧ r.2.mem ((c.tc : Thread Cert.MixKernelIdeal.nD Cert.MixKernelIdeal.τ).loc Cert.MixKernelIdeal.main_arg14) = m ((c.tc : Thread Cert.MixKernelIdeal.nD Cert.MixKernelIdeal.τ).loc Cert.MixKernelIdeal.main_arg14)
      ∧ r.2.mem ((c.tc : Thread Cert.MixKernelIdeal.nD Cert.MixKernelIdeal.τ).loc Cert.MixKernelIdeal.main_arg15) = m ((c.tc : Thread Cert.MixKernelIdeal.nD Cert.MixKernelIdeal.τ).loc Cert.MixKernelIdeal.main_arg15))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12)
      ∧ r.2.mem ((c.tc : Thread Cert.MixReferenceIdeal.nD Cert.MixReferenceIdeal.τ).loc Cert.MixReferenceIdeal.main_arg13) = m ((c.tc : Thread Cert.MixReferenceIdeal.nD Cert.MixReferenceIdeal.τ).loc Cert.MixReferenceIdeal.main_arg13)
      ∧ r.2.mem ((c.tc : Thread Cert.MixReferenceIdeal.nD Cert.MixReferenceIdeal.τ).loc Cert.MixReferenceIdeal.main_arg14) = m ((c.tc : Thread Cert.MixReferenceIdeal.nD Cert.MixReferenceIdeal.τ).loc Cert.MixReferenceIdeal.main_arg14)
      ∧ r.2.mem ((c.tc : Thread Cert.MixReferenceIdeal.nD Cert.MixReferenceIdeal.τ).loc Cert.MixReferenceIdeal.main_arg15) = m ((c.tc : Thread Cert.MixReferenceIdeal.nD Cert.MixReferenceIdeal.τ).loc Cert.MixReferenceIdeal.main_arg15))
      ∧ r.2.sem = fun _ => 0)

def bitexact_Kernel_Reference [hKernel : Cert.Kernel.Facts] [hReference : Cert.Reference.Facts] [hPre_counts_ok : Cert.Pre_counts_ok.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)) →
    ∃ (v0 : (c : Dev Cert.Kernel.nD) → Buf (Elt Bits) ((c.tc : Thread Cert.Kernel.nD Cert.Kernel.τ).loc Cert.Kernel.main_v93)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v93) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v14) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)
      ∧ m' ((c.tc : Thread Cert.MixReferenceIdeal.nD Cert.MixReferenceIdeal.τ).loc Cert.MixReferenceIdeal.main_arg8) = m ((c.tc : Thread Cert.MixKernelIdeal.nD Cert.MixKernelIdeal.τ).loc Cert.MixKernelIdeal.main_arg8)
      ∧ m' ((c.tc : Thread Cert.MixReferenceIdeal.nD Cert.MixReferenceIdeal.τ).loc Cert.MixReferenceIdeal.main_arg9) = m ((c.tc : Thread Cert.MixKernelIdeal.nD Cert.MixKernelIdeal.τ).loc Cert.MixKernelIdeal.main_arg9)
      ∧ m' ((c.tc : Thread Cert.MixReferenceIdeal.nD Cert.MixReferenceIdeal.τ).loc Cert.MixReferenceIdeal.main_arg10) = m ((c.tc : Thread Cert.MixKernelIdeal.nD Cert.MixKernelIdeal.τ).loc Cert.MixKernelIdeal.main_arg10)
      ∧ m' ((c.tc : Thread Cert.MixReferenceIdeal.nD Cert.MixReferenceIdeal.τ).loc Cert.MixReferenceIdeal.main_arg11) = m ((c.tc : Thread Cert.MixKernelIdeal.nD Cert.MixKernelIdeal.τ).loc Cert.MixKernelIdeal.main_arg11)
      ∧ m' ((c.tc : Thread Cert.MixReferenceIdeal.nD Cert.MixReferenceIdeal.τ).loc Cert.MixReferenceIdeal.main_arg12) = m ((c.tc : Thread Cert.MixKernelIdeal.nD Cert.MixKernelIdeal.τ).loc Cert.MixKernelIdeal.main_arg12)
      ∧ m' ((c.tc : Thread Cert.MixReferenceIdeal.nD Cert.MixReferenceIdeal.τ).loc Cert.MixReferenceIdeal.main_arg13) = m ((c.tc : Thread Cert.MixKernelIdeal.nD Cert.MixKernelIdeal.τ).loc Cert.MixKernelIdeal.main_arg13)
      ∧ m' ((c.tc : Thread Cert.MixReferenceIdeal.nD Cert.MixReferenceIdeal.τ).loc Cert.MixReferenceIdeal.main_arg14) = m ((c.tc : Thread Cert.MixKernelIdeal.nD Cert.MixKernelIdeal.τ).loc Cert.MixKernelIdeal.main_arg14)
      ∧ m' ((c.tc : Thread Cert.MixReferenceIdeal.nD Cert.MixReferenceIdeal.τ).loc Cert.MixReferenceIdeal.main_arg15) = m ((c.tc : Thread Cert.MixKernelIdeal.nD Cert.MixKernelIdeal.τ).loc Cert.MixKernelIdeal.main_arg15)) →
    ∃ (v0 : (c : Dev Cert.MixKernelIdeal.nD) → Buf (Elt Ideal) ((c.tc : Thread Cert.MixKernelIdeal.nD Cert.MixKernelIdeal.τ).loc Cert.MixKernelIdeal.main_v281_5)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v281_5) = v0 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
          ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
          ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
          ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10)
          ∧ r.2.mem ((c.tc : Thread Cert.MixKernelIdeal.nD Cert.MixKernelIdeal.τ).loc Cert.MixKernelIdeal.main_arg11) = m ((c.tc : Thread Cert.MixKernelIdeal.nD Cert.MixKernelIdeal.τ).loc Cert.MixKernelIdeal.main_arg11)
          ∧ r.2.mem ((c.tc : Thread Cert.MixKernelIdeal.nD Cert.MixKernelIdeal.τ).loc Cert.MixKernelIdeal.main_arg12) = m ((c.tc : Thread Cert.MixKernelIdeal.nD Cert.MixKernelIdeal.τ).loc Cert.MixKernelIdeal.main_arg12)
          ∧ r.2.mem ((c.tc : Thread Cert.MixKernelIdeal.nD Cert.MixKernelIdeal.τ).loc Cert.MixKernelIdeal.main_arg13) = m ((c.tc : Thread Cert.MixKernelIdeal.nD Cert.MixKernelIdeal.τ).loc Cert.MixKernelIdeal.main_arg13)
          ∧ r.2.mem ((c.tc : Thread Cert.MixKernelIdeal.nD Cert.MixKernelIdeal.τ).loc Cert.MixKernelIdeal.main_arg14) = m ((c.tc : Thread Cert.MixKernelIdeal.nD Cert.MixKernelIdeal.τ).loc Cert.MixKernelIdeal.main_arg14)
          ∧ r.2.mem ((c.tc : Thread Cert.MixKernelIdeal.nD Cert.MixKernelIdeal.τ).loc Cert.MixKernelIdeal.main_arg15) = m ((c.tc : Thread Cert.MixKernelIdeal.nD Cert.MixKernelIdeal.τ).loc Cert.MixKernelIdeal.main_arg15))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v20) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11)
          ∧ r.2.mem ((c.tc : Thread Cert.MixReferenceIdeal.nD Cert.MixReferenceIdeal.τ).loc Cert.MixReferenceIdeal.main_arg12) = m' ((c.tc : Thread Cert.MixReferenceIdeal.nD Cert.MixReferenceIdeal.τ).loc Cert.MixReferenceIdeal.main_arg12)
          ∧ r.2.mem ((c.tc : Thread Cert.MixReferenceIdeal.nD Cert.MixReferenceIdeal.τ).loc Cert.MixReferenceIdeal.main_arg13) = m' ((c.tc : Thread Cert.MixReferenceIdeal.nD Cert.MixReferenceIdeal.τ).loc Cert.MixReferenceIdeal.main_arg13)
          ∧ r.2.mem ((c.tc : Thread Cert.MixReferenceIdeal.nD Cert.MixReferenceIdeal.τ).loc Cert.MixReferenceIdeal.main_arg14) = m' ((c.tc : Thread Cert.MixReferenceIdeal.nD Cert.MixReferenceIdeal.τ).loc Cert.MixReferenceIdeal.main_arg14)
          ∧ r.2.mem ((c.tc : Thread Cert.MixReferenceIdeal.nD Cert.MixReferenceIdeal.τ).loc Cert.MixReferenceIdeal.main_arg15) = m' ((c.tc : Thread Cert.MixReferenceIdeal.nD Cert.MixReferenceIdeal.τ).loc Cert.MixReferenceIdeal.main_arg15))

def Claim : Prop :=
  ∃ (hKernel : Cert.Kernel.Facts) (hReference : Cert.Reference.Facts) (hMixKernel : Cert.MixKernel.Facts) (hMixKernelIdeal : Cert.MixKernelIdeal.Facts) (hMixReferenceIdeal : Cert.MixReferenceIdeal.Facts) (hPre_counts_ok : Cert.Pre_counts_ok.Facts),
    quiescent_Kernel (hKernel := hKernel) (hPre_counts_ok := hPre_counts_ok)
    ∧ quiescent_Reference (hReference := hReference) (hPre_counts_ok := hPre_counts_ok)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ bitexact_Kernel_Reference (hKernel := hKernel) (hReference := hReference) (hPre_counts_ok := hPre_counts_ok)
    ∧ preserves_MixKernel_MixKernelIdeal
    ∧ algebraic_MixKernelIdeal_MixReferenceIdeal (hMixKernelIdeal := hMixKernelIdeal) (hMixReferenceIdeal := hMixReferenceIdeal)
-- ==== Pre_counts_ok.lean ====
abbrev S32 : Shape := ⟨1, ![32]⟩
abbrev S230432x128 : Shape := ⟨2, ![230432, 128]⟩
abbrev S1x32x1024x512 : Shape := ⟨4, ![1, 32, 1024, 512]⟩
abbrev S1x32x512x1024 : Shape := ⟨4, ![1, 32, 512, 1024]⟩
abbrev S_ : Shape := ⟨0, ![]⟩

class Facts : Prop where
  reducesTo_S32_S_d0 : S32.ReducesTo [0] S_
  h_S_ : 0 < S_.numel

variable [Facts]

def fn {F : FTy → Type} [FloatOps F] (main_arg0 : IVec S32 32) (main_arg1 : IVec S230432x128 32) (main_arg2 : FVec F S1x32x1024x512 .f32) (main_arg3 : FVec F S1x32x1024x512 .f32) (main_arg4 : FVec F S1x32x512x1024 .f32) : IVec S_ 1 :=
  let main_c : IVec S_ 32 := constantI S_ 32 2147483647#32
  let main_v0 : IVec S_ 32 := (fun x v => Host.reduce IntOp.minsi x v reducesTo_S32_S_d0 h_S_) main_arg0 main_c
  let main_c_0 : IVec S_ 32 := constantI S_ 32 0#32
  let main_v1 : IVec S_ 1 := cmpi .sge main_v0 main_c_0
  let main_c_1 : IVec S_ 32 := constantI S_ 32 2147483648#32
  let main_v2 : IVec S_ 32 := (fun x v => Host.reduce IntOp.maxsi x v reducesTo_S32_S_d0 h_S_) main_arg0 main_c_1
  let main_c_2 : IVec S_ 32 := constantI S_ 32 36992#32
  let main_v3 : IVec S_ 1 := cmpi .sle main_v2 main_c_2
  let main_v4 : IVec S_ 1 := andi main_v1 main_v3
  let main_c_3 : IVec S_ 32 := constantI S_ 32 0#32
  let main_v5 : IVec S_ 32 := (fun x v => Host.reduce IntOp.addi x v reducesTo_S32_S_d0 h_S_) main_arg0 main_c_3
  let main_c_4 : IVec S_ 32 := constantI S_ 32 36992#32
  let main_v6 : IVec S_ 1 := cmpi .sle main_v5 main_c_4
  let main_v7 : IVec S_ 1 := andi main_v4 main_v6
  main_v7
-- ==== Kernel.lean ====
abbrev S32 : Shape := ⟨1, ![32]⟩
abbrev S230432x128 : Shape := ⟨2, ![230432, 128]⟩
abbrev S1x32x1024x512 : Shape := ⟨4, ![1, 32, 1024, 512]⟩
abbrev S1x32x512x1024 : Shape := ⟨4, ![1, 32, 512, 1024]⟩
abbrev S_ : Shape := ⟨0, ![]⟩
abbrev S1 : Shape := ⟨1, ![1]⟩
abbrev S90 : Shape := ⟨1, ![90]⟩
abbrev S90x1 : Shape := ⟨2, ![90, 1]⟩
abbrev S1x32 : Shape := ⟨2, ![1, 32]⟩
abbrev S90x32 : Shape := ⟨2, ![90, 32]⟩
abbrev S32x1 : Shape := ⟨2, ![32, 1]⟩
abbrev S32x32 : Shape := ⟨2, ![32, 32]⟩
abbrev S32x1024x512 : Shape := ⟨3, ![32, 1024, 512]⟩
abbrev S32x512x1024 : Shape := ⟨3, ![32, 512, 1024]⟩
abbrev S230400x128 : Shape := ⟨2, ![230400, 128]⟩
abbrev S2560x128 : Shape := ⟨2, ![2560, 128]⟩
abbrev S3x2560x128 : Shape := ⟨3, ![3, 2560, 128]⟩
abbrev S3x1024x512 : Shape := ⟨3, ![3, 1024, 512]⟩
abbrev S3x512x1024 : Shape := ⟨3, ![3, 512, 1024]⟩
abbrev S1024x512 : Shape := ⟨2, ![1024, 512]⟩
abbrev S512x1024 : Shape := ⟨2, ![512, 1024]⟩
abbrev S3 : Shape := ⟨1, ![3]⟩
abbrev S1x2560x128 : Shape := ⟨3, ![1, 2560, 128]⟩
abbrev S1x1024x512 : Shape := ⟨3, ![1, 1024, 512]⟩
abbrev S1x512x1024 : Shape := ⟨3, ![1, 512, 1024]⟩
abbrev S128x128 : Shape := ⟨2, ![128, 128]⟩
abbrev S128x512 : Shape := ⟨2, ![128, 512]⟩
abbrev S128x1024 : Shape := ⟨2, ![128, 1024]⟩
abbrev S512x512 : Shape := ⟨2, ![512, 512]⟩
abbrev S512x128 : Shape := ⟨2, ![512, 128]⟩
abbrev S2048x128 : Shape := ⟨2, ![2048, 128]⟩
abbrev S256x128 : Shape := ⟨2, ![256, 128]⟩
abbrev S256x512 : Shape := ⟨2, ![256, 512]⟩
abbrev S256x1024 : Shape := ⟨2, ![256, 1024]⟩
abbrev S384x1024 : Shape := ⟨2, ![384, 1024]⟩
abbrev S384x512 : Shape := ⟨2, ![384, 512]⟩
abbrev S384x128 : Shape := ⟨2, ![384, 128]⟩
abbrev S1536x128 : Shape := ⟨2, ![1536, 128]⟩
abbrev S1024x128 : Shape := ⟨2, ![1024, 128]⟩
abbrev S640x128 : Shape := ⟨2, ![640, 128]⟩
abbrev S640x512 : Shape := ⟨2, ![640, 512]⟩
abbrev S640x1024 : Shape := ⟨2, ![640, 1024]⟩

abbrev nBuf : Space → Nat
  | .hbm => 221
  | .vmem => 10
  | .smem => 6
  | _ => 0

abbrev hbmTy0_0 (i : Nat) : BufTy := match i % 128 with
  | 0 => ⟨S32, .i32⟩
  | 1 => ⟨S230432x128, .i32⟩
  | 2 => ⟨S1x32x1024x512, .f32⟩
  | 3 => ⟨S1x32x1024x512, .f32⟩
  | 4 => ⟨S1x32x512x1024, .f32⟩
  | 5 => ⟨S_, .i32⟩
  | 6 => ⟨S32, .i32⟩
  | 7 => ⟨S32, .i32⟩
  | 8 => ⟨S_, .i32⟩
  | 9 => ⟨S32, .i32⟩
  | 10 => ⟨S32, .i32⟩
  | 11 => ⟨S_, .i32⟩
  | 12 => ⟨S_, .i32⟩
  | 13 => ⟨S32, .i32⟩
  | 14 => ⟨S32, .i32⟩
  | 15 => ⟨S32, .i32⟩
  | 16 => ⟨S_, .i32⟩
  | 17 => ⟨S32, .i32⟩
  | 18 => ⟨S32, .i1⟩
  | 19 => ⟨S32, .i32⟩
  | 20 => ⟨S32, .i32⟩
  | 21 => ⟨S_, .i32⟩
  | 22 => ⟨S32, .i32⟩
  | 23 => ⟨S32, .i1⟩
  | 24 => ⟨S32, .i1⟩
  | 25 => ⟨S_, .i32⟩
  | 26 => ⟨S32, .i32⟩
  | 27 => ⟨S32, .i32⟩
  | 28 => ⟨S32, .i32⟩
  | 29 => ⟨S_, .i32⟩
  | 30 => ⟨S32, .i32⟩
  | 31 => ⟨S32, .i32⟩
  | 32 => ⟨S_, .i32⟩
  | 33 => ⟨S_, .i32⟩
  | 34 => ⟨S32, .i32⟩
  | 35 => ⟨S32, .i32⟩
  | 36 => ⟨S1, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S_, .i1⟩
  | 47 => ⟨S_, .i1⟩
  | 48 => ⟨S_, .i32⟩
  | 49 => ⟨S_, .i32⟩
  | 50 => ⟨S_, .i32⟩
  | 51 => ⟨S90, .i32⟩
  | 52 => ⟨S_, .i32⟩
  | 53 => ⟨S1, .i32⟩
  | 54 => ⟨S1, .i32⟩
  | 55 => ⟨S90, .i32⟩
  | 56 => ⟨S90, .i32⟩
  | 57 => ⟨S90x1, .i32⟩
  | 58 => ⟨S_, .i32⟩
  | 59 => ⟨S90x1, .i32⟩
  | 60 => ⟨S90x1, .i32⟩
  | 61 => ⟨S1x32, .i32⟩
  | 62 => ⟨S90x32, .i32⟩
  | 63 => ⟨S90x32, .i32⟩
  | 64 => ⟨S90x32, .i1⟩
  | 65 => ⟨S90x32, .i32⟩
  | 66 => ⟨S_, .i32⟩
  | 67 => ⟨S90, .i32⟩
  | 68 => ⟨S_, .i32⟩
  | 69 => ⟨S90, .i32⟩
  | 70 => ⟨S90x1, .i32⟩
  | 71 => ⟨S32, .i32⟩
  | 72 => ⟨S1x32, .i32⟩
  | 73 => ⟨S90x32, .i32⟩
  | 74 => ⟨S90x32, .i32⟩
  | 75 => ⟨S90x32, .i1⟩
  | 76 => ⟨S32, .i32⟩
  | 77 => ⟨S1x32, .i32⟩
  | 78 => ⟨S_, .i32⟩
  | 79 => ⟨S_, .i32⟩
  | 80 => ⟨S90x32, .i32⟩
  | 81 => ⟨S90x32, .i32⟩
  | 82 => ⟨S90x32, .i32⟩
  | 83 => ⟨S_, .i32⟩
  | 84 => ⟨S90, .i32⟩
  | 85 => ⟨S_, .i32⟩
  | 86 => ⟨S90, .i32⟩
  | 87 => ⟨S90, .i32⟩
  | 88 => ⟨S90, .i32⟩
  | 89 => ⟨S_, .i32⟩
  | 90 => ⟨S90, .i32⟩
  | 91 => ⟨S90, .i32⟩
  | 92 => ⟨S_, .i32⟩
  | 93 => ⟨S90, .i32⟩
  | 94 => ⟨S90, .i32⟩
  | 95 => ⟨S_, .i32⟩
  | 96 => ⟨S_, .i32⟩
  | 97 => ⟨S90, .i32⟩
  | 98 => ⟨S90, .i32⟩
  | 99 => ⟨S90, .i32⟩
  | 100 => ⟨S_, .i32⟩
  | 101 => ⟨S90, .i32⟩
  | 102 => ⟨S90, .i1⟩
  | 103 => ⟨S90, .i32⟩
  | 104 => ⟨S90, .i32⟩
  | 105 => ⟨S_, .i32⟩
  | 106 => ⟨S90, .i32⟩
  | 107 => ⟨S90, .i1⟩
  | 108 => ⟨S90, .i1⟩
  | 109 => ⟨S_, .i32⟩
  | 110 => ⟨S90, .i32⟩
  | 111 => ⟨S90, .i32⟩
  | 112 => ⟨S90, .i32⟩
  | 113 => ⟨S_, .i32⟩
  | 114 => ⟨S_, .i32⟩
  | 115 => ⟨S_, .i32⟩
  | 116 => ⟨S90, .i32⟩
  | 117 => ⟨S90, .i32⟩
  | 118 => ⟨S_, .i32⟩
  | 119 => ⟨S90, .i32⟩
  | 120 => ⟨S32, .i32⟩
  | 121 => ⟨S_, .i32⟩
  | 122 => ⟨S32, .i32⟩
  | 123 => ⟨S32, .i1⟩
  | 124 => ⟨S32, .i32⟩
  | 125 => ⟨S_, .i32⟩
  | 126 => ⟨S_, .i32⟩
  | 127 => ⟨S32, .i32⟩
  | _ => ⟨S32, .i32⟩

abbrev hbmTy0_1 (i : Nat) : BufTy := match i % 128 with
  | 0 => ⟨S_, .i32⟩
  | 1 => ⟨S32, .i32⟩
  | 2 => ⟨S32, .i32⟩
  | 3 => ⟨S1x32, .i1⟩
  | 4 => ⟨S1x32, .i32⟩
  | 5 => ⟨S32x1, .i32⟩
  | 6 => ⟨S32x32, .i32⟩
  | 7 => ⟨S32x32, .i32⟩
  | 8 => ⟨S32x32, .i1⟩
  | 9 => ⟨S32x32, .i1⟩
  | 10 => ⟨S32x32, .i1⟩
  | 11 => ⟨S1x32, .i32⟩
  | 12 => ⟨S_, .i32⟩
  | 13 => ⟨S_, .i32⟩
  | 14 => ⟨S32x32, .i32⟩
  | 15 => ⟨S32x32, .i32⟩
  | 16 => ⟨S32x32, .i32⟩
  | 17 => ⟨S_, .i32⟩
  | 18 => ⟨S32, .i32⟩
  | 19 => ⟨S_, .i32⟩
  | 20 => ⟨S32, .i32⟩
  | 21 => ⟨S32, .i1⟩
  | 22 => ⟨S_, .i32⟩
  | 23 => ⟨S_, .i32⟩
  | 24 => ⟨S32, .i32⟩
  | 25 => ⟨S32, .i32⟩
  | 26 => ⟨S32x1, .i32⟩
  | 27 => ⟨S1x32, .i32⟩
  | 28 => ⟨S32x32, .i32⟩
  | 29 => ⟨S32x32, .i32⟩
  | 30 => ⟨S32x32, .i1⟩
  | 31 => ⟨S1x32, .i32⟩
  | 32 => ⟨S_, .i32⟩
  | 33 => ⟨S_, .i32⟩
  | 34 => ⟨S32x32, .i32⟩
  | 35 => ⟨S32x32, .i32⟩
  | 36 => ⟨S32x32, .i32⟩
  | 37 => ⟨S_, .i32⟩
  | 38 => ⟨S32, .i32⟩
  | 39 => ⟨S_, .i32⟩
  | 40 => ⟨S32, .i32⟩
  | 41 => ⟨S32, .i1⟩
  | 42 => ⟨S_, .i32⟩
  | 43 => ⟨S_, .i32⟩
  | 44 => ⟨S32, .i32⟩
  | 45 => ⟨S32, .i32⟩
  | 46 => ⟨S1x32, .i32⟩
  | 47 => ⟨S_, .i32⟩
  | 48 => ⟨S_, .i32⟩
  | 49 => ⟨S90x32, .i32⟩
  | 50 => ⟨S90x32, .i32⟩
  | 51 => ⟨S90x32, .i32⟩
  | 52 => ⟨S_, .i32⟩
  | 53 => ⟨S90, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S90, .i32⟩
  | 61 => ⟨S90, .i32⟩
  | 62 => ⟨S_, .i32⟩
  | 63 => ⟨S90, .i32⟩
  | 64 => ⟨S90, .i1⟩
  | 65 => ⟨S_, .i32⟩
  | 66 => ⟨S90, .i32⟩
  | 67 => ⟨S90, .i1⟩
  | 68 => ⟨S_, .i32⟩
  | 69 => ⟨S_, .i1⟩
  | 70 => ⟨S90, .i1⟩
  | 71 => ⟨S90, .i1⟩
  | 72 => ⟨S90, .i1⟩
  | 73 => ⟨S90, .i32⟩
  | 74 => ⟨S90, .i32⟩
  | 75 => ⟨S1x32, .i32⟩
  | 76 => ⟨S_, .i32⟩
  | 77 => ⟨S_, .i32⟩
  | 78 => ⟨S90x32, .i32⟩
  | 79 => ⟨S90x32, .i32⟩
  | 80 => ⟨S90x32, .i32⟩
  | 81 => ⟨S_, .i32⟩
  | 82 => ⟨S1x32, .i32⟩
  | 83 => ⟨S_, .i32⟩
  | 84 => ⟨S_, .i32⟩
  | 85 => ⟨S90x32, .i32⟩
  | 86 => ⟨S90x32, .i32⟩
  | 87 => ⟨S90x32, .i32⟩
  | 88 => ⟨S_, .i32⟩
  | 89 => ⟨S32x1024x512, .f32⟩
  | 90 => ⟨S32x1024x512, .f32⟩
  | 91 => ⟨S32x512x1024, .f32⟩
  | 92 => ⟨S230400x128, .i32⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | .local _ .vmem, ⟨0, _⟩ => ⟨S2560x128, .i32⟩
  | .local _ .vmem, ⟨1, _⟩ => ⟨S2560x128, .i32⟩
  | .local _ .vmem, ⟨2, _⟩ => ⟨S3x2560x128, .i32⟩
  | .local _ .vmem, ⟨3, _⟩ => ⟨S2560x128, .i32⟩
  | .local _ .vmem, ⟨4, _⟩ => ⟨S3x1024x512, .f32⟩
  | .local _ .vmem, ⟨5, _⟩ => ⟨S3x1024x512, .f32⟩
  | .local _ .vmem, ⟨6, _⟩ => ⟨S3x512x1024, .f32⟩
  | .local _ .vmem, ⟨7, _⟩ => ⟨S1024x512, .bf16⟩
  | .local _ .vmem, ⟨8, _⟩ => ⟨S1024x512, .bf16⟩
  | .local _ .vmem, ⟨9, _⟩ => ⟨S512x1024, .bf16⟩
  | .local _ .smem, ⟨0, _⟩ => ⟨S90, .i32⟩
  | .local _ .smem, ⟨1, _⟩ => ⟨S1, .i32⟩
  | .local _ .smem, ⟨2, _⟩ => ⟨S90, .i32⟩
  | .local _ .smem, ⟨3, _⟩ => ⟨S90, .i32⟩
  | .local _ .smem, ⟨4, _⟩ => ⟨S90, .i32⟩
  | .local _ .smem, ⟨5, _⟩ => ⟨S90, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_c_3 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_c : Ref sig .tc := ⟨.hbm, 45, rfl⟩
abbrev main_call2_v6 : Ref sig .tc := ⟨.hbm, 46, rfl⟩
abbrev main_call2_v7 : Ref sig .tc := ⟨.hbm, 47, rfl⟩
abbrev main_call2_c_0 : Ref sig .tc := ⟨.hbm, 48, rfl⟩
abbrev main_call2_v8 : Ref sig .tc := ⟨.hbm, 49, rfl⟩
abbrev main_v11 : Ref sig .tc := ⟨.hbm, 50, rfl⟩
abbrev main_v13 : Ref sig .tc := ⟨.hbm, 51, rfl⟩
abbrev main_c_4 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_c_5 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_c_6 : Ref sig .tc := ⟨.hbm, 66, rfl⟩
abbrev main_v26 : Ref sig .tc := ⟨.hbm, 67, rfl⟩
abbrev main_c_7 : Ref sig .tc := ⟨.hbm, 68, rfl⟩
abbrev main_v27 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_c_8 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_v37 : Ref sig .tc := ⟨.hbm, 82, rfl⟩
abbrev main_c_9 : Ref sig .tc := ⟨.hbm, 83, rfl⟩
abbrev main_v38 : Ref sig .tc := ⟨.hbm, 84, rfl⟩
abbrev main_c_10 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_c_11 : Ref sig .tc := ⟨.hbm, 89, rfl⟩
abbrev main_v42 : Ref sig .tc := ⟨.hbm, 90, rfl⟩
abbrev main_v43 : Ref sig .tc := ⟨.hbm, 91, rfl⟩
abbrev main_c_12 : Ref sig .tc := ⟨.hbm, 92, rfl⟩
abbrev main_v44 : Ref sig .tc := ⟨.hbm, 93, rfl⟩
abbrev main_v45 : Ref sig .tc := ⟨.hbm, 94, rfl⟩
abbrev main_c_13 : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_call4_v5 : Ref sig .tc := ⟨.hbm, 101, rfl⟩
abbrev main_call4_v6 : Ref sig .tc := ⟨.hbm, 102, rfl⟩
abbrev main_call4_v7 : Ref sig .tc := ⟨.hbm, 103, rfl⟩
abbrev main_call4_v8 : Ref sig .tc := ⟨.hbm, 104, rfl⟩
abbrev main_call4_c : Ref sig .tc := ⟨.hbm, 105, rfl⟩
abbrev main_call4_v9 : Ref sig .tc := ⟨.hbm, 106, rfl⟩
abbrev main_call4_v10 : Ref sig .tc := ⟨.hbm, 107, rfl⟩
abbrev main_call4_v11 : Ref sig .tc := ⟨.hbm, 108, rfl⟩
abbrev main_call4_c_0 : Ref sig .tc := ⟨.hbm, 109, rfl⟩
abbrev main_call4_v12 : Ref sig .tc := ⟨.hbm, 110, rfl⟩
abbrev main_call4_v13 : Ref sig .tc := ⟨.hbm, 111, rfl⟩
abbrev main_v46 : Ref sig .tc := ⟨.hbm, 112, rfl⟩
abbrev main_c_14 : Ref sig .tc := ⟨.hbm, 113, rfl⟩
abbrev main_c_15 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_call5_v3 : Ref sig .tc := ⟨.hbm, 118, rfl⟩
abbrev main_call5_v4 : Ref sig .tc := ⟨.hbm, 119, rfl⟩
abbrev main_v48 : Ref sig .tc := ⟨.hbm, 120, rfl⟩
abbrev main_c_16 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_call6_call0_c : Ref sig .tc := ⟨.hbm, 125, rfl⟩
abbrev main_call6_call0_v0 : Ref sig .tc := ⟨.hbm, 126, rfl⟩
abbrev main_v52 : Ref sig .tc := ⟨.hbm, 127, rfl⟩
abbrev main_c_17 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_c_18 : Ref sig .tc := ⟨.hbm, 140, rfl⟩
abbrev main_call7_v0 : Ref sig .tc := ⟨.hbm, 141, rfl⟩
abbrev main_call7_v1 : Ref sig .tc := ⟨.hbm, 142, rfl⟩
abbrev main_call7_v2 : Ref sig .tc := ⟨.hbm, 143, rfl⟩
abbrev main_v64 : Ref sig .tc := ⟨.hbm, 144, rfl⟩
abbrev main_c_19 : Ref sig .tc := ⟨.hbm, 145, rfl⟩
abbrev main_v65 : Ref sig .tc := ⟨.hbm, 146, rfl⟩
abbrev main_c_20 : Ref sig .tc := ⟨.hbm, 147, rfl⟩
abbrev main_v66 : Ref sig .tc := ⟨.hbm, 148, rfl⟩
abbrev main_v67 : Ref sig .tc := ⟨.hbm, 149, rfl⟩
abbrev main_c_21 : Ref sig .tc := ⟨.hbm, 150, rfl⟩
abbrev main_call8_v0 : Ref sig .tc := ⟨.hbm, 151, rfl⟩
abbrev main_call8_v1 : Ref sig .tc := ⟨.hbm, 152, rfl⟩
abbrev main_v68 : Ref sig .tc := ⟨.hbm, 153, rfl⟩
abbrev main_v69 : Ref sig .tc := ⟨.hbm, 154, rfl⟩
abbrev main_v70 : Ref sig .tc := ⟨.hbm, 155, rfl⟩
abbrev main_v71 : Ref sig .tc := ⟨.hbm, 156, rfl⟩
abbrev main_v72 : Ref sig .tc := ⟨.hbm, 157, rfl⟩
abbrev main_v73 : Ref sig .tc := ⟨.hbm, 158, rfl⟩
abbrev main_v74 : Ref sig .tc := ⟨.hbm, 159, rfl⟩
abbrev main_c_22 : Ref sig .tc := ⟨.hbm, 160, rfl⟩
abbrev main_call9_v0 : Ref sig .tc := ⟨.hbm, 161, rfl⟩
abbrev main_call9_v1 : Ref sig .tc := ⟨.hbm, 162, rfl⟩
abbrev main_call9_v2 : Ref sig .tc := ⟨.hbm, 163, rfl⟩
abbrev main_v75 : Ref sig .tc := ⟨.hbm, 164, rfl⟩
abbrev main_c_23 : Ref sig .tc := ⟨.hbm, 165, rfl⟩
abbrev main_v76 : Ref sig .tc := ⟨.hbm, 166, rfl⟩
abbrev main_c_24 : Ref sig .tc := ⟨.hbm, 167, rfl⟩
abbrev main_v77 : Ref sig .tc := ⟨.hbm, 168, rfl⟩
abbrev main_v78 : Ref sig .tc := ⟨.hbm, 169, rfl⟩
abbrev main_c_25 : Ref sig .tc := ⟨.hbm, 170, rfl⟩
abbrev main_call10_v0 : Ref sig .tc := ⟨.hbm, 171, rfl⟩
abbrev main_call10_v1 : Ref sig .tc := ⟨.hbm, 172, rfl⟩
abbrev main_v79 : Ref sig .tc := ⟨.hbm, 173, rfl⟩
abbrev main_v80 : Ref sig .tc := ⟨.hbm, 174, rfl⟩
abbrev main_c_26 : Ref sig .tc := ⟨.hbm, 175, rfl⟩
abbrev main_call11_v0 : Ref sig .tc := ⟨.hbm, 176, rfl⟩
abbrev main_call11_v1 : Ref sig .tc := ⟨.hbm, 177, rfl⟩
abbrev main_call11_v2 : Ref sig .tc := ⟨.hbm, 178, rfl⟩
abbrev main_v81 : Ref sig .tc := ⟨.hbm, 179, rfl⟩
abbrev main_c_27 : Ref sig .tc := ⟨.hbm, 180, rfl⟩
abbrev main_v82 : Ref sig .tc := ⟨.hbm, 181, rfl⟩
abbrev main_c_28 : Ref sig .tc := ⟨.hbm, 182, rfl⟩
abbrev main_call12_v0 : Ref sig .tc := ⟨.hbm, 183, rfl⟩
abbrev main_call12_c : Ref sig .tc := ⟨.hbm, 184, rfl⟩
abbrev main_call12_v1 : Ref sig .tc := ⟨.hbm, 185, rfl⟩
abbrev main_call12_c_0 : Ref sig .tc := ⟨.hbm, 186, rfl⟩
abbrev main_call12_v2 : Ref sig .tc := ⟨.hbm, 187, rfl⟩
abbrev main_call12_v3 : Ref sig .tc := ⟨.hbm, 188, rfl⟩
abbrev main_call12_v4 : Ref sig .tc := ⟨.hbm, 189, rfl⟩
abbrev main_call12_c_1 : Ref sig .tc := ⟨.hbm, 190, rfl⟩
abbrev main_call12_v5 : Ref sig .tc := ⟨.hbm, 191, rfl⟩
abbrev main_call12_v6 : Ref sig .tc := ⟨.hbm, 192, rfl⟩
abbrev main_call12_c_2 : Ref sig .tc := ⟨.hbm, 193, rfl⟩
abbrev main_call12_v7 : Ref sig .tc := ⟨.hbm, 194, rfl⟩
abbrev main_call12_v8 : Ref sig .tc := ⟨.hbm, 195, rfl⟩
abbrev main_call12_c_3 : Ref sig .tc := ⟨.hbm, 196, rfl⟩
abbrev main_call12_v9 : Ref sig .tc := ⟨.hbm, 197, rfl⟩
abbrev main_call12_v10 : Ref sig .tc := ⟨.hbm, 198, rfl⟩
abbrev main_call12_v11 : Ref sig .tc := ⟨.hbm, 199, rfl⟩
abbrev main_call12_v12 : Ref sig .tc := ⟨.hbm, 200, rfl⟩
abbrev main_call12_v13 : Ref sig .tc := ⟨.hbm, 201, rfl⟩
abbrev main_call12_v14 : Ref sig .tc := ⟨.hbm, 202, rfl⟩
abbrev main_v84 : Ref sig .tc := ⟨.hbm, 203, rfl⟩
abbrev main_c_29 : Ref sig .tc := ⟨.hbm, 204, rfl⟩
abbrev main_call13_v0 : Ref sig .tc := ⟨.hbm, 205, rfl⟩
abbrev main_call13_v1 : Ref sig .tc := ⟨.hbm, 206, rfl⟩
abbrev main_call13_v2 : Ref sig .tc := ⟨.hbm, 207, rfl⟩
abbrev main_v85 : Ref sig .tc := ⟨.hbm, 208, rfl⟩
abbrev main_c_30 : Ref sig .tc := ⟨.hbm, 209, rfl⟩
abbrev main_v87 : Ref sig .tc := ⟨.hbm, 210, rfl⟩
abbrev main_c_31 : Ref sig .tc := ⟨.hbm, 211, rfl⟩
abbrev main_call14_v0 : Ref sig .tc := ⟨.hbm, 212, rfl⟩
abbrev main_call14_v1 : Ref sig .tc := ⟨.hbm, 213, rfl⟩
abbrev main_call14_v2 : Ref sig .tc := ⟨.hbm, 214, rfl⟩
abbrev main_v88 : Ref sig .tc := ⟨.hbm, 215, rfl⟩
abbrev main_c_32 : Ref sig .tc := ⟨.hbm, 216, rfl⟩
abbrev main_v90 : Ref sig .tc := ⟨.hbm, 217, rfl⟩
abbrev main_v91 : Ref sig .tc := ⟨.hbm, 218, rfl⟩
abbrev main_v92 : Ref sig .tc := ⟨.hbm, 219, rfl⟩
abbrev main_v93 : Ref sig .tc := ⟨.hbm, 220, rfl⟩
abbrev main_v28 : Ref sig .tc := ⟨.smem, 0, rfl⟩
abbrev main_v12 : Ref sig .tc := ⟨.smem, 1, rfl⟩
abbrev main_v83 : Ref sig .tc := ⟨.smem, 2, rfl⟩
abbrev main_v86 : Ref sig .tc := ⟨.smem, 3, rfl⟩
abbrev main_v89 : Ref sig .tc := ⟨.smem, 4, rfl⟩
abbrev main_v47 : Ref sig .tc := ⟨.smem, 5, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem0_1 : DmaSem sig := 1

abbrev nD : Nat := 1
abbrev τ : Topo := Topo.v7x

variable {F : FTy → Type} [BitOps F]

abbrev grid0 : Pipeline.Grid := ⟨1, ![90], ![false]⟩

abbrev pre0 : Pipeline.Prefetch sig := ⟨6, ![main_v28.idx, main_v12.idx, main_v83.idx, main_v86.idx, main_v89.idx, main_v47.idx], fun | 0 => main_v28.names | 1 => main_v12.names | 2 => main_v83.names | 3 => main_v86.names | 4 => main_v89.names | 5 => main_v47.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_cond2 (i : grid0.Coords) : BitVec 1 :=
  let arg0 : BitVec 32 := BitVec.ofNat 32 (i 0).val
  let c0_i32_6 : BitVec 32 := 0#32
  let v20 : BitVec 1 := Scalar.cmpi .eq arg0 c0_i32_6
  let v21 : BitVec 32 := Scalar.extui v20
  let c0_i32_7 : BitVec 32 := 0#32
  let v22 : BitVec 1 := Scalar.cmpi .ne v21 c0_i32_7
  v22

def k0_mult1 : BitVec 32 :=
  let c0_i32_35 : BitVec 32 := 0#32
  c0_i32_35
def k0_mult2 : BitVec 32 :=
  let c2560_i32 : BitVec 32 := 2560#32
  c2560_i32
def k0_mult3 (i : grid0.Coords) : BitVec 32 :=
  let arg0 : BitVec 32 := BitVec.ofNat 32 (i 0).val
  let c2_i32_31 : BitVec 32 := 2#32
  let v81 : BitVec 32 := Scalar.addi arg0 c2_i32_31
  let c640_i32_38 : BitVec 32 := 640#32
  let v92 : BitVec 32 := Scalar.muli v81 c640_i32_38
  let c4_i32_39 : BitVec 32 := 4#32
  let v93 : BitVec 32 := Scalar.muli v92 c4_i32_39
  v93
def k0_off1 (i : grid0.Coords) : Fin 1 → Nat :=
  let arg0 : BitVec 32 := BitVec.ofNat 32 (i 0).val
  let c2_i32_31 : BitVec 32 := 2#32
  let v81 : BitVec 32 := Scalar.addi arg0 c2_i32_31
  let c3_i32_32 : BitVec 32 := 3#32
  let c0_i32_33 : BitVec 32 := 0#32
  let v82 : BitVec 1 := Scalar.cmpi .eq c3_i32_32 c0_i32_33
  let c1_i32_34 : BitVec 32 := 1#32
  let v83 : BitVec 32 := Scalar.select v82 c1_i32_34 c3_i32_32
  let v84 : BitVec 32 := Scalar.remsi v81 v83
  let c0_i32_36 : BitVec 32 := 0#32
  let v86 : BitVec 1 := Scalar.cmpi .slt v84 c0_i32_36
  let c0_i32_37 : BitVec 32 := 0#32
  let v87 : BitVec 1 := Scalar.cmpi .slt v83 c0_i32_37
  let v88 : BitVec 1 := Scalar.xori v86 v87
  let c0_i32_35 : BitVec 32 := 0#32
  let v85 : BitVec 1 := Scalar.cmpi .ne v84 c0_i32_35
  let v89 : BitVec 1 := Scalar.andi v88 v85
  let v90 : BitVec 32 := Scalar.addi v84 v83
  let v91 : BitVec 32 := Scalar.select v89 v90 v84
  ![v91.toNat]
def k0_off2 (i : grid0.Coords) : Fin 3 → Nat :=
  let arg0 : BitVec 32 := BitVec.ofNat 32 (i 0).val
  let c2_i32_31 : BitVec 32 := 2#32
  let v81 : BitVec 32 := Scalar.addi arg0 c2_i32_31
  let c3_i32_32 : BitVec 32 := 3#32
  let c0_i32_33 : BitVec 32 := 0#32
  let v82 : BitVec 1 := Scalar.cmpi .eq c3_i32_32 c0_i32_33
  let c1_i32_34 : BitVec 32 := 1#32
  let v83 : BitVec 32 := Scalar.select v82 c1_i32_34 c3_i32_32
  let v84 : BitVec 32 := Scalar.remsi v81 v83
  let c0_i32_36 : BitVec 32 := 0#32
  let v86 : BitVec 1 := Scalar.cmpi .slt v84 c0_i32_36
  let c0_i32_37 : BitVec 32 := 0#32
  let v87 : BitVec 1 := Scalar.cmpi .slt v83 c0_i32_37
  let v88 : BitVec 1 := Scalar.xori v86 v87
  let c0_i32_35 : BitVec 32 := 0#32
  let v85 : BitVec 1 := Scalar.cmpi .ne v84 c0_i32_35
  let v89 : BitVec 1 := Scalar.andi v88 v85
  let v90 : BitVec 32 := Scalar.addi v84 v83
  let v91 : BitVec 32 := Scalar.select v89 v90 v84
  let c0_i32_40 : BitVec 32 := 0#32
  let c0_i32_41 : BitVec 32 := 0#32
  ![v91.toNat, 0, 0]
def k0_off3 (i : grid0.Coords) : Fin 2 → Nat :=
  let arg0 : BitVec 32 := BitVec.ofNat 32 (i 0).val
  let c2_i32_31 : BitVec 32 := 2#32
  let v81 : BitVec 32 := Scalar.addi arg0 c2_i32_31
  let c640_i32_38 : BitVec 32 := 640#32
  let v92 : BitVec 32 := Scalar.muli v81 c640_i32_38
  let c4_i32_39 : BitVec 32 := 4#32
  let v93 : BitVec 32 := Scalar.muli v92 c4_i32_39
  let v94 : BitVec 32 := v93
  let c0_i32_42 : BitVec 32 := 0#32
  ![v94.toNat, 0]
def k0_cond1 (i : grid0.Coords) (v0 : BitVec 32) : BitVec 1 :=
  let arg0 : BitVec 32 := BitVec.ofNat 32 (i 0).val
  let v1 : BitVec 1 := Scalar.cmpi .slt arg0 v0
  let v12 : BitVec 32 := Scalar.extui v1
  let c0_i32_3 : BitVec 32 := 0#32
  let v13 : BitVec 1 := Scalar.cmpi .ne v12 c0_i32_3
  v13

def k0_cond5 (i : grid0.Coords) (v0 : BitVec 32) : BitVec 1 :=
  let arg0 : BitVec 32 := BitVec.ofNat 32 (i 0).val
  let c2_i32 : BitVec 32 := 2#32
  let v23 : BitVec 32 := Scalar.addi arg0 c2_i32
  let v24 : BitVec 1 := Scalar.cmpi .slt v23 v0
  let v25 : BitVec 32 := Scalar.extui v24
  let c0_i32_8 : BitVec 32 := 0#32
  let v26 : BitVec 1 := Scalar.cmpi .ne v25 c0_i32_8
  v26

def k0_chk1 (i : grid0.Coords) (v0 : BitVec 32) : Prop :=
  (∀ (k0_h1 : k0_cond1 i v0 = 1#1), ∀ (k0_h5 : k0_cond5 i v0 = 1#1), ∀ a, (k0_off3 i) a + S2560x128.size a ≤ S230432x128.size a)
theorem k0_off3_inb : ∀ (i : grid0.Coords) (v0 : BitVec 32) (k0_hw1 : k0_chk1 i v0), ∀ (k0_h1 : k0_cond1 i v0 = 1#1), ∀ (k0_h5 : k0_cond5 i v0 = 1#1), ∀ a, (k0_off3 i) a + S2560x128.size a ≤ S230432x128.size a := fun i v0 k0_hw1 k0_h1 k0_h5 => k0_hw1 k0_h1 k0_h5

def k0_off4 (i : grid0.Coords) : Fin 1 → Nat :=
  let arg0 : BitVec 32 := BitVec.ofNat 32 (i 0).val
  let c1_i32_9 : BitVec 32 := 1#32
  let v27 : BitVec 32 := Scalar.subi arg0 c1_i32_9
  let c0_i32_10 : BitVec 32 := 0#32
  let v28 : BitVec 32 := Scalar.maxsi v27 c0_i32_10
  let v29 : Index := Scalar.indexCast v28
  ![v29.toNat]
def k0_off5 (i : grid0.Coords) : Fin 1 → Nat :=
  let arg0 : BitVec 32 := BitVec.ofNat 32 (i 0).val
  let v32 : Index := Scalar.indexCast arg0
  ![v32.toNat]
def k0_off6 (i : grid0.Coords) : Fin 1 → Nat :=
  let arg0 : BitVec 32 := BitVec.ofNat 32 (i 0).val
  let v81 : Index := Scalar.indexCast arg0
  ![v81.toNat]
def k0_cond7 (i : grid0.Coords) : BitVec 1 :=
  let arg0 : BitVec 32 := BitVec.ofNat 32 (i 0).val
  let c0_i32_31 : BitVec 32 := 0#32
  let v83 : BitVec 1 := Scalar.cmpi .eq arg0 c0_i32_31
  let v84 : BitVec 32 := Scalar.extui v83
  let c0_i32_32 : BitVec 32 := 0#32
  let v85 : BitVec 1 := Scalar.cmpi .ne v84 c0_i32_32
  v85

def k0_off7 (v132 : BitVec 32) : Fin 3 → Nat :=
  let c0_i32_64 : BitVec 32 := 0#32
  let c0_i32_65 : BitVec 32 := 0#32
  ![v132.toNat, 0, 0]
def k0_cond6 (i : grid0.Coords) (v30 : BitVec 32) (v33 : BitVec 32) : BitVec 1 :=
  let arg0 : BitVec 32 := BitVec.ofNat 32 (i 0).val
  let c0_i32_11 : BitVec 32 := 0#32
  let v31 : BitVec 1 := Scalar.cmpi .eq arg0 c0_i32_11
  let v34 : BitVec 1 := Scalar.cmpi .ne v33 v30
  let v35 : BitVec 1 := Scalar.ori v31 v34
  let v36 : BitVec 32 := Scalar.extui v35
  let c0_i32_12 : BitVec 32 := 0#32
  let v37 : BitVec 1 := Scalar.cmpi .ne v36 c0_i32_12
  v37

def k0_off8 (v132 : BitVec 32) : Fin 3 → Nat :=
  let c0_i32_76 : BitVec 32 := 0#32
  let c0_i32_77 : BitVec 32 := 0#32
  ![v132.toNat, 0, 0]

def k0_chk2 (i : grid0.Coords) (v0 : BitVec 32) (v30 : BitVec 32) (v33 : BitVec 32) (v132 : BitVec 32) : Prop :=
  (∀ (k0_h1 : k0_cond1 i v0 = 1#1), ∀ (k0_h6 : k0_cond6 i v30 v33 = 1#1), ∀ (k0_h7 : k0_cond7 i = 1#1), ∀ a, (k0_off7 v132) a + S1x1024x512.size a ≤ S32x1024x512.size a) ∧
  (∀ (k0_h1 : k0_cond1 i v0 = 1#1), ∀ (k0_h6 : k0_cond6 i v30 v33 = 1#1), ∀ (k0_h7 : k0_cond7 i = 1#1), ∀ a, (k0_off8 v132) a + S1x512x1024.size a ≤ S32x512x1024.size a)
theorem k0_off7_inb : ∀ (i : grid0.Coords) (v0 : BitVec 32) (v30 : BitVec 32) (v33 : BitVec 32) (v132 : BitVec 32) (k0_hw2 : k0_chk2 i v0 v30 v33 v132), ∀ (k0_h1 : k0_cond1 i v0 = 1#1), ∀ (k0_h6 : k0_cond6 i v30 v33 = 1#1), ∀ (k0_h7 : k0_cond7 i = 1#1), ∀ a, (k0_off7 v132) a + S1x1024x512.size a ≤ S32x1024x512.size a := fun i v0 v30 v33 v132 k0_hw2 k0_h1 k0_h6 k0_h7 => k0_hw2.1 k0_h1 k0_h6 k0_h7
theorem k0_off8_inb : ∀ (i : grid0.Coords) (v0 : BitVec 32) (v30 : BitVec 32) (v33 : BitVec 32) (v132 : BitVec 32) (k0_hw2 : k0_chk2 i v0 v30 v33 v132), ∀ (k0_h1 : k0_cond1 i v0 = 1#1), ∀ (k0_h6 : k0_cond6 i v30 v33 = 1#1), ∀ (k0_h7 : k0_cond7 i = 1#1), ∀ a, (k0_off8 v132) a + S1x512x1024.size a ≤ S32x512x1024.size a := fun i v0 v30 v33 v132 k0_hw2 k0_h1 k0_h6 k0_h7 => k0_hw2.2 k0_h1 k0_h6 k0_h7

def k0_off9 (v155 : BitVec 32) : Fin 3 → Nat :=
  let c0_i32_86 : BitVec 32 := 0#32
  let c0_i32_87 : BitVec 32 := 0#32
  ![v155.toNat, 0, 0]
def k0_cond8 (v151 : BitVec 32) : BitVec 1 :=
  let c0_i32_79 : BitVec 32 := 0#32
  let v152 : BitVec 1 := Scalar.cmpi .sge v151 c0_i32_79
  let v153 : BitVec 32 := Scalar.extui v152
  let c0_i32_80 : BitVec 32 := 0#32
  let v154 : BitVec 1 := Scalar.cmpi .ne v153 c0_i32_80
  v154

def k0_off10 (v155 : BitVec 32) : Fin 3 → Nat :=
  let c0_i32_98 : BitVec 32 := 0#32
  let c0_i32_99 : BitVec 32 := 0#32
  ![v155.toNat, 0, 0]

def k0_chk3 (i : grid0.Coords) (v0 : BitVec 32) (v30 : BitVec 32) (v33 : BitVec 32) (v151 : BitVec 32) (v155 : BitVec 32) : Prop :=
  (∀ (k0_h1 : k0_cond1 i v0 = 1#1), ∀ (k0_h6 : k0_cond6 i v30 v33 = 1#1), ∀ (k0_h7 : k0_cond7 i = 1#1), ∀ (k0_h8 : k0_cond8 v151 = 1#1), ∀ a, (k0_off9 v155) a + S1x1024x512.size a ≤ S32x1024x512.size a) ∧
  (∀ (k0_h1 : k0_cond1 i v0 = 1#1), ∀ (k0_h6 : k0_cond6 i v30 v33 = 1#1), ∀ (k0_h7 : k0_cond7 i = 1#1), ∀ (k0_h8 : k0_cond8 v151 = 1#1), ∀ a, (k0_off10 v155) a + S1x512x1024.size a ≤ S32x512x1024.size a)
theorem k0_off9_inb : ∀ (i : grid0.Coords) (v0 : BitVec 32) (v30 : BitVec 32) (v33 : BitVec 32) (v151 : BitVec 32) (v155 : BitVec 32) (k0_hw3 : k0_chk3 i v0 v30 v33 v151 v155), ∀ (k0_h1 : k0_cond1 i v0 = 1#1), ∀ (k0_h6 : k0_cond6 i v30 v33 = 1#1), ∀ (k0_h7 : k0_cond7 i = 1#1), ∀ (k0_h8 : k0_cond8 v151 = 1#1), ∀ a, (k0_off9 v155) a + S1x1024x512.size a ≤ S32x1024x512.size a := fun i v0 v30 v33 v151 v155 k0_hw3 k0_h1 k0_h6 k0_h7 k0_h8 => k0_hw3.1 k0_h1 k0_h6 k0_h7 k0_h8
theorem k0_off10_inb : ∀ (i : grid0.Coords) (v0 : BitVec 32) (v30 : BitVec 32) (v33 : BitVec 32) (v151 : BitVec 32) (v155 : BitVec 32) (k0_hw3 : k0_chk3 i v0 v30 v33 v151 v155), ∀ (k0_h1 : k0_cond1 i v0 = 1#1), ∀ (k0_h6 : k0_cond6 i v30 v33 = 1#1), ∀ (k0_h7 : k0_cond7 i = 1#1), ∀ (k0_h8 : k0_cond8 v151 = 1#1), ∀ a, (k0_off10 v155) a + S1x512x1024.size a ≤ S32x512x1024.size a := fun i v0 v30 v33 v151 v155 k0_hw3 k0_h1 k0_h6 k0_h7 k0_h8 => k0_hw3.2 k0_h1 k0_h6 k0_h7 k0_h8

def k0_off11 (v82 : BitVec 32) : Fin 1 → Nat :=
  ![v82.toNat]

def k0_off12 (v82 : BitVec 32) : Fin 3 → Nat :=
  let c0_i32_33 : BitVec 32 := 0#32
  let c0_i32_34 : BitVec 32 := 0#32
  ![v82.toNat, 0, 0]
def k0_off13 (v87 : BitVec 32) : Fin 3 → Nat :=
  let c0_i32_35 : BitVec 32 := 0#32
  let c0_i32_36 : BitVec 32 := 0#32
  ![v87.toNat, 0, 0]

def k0_off14 (v82 : BitVec 32) : Fin 1 → Nat :=
  ![v82.toNat]
def k0_off15 (v82 : BitVec 32) : Fin 3 → Nat :=
  let c0_i32_37 : BitVec 32 := 0#32
  let c0_i32_38 : BitVec 32 := 0#32
  ![v82.toNat, 0, 0]
def k0_off16 (v82 : BitVec 32) : Fin 3 → Nat :=
  let c0_i32_41 : BitVec 32 := 0#32
  let c0_i32_42 : BitVec 32 := 0#32
  ![v82.toNat, 0, 0]
def k0_off17 (v87 : BitVec 32) : Fin 3 → Nat :=
  let c0_i32_43 : BitVec 32 := 0#32
  let c0_i32_44 : BitVec 32 := 0#32
  ![v87.toNat, 0, 0]

def k0_chk5 (i : grid0.Coords) (v0 : BitVec 32) (v30 : BitVec 32) (v33 : BitVec 32) (v87 : BitVec 32) : Prop :=
  (∀ (k0_h1 : k0_cond1 i v0 = 1#1), ∀ (k0_h6 : k0_cond6 i v30 v33 = 1#1), ∀ a, (k0_off13 v87) a + S1x1024x512.size a ≤ S32x1024x512.size a) ∧
  (∀ (k0_h1 : k0_cond1 i v0 = 1#1), ∀ (k0_h6 : k0_cond6 i v30 v33 = 1#1), ∀ a, (k0_off17 v87) a + S1x512x1024.size a ≤ S32x512x1024.size a)
theorem k0_off13_inb : ∀ (i : grid0.Coords) (v0 : BitVec 32) (v30 : BitVec 32) (v33 : BitVec 32) (v87 : BitVec 32) (k0_hw5 : k0_chk5 i v0 v30 v33 v87), ∀ (k0_h1 : k0_cond1 i v0 = 1#1), ∀ (k0_h6 : k0_cond6 i v30 v33 = 1#1), ∀ a, (k0_off13 v87) a + S1x1024x512.size a ≤ S32x1024x512.size a := fun i v0 v30 v33 v87 k0_hw5 k0_h1 k0_h6 => k0_hw5.1 k0_h1 k0_h6
theorem k0_off17_inb : ∀ (i : grid0.Coords) (v0 : BitVec 32) (v30 : BitVec 32) (v33 : BitVec 32) (v87 : BitVec 32) (k0_hw5 : k0_chk5 i v0 v30 v33 v87), ∀ (k0_h1 : k0_cond1 i v0 = 1#1), ∀ (k0_h6 : k0_cond6 i v30 v33 = 1#1), ∀ a, (k0_off17 v87) a + S1x512x1024.size a ≤ S32x512x1024.size a := fun i v0 v30 v33 v87 k0_hw5 k0_h1 k0_h6 => k0_hw5.2 k0_h1 k0_h6

def k0_off18 (v82 : BitVec 32) : Fin 3 → Nat :=
  let v106 : Index := Scalar.indexCast v82
  let c0_45 : Index := 0#32
  let c0_46 : Index := 0#32
  ![v106.toNat, 0, 0]
def k0_off19 (v82 : BitVec 32) : Fin 3 → Nat :=
  let v120 : Index := Scalar.indexCast v82
  let c0_53 : Index := 0#32
  let c0_54 : Index := 0#32
  ![v120.toNat, 0, 0]

def k0_chk4 (i : grid0.Coords) (v0 : BitVec 32) (v30 : BitVec 32) (v33 : BitVec 32) (v82 : BitVec 32) : Prop :=
  (∀ (k0_h1 : k0_cond1 i v0 = 1#1), ∀ (k0_h6 : k0_cond6 i v30 v33 = 1#1), ∀ a, (k0_off11 v82) a + S1.size a ≤ S3.size a) ∧
  (∀ (k0_h1 : k0_cond1 i v0 = 1#1), ∀ (k0_h6 : k0_cond6 i v30 v33 = 1#1), ∀ a, (k0_off12 v82) a + S1x1024x512.size a ≤ S3x1024x512.size a) ∧
  (∀ (k0_h1 : k0_cond1 i v0 = 1#1), ∀ (k0_h6 : k0_cond6 i v30 v33 = 1#1), ∀ a, (k0_off14 v82) a + S1.size a ≤ S3.size a) ∧
  (∀ (k0_h1 : k0_cond1 i v0 = 1#1), ∀ (k0_h6 : k0_cond6 i v30 v33 = 1#1), ∀ a, (k0_off15 v82) a + S1x1024x512.size a ≤ S3x1024x512.size a) ∧
  (∀ (k0_h1 : k0_cond1 i v0 = 1#1), ∀ (k0_h6 : k0_cond6 i v30 v33 = 1#1), ∀ a, (k0_off16 v82) a + S1x512x1024.size a ≤ S3x512x1024.size a) ∧
  (∀ (k0_h1 : k0_cond1 i v0 = 1#1), ∀ (k0_h6 : k0_cond6 i v30 v33 = 1#1), ∀ a, (k0_off18 v82) a + S1x1024x512.size a ≤ S3x1024x512.size a) ∧
  (∀ (k0_h1 : k0_cond1 i v0 = 1#1), ∀ (k0_h6 : k0_cond6 i v30 v33 = 1#1), ∀ a, (k0_off19 v82) a + S1x512x1024.size a ≤ S3x512x1024.size a)
theorem k0_off11_inb : ∀ (i : grid0.Coords) (v0 : BitVec 32) (v30 : BitVec 32) (v33 : BitVec 32) (v82 : BitVec 32) (k0_hw4 : k0_chk4 i v0 v30 v33 v82), ∀ (k0_h1 : k0_cond1 i v0 = 1#1), ∀ (k0_h6 : k0_cond6 i v30 v33 = 1#1), ∀ a, (k0_off11 v82) a + S1.size a ≤ S3.size a := fun i v0 v30 v33 v82 k0_hw4 k0_h1 k0_h6 => k0_hw4.1 k0_h1 k0_h6
theorem k0_off12_inb : ∀ (i : grid0.Coords) (v0 : BitVec 32) (v30 : BitVec 32) (v33 : BitVec 32) (v82 : BitVec 32) (k0_hw4 : k0_chk4 i v0 v30 v33 v82), ∀ (k0_h1 : k0_cond1 i v0 = 1#1), ∀ (k0_h6 : k0_cond6 i v30 v33 = 1#1), ∀ a, (k0_off12 v82) a + S1x1024x512.size a ≤ S3x1024x512.size a := fun i v0 v30 v33 v82 k0_hw4 k0_h1 k0_h6 => k0_hw4.2.1 k0_h1 k0_h6
theorem k0_off14_inb : ∀ (i : grid0.Coords) (v0 : BitVec 32) (v30 : BitVec 32) (v33 : BitVec 32) (v82 : BitVec 32) (k0_hw4 : k0_chk4 i v0 v30 v33 v82), ∀ (k0_h1 : k0_cond1 i v0 = 1#1), ∀ (k0_h6 : k0_cond6 i v30 v33 = 1#1), ∀ a, (k0_off14 v82) a + S1.size a ≤ S3.size a := fun i v0 v30 v33 v82 k0_hw4 k0_h1 k0_h6 => k0_hw4.2.2.1 k0_h1 k0_h6
theorem k0_off15_inb : ∀ (i : grid0.Coords) (v0 : BitVec 32) (v30 : BitVec 32) (v33 : BitVec 32) (v82 : BitVec 32) (k0_hw4 : k0_chk4 i v0 v30 v33 v82), ∀ (k0_h1 : k0_cond1 i v0 = 1#1), ∀ (k0_h6 : k0_cond6 i v30 v33 = 1#1), ∀ a, (k0_off15 v82) a + S1x1024x512.size a ≤ S3x1024x512.size a := fun i v0 v30 v33 v82 k0_hw4 k0_h1 k0_h6 => k0_hw4.2.2.2.1 k0_h1 k0_h6
theorem k0_off16_inb : ∀ (i : grid0.Coords) (v0 : BitVec 32) (v30 : BitVec 32) (v33 : BitVec 32) (v82 : BitVec 32) (k0_hw4 : k0_chk4 i v0 v30 v33 v82), ∀ (k0_h1 : k0_cond1 i v0 = 1#1), ∀ (k0_h6 : k0_cond6 i v30 v33 = 1#1), ∀ a, (k0_off16 v82) a + S1x512x1024.size a ≤ S3x512x1024.size a := fun i v0 v30 v33 v82 k0_hw4 k0_h1 k0_h6 => k0_hw4.2.2.2.2.1 k0_h1 k0_h6
theorem k0_off18_inb : ∀ (i : grid0.Coords) (v0 : BitVec 32) (v30 : BitVec 32) (v33 : BitVec 32) (v82 : BitVec 32) (k0_hw4 : k0_chk4 i v0 v30 v33 v82), ∀ (k0_h1 : k0_cond1 i v0 = 1#1), ∀ (k0_h6 : k0_cond6 i v30 v33 = 1#1), ∀ a, (k0_off18 v82) a + S1x1024x512.size a ≤ S3x1024x512.size a := fun i v0 v30 v33 v82 k0_hw4 k0_h1 k0_h6 => k0_hw4.2.2.2.2.2.1 k0_h1 k0_h6
theorem k0_off19_inb : ∀ (i : grid0.Coords) (v0 : BitVec 32) (v30 : BitVec 32) (v33 : BitVec 32) (v82 : BitVec 32) (k0_hw4 : k0_chk4 i v0 v30 v33 v82), ∀ (k0_h1 : k0_cond1 i v0 = 1#1), ∀ (k0_h6 : k0_cond6 i v30 v33 = 1#1), ∀ a, (k0_off19 v82) a + S1x512x1024.size a ≤ S3x512x1024.size a := fun i v0 v30 v33 v82 k0_hw4 k0_h1 k0_h6 => k0_hw4.2.2.2.2.2.2 k0_h1 k0_h6

def k0_off20 (i : grid0.Coords) : Fin 1 → Nat :=
  let arg0 : BitVec 32 := BitVec.ofNat 32 (i 0).val
  let v127 : Index := Scalar.indexCast arg0
  ![v127.toNat]
def k0_off21 (i : grid0.Coords) : Fin 1 → Nat :=
  let arg0 : BitVec 32 := BitVec.ofNat 32 (i 0).val
  let v132 : Index := Scalar.indexCast arg0
  ![v132.toNat]
def k0_off22 (v82 : BitVec 32) : Fin 1 → Nat :=
  let c2_i32_59 : BitVec 32 := 2#32
  let v134 : BitVec 32 := Scalar.addi v82 c2_i32_59
  let c3_i32_60 : BitVec 32 := 3#32
  let c0_i32_61 : BitVec 32 := 0#32
  let v135 : BitVec 1 := Scalar.cmpi .eq c3_i32_60 c0_i32_61
  let c1_i32_62 : BitVec 32 := 1#32
  let v136 : BitVec 32 := Scalar.select v135 c1_i32_62 c3_i32_60
  let v137 : BitVec 32 := Scalar.remsi v134 v136
  let c0_i32_64 : BitVec 32 := 0#32
  let v139 : BitVec 1 := Scalar.cmpi .slt v137 c0_i32_64
  let c0_i32_65 : BitVec 32 := 0#32
  let v140 : BitVec 1 := Scalar.cmpi .slt v136 c0_i32_65
  let v141 : BitVec 1 := Scalar.xori v139 v140
  let c0_i32_63 : BitVec 32 := 0#32
  let v138 : BitVec 1 := Scalar.cmpi .ne v137 c0_i32_63
  let v142 : BitVec 1 := Scalar.andi v141 v138
  let v143 : BitVec 32 := Scalar.addi v137 v136
  let v144 : BitVec 32 := Scalar.select v142 v143 v137
  ![v144.toNat]
def k0_cond9 (v128 : BitVec 32) : BitVec 1 :=
  let c0_i32_57 : BitVec 32 := 0#32
  let v129 : BitVec 1 := Scalar.cmpi .sge v128 c0_i32_57
  let v130 : BitVec 32 := Scalar.extui v129
  let c0_i32_58 : BitVec 32 := 0#32
  let v131 : BitVec 1 := Scalar.cmpi .ne v130 c0_i32_58
  v131

def k0_off23 (v82 : BitVec 32) : Fin 3 → Nat :=
  let c2_i32_59 : BitVec 32 := 2#32
  let v134 : BitVec 32 := Scalar.addi v82 c2_i32_59
  let c3_i32_60 : BitVec 32 := 3#32
  let c0_i32_61 : BitVec 32 := 0#32
  let v135 : BitVec 1 := Scalar.cmpi .eq c3_i32_60 c0_i32_61
  let c1_i32_62 : BitVec 32 := 1#32
  let v136 : BitVec 32 := Scalar.select v135 c1_i32_62 c3_i32_60
  let v137 : BitVec 32 := Scalar.remsi v134 v136
  let c0_i32_64 : BitVec 32 := 0#32
  let v139 : BitVec 1 := Scalar.cmpi .slt v137 c0_i32_64
  let c0_i32_65 : BitVec 32 := 0#32
  let v140 : BitVec 1 := Scalar.cmpi .slt v136 c0_i32_65
  let v141 : BitVec 1 := Scalar.xori v139 v140
  let c0_i32_63 : BitVec 32 := 0#32
  let v138 : BitVec 1 := Scalar.cmpi .ne v137 c0_i32_63
  let v142 : BitVec 1 := Scalar.andi v141 v138
  let v143 : BitVec 32 := Scalar.addi v137 v136
  let v144 : BitVec 32 := Scalar.select v142 v143 v137
  let c0_i32_66 : BitVec 32 := 0#32
  let c0_i32_67 : BitVec 32 := 0#32
  ![v144.toNat, 0, 0]
def k0_off24 (v133 : BitVec 32) : Fin 3 → Nat :=
  let c0_i32_68 : BitVec 32 := 0#32
  let c0_i32_69 : BitVec 32 := 0#32
  ![v133.toNat, 0, 0]

def k0_off25 (v82 : BitVec 32) : Fin 1 → Nat :=
  let c2_i32_59 : BitVec 32 := 2#32
  let v134 : BitVec 32 := Scalar.addi v82 c2_i32_59
  let c3_i32_60 : BitVec 32 := 3#32
  let c0_i32_61 : BitVec 32 := 0#32
  let v135 : BitVec 1 := Scalar.cmpi .eq c3_i32_60 c0_i32_61
  let c1_i32_62 : BitVec 32 := 1#32
  let v136 : BitVec 32 := Scalar.select v135 c1_i32_62 c3_i32_60
  let v137 : BitVec 32 := Scalar.remsi v134 v136
  let c0_i32_64 : BitVec 32 := 0#32
  let v139 : BitVec 1 := Scalar.cmpi .slt v137 c0_i32_64
  let c0_i32_65 : BitVec 32 := 0#32
  let v140 : BitVec 1 := Scalar.cmpi .slt v136 c0_i32_65
  let v141 : BitVec 1 := Scalar.xori v139 v140
  let c0_i32_63 : BitVec 32 := 0#32
  let v138 : BitVec 1 := Scalar.cmpi .ne v137 c0_i32_63
  let v142 : BitVec 1 := Scalar.andi v141 v138
  let v143 : BitVec 32 := Scalar.addi v137 v136
  let v144 : BitVec 32 := Scalar.select v142 v143 v137
  ![v144.toNat]
def k0_off26 (v82 : BitVec 32) : Fin 3 → Nat :=
  let c2_i32_59 : BitVec 32 := 2#32
  let v134 : BitVec 32 := Scalar.addi v82 c2_i32_59
  let c3_i32_60 : BitVec 32 := 3#32
  let c0_i32_61 : BitVec 32 := 0#32
  let v135 : BitVec 1 := Scalar.cmpi .eq c3_i32_60 c0_i32_61
  let c1_i32_62 : BitVec 32 := 1#32
  let v136 : BitVec 32 := Scalar.select v135 c1_i32_62 c3_i32_60
  let v137 : BitVec 32 := Scalar.remsi v134 v136
  let c0_i32_64 : BitVec 32 := 0#32
  let v139 : BitVec 1 := Scalar.cmpi .slt v137 c0_i32_64
  let c0_i32_65 : BitVec 32 := 0#32
  let v140 : BitVec 1 := Scalar.cmpi .slt v136 c0_i32_65
  let v141 : BitVec 1 := Scalar.xori v139 v140
  let c0_i32_63 : BitVec 32 := 0#32
  let v138 : BitVec 1 := Scalar.cmpi .ne v137 c0_i32_63
  let v142 : BitVec 1 := Scalar.andi v141 v138
  let v143 : BitVec 32 := Scalar.addi v137 v136
  let v144 : BitVec 32 := Scalar.select v142 v143 v137
  let c0_i32_70 : BitVec 32 := 0#32
  let c0_i32_71 : BitVec 32 := 0#32
  ![v144.toNat, 0, 0]
def k0_off27 (v82 : BitVec 32) : Fin 3 → Nat :=
  let c2_i32_59 : BitVec 32 := 2#32
  let v134 : BitVec 32 := Scalar.addi v82 c2_i32_59
  let c3_i32_60 : BitVec 32 := 3#32
  let c0_i32_61 : BitVec 32 := 0#32
  let v135 : BitVec 1 := Scalar.cmpi .eq c3_i32_60 c0_i32_61
  let c1_i32_62 : BitVec 32 := 1#32
  let v136 : BitVec 32 := Scalar.select v135 c1_i32_62 c3_i32_60
  let v137 : BitVec 32 := Scalar.remsi v134 v136
  let c0_i32_64 : BitVec 32 := 0#32
  let v139 : BitVec 1 := Scalar.cmpi .slt v137 c0_i32_64
  let c0_i32_65 : BitVec 32 := 0#32
  let v140 : BitVec 1 := Scalar.cmpi .slt v136 c0_i32_65
  let v141 : BitVec 1 := Scalar.xori v139 v140
  let c0_i32_63 : BitVec 32 := 0#32
  let v138 : BitVec 1 := Scalar.cmpi .ne v137 c0_i32_63
  let v142 : BitVec 1 := Scalar.andi v141 v138
  let v143 : BitVec 32 := Scalar.addi v137 v136
  let v144 : BitVec 32 := Scalar.select v142 v143 v137
  let c0_i32_74 : BitVec 32 := 0#32
  let c0_i32_75 : BitVec 32 := 0#32
  ![v144.toNat, 0, 0]

def k0_chk6 (i : grid0.Coords) (v0 : BitVec 32) (v30 : BitVec 32) (v33 : BitVec 32) (v82 : BitVec 32) (v128 : BitVec 32) : Prop :=
  (∀ (k0_h1 : k0_cond1 i v0 = 1#1), ∀ (k0_h6 : k0_cond6 i v30 v33 = 1#1), ∀ (k0_h9 : k0_cond9 v128 = 1#1), ∀ a, (k0_off22 v82) a + S1.size a ≤ S3.size a) ∧
  (∀ (k0_h1 : k0_cond1 i v0 = 1#1), ∀ (k0_h6 : k0_cond6 i v30 v33 = 1#1), ∀ (k0_h9 : k0_cond9 v128 = 1#1), ∀ a, (k0_off23 v82) a + S1x1024x512.size a ≤ S3x1024x512.size a) ∧
  (∀ (k0_h1 : k0_cond1 i v0 = 1#1), ∀ (k0_h6 : k0_cond6 i v30 v33 = 1#1), ∀ (k0_h9 : k0_cond9 v128 = 1#1), ∀ a, (k0_off25 v82) a + S1.size a ≤ S3.size a) ∧
  (∀ (k0_h1 : k0_cond1 i v0 = 1#1), ∀ (k0_h6 : k0_cond6 i v30 v33 = 1#1), ∀ (k0_h9 : k0_cond9 v128 = 1#1), ∀ a, (k0_off26 v82) a + S1x1024x512.size a ≤ S3x1024x512.size a) ∧
  (∀ (k0_h1 : k0_cond1 i v0 = 1#1), ∀ (k0_h6 : k0_cond6 i v30 v33 = 1#1), ∀ (k0_h9 : k0_cond9 v128 = 1#1), ∀ a, (k0_off27 v82) a + S1x512x1024.size a ≤ S3x512x1024.size a)
theorem k0_off22_inb : ∀ (i : grid0.Coords) (v0 : BitVec 32) (v30 : BitVec 32) (v33 : BitVec 32) (v82 : BitVec 32) (v128 : BitVec 32) (k0_hw6 : k0_chk6 i v0 v30 v33 v82 v128), ∀ (k0_h1 : k0_cond1 i v0 = 1#1), ∀ (k0_h6 : k0_cond6 i v30 v33 = 1#1), ∀ (k0_h9 : k0_cond9 v128 = 1#1), ∀ a, (k0_off22 v82) a + S1.size a ≤ S3.size a := fun i v0 v30 v33 v82 v128 k0_hw6 k0_h1 k0_h6 k0_h9 => k0_hw6.1 k0_h1 k0_h6 k0_h9
theorem k0_off23_inb : ∀ (i : grid0.Coords) (v0 : BitVec 32) (v30 : BitVec 32) (v33 : BitVec 32) (v82 : BitVec 32) (v128 : BitVec 32) (k0_hw6 : k0_chk6 i v0 v30 v33 v82 v128), ∀ (k0_h1 : k0_cond1 i v0 = 1#1), ∀ (k0_h6 : k0_cond6 i v30 v33 = 1#1), ∀ (k0_h9 : k0_cond9 v128 = 1#1), ∀ a, (k0_off23 v82) a + S1x1024x512.size a ≤ S3x1024x512.size a := fun i v0 v30 v33 v82 v128 k0_hw6 k0_h1 k0_h6 k0_h9 => k0_hw6.2.1 k0_h1 k0_h6 k0_h9
theorem k0_off25_inb : ∀ (i : grid0.Coords) (v0 : BitVec 32) (v30 : BitVec 32) (v33 : BitVec 32) (v82 : BitVec 32) (v128 : BitVec 32) (k0_hw6 : k0_chk6 i v0 v30 v33 v82 v128), ∀ (k0_h1 : k0_cond1 i v0 = 1#1), ∀ (k0_h6 : k0_cond6 i v30 v33 = 1#1), ∀ (k0_h9 : k0_cond9 v128 = 1#1), ∀ a, (k0_off25 v82) a + S1.size a ≤ S3.size a := fun i v0 v30 v33 v82 v128 k0_hw6 k0_h1 k0_h6 k0_h9 => k0_hw6.2.2.1 k0_h1 k0_h6 k0_h9
theorem k0_off26_inb : ∀ (i : grid0.Coords) (v0 : BitVec 32) (v30 : BitVec 32) (v33 : BitVec 32) (v82 : BitVec 32) (v128 : BitVec 32) (k0_hw6 : k0_chk6 i v0 v30 v33 v82 v128), ∀ (k0_h1 : k0_cond1 i v0 = 1#1), ∀ (k0_h6 : k0_cond6 i v30 v33 = 1#1), ∀ (k0_h9 : k0_cond9 v128 = 1#1), ∀ a, (k0_off26 v82) a + S1x1024x512.size a ≤ S3x1024x512.size a := fun i v0 v30 v33 v82 v128 k0_hw6 k0_h1 k0_h6 k0_h9 => k0_hw6.2.2.2.1 k0_h1 k0_h6 k0_h9
theorem k0_off27_inb : ∀ (i : grid0.Coords) (v0 : BitVec 32) (v30 : BitVec 32) (v33 : BitVec 32) (v82 : BitVec 32) (v128 : BitVec 32) (k0_hw6 : k0_chk6 i v0 v30 v33 v82 v128), ∀ (k0_h1 : k0_cond1 i v0 = 1#1), ∀ (k0_h6 : k0_cond6 i v30 v33 = 1#1), ∀ (k0_h9 : k0_cond9 v128 = 1#1), ∀ a, (k0_off27 v82) a + S1x512x1024.size a ≤ S3x512x1024.size a := fun i v0 v30 v33 v82 v128 k0_hw6 k0_h1 k0_h6 k0_h9 => k0_hw6.2.2.2.2 k0_h1 k0_h6 k0_h9

def k0_off28 (v133 : BitVec 32) : Fin 3 → Nat :=
  let c0_i32_76 : BitVec 32 := 0#32
  let c0_i32_77 : BitVec 32 := 0#32
  ![v133.toNat, 0, 0]

def k0_chk7 (i : grid0.Coords) (v0 : BitVec 32) (v30 : BitVec 32) (v33 : BitVec 32) (v128 : BitVec 32) (v133 : BitVec 32) : Prop :=
  (∀ (k0_h1 : k0_cond1 i v0 = 1#1), ∀ (k0_h6 : k0_cond6 i v30 v33 = 1#1), ∀ (k0_h9 : k0_cond9 v128 = 1#1), ∀ a, (k0_off24 v133) a + S1x1024x512.size a ≤ S32x1024x512.size a) ∧
  (∀ (k0_h1 : k0_cond1 i v0 = 1#1), ∀ (k0_h6 : k0_cond6 i v30 v33 = 1#1), ∀ (k0_h9 : k0_cond9 v128 = 1#1), ∀ a, (k0_off28 v133) a + S1x512x1024.size a ≤ S32x512x1024.size a)
theorem k0_off24_inb : ∀ (i : grid0.Coords) (v0 : BitVec 32) (v30 : BitVec 32) (v33 : BitVec 32) (v128 : BitVec 32) (v133 : BitVec 32) (k0_hw7 : k0_chk7 i v0 v30 v33 v128 v133), ∀ (k0_h1 : k0_cond1 i v0 = 1#1), ∀ (k0_h6 : k0_cond6 i v30 v33 = 1#1), ∀ (k0_h9 : k0_cond9 v128 = 1#1), ∀ a, (k0_off24 v133) a + S1x1024x512.size a ≤ S32x1024x512.size a := fun i v0 v30 v33 v128 v133 k0_hw7 k0_h1 k0_h6 k0_h9 => k0_hw7.1 k0_h1 k0_h6 k0_h9
theorem k0_off28_inb : ∀ (i : grid0.Coords) (v0 : BitVec 32) (v30 : BitVec 32) (v33 : BitVec 32) (v128 : BitVec 32) (v133 : BitVec 32) (k0_hw7 : k0_chk7 i v0 v30 v33 v128 v133), ∀ (k0_h1 : k0_cond1 i v0 = 1#1), ∀ (k0_h6 : k0_cond6 i v30 v33 = 1#1), ∀ (k0_h9 : k0_cond9 v128 = 1#1), ∀ a, (k0_off28 v133) a + S1x512x1024.size a ≤ S32x512x1024.size a := fun i v0 v30 v33 v128 v133 k0_hw7 k0_h1 k0_h6 k0_h9 => k0_hw7.2 k0_h1 k0_h6 k0_h9

def k0_mult4 (i : grid0.Coords) : BitVec 32 :=
  let arg0 : BitVec 32 := BitVec.ofNat 32 (i 0).val
  let c640_i32 : BitVec 32 := 640#32
  let v48 : BitVec 32 := Scalar.muli arg0 c640_i32
  let c4_i32 : BitVec 32 := 4#32
  let v49 : BitVec 32 := Scalar.muli v48 c4_i32
  v49
def k0_off29 (i : grid0.Coords) : Fin 1 → Nat :=
  let arg0 : BitVec 32 := BitVec.ofNat 32 (i 0).val
  let c3_i32_13 : BitVec 32 := 3#32
  let c0_i32_14 : BitVec 32 := 0#32
  let v38 : BitVec 1 := Scalar.cmpi .eq c3_i32_13 c0_i32_14
  let c1_i32_15 : BitVec 32 := 1#32
  let v39 : BitVec 32 := Scalar.select v38 c1_i32_15 c3_i32_13
  let v40 : BitVec 32 := Scalar.remsi arg0 v39
  let c0_i32_17 : BitVec 32 := 0#32
  let v42 : BitVec 1 := Scalar.cmpi .slt v40 c0_i32_17
  let c0_i32_18 : BitVec 32 := 0#32
  let v43 : BitVec 1 := Scalar.cmpi .slt v39 c0_i32_18
  let v44 : BitVec 1 := Scalar.xori v42 v43
  let c0_i32_16 : BitVec 32 := 0#32
  let v41 : BitVec 1 := Scalar.cmpi .ne v40 c0_i32_16
  let v45 : BitVec 1 := Scalar.andi v44 v41
  let v46 : BitVec 32 := Scalar.addi v40 v39
  let v47 : BitVec 32 := Scalar.select v45 v46 v40
  ![v47.toNat]
def k0_off30 (i : grid0.Coords) : Fin 3 → Nat :=
  let arg0 : BitVec 32 := BitVec.ofNat 32 (i 0).val
  let c3_i32_13 : BitVec 32 := 3#32
  let c0_i32_14 : BitVec 32 := 0#32
  let v38 : BitVec 1 := Scalar.cmpi .eq c3_i32_13 c0_i32_14
  let c1_i32_15 : BitVec 32 := 1#32
  let v39 : BitVec 32 := Scalar.select v38 c1_i32_15 c3_i32_13
  let v40 : BitVec 32 := Scalar.remsi arg0 v39
  let c0_i32_17 : BitVec 32 := 0#32
  let v42 : BitVec 1 := Scalar.cmpi .slt v40 c0_i32_17
  let c0_i32_18 : BitVec 32 := 0#32
  let v43 : BitVec 1 := Scalar.cmpi .slt v39 c0_i32_18
  let v44 : BitVec 1 := Scalar.xori v42 v43
  let c0_i32_16 : BitVec 32 := 0#32
  let v41 : BitVec 1 := Scalar.cmpi .ne v40 c0_i32_16
  let v45 : BitVec 1 := Scalar.andi v44 v41
  let v46 : BitVec 32 := Scalar.addi v40 v39
  let v47 : BitVec 32 := Scalar.select v45 v46 v40
  let c0_i32_19 : BitVec 32 := 0#32
  let c0_i32_20 : BitVec 32 := 0#32
  ![v47.toNat, 0, 0]
def k0_off31 (i : grid0.Coords) : Fin 2 → Nat :=
  let arg0 : BitVec 32 := BitVec.ofNat 32 (i 0).val
  let c640_i32 : BitVec 32 := 640#32
  let v48 : BitVec 32 := Scalar.muli arg0 c640_i32
  let c4_i32 : BitVec 32 := 4#32
  let v49 : BitVec 32 := Scalar.muli v48 c4_i32
  let v50 : BitVec 32 := v49
  let c0_i32_21 : BitVec 32 := 0#32
  ![v50.toNat, 0]
def k0_off32 (i : grid0.Coords) : Fin 1 → Nat :=
  let arg0 : BitVec 32 := BitVec.ofNat 32 (i 0).val
  let v56 : Index := Scalar.indexCast arg0
  ![v56.toNat]
def k0_off33 (i : grid0.Coords) : Fin 3 → Nat :=
  let arg0 : BitVec 32 := BitVec.ofNat 32 (i 0).val
  let c3_i32 : BitVec 32 := 3#32
  let c0_i32 : BitVec 32 := 0#32
  let v2 : BitVec 1 := Scalar.cmpi .eq c3_i32 c0_i32
  let c1_i32 : BitVec 32 := 1#32
  let v3 : BitVec 32 := Scalar.select v2 c1_i32 c3_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_31 : BitVec 32 := 0#32
  let c0_i32_32 : BitVec 32 := 0#32
  ![v11.toNat, 0, 0]
def k0_off34 (i : grid0.Coords) : Fin 1 → Nat :=
  let arg0 : BitVec 32 := BitVec.ofNat 32 (i 0).val
  let v61 : Index := Scalar.indexCast arg0
  ![v61.toNat]
def k0_off35 (i : grid0.Coords) : Fin 3 → Nat :=
  let arg0 : BitVec 32 := BitVec.ofNat 32 (i 0).val
  let c3_i32 : BitVec 32 := 3#32
  let c0_i32 : BitVec 32 := 0#32
  let v2 : BitVec 1 := Scalar.cmpi .eq c3_i32 c0_i32
  let c1_i32 : BitVec 32 := 1#32
  let v3 : BitVec 32 := Scalar.select v2 c1_i32 c3_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_31 : BitVec 32 := 0#32
  let c0_i32_32 : BitVec 32 := 0#32
  ![v11.toNat, 0, 0]
def k0_off36 (i : grid0.Coords) : Fin 1 → Nat :=
  let arg0 : BitVec 32 := BitVec.ofNat 32 (i 0).val
  let v66 : Index := Scalar.indexCast arg0
  ![v66.toNat]
def k0_off37 (i : grid0.Coords) : Fin 3 → Nat :=
  let arg0 : BitVec 32 := BitVec.ofNat 32 (i 0).val
  let c3_i32 : BitVec 32 := 3#32
  let c0_i32 : BitVec 32 := 0#32
  let v2 : BitVec 1 := Scalar.cmpi .eq c3_i32 c0_i32
  let c1_i32 : BitVec 32 := 1#32
  let v3 : BitVec 32 := Scalar.select v2 c1_i32 c3_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_31 : BitVec 32 := 0#32
  let c0_i32_32 : BitVec 32 := 0#32
  ![v11.toNat, 0, 0]
def k0_off38 (i : grid0.Coords) : Fin 1 → Nat :=
  let arg0 : BitVec 32 := BitVec.ofNat 32 (i 0).val
  let v71 : Index := Scalar.indexCast arg0
  ![v71.toNat]
def k0_off39 (i : grid0.Coords) : Fin 3 → Nat :=
  let arg0 : BitVec 32 := BitVec.ofNat 32 (i 0).val
  let c3_i32 : BitVec 32 := 3#32
  let c0_i32 : BitVec 32 := 0#32
  let v2 : BitVec 1 := Scalar.cmpi .eq c3_i32 c0_i32
  let c1_i32 : BitVec 32 := 1#32
  let v3 : BitVec 32 := Scalar.select v2 c1_i32 c3_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_31 : BitVec 32 := 0#32
  let c0_i32_32 : BitVec 32 := 0#32
  ![v11.toNat, 0, 0]
def k0_off40 (i : grid0.Coords) : Fin 1 → Nat :=
  let arg0 : BitVec 32 := BitVec.ofNat 32 (i 0).val
  let v76 : Index := Scalar.indexCast arg0
  ![v76.toNat]
def k0_off41 (i : grid0.Coords) : Fin 3 → Nat :=
  let arg0 : BitVec 32 := BitVec.ofNat 32 (i 0).val
  let c3_i32 : BitVec 32 := 3#32
  let c0_i32 : BitVec 32 := 0#32
  let v2 : BitVec 1 := Scalar.cmpi .eq c3_i32 c0_i32
  let c1_i32 : BitVec 32 := 1#32
  let v3 : BitVec 32 := Scalar.select v2 c1_i32 c3_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_31 : BitVec 32 := 0#32
  let c0_i32_32 : BitVec 32 := 0#32
  ![v11.toNat, 0, 0]
def k0_cond10 (v57 : BitVec 32) : BitVec 1 :=
  let c1_i32_22 : BitVec 32 := 1#32
  let v58 : BitVec 1 := Scalar.cmpi .eq v57 c1_i32_22
  let v59 : BitVec 32 := Scalar.extui v58
  let c0_i32_23 : BitVec 32 := 0#32
  let v60 : BitVec 1 := Scalar.cmpi .ne v59 c0_i32_23
  v60

def k0_cond11 (v62 : BitVec 32) : BitVec 1 :=
  let c2_i32_24 : BitVec 32 := 2#32
  let v63 : BitVec 1 := Scalar.cmpi .eq v62 c2_i32_24
  let v64 : BitVec 32 := Scalar.extui v63
  let c0_i32_25 : BitVec 32 := 0#32
  let v65 : BitVec 1 := Scalar.cmpi .ne v64 c0_i32_25
  v65

def k0_cond12 (v67 : BitVec 32) : BitVec 1 :=
  let c3_i32_26 : BitVec 32 := 3#32
  let v68 : BitVec 1 := Scalar.cmpi .eq v67 c3_i32_26
  let v69 : BitVec 32 := Scalar.extui v68
  let c0_i32_27 : BitVec 32 := 0#32
  let v70 : BitVec 1 := Scalar.cmpi .ne v69 c0_i32_27
  v70

def k0_cond13 (v72 : BitVec 32) : BitVec 1 :=
  let c4_i32_28 : BitVec 32 := 4#32
  let v73 : BitVec 1 := Scalar.cmpi .eq v72 c4_i32_28
  let v74 : BitVec 32 := Scalar.extui v73
  let c0_i32_29 : BitVec 32 := 0#32
  let v75 : BitVec 1 := Scalar.cmpi .ne v74 c0_i32_29
  v75

def k0_cond14 (v77 : BitVec 32) : BitVec 1 :=
  let c5_i32 : BitVec 32 := 5#32
  let v78 : BitVec 1 := Scalar.cmpi .eq v77 c5_i32
  let v79 : BitVec 32 := Scalar.extui v78
  let c0_i32_30 : BitVec 32 := 0#32
  let v80 : BitVec 1 := Scalar.cmpi .ne v79 c0_i32_30
  v80

def k0_cond16 (i : grid0.Coords) (v0 : BitVec 32) : BitVec 1 :=
  let arg0 : BitVec 32 := BitVec.ofNat 32 (i 0).val
  let v1 : BitVec 1 := Scalar.cmpi .slt arg0 v0
  let v_true : BitVec 1 := 1#1
  let v17 : BitVec 1 := Scalar.xori v1 v_true
  let v18 : BitVec 32 := Scalar.extui v17
  let c0_i32_5 : BitVec 32 := 0#32
  let v19 : BitVec 1 := Scalar.cmpi .ne v18 c0_i32_5
  v19

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2560x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== Reference.lean ====
abbrev S32 : Shape := ⟨1, ![32]⟩
abbrev S230432x128 : Shape := ⟨2, ![230432, 128]⟩
abbrev S1x32x1024x512 : Shape := ⟨4, ![1, 32, 1024, 512]⟩
abbrev S1x32x512x1024 : Shape := ⟨4, ![1, 32, 512, 1024]⟩
abbrev S_ : Shape := ⟨0, ![]⟩
abbrev S57608x512 : Shape := ⟨2, ![57608, 512]⟩
abbrev S32x1024x512 : Shape := ⟨3, ![32, 1024, 512]⟩
abbrev S32x512x1024 : Shape := ⟨3, ![32, 512, 1024]⟩
abbrev S57600x512 : Shape := ⟨2, ![57600, 512]⟩
abbrev S1 : Shape := ⟨1, ![1]⟩
abbrev S128x512 : Shape := ⟨2, ![128, 512]⟩
abbrev S128x1024 : Shape := ⟨2, ![128, 1024]⟩
abbrev S1x1024x512 : Shape := ⟨3, ![1, 1024, 512]⟩
abbrev S1024x512 : Shape := ⟨2, ![1024, 512]⟩
abbrev S1x512x1024 : Shape := ⟨3, ![1, 512, 1024]⟩
abbrev S512x1024 : Shape := ⟨2, ![512, 1024]⟩
abbrev S256x512 : Shape := ⟨2, ![256, 512]⟩
abbrev S256x1024 : Shape := ⟨2, ![256, 1024]⟩
abbrev S384x512 : Shape := ⟨2, ![384, 512]⟩
abbrev S384x1024 : Shape := ⟨2, ![384, 1024]⟩
abbrev S512x512 : Shape := ⟨2, ![512, 512]⟩
abbrev S640x512 : Shape := ⟨2, ![640, 512]⟩
abbrev S640x1024 : Shape := ⟨2, ![640, 1024]⟩
abbrev S230400x128 : Shape := ⟨2, ![230400, 128]⟩

abbrev nBuf : Space → Nat
  | .hbm => 42
  | .vmem => 5
  | .smem => 2
  | _ => 0

abbrev bufTy : (tb : Table) → Fin (tcTables nBuf tb) → BufTy
  | .hbm, ⟨0, _⟩ => ⟨S32, .i32⟩
  | .hbm, ⟨1, _⟩ => ⟨S230432x128, .i32⟩
  | .hbm, ⟨2, _⟩ => ⟨S1x32x1024x512, .f32⟩
  | .hbm, ⟨3, _⟩ => ⟨S1x32x1024x512, .f32⟩
  | .hbm, ⟨4, _⟩ => ⟨S1x32x512x1024, .f32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S32, .i32⟩
  | .hbm, ⟨35, _⟩ => ⟨S32, .i32⟩
  | .hbm, ⟨36, _⟩ => ⟨S57608x512, .i32⟩
  | .hbm, ⟨37, _⟩ => ⟨S32x1024x512, .f32⟩
  | .hbm, ⟨38, _⟩ => ⟨S32x1024x512, .f32⟩
  | .hbm, ⟨39, _⟩ => ⟨S32x512x1024, .f32⟩
  | .hbm, ⟨40, _⟩ => ⟨S57600x512, .i32⟩
  | .hbm, ⟨41, _⟩ => ⟨S230400x128, .i32⟩
  | .local _ .vmem, ⟨0, _⟩ => ⟨S57608x512, .i32⟩
  | .local _ .vmem, ⟨1, _⟩ => ⟨S32x1024x512, .f32⟩
  | .local _ .vmem, ⟨2, _⟩ => ⟨S32x1024x512, .f32⟩
  | .local _ .vmem, ⟨3, _⟩ => ⟨S32x512x1024, .f32⟩
  | .local _ .vmem, ⟨4, _⟩ => ⟨S57600x512, .i32⟩
  | .local _ .smem, ⟨0, _⟩ => ⟨S32, .i32⟩
  | .local _ .smem, ⟨1, _⟩ => ⟨S32, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_call1_call0_c : Ref sig .tc := ⟨.hbm, 29, rfl⟩
abbrev main_call1_call0_v0 : Ref sig .tc := ⟨.hbm, 30, rfl⟩
abbrev main_v5 : Ref sig .tc := ⟨.hbm, 31, rfl⟩
abbrev main_v6 : Ref sig .tc := ⟨.hbm, 32, rfl⟩
abbrev main_c_2 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c32_i32 : BitVec 32 := 32#32
  let v3 : BitVec 32 := Scalar.addi c0_i32 c32_i32
  let c1_i32 : BitVec 32 := 1#32
  ⟨c0_i32, v3, c1_i32⟩
def k0_off1 (k0_t1 : Fin k0_t1_loop.trips) : Fin 1 → Nat :=
  let c0_i32 : BitVec 32 := 0#32
  let c1_i32 : BitVec 32 := 1#32
  let arg7 : BitVec 32 := Scf.iv c0_i32 c1_i32 k0_t1
  let v4 : Index := Scalar.indexCast arg7
  ![v4.toNat]
@[reducible] def k0_t2_loop : Scf.Loop 32 :=
  let c0_i32_2 : BitVec 32 := 0#32
  let c58_i32 : BitVec 32 := 58#32
  let v8 : BitVec 32 := Scalar.addi c0_i32_2 c58_i32
  let c1_i32_3 : BitVec 32 := 1#32
  ⟨c0_i32_2, v8, c1_i32_3⟩
def k0_off2 (v5 : BitVec 32) (k0_t2 : Fin k0_t2_loop.trips) : Fin 2 → Nat :=
  let c0_i32_2 : BitVec 32 := 0#32
  let c1_i32_3 : BitVec 32 := 1#32
  let arg8 : BitVec 32 := Scf.iv c0_i32_2 c1_i32_3 k0_t2
  let c640_i32 : BitVec 32 := 640#32
  let v9 : BitVec 32 := Scalar.muli arg8 c640_i32
  let v10 : BitVec 32 := Scalar.addi v5 v9
  let v48 : Index := Scalar.indexCast v10
  let c0_21 : Index := 0#32
  ![v48.toNat, 0]
def k0_cond1 (v7 : BitVec 32) (k0_t2 : Fin k0_t2_loop.trips) : BitVec 1 :=
  let c0_i32_2 : BitVec 32 := 0#32
  let c1_i32_3 : BitVec 32 := 1#32
  let arg8 : BitVec 32 := Scf.iv c0_i32_2 c1_i32_3 k0_t2
  let c640_i32_5 : BitVec 32 := 640#32
  let v11 : BitVec 32 := Scalar.muli arg8 c640_i32_5
  let v12 : BitVec 32 := Scalar.subi v7 v11
  let c128_i32 : BitVec 32 := 128#32
  let v13 : BitVec 32 := Scalar.addi v12 c128_i32
  let c1_i32_6 : BitVec 32 := 1#32
  let v14 : BitVec 32 := Scalar.subi v13 c1_i32_6
  let c0_i32_8 : BitVec 32 := 0#32
  let v16 : BitVec 1 := Scalar.cmpi .sgt v14 c0_i32_8
  let v17 : BitVec 32 := Scalar.extui v16
  let c0_i32_9 : BitVec 32 := 0#32
  let v18 : BitVec 1 := Scalar.cmpi .slt v14 c0_i32_9
  let v19 : BitVec 32 := Scalar.extui v18
  let v20 : BitVec 32 := Scalar.subi v17 v19
  let c128_i32_7 : BitVec 32 := 128#32
  let c0_i32_10 : BitVec 32 := 0#32
  let v21 : BitVec 1 := Scalar.cmpi .sgt c128_i32_7 c0_i32_10
  let v22 : BitVec 32 := Scalar.extui v21
  let c0_i32_11 : BitVec 32 := 0#32
  let v23 : BitVec 1 := Scalar.cmpi .slt c128_i32_7 c0_i32_11
  let v24 : BitVec 32 := Scalar.extui v23
  let v25 : BitVec 32 := Scalar.subi v22 v24
  let v26 : BitVec 1 := Scalar.cmpi .ne v20 v25
  let v27 : BitVec 32 := Scalar.remsi v14 c128_i32_7
  let c0_i32_12 : BitVec 32 := 0#32
  let v28 : BitVec 1 := Scalar.cmpi .ne v27 c0_i32_12
  let v29 : BitVec 1 := Scalar.andi v26 v28
  let v15 : BitVec 32 := Scalar.divsi v14 c128_i32_7
  let c1_i32_13 : BitVec 32 := 1#32
  let v30 : BitVec 32 := Scalar.subi v15 c1_i32_13
  let v31 : BitVec 32 := Scalar.select v29 v30 v15
  let c5_i32 : BitVec 32 := 5#32
  let v32 : BitVec 32 := Scalar.minsi v31 c5_i32
  let c1_i32_14 : BitVec 32 := 1#32
  let v33 : BitVec 1 := Scalar.cmpi .eq v32 c1_i32_14
  let v34 : BitVec 32 := Scalar.extui v33
  let c0_i32_15 : BitVec 32 := 0#32
  let v35 : BitVec 1 := Scalar.cmpi .ne v34 c0_i32_15
  v35

def k0_off3 (k0_t1 : Fin k0_t1_loop.trips) : Fin 3 → Nat :=
  let c0_i32 : BitVec 32 := 0#32
  let c1_i32 : BitVec 32 := 1#32
  let arg7 : BitVec 32 := Scf.iv c0_i32 c1_i32 k0_t1
  let v55 : Index := Scalar.indexCast arg7
  let c0_22 : Index := 0#32
  let c0_23 : Index := 0#32
  ![v55.toNat, 0, 0]
def k0_off4 (k0_t1 : Fin k0_t1_loop.trips) : Fin 3 → Nat :=
  let c0_i32 : BitVec 32 := 0#32
  let c1_i32 : BitVec 32 := 1#32
  let arg7 : BitVec 32 := Scf.iv c0_i32 c1_i32 k0_t1
  let v69 : Index := Scalar.indexCast arg7
  let c0_28 : Index := 0#32
  let c0_29 : Index := 0#32
  ![v69.toNat, 0, 0]
def k0_off5 (v5 : BitVec 32) (k0_t2 : Fin k0_t2_loop.trips) : Fin 2 → Nat :=
  let c0_i32_2 : BitVec 32 := 0#32
  let c1_i32_3 : BitVec 32 := 1#32
  let arg8 : BitVec 32 := Scf.iv c0_i32_2 c1_i32_3 k0_t2
  let c640_i32 : BitVec 32 := 640#32
  let v9 : BitVec 32 := Scalar.muli arg8 c640_i32
  let v10 : BitVec 32 := Scalar.addi v5 v9
  let v77 : Index := Scalar.indexCast v10
  let c0_31 : Index := 0#32
  ![v77.toNat, 0]
def k0_off6 (v5 : BitVec 32) (k0_t2 : Fin k0_t2_loop.trips) : Fin 2 → Nat :=
  let c0_i32_2 : BitVec 32 := 0#32
  let c1_i32_3 : BitVec 32 := 1#32
  let arg8 : BitVec 32 := Scf.iv c0_i32_2 c1_i32_3 k0_t2
  let c640_i32 : BitVec 32 := 640#32
  let v9 : BitVec 32 := Scalar.muli arg8 c640_i32
  let v10 : BitVec 32 := Scalar.addi v5 v9
  let v48 : Index := Scalar.indexCast v10
  let c0_21 : Index := 0#32
  ![v48.toNat, 0]
def k0_cond2 (v7 : BitVec 32) (k0_t2 : Fin k0_t2_loop.trips) : BitVec 1 :=
  let c0_i32_2 : BitVec 32 := 0#32
  let c1_i32_3 : BitVec 32 := 1#32
  let arg8 : BitVec 32 := Scf.iv c0_i32_2 c1_i32_3 k0_t2
  let c640_i32_5 : BitVec 32 := 640#32
  let v11 : BitVec 32 := Scalar.muli arg8 c640_i32_5
  let v12 : BitVec 32 := Scalar.subi v7 v11
  let c128_i32 : BitVec 32 := 128#32
  let v13 : BitVec 32 := Scalar.addi v12 c128_i32
  let c1_i32_6 : BitVec 32 := 1#32
  let v14 : BitVec 32 := Scalar.subi v13 c1_i32_6
  let c0_i32_8 : BitVec 32 := 0#32
  let v16 : BitVec 1 := Scalar.cmpi .sgt v14 c0_i32_8
  let v17 : BitVec 32 := Scalar.extui v16
  let c0_i32_9 : BitVec 32 := 0#32
  let v18 : BitVec 1 := Scalar.cmpi .slt v14 c0_i32_9
  let v19 : BitVec 32 := Scalar.extui v18
  let v20 : BitVec 32 := Scalar.subi v17 v19
  let c128_i32_7 : BitVec 32 := 128#32
  let c0_i32_10 : BitVec 32 := 0#32
  let v21 : BitVec 1 := Scalar.cmpi .sgt c128_i32_7 c0_i32_10
  let v22 : BitVec 32 := Scalar.extui v21
  let c0_i32_11 : BitVec 32 := 0#32
  let v23 : BitVec 1 := Scalar.cmpi .slt c128_i32_7 c0_i32_11
  let v24 : BitVec 32 := Scalar.extui v23
  let v25 : BitVec 32 := Scalar.subi v22 v24
  let v26 : BitVec 1 := Scalar.cmpi .ne v20 v25
  let v27 : BitVec 32 := Scalar.remsi v14 c128_i32_7
  let c0_i32_12 : BitVec 32 := 0#32
  let v28 : BitVec 1 := Scalar.cmpi .ne v27 c0_i32_12
  let v29 : BitVec 1 := Scalar.andi v26 v28
  let v15 : BitVec 32 := Scalar.divsi v14 c128_i32_7
  let c1_i32_13 : BitVec 32 := 1#32
  let v30 : BitVec 32 := Scalar.subi v15 c1_i32_13
  let v31 : BitVec 32 := Scalar.select v29 v30 v15
  let c5_i32 : BitVec 32 := 5#32
  let v32 : BitVec 32 := Scalar.minsi v31 c5_i32
  let c2_i32 : BitVec 32 := 2#32
  let v36 : BitVec 1 := Scalar.cmpi .eq v32 c2_i32
  let v37 : BitVec 32 := Scalar.extui v36
  let c0_i32_16 : BitVec 32 := 0#32
  let v38 : BitVec 1 := Scalar.cmpi .ne v37 c0_i32_16
  v38

def k0_off7 (k0_t1 : Fin k0_t1_loop.trips) : Fin 3 → Nat :=
  let c0_i32 : BitVec 32 := 0#32
  let c1_i32 : BitVec 32 := 1#32
  let arg7 : BitVec 32 := Scf.iv c0_i32 c1_i32 k0_t1
  let v55 : Index := Scalar.indexCast arg7
  let c0_22 : Index := 0#32
  let c0_23 : Index := 0#32
  ![v55.toNat, 0, 0]
def k0_off8 (k0_t1 : Fin k0_t1_loop.trips) : Fin 3 → Nat :=
  let c0_i32 : BitVec 32 := 0#32
  let c1_i32 : BitVec 32 := 1#32
  let arg7 : BitVec 32 := Scf.iv c0_i32 c1_i32 k0_t1
  let v69 : Index := Scalar.indexCast arg7
  let c0_28 : Index := 0#32
  let c0_29 : Index := 0#32
  ![v69.toNat, 0, 0]
def k0_off9 (v5 : BitVec 32) (k0_t2 : Fin k0_t2_loop.trips) : Fin 2 → Nat :=
  let c0_i32_2 : BitVec 32 := 0#32
  let c1_i32_3 : BitVec 32 := 1#32
  let arg8 : BitVec 32 := Scf.iv c0_i32_2 c1_i32_3 k0_t2
  let c640_i32 : BitVec 32 := 640#32
  let v9 : BitVec 32 := Scalar.muli arg8 c640_i32
  let v10 : BitVec 32 := Scalar.addi v5 v9
  let v77 : Index := Scalar.indexCast v10
  let c0_31 : Index := 0#32
  ![v77.toNat, 0]
def k0_off10 (v5 : BitVec 32) (k0_t2 : Fin k0_t2_loop.trips) : Fin 2 → Nat :=
  let c0_i32_2 : BitVec 32 := 0#32
  let c1_i32_3 : BitVec 32 := 1#32
  let arg8 : BitVec 32 := Scf.iv c0_i32_2 c1_i32_3 k0_t2
  let c640_i32 : BitVec 32 := 640#32
  let v9 : BitVec 32 := Scalar.muli arg8 c640_i32
  let v10 : BitVec 32 := Scalar.addi v5 v9
  let v48 : Index := Scalar.indexCast v10
  let c0_21 : Index := 0#32
  ![v48.toNat, 0]
def k0_cond3 (v7 : BitVec 32) (k0_t2 : Fin k0_t2_loop.trips) : BitVec 1 :=
  let c0_i32_2 : BitVec 32 := 0#32
  let c1_i32_3 : BitVec 32 := 1#32
  let arg8 : BitVec 32 := Scf.iv c0_i32_2 c1_i32_3 k0_t2
  let c640_i32_5 : BitVec 32 := 640#32
  let v11 : BitVec 32 := Scalar.muli arg8 c640_i32_5
  let v12 : BitVec 32 := Scalar.subi v7 v11
  let c128_i32 : BitVec 32 := 128#32
  let v13 : BitVec 32 := Scalar.addi v12 c128_i32
  let c1_i32_6 : BitVec 32 := 1#32
  let v14 : BitVec 32 := Scalar.subi v13 c1_i32_6
  let c0_i32_8 : BitVec 32 := 0#32
  let v16 : BitVec 1 := Scalar.cmpi .sgt v14 c0_i32_8
  let v17 : BitVec 32 := Scalar.extui v16
  let c0_i32_9 : BitVec 32 := 0#32
  let v18 : BitVec 1 := Scalar.cmpi .slt v14 c0_i32_9
  let v19 : BitVec 32 := Scalar.extui v18
  let v20 : BitVec 32 := Scalar.subi v17 v19
  let c128_i32_7 : BitVec 32 := 128#32
  let c0_i32_10 : BitVec 32 := 0#32
  let v21 : BitVec 1 := Scalar.cmpi .sgt c128_i32_7 c0_i32_10
  let v22 : BitVec 32 := Scalar.extui v21
  let c0_i32_11 : BitVec 32 := 0#32
  let v23 : BitVec 1 := Scalar.cmpi .slt c128_i32_7 c0_i32_11
  let v24 : BitVec 32 := Scalar.extui v23
  let v25 : BitVec 32 := Scalar.subi v22 v24
  let v26 : BitVec 1 := Scalar.cmpi .ne v20 v25
  let v27 : BitVec 32 := Scalar.remsi v14 c128_i32_7
  let c0_i32_12 : BitVec 32 := 0#32
  let v28 : BitVec 1 := Scalar.cmpi .ne v27 c0_i32_12
  let v29 : BitVec 1 := Scalar.andi v26 v28
  let v15 : BitVec 32 := Scalar.divsi v14 c128_i32_7
  let c1_i32_13 : BitVec 32 := 1#32
  let v30 : BitVec 32 := Scalar.subi v15 c1_i32_13
  let v31 : BitVec 32 := Scalar.select v29 v30 v15
  let c5_i32 : BitVec 32 := 5#32
  let v32 : BitVec 32 := Scalar.minsi v31 c5_i32
  let c3_i32 : BitVec 32 := 3#32
  let v39 : BitVec 1 := Scalar.cmpi .eq v32 c3_i32
  let v40 : BitVec 32 := Scalar.extui v39
  let c0_i32_17 : BitVec 32 := 0#32
  let v41 : BitVec 1 := Scalar.cmpi .ne v40 c0_i32_17
  v41

def k0_off11 (k0_t1 : Fin k0_t1_loop.trips) : Fin 3 → Nat :=
  let c0_i32 : BitVec 32 := 0#32
  let c1_i32 : BitVec 32 := 1#32
  let arg7 : BitVec 32 := Scf.iv c0_i32 c1_i32 k0_t1
  let v55 : Index := Scalar.indexCast arg7
  let c0_22 : Index := 0#32
  let c0_23 : Index := 0#32
  ![v55.toNat, 0, 0]
def k0_off12 (k0_t1 : Fin k0_t1_loop.trips) : Fin 3 → Nat :=
  let c0_i32 : BitVec 32 := 0#32
  let c1_i32 : BitVec 32 := 1#32
  let arg7 : BitVec 32 := Scf.iv c0_i32 c1_i32 k0_t1
  let v69 : Index := Scalar.indexCast arg7
  let c0_28 : Index := 0#32
  let c0_29 : Index := 0#32
  ![v69.toNat, 0, 0]
def k0_off13 (v5 : BitVec 32) (k0_t2 : Fin k0_t2_loop.trips) : Fin 2 → Nat :=
  let c0_i32_2 : BitVec 32 := 0#32
  let c1_i32_3 : BitVec 32 := 1#32
  let arg8 : BitVec 32 := Scf.iv c0_i32_2 c1_i32_3 k0_t2
  let c640_i32 : BitVec 32 := 640#32
  let v9 : BitVec 32 := Scalar.muli arg8 c640_i32
  let v10 : BitVec 32 := Scalar.addi v5 v9
  let v77 : Index := Scalar.indexCast v10
  let c0_31 : Index := 0#32
  ![v77.toNat, 0]
def k0_off14 (v5 : BitVec 32) (k0_t2 : Fin k0_t2_loop.trips) : Fin 2 → Nat :=
  let c0_i32_2 : BitVec 32 := 0#32
  let c1_i32_3 : BitVec 32 := 1#32
  let arg8 : BitVec 32 := Scf.iv c0_i32_2 c1_i32_3 k0_t2
  let c640_i32 : BitVec 32 := 640#32
  let v9 : BitVec 32 := Scalar.muli arg8 c640_i32
  let v10 : BitVec 32 := Scalar.addi v5 v9
  let v48 : Index := Scalar.indexCast v10
  let c0_21 : Index := 0#32
  ![v48.toNat, 0]
def k0_cond4 (v7 : BitVec 32) (k0_t2 : Fin k0_t2_loop.trips) : BitVec 1 :=
  let c0_i32_2 : BitVec 32 := 0#32
  let c1_i32_3 : BitVec 32 := 1#32
  let arg8 : BitVec 32 := Scf.iv c0_i32_2 c1_i32_3 k0_t2
  let c640_i32_5 : BitVec 32 := 640#32
  let v11 : BitVec 32 := Scalar.muli arg8 c640_i32_5
  let v12 : BitVec 32 := Scalar.subi v7 v11
  let c128_i32 : BitVec 32 := 128#32
  let v13 : BitVec 32 := Scalar.addi v12 c128_i32
  let c1_i32_6 : BitVec 32 := 1#32
  let v14 : BitVec 32 := Scalar.subi v13 c1_i32_6
  let c0_i32_8 : BitVec 32 := 0#32
  let v16 : BitVec 1 := Scalar.cmpi .sgt v14 c0_i32_8
  let v17 : BitVec 32 := Scalar.extui v16
  let c0_i32_9 : BitVec 32 := 0#32
  let v18 : BitVec 1 := Scalar.cmpi .slt v14 c0_i32_9
  let v19 : BitVec 32 := Scalar.extui v18
  let v20 : BitVec 32 := Scalar.subi v17 v19
  let c128_i32_7 : BitVec 32 := 128#32
  let c0_i32_10 : BitVec 32 := 0#32
  let v21 : BitVec 1 := Scalar.cmpi .sgt c128_i32_7 c0_i32_10
  let v22 : BitVec 32 := Scalar.extui v21
  let c0_i32_11 : BitVec 32 := 0#32
  let v23 : BitVec 1 := Scalar.cmpi .slt c128_i32_7 c0_i32_11
  let v24 : BitVec 32 := Scalar.extui v23
  let v25 : BitVec 32 := Scalar.subi v22 v24
  let v26 : BitVec 1 := Scalar.cmpi .ne v20 v25
  let v27 : BitVec 32 := Scalar.remsi v14 c128_i32_7
  let c0_i32_12 : BitVec 32 := 0#32
  let v28 : BitVec 1 := Scalar.cmpi .ne v27 c0_i32_12
  let v29 : BitVec 1 := Scalar.andi v26 v28
  let v15 : BitVec 32 := Scalar.divsi v14 c128_i32_7
  let c1_i32_13 : BitVec 32 := 1#32
  let v30 : BitVec 32 := Scalar.subi v15 c1_i32_13
  let v31 : BitVec 32 := Scalar.select v29 v30 v15
  let c5_i32 : BitVec 32 := 5#32
  let v32 : BitVec 32 := Scalar.minsi v31 c5_i32
  let c4_i32 : BitVec 32 := 4#32
  let v42 : BitVec 1 := Scalar.cmpi .eq v32 c4_i32
  let v43 : BitVec 32 := Scalar.extui v42
  let c0_i32_18 : BitVec 32 := 0#32
  let v44 : BitVec 1 := Scalar.cmpi .ne v43 c0_i32_18
  v44

def k0_off15 (k0_t1 : Fin k0_t1_loop.trips) : Fin 3 → Nat :=
  let c0_i32 : BitVec 32 := 0#32
  let c1_i32 : BitVec 32 := 1#32
  let arg7 : BitVec 32 := Scf.iv c0_i32 c1_i32 k0_t1
  let v55 : Index := Scalar.indexCast arg7
  let c0_22 : Index := 0#32
  let c0_23 : Index := 0#32
  ![v55.toNat, 0, 0]
def k0_off16 (k0_t1 : Fin k0_t1_loop.trips) : Fin 3 → Nat :=
  let c0_i32 : BitVec 32 := 0#32
  let c1_i32 : BitVec 32 := 1#32
  let arg7 : BitVec 32 := Scf.iv c0_i32 c1_i32 k0_t1
  let v69 : Index := Scalar.indexCast arg7
  let c0_28 : Index := 0#32
  let c0_29 : Index := 0#32
  ![v69.toNat, 0, 0]
def k0_off17 (v5 : BitVec 32) (k0_t2 : Fin k0_t2_loop.trips) : Fin 2 → Nat :=
  let c0_i32_2 : BitVec 32 := 0#32
  let c1_i32_3 : BitVec 32 := 1#32
  let arg8 : BitVec 32 := Scf.iv c0_i32_2 c1_i32_3 k0_t2
  let c640_i32 : BitVec 32 := 640#32
  let v9 : BitVec 32 := Scalar.muli arg8 c640_i32
  let v10 : BitVec 32 := Scalar.addi v5 v9
  let v77 : Index := Scalar.indexCast v10
  let c0_31 : Index := 0#32
  ![v77.toNat, 0]
def k0_off18 (v5 : BitVec 32) (k0_t2 : Fin k0_t2_loop.trips) : Fin 2 → Nat :=
  let c0_i32_2 : BitVec 32 := 0#32
  let c1_i32_3 : BitVec 32 := 1#32
  let arg8 : BitVec 32 := Scf.iv c0_i32_2 c1_i32_3 k0_t2
  let c640_i32 : BitVec 32 := 640#32
  let v9 : BitVec 32 := Scalar.muli arg8 c640_i32
  let v10 : BitVec 32 := Scalar.addi v5 v9
  let v48 : Index := Scalar.indexCast v10
  let c0_21 : Index := 0#32
  ![v48.toNat, 0]
def k0_cond5 (v7 : BitVec 32) (k0_t2 : Fin k0_t2_loop.trips) : BitVec 1 :=
  let c0_i32_2 : BitVec 32 := 0#32
  let c1_i32_3 : BitVec 32 := 1#32
  let arg8 : BitVec 32 := Scf.iv c0_i32_2 c1_i32_3 k0_t2
  let c640_i32_5 : BitVec 32 := 640#32
  let v11 : BitVec 32 := Scalar.muli arg8 c640_i32_5
  let v12 : BitVec 32 := Scalar.subi v7 v11
  let c128_i32 : BitVec 32 := 128#32
  let v13 : BitVec 32 := Scalar.addi v12 c128_i32
  let c1_i32_6 : BitVec 32 := 1#32
  let v14 : BitVec 32 := Scalar.subi v13 c1_i32_6
  let c0_i32_8 : BitVec 32 := 0#32
  let v16 : BitVec 1 := Scalar.cmpi .sgt v14 c0_i32_8
  let v17 : BitVec 32 := Scalar.extui v16
  let c0_i32_9 : BitVec 32 := 0#32
  let v18 : BitVec 1 := Scalar.cmpi .slt v14 c0_i32_9
  let v19 : BitVec 32 := Scalar.extui v18
  let v20 : BitVec 32 := Scalar.subi v17 v19
  let c128_i32_7 : BitVec 32 := 128#32
  let c0_i32_10 : BitVec 32 := 0#32
  let v21 : BitVec 1 := Scalar.cmpi .sgt c128_i32_7 c0_i32_10
  let v22 : BitVec 32 := Scalar.extui v21
  let c0_i32_11 : BitVec 32 := 0#32
  let v23 : BitVec 1 := Scalar.cmpi .slt c128_i32_7 c0_i32_11
  let v24 : BitVec 32 := Scalar.extui v23
  let v25 : BitVec 32 := Scalar.subi v22 v24
  let v26 : BitVec 1 := Scalar.cmpi .ne v20 v25
  let v27 : BitVec 32 := Scalar.remsi v14 c128_i32_7
  let c0_i32_12 : BitVec 32 := 0#32
  let v28 : BitVec 1 := Scalar.cmpi .ne v27 c0_i32_12
  let v29 : BitVec 1 := Scalar.andi v26 v28
  let v15 : BitVec 32 := Scalar.divsi v14 c128_i32_7
  let c1_i32_13 : BitVec 32 := 1#32
  let v30 : BitVec 32 := Scalar.subi v15 c1_i32_13
  let v31 : BitVec 32 := Scalar.select v29 v30 v15
  let c5_i32 : BitVec 32 := 5#32
  let v32 : BitVec 32 := Scalar.minsi v31 c5_i32
  let c5_i32_19 : BitVec 32 := 5#32
  let v45 : BitVec 1 := Scalar.cmpi .eq v32 c5_i32_19
  let v46 : BitVec 32 := Scalar.extui v45
  let c0_i32_20 : BitVec 32 := 0#32
  let v47 : BitVec 1 := Scalar.cmpi .ne v46 c0_i32_20
  v47

def k0_off19 (k0_t1 : Fin k0_t1_loop.trips) : Fin 3 → Nat :=
  let c0_i32 : BitVec 32 := 0#32
  let c1_i32 : BitVec 32 := 1#32
  let arg7 : BitVec 32 := Scf.iv c0_i32 c1_i32 k0_t1
  let v55 : Index := Scalar.indexCast arg7
  let c0_22 : Index := 0#32
  let c0_23 : Index := 0#32
  ![v55.toNat, 0, 0]
def k0_off20 (k0_t1 : Fin k0_t1_loop.trips) : Fin 3 → Nat :=
  let c0_i32 : BitVec 32 := 0#32
  let c1_i32 : BitVec 32 := 1#32
  let arg7 : BitVec 32 := Scf.iv c0_i32 c1_i32 k0_t1
  let v69 : Index := Scalar.indexCast arg7
  let c0_28 : Index := 0#32
  let c0_29 : Index := 0#32
  ![v69.toNat, 0, 0]
def k0_off21 (v5 : BitVec 32) (k0_t2 : Fin k0_t2_loop.trips) : Fin 2 → Nat :=
  let c0_i32_2 : BitVec 32 := 0#32
  let c1_i32_3 : BitVec 32 := 1#32
  let arg8 : BitVec 32 := Scf.iv c0_i32_2 c1_i32_3 k0_t2
  let c640_i32 : BitVec 32 := 640#32
  let v9 : BitVec 32 := Scalar.muli arg8 c640_i32
  let v10 : BitVec 32 := Scalar.addi v5 v9
  let v77 : Index := Scalar.indexCast v10
  let c0_31 : Index := 0#32
  ![v77.toNat, 0]

def k0_chk1 (v5 : BitVec 32) (v7 : BitVec 32) : Prop :=
  (∀ k0_t2 : Fin k0_t2_loop.trips, ∀ (k0_h1 : k0_cond1 v7 k0_t2 = 1#1), ∀ a, (k0_off2 v5 k0_t2) a + S128x512.size a ≤ S57608x512.size a) ∧
  (∀ k0_t2 : Fin k0_t2_loop.trips, ∀ (k0_h1 : k0_cond1 v7 k0_t2 = 1#1), ∀ a, (k0_off5 v5 k0_t2) a + S128x512.size a ≤ S57600x512.size a) ∧
  (∀ k0_t2 : Fin k0_t2_loop.trips, ∀ (k0_h2 : k0_cond2 v7 k0_t2 = 1#1), ∀ a, (k0_off6 v5 k0_t2) a + S256x512.size a ≤ S57608x512.size a) ∧
  (∀ k0_t2 : Fin k0_t2_loop.trips, ∀ (k0_h2 : k0_cond2 v7 k0_t2 = 1#1), ∀ a, (k0_off9 v5 k0_t2) a + S256x512.size a ≤ S57600x512.size a) ∧
  (∀ k0_t2 : Fin k0_t2_loop.trips, ∀ (k0_h3 : k0_cond3 v7 k0_t2 = 1#1), ∀ a, (k0_off10 v5 k0_t2) a + S384x512.size a ≤ S57608x512.size a) ∧
  (∀ k0_t2 : Fin k0_t2_loop.trips, ∀ (k0_h3 : k0_cond3 v7 k0_t2 = 1#1), ∀ a, (k0_off13 v5 k0_t2) a + S384x512.size a ≤ S57600x512.size a) ∧
  (∀ k0_t2 : Fin k0_t2_loop.trips, ∀ (k0_h4 : k0_cond4 v7 k0_t2 = 1#1), ∀ a, (k0_off14 v5 k0_t2) a + S512x512.size a ≤ S57608x512.size a) ∧
  (∀ k0_t2 : Fin k0_t2_loop.trips, ∀ (k0_h4 : k0_cond4 v7 k0_t2 = 1#1), ∀ a, (k0_off17 v5 k0_t2) a + S512x512.size a ≤ S57600x512.size a) ∧
  (∀ k0_t2 : Fin k0_t2_loop.trips, ∀ (k0_h5 : k0_cond5 v7 k0_t2 = 1#1), ∀ a, (k0_off18 v5 k0_t2) a + S640x512.size a ≤ S57608x512.size a) ∧
  (∀ k0_t2 : Fin k0_t2_loop.trips, ∀ (k0_h5 : k0_cond5 v7 k0_t2 = 1#1), ∀ a, (k0_off21 v5 k0_t2) a + S640x512.size a ≤ S57600x512.size a)
theorem k0_off2_inb : ∀ (v5 : BitVec 32) (v7 : BitVec 32) (k0_hw1 : k0_chk1 v5 v7) (k0_t2 : Fin k0_t2_loop.trips), ∀ (k0_h1 : k0_cond1 v7 k0_t2 = 1#1), ∀ a, (k0_off2 v5 k0_t2) a + S128x512.size a ≤ S57608x512.size a := fun v5 v7 k0_hw1 k0_t2 k0_h1 => k0_hw1.1 k0_t2 k0_h1
theorem k0_off5_inb : ∀ (v5 : BitVec 32) (v7 : BitVec 32) (k0_hw1 : k0_chk1 v5 v7) (k0_t2 : Fin k0_t2_loop.trips), ∀ (k0_h1 : k0_cond1 v7 k0_t2 = 1#1), ∀ a, (k0_off5 v5 k0_t2) a + S128x512.size a ≤ S57600x512.size a := fun v5 v7 k0_hw1 k0_t2 k0_h1 => k0_hw1.2.1 k0_t2 k0_h1
theorem k0_off6_inb : ∀ (v5 : BitVec 32) (v7 : BitVec 32) (k0_hw1 : k0_chk1 v5 v7) (k0_t2 : Fin k0_t2_loop.trips), ∀ (k0_h2 : k0_cond2 v7 k0_t2 = 1#1), ∀ a, (k0_off6 v5 k0_t2) a + S256x512.size a ≤ S57608x512.size a := fun v5 v7 k0_hw1 k0_t2 k0_h2 => k0_hw1.2.2.1 k0_t2 k0_h2
theorem k0_off9_inb : ∀ (v5 : BitVec 32) (v7 : BitVec 32) (k0_hw1 : k0_chk1 v5 v7) (k0_t2 : Fin k0_t2_loop.trips), ∀ (k0_h2 : k0_cond2 v7 k0_t2 = 1#1), ∀ a, (k0_off9 v5 k0_t2) a + S256x512.size a ≤ S57600x512.size a := fun v5 v7 k0_hw1 k0_t2 k0_h2 => k0_hw1.2.2.2.1 k0_t2 k0_h2
theorem k0_off10_inb : ∀ (v5 : BitVec 32) (v7 : BitVec 32) (k0_hw1 : k0_chk1 v5 v7) (k0_t2 : Fin k0_t2_loop.trips), ∀ (k0_h3 : k0_cond3 v7 k0_t2 = 1#1), ∀ a, (k0_off10 v5 k0_t2) a + S384x512.size a ≤ S57608x512.size a := fun v5 v7 k0_hw1 k0_t2 k0_h3 => k0_hw1.2.2.2.2.1 k0_t2 k0_h3
theorem k0_off13_inb : ∀ (v5 : BitVec 32) (v7 : BitVec 32) (k0_hw1 : k0_chk1 v5 v7) (k0_t2 : Fin k0_t2_loop.trips), ∀ (k0_h3 : k0_cond3 v7 k0_t2 = 1#1), ∀ a, (k0_off13 v5 k0_t2) a + S384x512.size a ≤ S57600x512.size a := fun v5 v7 k0_hw1 k0_t2 k0_h3 => k0_hw1.2.2.2.2.2.1 k0_t2 k0_h3
theorem k0_off14_inb : ∀ (v5 : BitVec 32) (v7 : BitVec 32) (k0_hw1 : k0_chk1 v5 v7) (k0_t2 : Fin k0_t2_loop.trips), ∀ (k0_h4 : k0_cond4 v7 k0_t2 = 1#1), ∀ a, (k0_off14 v5 k0_t2) a + S512x512.size a ≤ S57608x512.size a := fun v5 v7 k0_hw1 k0_t2 k0_h4 => k0_hw1.2.2.2.2.2.2.1 k0_t2 k0_h4
theorem k0_off17_inb : ∀ (v5 : BitVec 32) (v7 : BitVec 32) (k0_hw1 : k0_chk1 v5 v7) (k0_t2 : Fin k0_t2_loop.trips), ∀ (k0_h4 : k0_cond4 v7 k0_t2 = 1#1), ∀ a, (k0_off17 v5 k0_t2) a + S512x512.size a ≤ S57600x512.size a := fun v5 v7 k0_hw1 k0_t2 k0_h4 => k0_hw1.2.2.2.2.2.2.2.1 k0_t2 k0_h4
theorem k0_off18_inb : ∀ (v5 : BitVec 32) (v7 : BitVec 32) (k0_hw1 : k0_chk1 v5 v7) (k0_t2 : Fin k0_t2_loop.trips), ∀ (k0_h5 : k0_cond5 v7 k0_t2 = 1#1), ∀ a, (k0_off18 v5 k0_t2) a + S640x512.size a ≤ S57608x512.size a := fun v5 v7 k0_hw1 k0_t2 k0_h5 => k0_hw1.2.2.2.2.2.2.2.2.1 k0_t2 k0_h5
theorem k0_off21_inb : ∀ (v5 : BitVec 32) (v7 : BitVec 32) (k0_hw1 : k0_chk1 v5 v7) (k0_t2 : Fin k0_t2_loop.trips), ∀ (k0_h5 : k0_cond5 v7 k0_t2 = 1#1), ∀ a, (k0_off21 v5 k0_t2) a + S640x512.size a ≤ S57600x512.size a := fun v5 v7 k0_hw1 k0_t2 k0_h5 => k0_hw1.2.2.2.2.2.2.2.2.2 k0_t2 k0_h5

abbrev stage0_0 : Fin 1 → Memref sig .tc .smem S32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S57608x512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S57600x512 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== MixKernel.lean ====
abbrev S128x8x1024 : Shape := ⟨3, ![128, 8, 1024]⟩
abbrev S1x128x15x512 : Shape := ⟨4, ![1, 128, 15, 512]⟩
abbrev S1x1024 : Shape := ⟨2, ![1, 1024]⟩
abbrev S1x1024x1536 : Shape := ⟨3, ![1, 1024, 1536]⟩
abbrev S1x4x128x128 : Shape := ⟨4, ![1, 4, 128, 128]⟩
abbrev S1x512 : Shape := ⟨2, ![1, 512]⟩
abbrev S1x4x128 : Shape := ⟨3, ![1, 4, 128]⟩
abbrev S1x1024x1024 : Shape := ⟨3, ![1, 1024, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S1024x32 : Shape := ⟨2, ![1024, 32]⟩
abbrev S1024x4 : Shape := ⟨2, ![1024, 4]⟩
abbrev S_ : Shape := ⟨0, ![]⟩
abbrev S1024x92 : Shape := ⟨2, ![1024, 92]⟩
abbrev S1024x128 : Shape := ⟨2, ![1024, 128]⟩
abbrev S32 : Shape := ⟨1, ![32]⟩
abbrev S4 : Shape := ⟨1, ![4]⟩
abbrev S92 : Shape := ⟨1, ![92]⟩
abbrev S128 : Shape := ⟨1, ![128]⟩
abbrev S1x128 : Shape := ⟨2, ![1, 128]⟩
abbrev S4x128 : Shape := ⟨2, ![4, 128]⟩
abbrev S128x4 : Shape := ⟨2, ![128, 4]⟩
abbrev S128x4x128 : Shape := ⟨3, ![128, 4, 128]⟩
abbrev S128x512 : Shape := ⟨2, ![128, 512]⟩
abbrev S8x512 : Shape := ⟨2, ![8, 512]⟩
abbrev S1x8x1x512 : Shape := ⟨4, ![1, 8, 1, 512]⟩
abbrev S16x8x1x512 : Shape := ⟨4, ![16, 8, 1, 512]⟩
abbrev S4x128x128 : Shape := ⟨3, ![4, 128, 128]⟩
abbrev S4x8x8 : Shape := ⟨3, ![4, 8, 8]⟩
abbrev S1x4x1x8x1x8 : Shape := ⟨6, ![1, 4, 1, 8, 1, 8]⟩
abbrev S1x4x16x8x16x8 : Shape := ⟨6, ![1, 4, 16, 8, 16, 8]⟩
abbrev S1024x1024 : Shape := ⟨2, ![1024, 1024]⟩
abbrev S128x15x512 : Shape := ⟨3, ![128, 15, 512]⟩
abbrev S15x128x512 : Shape := ⟨3, ![15, 128, 512]⟩
abbrev S1024 : Shape := ⟨1, ![1024]⟩
abbrev S1024x1 : Shape := ⟨2, ![1024, 1]⟩
abbrev S1024x1536 : Shape := ⟨2, ![1024, 1536]⟩
abbrev S512 : Shape := ⟨1, ![512]⟩
abbrev S128x1024 : Shape := ⟨2, ![128, 1024]⟩
abbrev S128x1 : Shape := ⟨2, ![128, 1]⟩
abbrev S144 : Shape := ⟨1, ![144]⟩
abbrev S1x144 : Shape := ⟨2, ![1, 144]⟩
abbrev S128x144 : Shape := ⟨2, ![128, 144]⟩
abbrev S1x128x144 : Shape := ⟨3, ![1, 128, 144]⟩
abbrev S4x128x144 : Shape := ⟨3, ![4, 128, 144]⟩
abbrev S1024x8 : Shape := ⟨2, ![1024, 8]⟩
abbrev S32x256 : Shape := ⟨2, ![32, 256]⟩
abbrev S4x1x128 : Shape := ⟨3, ![4, 1, 128]⟩
abbrev S1024x512 : Shape := ⟨2, ![1024, 512]⟩
abbrev S24x128x512 : Shape := ⟨3, ![24, 128, 512]⟩
abbrev S4x1024x128 : Shape := ⟨3, ![4, 1024, 128]⟩
abbrev S1x1024x128 : Shape := ⟨3, ![1, 1024, 128]⟩
abbrev S1x128x128 : Shape := ⟨3, ![1, 128, 128]⟩
abbrev S128x128 : Shape := ⟨2, ![128, 128]⟩
abbrev S1x128x512 : Shape := ⟨3, ![1, 128, 512]⟩
abbrev S256x1024 : Shape := ⟨2, ![256, 1024]⟩
abbrev S128x256 : Shape := ⟨2, ![128, 256]⟩
abbrev S8x256 : Shape := ⟨2, ![8, 256]⟩
abbrev S256 : Shape := ⟨1, ![256]⟩
abbrev S1x256 : Shape := ⟨2, ![1, 256]⟩
abbrev S256x256 : Shape := ⟨2, ![256, 256]⟩
abbrev S256x128 : Shape := ⟨2, ![256, 128]⟩
abbrev S256x8 : Shape := ⟨2, ![256, 8]⟩
abbrev S1x1x128 : Shape := ⟨3, ![1, 1, 128]⟩

abbrev nBuf : Space → Nat
  | .hbm => 390
  | .vmem => 24
  | .smem => 0
  | _ => 0

abbrev hbmTy0_0 (i : Nat) : BufTy := match i % 128 with
  | 0 => ⟨S128x8x1024, .f32⟩
  | 1 => ⟨S1x128x15x512, .f32⟩
  | 2 => ⟨S1x1024, .f32⟩
  | 3 => ⟨S1x1024x1536, .f32⟩
  | 4 => ⟨S1x4x128x128, .f32⟩
  | 5 => ⟨S1x512, .f32⟩
  | 6 => ⟨S1x512, .f32⟩
  | 7 => ⟨S1x512, .f32⟩
  | 8 => ⟨S1x4x128x128, .f32⟩
  | 9 => ⟨S1x4x128, .f32⟩
  | 10 => ⟨S1x1024x1024, .f32⟩
  | 11 => ⟨S1x1024, .f32⟩
  | 12 => ⟨S1x1024x4, .f32⟩
  | 13 => ⟨S1x4, .f32⟩
  | 14 => ⟨S1x1024x32, .f32⟩
  | 15 => ⟨S1x32, .f32⟩
  | 16 => ⟨S1024x32, .f32⟩
  | 17 => ⟨S1024x4, .f32⟩
  | 18 => ⟨S_, .f32⟩
  | 19 => ⟨S1024x92, .f32⟩
  | 20 => ⟨S1024x128, .f32⟩
  | 21 => ⟨S32, .f32⟩
  | 22 => ⟨S4, .f32⟩
  | 23 => ⟨S_, .f32⟩
  | 24 => ⟨S92, .f32⟩
  | 25 => ⟨S128, .f32⟩
  | 26 => ⟨S1x128, .f32⟩
  | 27 => ⟨S4x128, .f32⟩
  | 28 => ⟨S128x4, .f32⟩
  | 29 => ⟨S128x4x128, .f32⟩
  | 30 => ⟨S128x512, .f32⟩
  | 31 => ⟨S8x512, .f32⟩
  | 32 => ⟨S1x8x1x512, .f32⟩
  | 33 => ⟨S16x8x1x512, .f32⟩
  | 34 => ⟨S128x512, .f32⟩
  | 35 => ⟨S4x128x128, .f32⟩
  | 36 => ⟨S4x128x128, .bf16⟩
  | 37 => ⟨S4x128x128, .f32⟩
  | 38 => ⟨S4x8x8, .f32⟩
  | 39 => ⟨S4x8x8, .bf16⟩
  | 40 => ⟨S1x4x1x8x1x8, .bf16⟩
  | 41 => ⟨S1x4x16x8x16x8, .bf16⟩
  | 42 => ⟨S4x128x128, .bf16⟩
  | 43 => ⟨S1024x1024, .f32⟩
  | 44 => ⟨S128x15x512, .f32⟩
  | 45 => ⟨S15x128x512, .f32⟩
  | 46 => ⟨S1024, .f32⟩
  | 47 => ⟨S1024x1, .f32⟩
  | 48 => ⟨S1024x1536, .f32⟩
  | 49 => ⟨S1024x1536, .f32⟩
  | 50 => ⟨S1024x1536, .f32⟩
  | 51 => ⟨S1024x1536, .bf16⟩
  | 52 => ⟨S4x128x128, .f32⟩
  | 53 => ⟨S4x128x128, .bf16⟩
  | 54 => ⟨S512, .f32⟩
  | 55 => ⟨S1x512, .f32⟩
  | 56 => ⟨S512, .f32⟩
  | 57 => ⟨S1x512, .f32⟩
  | 58 => ⟨S512, .f32⟩
  | 59 => ⟨S1x512, .f32⟩
  | 60 => ⟨S1024x1024, .f32⟩
  | 61 => ⟨S1024x1024, .bf16⟩
  | 62 => ⟨S1024, .f32⟩
  | 63 => ⟨S1x1024, .f32⟩
  | 64 => ⟨S128x1024, .f32⟩
  | 65 => ⟨S128x1024, .bf16⟩
  | 66 => ⟨S128x1, .f32⟩
  | 67 => ⟨S128, .i32⟩
  | 68 => ⟨S128x1, .i32⟩
  | 69 => ⟨S144, .i32⟩
  | 70 => ⟨S1x144, .i32⟩
  | 71 => ⟨S_, .i32⟩
  | 72 => ⟨S128x1, .i32⟩
  | 73 => ⟨S_, .i32⟩
  | 74 => ⟨S128x1, .i32⟩
  | 75 => ⟨S128x1, .i32⟩
  | 76 => ⟨S_, .i32⟩
  | 77 => ⟨S128x1, .i32⟩
  | 78 => ⟨S128x1, .i32⟩
  | 79 => ⟨S128x144, .i32⟩
  | 80 => ⟨S128x144, .i32⟩
  | 81 => ⟨S128x144, .i1⟩
  | 82 => ⟨S_, .i32⟩
  | 83 => ⟨S128x1, .i32⟩
  | 84 => ⟨S128x1, .i32⟩
  | 85 => ⟨S128x144, .i32⟩
  | 86 => ⟨S128x144, .i32⟩
  | 87 => ⟨S128x144, .i1⟩
  | 88 => ⟨S128x144, .i1⟩
  | 89 => ⟨S128x1, .f32⟩
  | 90 => ⟨S_, .f32⟩
  | 91 => ⟨S128x1, .f32⟩
  | 92 => ⟨S128x1, .f32⟩
  | 93 => ⟨S_, .f32⟩
  | 94 => ⟨S_, .f32⟩
  | 95 => ⟨S128x144, .f32⟩
  | 96 => ⟨S128x144, .f32⟩
  | 97 => ⟨S128x144, .f32⟩
  | 98 => ⟨S_, .i32⟩
  | 99 => ⟨S128x1, .i32⟩
  | 100 => ⟨S128x1, .i32⟩
  | 101 => ⟨S128x144, .i32⟩
  | 102 => ⟨S128x144, .i32⟩
  | 103 => ⟨S128x144, .i1⟩
  | 104 => ⟨S128x144, .f32⟩
  | 105 => ⟨S128x144, .f32⟩
  | 106 => ⟨S_, .i32⟩
  | 107 => ⟨S128x1, .i32⟩
  | 108 => ⟨S_, .i32⟩
  | 109 => ⟨S128x1, .i32⟩
  | 110 => ⟨S128x1, .i32⟩
  | 111 => ⟨S_, .i32⟩
  | 112 => ⟨S128x1, .i32⟩
  | 113 => ⟨S128x1, .i32⟩
  | 114 => ⟨S128x144, .i32⟩
  | 115 => ⟨S128x144, .i32⟩
  | 116 => ⟨S128x144, .i1⟩
  | 117 => ⟨S_, .i32⟩
  | 118 => ⟨S128x1, .i32⟩
  | 119 => ⟨S128x1, .i32⟩
  | 120 => ⟨S128x144, .i32⟩
  | 121 => ⟨S128x144, .i32⟩
  | 122 => ⟨S128x144, .i1⟩
  | 123 => ⟨S128x144, .i1⟩
  | 124 => ⟨S128x1, .f32⟩
  | 125 => ⟨S_, .f32⟩
  | 126 => ⟨S128x1, .f32⟩
  | 127 => ⟨S128x1, .f32⟩
  | _ => ⟨S128x8x1024, .f32⟩

abbrev hbmTy0_1 (i : Nat) : BufTy := match i % 128 with
  | 0 => ⟨S_, .f32⟩
  | 1 => ⟨S_, .f32⟩
  | 2 => ⟨S128x144, .f32⟩
  | 3 => ⟨S128x144, .f32⟩
  | 4 => ⟨S128x144, .f32⟩
  | 5 => ⟨S_, .i32⟩
  | 6 => ⟨S128x1, .i32⟩
  | 7 => ⟨S128x1, .i32⟩
  | 8 => ⟨S128x144, .i32⟩
  | 9 => ⟨S128x144, .i32⟩
  | 10 => ⟨S128x144, .i1⟩
  | 11 => ⟨S128x144, .f32⟩
  | 12 => ⟨S128x144, .f32⟩
  | 13 => ⟨S_, .i32⟩
  | 14 => ⟨S128x1, .i32⟩
  | 15 => ⟨S_, .i32⟩
  | 16 => ⟨S128x1, .i32⟩
  | 17 => ⟨S128x1, .i32⟩
  | 18 => ⟨S_, .i32⟩
  | 19 => ⟨S128x1, .i32⟩
  | 20 => ⟨S128x1, .i32⟩
  | 21 => ⟨S128x144, .i32⟩
  | 22 => ⟨S128x144, .i32⟩
  | 23 => ⟨S128x144, .i1⟩
  | 24 => ⟨S_, .i32⟩
  | 25 => ⟨S128x1, .i32⟩
  | 26 => ⟨S128x1, .i32⟩
  | 27 => ⟨S128x144, .i32⟩
  | 28 => ⟨S128x144, .i32⟩
  | 29 => ⟨S128x144, .i1⟩
  | 30 => ⟨S128x144, .i1⟩
  | 31 => ⟨S128x1, .f32⟩
  | 32 => ⟨S_, .f32⟩
  | 33 => ⟨S128x1, .f32⟩
  | 34 => ⟨S128x1, .f32⟩
  | 35 => ⟨S_, .f32⟩
  | 36 => ⟨S_, .f32⟩
  | 37 => ⟨S128x144, .f32⟩
  | 38 => ⟨S128x144, .f32⟩
  | 39 => ⟨S128x144, .f32⟩
  | 40 => ⟨S_, .i32⟩
  | 41 => ⟨S128x1, .i32⟩
  | 42 => ⟨S128x1, .i32⟩
  | 43 => ⟨S128x144, .i32⟩
  | 44 => ⟨S128x144, .i32⟩
  | 45 => ⟨S128x144, .i1⟩
  | 46 => ⟨S128x144, .f32⟩
  | 47 => ⟨S128x144, .f32⟩
  | 48 => ⟨S_, .i32⟩
  | 49 => ⟨S128x1, .i32⟩
  | 50 => ⟨S_, .i32⟩
  | 51 => ⟨S128x1, .i32⟩
  | 52 => ⟨S128x1, .i32⟩
  | 53 => ⟨S_, .i32⟩
  | 54 => ⟨S128x1, .i32⟩
  | 55 => ⟨S128x1, .i32⟩
  | 56 => ⟨S128x144, .i32⟩
  | 57 => ⟨S128x144, .i32⟩
  | 58 => ⟨S128x144, .i1⟩
  | 59 => ⟨S_, .i32⟩
  | 60 => ⟨S128x1, .i32⟩
  | 61 => ⟨S128x1, .i32⟩
  | 62 => ⟨S128x144, .i32⟩
  | 63 => ⟨S128x144, .i32⟩
  | 64 => ⟨S128x144, .i1⟩
  | 65 => ⟨S128x144, .i1⟩
  | 66 => ⟨S128x1, .f32⟩
  | 67 => ⟨S_, .f32⟩
  | 68 => ⟨S128x1, .f32⟩
  | 69 => ⟨S128x1, .f32⟩
  | 70 => ⟨S_, .f32⟩
  | 71 => ⟨S_, .f32⟩
  | 72 => ⟨S128x144, .f32⟩
  | 73 => ⟨S128x144, .f32⟩
  | 74 => ⟨S128x144, .f32⟩
  | 75 => ⟨S_, .i32⟩
  | 76 => ⟨S128x1, .i32⟩
  | 77 => ⟨S128x1, .i32⟩
  | 78 => ⟨S128x144, .i32⟩
  | 79 => ⟨S128x144, .i32⟩
  | 80 => ⟨S128x144, .i1⟩
  | 81 => ⟨S128x144, .f32⟩
  | 82 => ⟨S128x144, .f32⟩
  | 83 => ⟨S1x128x144, .f32⟩
  | 84 => ⟨S1x128x144, .f32⟩
  | 85 => ⟨S1x128x144, .f32⟩
  | 86 => ⟨S1x128x144, .f32⟩
  | 87 => ⟨S4x128x144, .f32⟩
  | 88 => ⟨S4x128x144, .bf16⟩
  | 89 => ⟨S128, .i32⟩
  | 90 => ⟨S128x1, .i32⟩
  | 91 => ⟨S144, .i32⟩
  | 92 => ⟨S1x144, .i32⟩
  | 93 => ⟨S_, .i32⟩
  | 94 => ⟨S128x1, .i32⟩
  | 95 => ⟨S128x1, .i32⟩
  | 96 => ⟨S_, .i32⟩
  | 97 => ⟨S128x1, .i32⟩
  | 98 => ⟨S128x1, .i32⟩
  | 99 => ⟨S_, .i32⟩
  | 100 => ⟨S128x1, .i32⟩
  | 101 => ⟨S128x1, .i32⟩
  | 102 => ⟨S_, .i32⟩
  | 103 => ⟨S128x1, .i32⟩
  | 104 => ⟨S128x1, .i32⟩
  | 105 => ⟨S128x144, .i32⟩
  | 106 => ⟨S128x144, .i32⟩
  | 107 => ⟨S128x144, .i1⟩
  | 108 => ⟨S_, .i32⟩
  | 109 => ⟨S128x1, .i32⟩
  | 110 => ⟨S128x1, .i32⟩
  | 111 => ⟨S128x144, .i32⟩
  | 112 => ⟨S128x144, .i32⟩
  | 113 => ⟨S128x144, .i1⟩
  | 114 => ⟨S128x144, .i1⟩
  | 115 => ⟨S128x1, .f32⟩
  | 116 => ⟨S_, .f32⟩
  | 117 => ⟨S128x1, .f32⟩
  | 118 => ⟨S128x1, .f32⟩
  | 119 => ⟨S_, .f32⟩
  | 120 => ⟨S_, .f32⟩
  | 121 => ⟨S128x144, .f32⟩
  | 122 => ⟨S128x144, .f32⟩
  | 123 => ⟨S128x144, .f32⟩
  | 124 => ⟨S_, .i32⟩
  | 125 => ⟨S128x1, .i32⟩
  | 126 => ⟨S128x1, .i32⟩
  | 127 => ⟨S128x144, .i32⟩
  | _ => ⟨S128x8x1024, .f32⟩

abbrev hbmTy0_2 (i : Nat) : BufTy := match i % 128 with
  | 0 => ⟨S128x144, .i32⟩
  | 1 => ⟨S128x144, .i1⟩
  | 2 => ⟨S128x144, .f32⟩
  | 3 => ⟨S128x144, .f32⟩
  | 4 => ⟨S_, .i32⟩
  | 5 => ⟨S128x1, .i32⟩
  | 6 => ⟨S128x1, .i32⟩
  | 7 => ⟨S_, .i32⟩
  | 8 => ⟨S128x1, .i32⟩
  | 9 => ⟨S128x1, .i32⟩
  | 10 => ⟨S_, .i32⟩
  | 11 => ⟨S128x1, .i32⟩
  | 12 => ⟨S128x1, .i32⟩
  | 13 => ⟨S_, .i32⟩
  | 14 => ⟨S128x1, .i32⟩
  | 15 => ⟨S128x1, .i32⟩
  | 16 => ⟨S128x144, .i32⟩
  | 17 => ⟨S128x144, .i32⟩
  | 18 => ⟨S128x144, .i1⟩
  | 19 => ⟨S_, .i32⟩
  | 20 => ⟨S128x1, .i32⟩
  | 21 => ⟨S128x1, .i32⟩
  | 22 => ⟨S128x144, .i32⟩
  | 23 => ⟨S128x144, .i32⟩
  | 24 => ⟨S128x144, .i1⟩
  | 25 => ⟨S128x144, .i1⟩
  | 26 => ⟨S128x1, .f32⟩
  | 27 => ⟨S_, .f32⟩
  | 28 => ⟨S128x1, .f32⟩
  | 29 => ⟨S128x1, .f32⟩
  | 30 => ⟨S_, .f32⟩
  | 31 => ⟨S_, .f32⟩
  | 32 => ⟨S128x144, .f32⟩
  | 33 => ⟨S128x144, .f32⟩
  | 34 => ⟨S128x144, .f32⟩
  | 35 => ⟨S_, .i32⟩
  | 36 => ⟨S128x1, .i32⟩
  | 37 => ⟨S128x1, .i32⟩
  | 38 => ⟨S128x144, .i32⟩
  | 39 => ⟨S128x144, .i32⟩
  | 40 => ⟨S128x144, .i1⟩
  | 41 => ⟨S128x144, .f32⟩
  | 42 => ⟨S128x144, .f32⟩
  | 43 => ⟨S_, .i32⟩
  | 44 => ⟨S128x1, .i32⟩
  | 45 => ⟨S128x1, .i32⟩
  | 46 => ⟨S_, .i32⟩
  | 47 => ⟨S128x1, .i32⟩
  | 48 => ⟨S128x1, .i32⟩
  | 49 => ⟨S_, .i32⟩
  | 50 => ⟨S128x1, .i32⟩
  | 51 => ⟨S128x1, .i32⟩
  | 52 => ⟨S_, .i32⟩
  | 53 => ⟨S128x1, .i32⟩
  | 54 => ⟨S128x1, .i32⟩
  | 55 => ⟨S128x144, .i32⟩
  | 56 => ⟨S128x144, .i32⟩
  | 57 => ⟨S128x144, .i1⟩
  | 58 => ⟨S_, .i32⟩
  | 59 => ⟨S128x1, .i32⟩
  | 60 => ⟨S128x1, .i32⟩
  | 61 => ⟨S128x144, .i32⟩
  | 62 => ⟨S128x144, .i32⟩
  | 63 => ⟨S128x144, .i1⟩
  | 64 => ⟨S128x144, .i1⟩
  | 65 => ⟨S128x1, .f32⟩
  | 66 => ⟨S_, .f32⟩
  | 67 => ⟨S128x1, .f32⟩
  | 68 => ⟨S128x1, .f32⟩
  | 69 => ⟨S_, .f32⟩
  | 70 => ⟨S_, .f32⟩
  | 71 => ⟨S128x144, .f32⟩
  | 72 => ⟨S128x144, .f32⟩
  | 73 => ⟨S128x144, .f32⟩
  | 74 => ⟨S_, .i32⟩
  | 75 => ⟨S128x1, .i32⟩
  | 76 => ⟨S128x1, .i32⟩
  | 77 => ⟨S128x144, .i32⟩
  | 78 => ⟨S128x144, .i32⟩
  | 79 => ⟨S128x144, .i1⟩
  | 80 => ⟨S128x144, .f32⟩
  | 81 => ⟨S128x144, .f32⟩
  | 82 => ⟨S_, .i32⟩
  | 83 => ⟨S128x1, .i32⟩
  | 84 => ⟨S128x1, .i32⟩
  | 85 => ⟨S_, .i32⟩
  | 86 => ⟨S128x1, .i32⟩
  | 87 => ⟨S128x1, .i32⟩
  | 88 => ⟨S_, .i32⟩
  | 89 => ⟨S128x1, .i32⟩
  | 90 => ⟨S128x1, .i32⟩
  | 91 => ⟨S_, .i32⟩
  | 92 => ⟨S128x1, .i32⟩
  | 93 => ⟨S128x1, .i32⟩
  | 94 => ⟨S128x144, .i32⟩
  | 95 => ⟨S128x144, .i32⟩
  | 96 => ⟨S128x144, .i1⟩
  | 97 => ⟨S_, .i32⟩
  | 98 => ⟨S128x1, .i32⟩
  | 99 => ⟨S128x1, .i32⟩
  | 100 => ⟨S128x144, .i32⟩
  | 101 => ⟨S128x144, .i32⟩
  | 102 => ⟨S128x144, .i1⟩
  | 103 => ⟨S128x144, .i1⟩
  | 104 => ⟨S128x1, .f32⟩
  | 105 => ⟨S_, .f32⟩
  | 106 => ⟨S128x1, .f32⟩
  | 107 => ⟨S128x1, .f32⟩
  | 108 => ⟨S_, .f32⟩
  | 109 => ⟨S_, .f32⟩
  | 110 => ⟨S128x144, .f32⟩
  | 111 => ⟨S128x144, .f32⟩
  | 112 => ⟨S128x144, .f32⟩
  | 113 => ⟨S_, .i32⟩
  | 114 => ⟨S128x1, .i32⟩
  | 115 => ⟨S128x1, .i32⟩
  | 116 => ⟨S128x144, .i32⟩
  | 117 => ⟨S128x144, .i32⟩
  | 118 => ⟨S128x144, .i1⟩
  | 119 => ⟨S128x144, .f32⟩
  | 120 => ⟨S128x144, .f32⟩
  | 121 => ⟨S1x128x144, .f32⟩
  | 122 => ⟨S1x128x144, .f32⟩
  | 123 => ⟨S1x128x144, .f32⟩
  | 124 => ⟨S1x128x144, .f32⟩
  | 125 => ⟨S4x128x144, .f32⟩
  | 126 => ⟨S4x128x144, .bf16⟩
  | 127 => ⟨S1024x1024, .f32⟩
  | _ => ⟨S128x8x1024, .f32⟩

abbrev hbmTy0_3 (i : Nat) : BufTy := match i % 128 with
  | 0 => ⟨S1024x1024, .bf16⟩
  | 1 => ⟨S1024x8, .f32⟩
  | 2 => ⟨S32x256, .f32⟩
  | 3 => ⟨S4x1x128, .f32⟩
  | 4 => ⟨S15x128x512, .f32⟩
  | 5 => ⟨S1024x512, .f32⟩
  | _ => ⟨S128x8x1024, .f32⟩

abbrev hbmTy (i : Nat) : BufTy := match i / 128 with
  | 0 => hbmTy0_0 i
  | 1 => hbmTy0_1 i
  | 2 => hbmTy0_2 i
  | 3 => hbmTy0_3 i
  | _ => ⟨S128x8x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S15x128x512, .f32⟩
  | .local _ .vmem, ⟨2, _⟩ => ⟨S1024x1536, .bf16⟩
  | .local _ .vmem, ⟨3, _⟩ => ⟨S4x128x128, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S4x128x128, .bf16⟩
  | .local _ .vmem, ⟨8, _⟩ => ⟨S128x512, .f32⟩
  | .local _ .vmem, ⟨9, _⟩ => ⟨S1024x1024, .bf16⟩
  | .local _ .vmem, ⟨10, _⟩ => ⟨S1x1024, .f32⟩
  | .local _ .vmem, ⟨11, _⟩ => ⟨S128x1024, .bf16⟩
  | .local _ .vmem, ⟨12, _⟩ => ⟨S128x1, .f32⟩
  | .local _ .vmem, ⟨13, _⟩ => ⟨S4x128x144, .bf16⟩
  | .local _ .vmem, ⟨14, _⟩ => ⟨S4x128x144, .bf16⟩
  | .local _ .vmem, ⟨15, _⟩ => ⟨S1024x1024, .f32⟩
  | .local _ .vmem, ⟨16, _⟩ => ⟨S1024x1024, .bf16⟩
  | .local _ .vmem, ⟨17, _⟩ => ⟨S1024x8, .f32⟩
  | .local _ .vmem, ⟨18, _⟩ => ⟨S32x256, .f32⟩
  | .local _ .vmem, ⟨19, _⟩ => ⟨S4x1x128, .f32⟩
  | .local _ .vmem, ⟨20, _⟩ => ⟨S15x128x512, .f32⟩
  | .local _ .vmem, ⟨21, _⟩ => ⟨S1024x512, .f32⟩
  | .local _ .vmem, ⟨22, _⟩ => ⟨S24x128x512, .f32⟩
  | .local _ .vmem, ⟨23, _⟩ => ⟨S4x1024x128, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c : Ref sig .tc := ⟨.hbm, 71, rfl⟩
abbrev main_v53 : Ref sig .tc := ⟨.hbm, 72, rfl⟩
abbrev main_c_1 : Ref sig .tc := ⟨.hbm, 73, rfl⟩
abbrev main_v54 : Ref sig .tc := ⟨.hbm, 74, rfl⟩
abbrev main_v55 : Ref sig .tc := ⟨.hbm, 75, rfl⟩
abbrev main_c_2 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_3 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_4 : Ref sig .tc := ⟨.hbm, 90, rfl⟩
abbrev main_v68 : Ref sig .tc := ⟨.hbm, 91, rfl⟩
abbrev main_v69 : Ref sig .tc := ⟨.hbm, 92, rfl⟩
abbrev main_cst_5 : Ref sig .tc := ⟨.hbm, 93, rfl⟩
abbrev main_call0_v0 : Ref sig .tc := ⟨.hbm, 94, rfl⟩
abbrev main_call0_v1 : Ref sig .tc := ⟨.hbm, 95, rfl⟩
abbrev main_call0_v2 : Ref sig .tc := ⟨.hbm, 96, rfl⟩
abbrev main_v70 : Ref sig .tc := ⟨.hbm, 97, rfl⟩
abbrev main_c_6 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_7 : Ref sig .tc := ⟨.hbm, 106, rfl⟩
abbrev main_v78 : Ref sig .tc := ⟨.hbm, 107, rfl⟩
abbrev main_c_8 : Ref sig .tc := ⟨.hbm, 108, rfl⟩
abbrev main_v79 : Ref sig .tc := ⟨.hbm, 109, rfl⟩
abbrev main_v80 : Ref sig .tc := ⟨.hbm, 110, rfl⟩
abbrev main_c_9 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_c_10 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_11 : Ref sig .tc := ⟨.hbm, 125, rfl⟩
abbrev main_v93 : Ref sig .tc := ⟨.hbm, 126, rfl⟩
abbrev main_v94 : Ref sig .tc := ⟨.hbm, 127, rfl⟩
abbrev main_cst_12 : Ref sig .tc := ⟨.hbm, 128, rfl⟩
abbrev main_call1_v0 : Ref sig .tc := ⟨.hbm, 129, rfl⟩
abbrev main_call1_v1 : Ref sig .tc := ⟨.hbm, 130, rfl⟩
abbrev main_call1_v2 : Ref sig .tc := ⟨.hbm, 131, rfl⟩
abbrev main_v95 : Ref sig .tc := ⟨.hbm, 132, rfl⟩
abbrev main_c_13 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_c_14 : Ref sig .tc := ⟨.hbm, 141, rfl⟩
abbrev main_v103 : Ref sig .tc := ⟨.hbm, 142, rfl⟩
abbrev main_c_15 : Ref sig .tc := ⟨.hbm, 143, rfl⟩
abbrev main_v104 : Ref sig .tc := ⟨.hbm, 144, rfl⟩
abbrev main_v105 : Ref sig .tc := ⟨.hbm, 145, rfl⟩
abbrev main_c_16 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_c_17 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst_18 : Ref sig .tc := ⟨.hbm, 160, rfl⟩
abbrev main_v118 : Ref sig .tc := ⟨.hbm, 161, rfl⟩
abbrev main_v119 : Ref sig .tc := ⟨.hbm, 162, rfl⟩
abbrev main_cst_19 : Ref sig .tc := ⟨.hbm, 163, rfl⟩
abbrev main_call2_v0 : Ref sig .tc := ⟨.hbm, 164, rfl⟩
abbrev main_call2_v1 : Ref sig .tc := ⟨.hbm, 165, rfl⟩
abbrev main_call2_v2 : Ref sig .tc := ⟨.hbm, 166, rfl⟩
abbrev main_v120 : Ref sig .tc := ⟨.hbm, 167, rfl⟩
abbrev main_c_20 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_c_21 : Ref sig .tc := ⟨.hbm, 176, rfl⟩
abbrev main_v128 : Ref sig .tc := ⟨.hbm, 177, rfl⟩
abbrev main_c_22 : Ref sig .tc := ⟨.hbm, 178, rfl⟩
abbrev main_v129 : Ref sig .tc := ⟨.hbm, 179, rfl⟩
abbrev main_v130 : Ref sig .tc := ⟨.hbm, 180, rfl⟩
abbrev main_c_23 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_c_24 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_cst_25 : Ref sig .tc := ⟨.hbm, 195, rfl⟩
abbrev main_v143 : Ref sig .tc := ⟨.hbm, 196, rfl⟩
abbrev main_v144 : Ref sig .tc := ⟨.hbm, 197, rfl⟩
abbrev main_cst_26 : Ref sig .tc := ⟨.hbm, 198, rfl⟩
abbrev main_call3_v0 : Ref sig .tc := ⟨.hbm, 199, rfl⟩
abbrev main_call3_v1 : Ref sig .tc := ⟨.hbm, 200, rfl⟩
abbrev main_call3_v2 : Ref sig .tc := ⟨.hbm, 201, rfl⟩
abbrev main_v145 : Ref sig .tc := ⟨.hbm, 202, rfl⟩
abbrev main_c_27 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_c_28 : Ref sig .tc := ⟨.hbm, 221, rfl⟩
abbrev main_v163 : Ref sig .tc := ⟨.hbm, 222, rfl⟩
abbrev main_v164 : Ref sig .tc := ⟨.hbm, 223, rfl⟩
abbrev main_c_29 : Ref sig .tc := ⟨.hbm, 224, rfl⟩
abbrev main_v165 : Ref sig .tc := ⟨.hbm, 225, rfl⟩
abbrev main_v166 : Ref sig .tc := ⟨.hbm, 226, rfl⟩
abbrev main_c_30 : Ref sig .tc := ⟨.hbm, 227, rfl⟩
abbrev main_v167 : Ref sig .tc := ⟨.hbm, 228, rfl⟩
abbrev main_v168 : Ref sig .tc := ⟨.hbm, 229, rfl⟩
abbrev main_c_31 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_c_32 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_cst_33 : Ref sig .tc := ⟨.hbm, 244, rfl⟩
abbrev main_v181 : Ref sig .tc := ⟨.hbm, 245, rfl⟩
abbrev main_v182 : Ref sig .tc := ⟨.hbm, 246, rfl⟩
abbrev main_cst_34 : Ref sig .tc := ⟨.hbm, 247, rfl⟩
abbrev main_call4_v0 : Ref sig .tc := ⟨.hbm, 248, rfl⟩
abbrev main_call4_v1 : Ref sig .tc := ⟨.hbm, 249, rfl⟩
abbrev main_call4_v2 : Ref sig .tc := ⟨.hbm, 250, rfl⟩
abbrev main_v183 : Ref sig .tc := ⟨.hbm, 251, rfl⟩
abbrev main_c_35 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_c_36 : Ref sig .tc := ⟨.hbm, 260, rfl⟩
abbrev main_v191 : Ref sig .tc := ⟨.hbm, 261, rfl⟩
abbrev main_v192 : Ref sig .tc := ⟨.hbm, 262, rfl⟩
abbrev main_c_37 : Ref sig .tc := ⟨.hbm, 263, rfl⟩
abbrev main_v193 : Ref sig .tc := ⟨.hbm, 264, rfl⟩
abbrev main_v194 : Ref sig .tc := ⟨.hbm, 265, rfl⟩
abbrev main_c_38 : Ref sig .tc := ⟨.hbm, 266, rfl⟩
abbrev main_v195 : Ref sig .tc := ⟨.hbm, 267, rfl⟩
abbrev main_v196 : Ref sig .tc := ⟨.hbm, 268, rfl⟩
abbrev main_c_39 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_c_40 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_v208 : Ref sig .tc := ⟨.hbm, 282, rfl⟩
abbrev main_cst_41 : Ref sig .tc := ⟨.hbm, 283, rfl⟩
abbrev main_v209 : Ref sig .tc := ⟨.hbm, 284, rfl⟩
abbrev main_v210 : Ref sig .tc := ⟨.hbm, 285, rfl⟩
abbrev main_cst_42 : Ref sig .tc := ⟨.hbm, 286, rfl⟩
abbrev main_call5_v0 : Ref sig .tc := ⟨.hbm, 287, rfl⟩
abbrev main_call5_v1 : Ref sig .tc := ⟨.hbm, 288, rfl⟩
abbrev main_call5_v2 : Ref sig .tc := ⟨.hbm, 289, rfl⟩
abbrev main_v211 : Ref sig .tc := ⟨.hbm, 290, rfl⟩
abbrev main_c_43 : Ref sig .tc := ⟨.hbm, 291, rfl⟩
abbrev main_v212 : Ref sig .tc := ⟨.hbm, 292, rfl⟩
abbrev main_v213 : Ref sig .tc := ⟨.hbm, 293, rfl⟩
abbrev main_v214 : Ref sig .tc := ⟨.hbm, 294, rfl⟩
abbrev main_v215 : Ref sig .tc := ⟨.hbm, 295, rfl⟩
abbrev main_v216 : Ref sig .tc := ⟨.hbm, 296, rfl⟩
abbrev main_v217 : Ref sig .tc := ⟨.hbm, 297, rfl⟩
abbrev main_v218 : Ref sig .tc := ⟨.hbm, 298, rfl⟩
abbrev main_c_44 : Ref sig .tc := ⟨.hbm, 299, rfl⟩
abbrev main_v219 : Ref sig .tc := ⟨.hbm, 300, rfl⟩
abbrev main_v220 : Ref sig .tc := ⟨.hbm, 301, rfl⟩
abbrev main_c_45 : Ref sig .tc := ⟨.hbm, 302, rfl⟩
abbrev main_v221 : Ref sig .tc := ⟨.hbm, 303, rfl⟩
abbrev main_v222 : Ref sig .tc := ⟨.hbm, 304, rfl⟩
abbrev main_c_46 : Ref sig .tc := ⟨.hbm, 305, rfl⟩
abbrev main_v223 : Ref sig .tc := ⟨.hbm, 306, rfl⟩
abbrev main_v224 : Ref sig .tc := ⟨.hbm, 307, rfl⟩
abbrev main_c_47 : Ref sig .tc := ⟨.hbm, 308, rfl⟩
abbrev main_v225 : Ref sig .tc := ⟨.hbm, 309, rfl⟩
abbrev main_v226 : Ref sig .tc := ⟨.hbm, 310, rfl⟩
abbrev main_v227 : Ref sig .tc := ⟨.hbm, 311, rfl⟩
abbrev main_v228 : Ref sig .tc := ⟨.hbm, 312, rfl⟩
abbrev main_v229 : Ref sig .tc := ⟨.hbm, 313, rfl⟩
abbrev main_c_48 : Ref sig .tc := ⟨.hbm, 314, rfl⟩
abbrev main_v230 : Ref sig .tc := ⟨.hbm, 315, rfl⟩
abbrev main_v231 : Ref sig .tc := ⟨.hbm, 316, rfl⟩
abbrev main_v232 : Ref sig .tc := ⟨.hbm, 317, rfl⟩
abbrev main_v233 : Ref sig .tc := ⟨.hbm, 318, rfl⟩
abbrev main_v234 : Ref sig .tc := ⟨.hbm, 319, rfl⟩
abbrev main_v235 : Ref sig .tc := ⟨.hbm, 320, rfl⟩
abbrev main_v236 : Ref sig .tc := ⟨.hbm, 321, rfl⟩
abbrev main_cst_49 : Ref sig .tc := ⟨.hbm, 322, rfl⟩
abbrev main_v237 : Ref sig .tc := ⟨.hbm, 323, rfl⟩
abbrev main_v238 : Ref sig .tc := ⟨.hbm, 324, rfl⟩
abbrev main_cst_50 : Ref sig .tc := ⟨.hbm, 325, rfl⟩
abbrev main_call6_v0 : Ref sig .tc := ⟨.hbm, 326, rfl⟩
abbrev main_call6_v1 : Ref sig .tc := ⟨.hbm, 327, rfl⟩
abbrev main_call6_v2 : Ref sig .tc := ⟨.hbm, 328, rfl⟩
abbrev main_v239 : Ref sig .tc := ⟨.hbm, 329, rfl⟩
abbrev main_c_51 : Ref sig .tc := ⟨.hbm, 330, rfl⟩
abbrev main_v240 : Ref sig .tc := ⟨.hbm, 331, rfl⟩
abbrev main_v241 : Ref sig .tc := ⟨.hbm, 332, rfl⟩
abbrev main_v242 : Ref sig .tc := ⟨.hbm, 333, rfl⟩
abbrev main_v243 : Ref sig .tc := ⟨.hbm, 334, rfl⟩
abbrev main_v244 : Ref sig .tc := ⟨.hbm, 335, rfl⟩
abbrev main_v245 : Ref sig .tc := ⟨.hbm, 336, rfl⟩
abbrev main_v246 : Ref sig .tc := ⟨.hbm, 337, rfl⟩
abbrev main_c_52 : Ref sig .tc := ⟨.hbm, 338, rfl⟩
abbrev main_v247 : Ref sig .tc := ⟨.hbm, 339, rfl⟩
abbrev main_v248 : Ref sig .tc := ⟨.hbm, 340, rfl⟩
abbrev main_c_53 : Ref sig .tc := ⟨.hbm, 341, rfl⟩
abbrev main_v249 : Ref sig .tc := ⟨.hbm, 342, rfl⟩
abbrev main_v250 : Ref sig .tc := ⟨.hbm, 343, rfl⟩
abbrev main_c_54 : Ref sig .tc := ⟨.hbm, 344, rfl⟩
abbrev main_v251 : Ref sig .tc := ⟨.hbm, 345, rfl⟩
abbrev main_v252 : Ref sig .tc := ⟨.hbm, 346, rfl⟩
abbrev main_c_55 : Ref sig .tc := ⟨.hbm, 347, rfl⟩
abbrev main_v253 : Ref sig .tc := ⟨.hbm, 348, rfl⟩
abbrev main_v254 : Ref sig .tc := ⟨.hbm, 349, rfl⟩
abbrev main_v255 : Ref sig .tc := ⟨.hbm, 350, rfl⟩
abbrev main_v256 : Ref sig .tc := ⟨.hbm, 351, rfl⟩
abbrev main_v257 : Ref sig .tc := ⟨.hbm, 352, rfl⟩
abbrev main_c_56 : Ref sig .tc := ⟨.hbm, 353, rfl⟩
abbrev main_v258 : Ref sig .tc := ⟨.hbm, 354, rfl⟩
abbrev main_v259 : Ref sig .tc := ⟨.hbm, 355, rfl⟩
abbrev main_v260 : Ref sig .tc := ⟨.hbm, 356, rfl⟩
abbrev main_v261 : Ref sig .tc := ⟨.hbm, 357, rfl⟩
abbrev main_v262 : Ref sig .tc := ⟨.hbm, 358, rfl⟩
abbrev main_v263 : Ref sig .tc := ⟨.hbm, 359, rfl⟩
abbrev main_v264 : Ref sig .tc := ⟨.hbm, 360, rfl⟩
abbrev main_cst_57 : Ref sig .tc := ⟨.hbm, 361, rfl⟩
abbrev main_v265 : Ref sig .tc := ⟨.hbm, 362, rfl⟩
abbrev main_v266 : Ref sig .tc := ⟨.hbm, 363, rfl⟩
abbrev main_cst_58 : Ref sig .tc := ⟨.hbm, 364, rfl⟩
abbrev main_call7_v0 : Ref sig .tc := ⟨.hbm, 365, rfl⟩
abbrev main_call7_v1 : Ref sig .tc := ⟨.hbm, 366, rfl⟩
abbrev main_call7_v2 : Ref sig .tc := ⟨.hbm, 367, rfl⟩
abbrev main_v267 : Ref sig .tc := ⟨.hbm, 368, rfl⟩
abbrev main_c_59 : Ref sig .tc := ⟨.hbm, 369, rfl⟩
abbrev main_v268 : Ref sig .tc := ⟨.hbm, 370, rfl⟩
abbrev main_v269 : Ref sig .tc := ⟨.hbm, 371, rfl⟩
abbrev main_v270 : Ref sig .tc := ⟨.hbm, 372, rfl⟩
abbrev main_v271 : Ref sig .tc := ⟨.hbm, 373, rfl⟩
abbrev main_v272 : Ref sig .tc := ⟨.hbm, 374, rfl⟩
abbrev main_v273 : Ref sig .tc := ⟨.hbm, 375, rfl⟩
abbrev main_v274 : Ref sig .tc := ⟨.hbm, 376, rfl⟩
abbrev main_v275 : Ref sig .tc := ⟨.hbm, 377, rfl⟩
abbrev main_v276 : Ref sig .tc := ⟨.hbm, 378, rfl⟩
abbrev main_v277 : Ref sig .tc := ⟨.hbm, 379, rfl⟩
abbrev main_v278 : Ref sig .tc := ⟨.hbm, 380, rfl⟩
abbrev main_v279 : Ref sig .tc := ⟨.hbm, 381, rfl⟩
abbrev main_v280 : Ref sig .tc := ⟨.hbm, 382, rfl⟩
abbrev main_v281_0 : Ref sig .tc := ⟨.hbm, 383, rfl⟩
abbrev main_v281_1 : Ref sig .tc := ⟨.hbm, 384, rfl⟩
abbrev main_v281_2 : Ref sig .tc := ⟨.hbm, 385, rfl⟩
abbrev main_v281_3 : Ref sig .tc := ⟨.hbm, 386, rfl⟩
abbrev main_v281_4 : Ref sig .tc := ⟨.hbm, 387, rfl⟩
abbrev main_v281_5 : Ref sig .tc := ⟨.hbm, 388, rfl⟩
abbrev main_v281_6 : Ref sig .tc := ⟨.hbm, 389, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S15x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x128x144 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x128x144 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S1024x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S32x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S4x1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S15x128x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S1024x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]
-- ==== MixReferenceIdeal.lean ====
abbrev S128x8x1024 : Shape := ⟨3, ![128, 8, 1024]⟩
abbrev S1x128x15x512 : Shape := ⟨4, ![1, 128, 15, 512]⟩
abbrev S1x1024 : Shape := ⟨2, ![1, 1024]⟩
abbrev S1x1024x1536 : Shape := ⟨3, ![1, 1024, 1536]⟩
abbrev S1x4x128x128 : Shape := ⟨4, ![1, 4, 128, 128]⟩
abbrev S1x512 : Shape := ⟨2, ![1, 512]⟩
abbrev S1x4x128 : Shape := ⟨3, ![1, 4, 128]⟩
abbrev S1x1024x1024 : Shape := ⟨3, ![1, 1024, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S_ : Shape := ⟨0, ![]⟩
abbrev S128x8 : Shape := ⟨2, ![128, 8]⟩
abbrev S128x8x1 : Shape := ⟨3, ![128, 8, 1]⟩
abbrev S1024 : Shape := ⟨1, ![1024]⟩
abbrev S1x1x1024 : Shape := ⟨3, ![1, 1, 1024]⟩
abbrev S1024x1536 : Shape := ⟨2, ![1024, 1536]⟩
abbrev S128x8x1536 : Shape := ⟨3, ![128, 8, 1536]⟩
abbrev S128x8x512 : Shape := ⟨3, ![128, 8, 512]⟩
abbrev S128x15x512 : Shape := ⟨3, ![128, 15, 512]⟩
abbrev S128x23x512 : Shape := ⟨3, ![128, 23, 512]⟩
abbrev S15x128x512 : Shape := ⟨3, ![15, 128, 512]⟩

abbrev nBuf : Space → Nat
  | .hbm => 40
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1x128x15x512, .f32⟩
  | .hbm, ⟨2, _⟩ => ⟨S1x1024, .f32⟩
  | .hbm, ⟨3, _⟩ => ⟨S1x1024x1536, .f32⟩
  | .hbm, ⟨4, _⟩ => ⟨S1x4x128x128, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x4x128x128, .f32⟩
  | .hbm, ⟨9, _⟩ => ⟨S1x4x128, .f32⟩
  | .hbm, ⟨10, _⟩ => ⟨S1x1024x1024, .f32⟩
  | .hbm, ⟨11, _⟩ => ⟨S1x1024, .f32⟩
  | .hbm, ⟨12, _⟩ => ⟨S1x1024x4, .f32⟩
  | .hbm, ⟨13, _⟩ => ⟨S1x4, .f32⟩
  | .hbm, ⟨14, _⟩ => ⟨S1x1024x32, .f32⟩
  | .hbm, ⟨15, _⟩ => ⟨S1x32, .f32⟩
  | .hbm, ⟨16, _⟩ => ⟨S128x8x1024, .f32⟩
  | .hbm, ⟨17, _⟩ => ⟨S_, .f32⟩
  | .hbm, ⟨18, _⟩ => ⟨S128x8, .f32⟩
  | .hbm, ⟨19, _⟩ => ⟨S128x8x1, .f32⟩
  | .hbm, ⟨20, _⟩ => ⟨S_, .f32⟩
  | .hbm, ⟨21, _⟩ => ⟨S128x8x1, .f32⟩
  | .hbm, ⟨22, _⟩ => ⟨S128x8x1, .f32⟩
  | .hbm, ⟨23, _⟩ => ⟨S_, .f32⟩
  | .hbm, ⟨24, _⟩ => ⟨S128x8x1, .f32⟩
  | .hbm, ⟨25, _⟩ => ⟨S128x8x1, .f32⟩
  | .hbm, ⟨26, _⟩ => ⟨S128x8x1, .f32⟩
  | .hbm, ⟨27, _⟩ => ⟨S128x8x1024, .f32⟩
  | .hbm, ⟨28, _⟩ => ⟨S128x8x1024, .f32⟩
  | .hbm, ⟨29, _⟩ => ⟨S1024, .f32⟩
  | .hbm, ⟨30, _⟩ => ⟨S1x1x1024, .f32⟩
  | .hbm, ⟨31, _⟩ => ⟨S128x8x1024, .f32⟩
  | .hbm, ⟨32, _⟩ => ⟨S128x8x1024, .f32⟩
  | .hbm, ⟨33, _⟩ => ⟨S1024x1536, .f32⟩
  | .hbm, ⟨34, _⟩ => ⟨S128x8x1536, .f32⟩
  | .hbm, ⟨35, _⟩ => ⟨S128x8x512, .f32⟩
  | .hbm, ⟨36, _⟩ => ⟨S128x15x512, .f32⟩
  | .hbm, ⟨37, _⟩ => ⟨S128x23x512, .f32⟩
  | .hbm, ⟨38, _⟩ => ⟨S128x15x512, .f32⟩
  | .hbm, ⟨39, _⟩ => ⟨S15x128x512, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Proof.Ring.lean ====
/-
  Hand-written. The kernel's two rings of buffers in words of the logic: the three slots that receive the packed rows of a
  tile, and the three buffers that receive an expert's three weight arrays. A slot is FREE (its elements, its counter at
  zero, its read share of the source), IN FLIGHT (the pending transfers and what of the source they do not read) or LANDED
  (the transferred contents). One lemma a transfer and one a wait move a slot between these states.
-/
module

public import proofs.«01_k».proof.Proof.Gen.Kernel.Launch
public import proofs.«01_k».proof.Proof.Gen.Kernel.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-- The proof's user algebra: the pipeline library's beside the transfers' counters. -/
local notation "𝕄" => MT nD τ sig Unit (Elt F) ℕ (Pipeline.UD sig nD τ) ℕ

/-! ## The kernel's operands -/

abbrev xsM : Memref sig .tc .hbm S230432x128 .i32 := Memref.whole main_arg1
abbrev wgM : Memref sig .tc .hbm S32x1024x512 .f32 := Memref.whole main_v90
abbrev wuM : Memref sig .tc .hbm S32x1024x512 .f32 := Memref.whole main_v91
abbrev wdM : Memref sig .tc .hbm S32x512x1024 .f32 := Memref.whole main_v92
abbrev xbM : Memref sig .tc .vmem S3x2560x128 .i32 := Memref.whole cc0_scratch0
abbrev gbM : Memref sig .tc .vmem S3x1024x512 .f32 := Memref.whole cc0_scratch2
abbrev ubM : Memref sig .tc .vmem S3x1024x512 .f32 := Memref.whole cc0_scratch3
abbrev dbM : Memref sig .tc .vmem S3x512x1024 .f32 := Memref.whole cc0_scratch4

/-- A buffer's contents on a core. -/
abbrev Cnt (c : Dev nD) {sp : Space} {S : Shape} {e : EltTy} (M : Memref sig .tc sp S e) : Type := Buf (Elt F) (M.view.loc (c : Thread nD τ))
/-- The elements of a view at a share, with contents. -/
abbrev pt (c : Dev nD) {sp : Space} {S : Shape} {e : EltTy} (M : Memref sig .tc sp S e) (q : PosShare TreeShare) (f : Cnt (F := F) c M) : sProp 𝕄 :=
  M.view.loc (c : Thread nD τ) ↦[M.view.set]{q} f

/-! ## Slots, sources and counters at an offset -/

abbrev xslot (o : Fin 3 → ℕ) (h : ∀ a, o a + S1x2560x128.size a ≤ S3x2560x128.size a) : Memref sig .tc .vmem S2560x128 .i32 :=
  (xbM.slice (Rect.unit (s := S3x2560x128) o S1x2560x128.size h) (fun _ => rfl)).squeeze S2560x128 squeezes_S1x2560x128_S2560x128
abbrev xtile (o : Fin 2 → ℕ) (h : ∀ a, o a + S2560x128.size a ≤ S230432x128.size a) : Memref sig .tc .hbm S2560x128 .i32 :=
  xsM.slice (Rect.unit (s := S230432x128) o S2560x128.size h) (fun _ => rfl)
abbrev xsem (o : Fin 1 → ℕ) (h : ∀ a, o a + S1.size a ≤ S3.size a) : DmaSem sig :=
  ((cc0_scratch8.slice (Rect.unit (s := S3) o S1.size h)).squeeze S_ squeezes_S1_S_).sem
abbrev wsem (o : Fin 1 → ℕ) (h : ∀ a, o a + S1.size a ≤ S3.size a) : DmaSem sig :=
  ((cc0_scratch9.slice (Rect.unit (s := S3) o S1.size h)).squeeze S_ squeezes_S1_S_).sem
abbrev aslot (M : Memref sig .tc .vmem S3x1024x512 .f32) (o : Fin 3 → ℕ) (h : ∀ a, o a + S1x1024x512.size a ≤ S3x1024x512.size a) : Memref sig .tc .vmem S1024x512 .f32 :=
  (M.slice (Rect.unit (s := S3x1024x512) o S1x1024x512.size h) (fun _ => rfl)).squeeze S1024x512 squeezes_S1x1024x512_S1024x512
abbrev dslot (o : Fin 3 → ℕ) (h : ∀ a, o a + S1x512x1024.size a ≤ S3x512x1024.size a) : Memref sig .tc .vmem S512x1024 .f32 :=
  (dbM.slice (Rect.unit (s := S3x512x1024) o S1x512x1024.size h) (fun _ => rfl)).squeeze S512x1024 squeezes_S1x512x1024_S512x1024
abbrev asrc (M : Memref sig .tc .hbm S32x1024x512 .f32) (o : Fin 3 → ℕ) (h : ∀ a, o a + S1x1024x512.size a ≤ S32x1024x512.size a) : Memref sig .tc .hbm S1024x512 .f32 :=
  (M.slice (Rect.unit (s := S32x1024x512) o S1x1024x512.size h) (fun _ => rfl)).squeeze S1024x512 squeezes_S1x1024x512_S1024x512
abbrev dsrc (o : Fin 3 → ℕ) (h : ∀ a, o a + S1x512x1024.size a ≤ S32x512x1024.size a) : Memref sig .tc .hbm S512x1024 .f32 :=
  (wdM.slice (Rect.unit (s := S32x512x1024) o S1x512x1024.size h) (fun _ => rfl)).squeeze S512x1024 squeezes_S1x512x1024_S512x1024

theorem inbX (s : ℕ) (hs : s < 3) : ∀ a, (![s, 0, 0] : Fin 3 → ℕ) a + S1x2560x128.size a ≤ S3x2560x128.size a := by
  intro a; fin_cases a <;> simp [S1x2560x128, S3x2560x128] <;> omega
theorem inbT (j : ℕ) (hj : j < 90) : ∀ a, (![2560 * j, 0] : Fin 2 → ℕ) a + S2560x128.size a ≤ S230432x128.size a := by
  intro a; fin_cases a <;> simp [S2560x128, S230432x128] <;> omega
theorem inbS (s : ℕ) (hs : s < 3) : ∀ a, (![s] : Fin 1 → ℕ) a + S1.size a ≤ S3.size a := by
  intro a; fin_cases a; simp [S1, S3]; omega
theorem inbA (s : ℕ) (hs : s < 3) : ∀ a, (![s, 0, 0] : Fin 3 → ℕ) a + S1x1024x512.size a ≤ S3x1024x512.size a := by
  intro a; fin_cases a <;> simp [S1x1024x512, S3x1024x512] <;> omega
theorem inbD (s : ℕ) (hs : s < 3) : ∀ a, (![s, 0, 0] : Fin 3 → ℕ) a + S1x512x1024.size a ≤ S3x512x1024.size a := by
  intro a; fin_cases a <;> simp [S1x512x1024, S3x512x1024] <;> omega
theorem inbE (e : ℕ) (he : e < 32) : ∀ a, (![e, 0, 0] : Fin 3 → ℕ) a + S1x1024x512.size a ≤ S32x1024x512.size a := by
  intro a; fin_cases a <;> simp [S1x1024x512, S32x1024x512] <;> omega
theorem inbE' (e : ℕ) (he : e < 32) : ∀ a, (![e, 0, 0] : Fin 3 → ℕ) a + S1x512x1024.size a ≤ S32x512x1024.size a := by
  intro a; fin_cases a <;> simp [S1x512x1024, S32x512x1024] <;> omega

/-- The read share of a source that belongs to slot `s`. -/
abbrev tok (s : ℕ) : PosShare TreeShare := Transfers.shareTokN fullShare s

/-! ## The ring of packed rows -/

variable (c : Dev nD) (fx : Cnt (F := F) c xsM)

/-- The packed words of tile `j`. -/
abbrev xpay (j : ℕ) (hj : j < 90) : S2560x128.Idx → Elt F .i32 :=
  ReadAs.same.apply ((xtile ![2560 * j, 0] (inbT j hj)).view.read (Elt F) fx)

/-- Slot `s` of the ring of rows, free. -/
def XF (s : ℕ) (hs : s < 3) : sProp 𝕄 :=
  iprop(∃ f, pt c (xslot ![s, 0, 0] (inbX s hs)) fullShare f
    ∗ semVal ((c : Thread nD τ), SemLoc.dma (xsem ![s] (inbS s hs))) 0
    ∗ (xsM.view.loc (c : Thread nD τ) ↦{tok s} fx))
/-- Slot `s` of the ring of rows, tile `j` on its way. -/
def XI (s : ℕ) (hs : s < 3) (j : ℕ) (hj : j < 90) : sProp 𝕄 :=
  iprop(∃ f, Transfers.Flight (countersEmb (U := Pipeline.UD sig nD τ)) (c : Thread nD τ) (SemLoc.dma (xsem ![s] (inbS s hs))) () 40960
      iprop(((xslot ![s, 0, 0] (inbX s hs)).view.loc (c : Thread nD τ) ↦[(xslot ![s, 0, 0] (inbX s hs)).view.set]{fullShare}
          (xslot ![s, 0, 0] (inbX s hs)).view.write (Elt F) f (xpay c fx j hj) Finset.univ)
        ∗ ((xtile ![2560 * j, 0] (inbT j hj)).view.loc (c : Thread nD τ) ↦[(xtile ![2560 * j, 0] (inbT j hj)).view.set]{tok s} fx))
    ∗ (xsM.view.loc (c : Thread nD τ) ↦[Finset.univ \ (xtile ![2560 * j, 0] (inbT j hj)).view.set]{tok s} fx))
/-- Slot `s` of the ring of rows, tile `j` arrived. -/
def XL (s : ℕ) (hs : s < 3) (j : ℕ) (hj : j < 90) : sProp 𝕄 :=
  iprop(∃ f, pt c (xslot ![s, 0, 0] (inbX s hs)) fullShare ((xslot ![s, 0, 0] (inbX s hs)).view.write (Elt F) f (xpay c fx j hj) Finset.univ)
    ∗ semVal ((c : Thread nD τ), SemLoc.dma (xsem ![s] (inbS s hs))) 0
    ∗ (xsM.view.loc (c : Thread nD τ) ↦{tok s} fx))

set_option maxHeartbeats 1000000 in
theorem xStart {s : ℕ} (hs : s < 3) {j : ℕ} (hj : j < 90) {o₁ : Fin 1 → ℕ} {o₂ : Fin 3 → ℕ} {o₃ : Fin 2 → ℕ}
    (e₁ : o₁ = ![s]) (e₂ : o₂ = ![s, 0, 0]) (e₃ : o₃ = ![2560 * j, 0]) {h₁ h₂ h₃}
    {w₁ : (xtile o₃ h₃).view.WordExact} {w₂ : (xslot o₂ h₂).view.WordExact} {w₃}
    {α : Type} {k : PUnit → Prog (TpuEff nD τ sig (Elt F) Λ₀ .tc) α} {Q : α → sProp 𝕄} :
    XF c fx s hs ⊢ iprop((XI c fx s hs j hj -∗ wp frame (wpE (defs₀ (F := F)) Variants.none c none) Set.univ (k ⟨⟩) Q)
      -∗ wp frame (wpE (defs₀ (F := F)) Variants.none c none) Set.univ
          (.op (.enqueueDma (xtile o₃ h₃) (.here (xslot o₂ h₂)) (.dma (xsem o₁ h₁)) w₁ w₂ w₃) k) Q) := by
  subst e₁ e₂ e₃
  unfold XF XI
  iintro ⟨%f, Hd, Hs, Hx⟩ Hk
  ihave Hx := (pointsTo_split_subset (Finset.subset_univ (xtile ![2560 * j, 0] (inbT j hj)).view.set)).1 $$ Hx
  icases Hx with ⟨Hx, Hr⟩
  iapply (Transfers.wp_dmaLocal (countersEmb (U := Pipeline.UD sig nD τ)) Variants.none (c : Thread nD τ) none () 40960 (by rfl) (by decide) (Finset.Subset.refl _)) $$ [Hx Hd Hs]
  · isplitl [Hx]; · iexact Hx
    isplitl [Hd]; · iexact Hd
    iexact Hs
  iintro Hf
  iapply Hk
  iexists f
  isplitl [Hf]; · iexact Hf
  iexact Hr

/-- The waits recorded so far, whichever they are. -/
def Ow : sProp 𝕄 := iprop(∃ W, owes (c : Thread nD τ) 0 W)

set_option maxHeartbeats 1000000 in
theorem xWait {s : ℕ} (hs : s < 3) {j : ℕ} (hj : j < 90) {o₁ : Fin 1 → ℕ} {o₂ : Fin 3 → ℕ} {o₃ : Fin 2 → ℕ}
    (e₁ : o₁ = ![s]) (e₂ : o₂ = ![s, 0, 0]) {h₁ h₂ h₃}
    {w₁ : (xtile o₃ h₃).view.WordExact} {w₂ : (xslot o₂ h₂).view.WordExact}
    {α : Type} {k : PUnit → Prog (TpuEff nD τ sig (Elt F) Λ₀ .tc) α} {Q : α → sProp 𝕄} :
    iprop(XI c fx s hs j hj ∗ Ow c) ⊢ iprop((iprop(XL c fx s hs j hj ∗ Ow c) -∗ wp frame (wpE (defs₀ (F := F)) Variants.none c none) Set.univ (k ⟨⟩) Q)
      -∗ wp frame (wpE (defs₀ (F := F)) Variants.none c none) Set.univ
          (.op (.waitDma2 (xsem o₁ h₁) (xtile o₃ h₃) (xslot o₂ h₂) w₁ w₂) k) Q) := by
  subst e₁ e₂
  unfold XI XL Ow
  iintro ⟨⟨%f, Hf, Hr⟩, ⟨%W, HW⟩⟩ Hk
  iapply (Transfers.wp_waitLocal (countersEmb (U := Pipeline.UD sig nD τ)) Variants.none (c : Thread nD τ) none () (N := 40960) (by rfl)) $$ [Hf HW]
  · isplitl [Hf]; · iexact Hf
    iexact HW
  iintro ⟨⟨Hd, Hx⟩, Hs, HW⟩
  iapply Hk
  isplitr [HW]
  · iexists f
    isplitl [Hd]; · iexact Hd
    isplitl [Hs]; · iexact Hs
    iapply (pointsTo_split_subset (Finset.subset_univ (xtile ![2560 * j, 0] (inbT j hj)).view.set)).2
    isplitl [Hx]; · iexact Hx
    iexact Hr
  · iexists _; iexact HW

/-- A tile that has arrived leaves its slot free again. -/
theorem XL_free {s : ℕ} (hs : s < 3) {j : ℕ} (hj : j < 90) : XL c fx s hs j hj ⊢ XF c fx s hs := by
  unfold XL XF
  iintro ⟨%f, H⟩
  iexists _; iexact H

/-! ## The ring of weights -/

variable (fg : Cnt (F := F) c wgM) (fu : Cnt (F := F) c wuM) (fd : Cnt (F := F) c wdM)

/-- Expert `e`'s weights. -/
abbrev gpay (e : ℕ) (he : e < 32) : S1024x512.Idx → Elt F .f32 := ReadAs.same.apply ((asrc wgM ![e, 0, 0] (inbE e he)).view.read (Elt F) fg)
abbrev upay (e : ℕ) (he : e < 32) : S1024x512.Idx → Elt F .f32 := ReadAs.same.apply ((asrc wuM ![e, 0, 0] (inbE e he)).view.read (Elt F) fu)
abbrev dpay (e : ℕ) (he : e < 32) : S512x1024.Idx → Elt F .f32 := ReadAs.same.apply ((dsrc ![e, 0, 0] (inbE' e he)).view.read (Elt F) fd)

/-- What a buffer's three arrivals hand back. -/
def wDel (s : ℕ) (hs : s < 3) (e : ℕ) (he : e < 32) (f₀ : Cnt (F := F) c gbM) (f₁ : Cnt (F := F) c ubM) (f₂ : Cnt (F := F) c dbM) : Fin 3 → sProp 𝕄
  | 0 => iprop(((aslot gbM ![s, 0, 0] (inbA s hs)).view.loc (c : Thread nD τ) ↦[(aslot gbM ![s, 0, 0] (inbA s hs)).view.set]{fullShare}
          (aslot gbM ![s, 0, 0] (inbA s hs)).view.write (Elt F) f₀ (gpay c fg e he) Finset.univ)
        ∗ ((asrc wgM ![e, 0, 0] (inbE e he)).view.loc (c : Thread nD τ) ↦[(asrc wgM ![e, 0, 0] (inbE e he)).view.set]{tok s} fg))
  | 1 => iprop(((aslot ubM ![s, 0, 0] (inbA s hs)).view.loc (c : Thread nD τ) ↦[(aslot ubM ![s, 0, 0] (inbA s hs)).view.set]{fullShare}
          (aslot ubM ![s, 0, 0] (inbA s hs)).view.write (Elt F) f₁ (upay c fu e he) Finset.univ)
        ∗ ((asrc wuM ![e, 0, 0] (inbE e he)).view.loc (c : Thread nD τ) ↦[(asrc wuM ![e, 0, 0] (inbE e he)).view.set]{tok s} fu))
  | 2 => iprop(((dslot ![s, 0, 0] (inbD s hs)).view.loc (c : Thread nD τ) ↦[(dslot ![s, 0, 0] (inbD s hs)).view.set]{fullShare}
          (dslot ![s, 0, 0] (inbD s hs)).view.write (Elt F) f₂ (dpay c fd e he) Finset.univ)
        ∗ ((dsrc ![e, 0, 0] (inbE' e he)).view.loc (c : Thread nD τ) ↦[(dsrc ![e, 0, 0] (inbE' e he)).view.set]{tok s} fd))
instance wDel_storable (s : ℕ) (hs : s < 3) (e : ℕ) (he : e < 32) (f₀ : Cnt (F := F) c gbM) (f₁ : Cnt (F := F) c ubM) (f₂ : Cnt (F := F) c dbM) (t : Fin 3) :
    Storable (upEmb : UEmb _ 𝕄) (wDel c fg fu fd s hs e he f₀ f₁ f₂ t) := by
  fin_cases t <;> simp only [wDel] <;> infer_instance

/-- What of the three sources the copies do not read. -/
abbrev gRest (s e : ℕ) (he : e < 32) : sProp 𝕄 := wgM.view.loc (c : Thread nD τ) ↦[Finset.univ \ (asrc wgM ![e, 0, 0] (inbE e he)).view.set]{tok s} fg
abbrev uRest (s e : ℕ) (he : e < 32) : sProp 𝕄 := wuM.view.loc (c : Thread nD τ) ↦[Finset.univ \ (asrc wuM ![e, 0, 0] (inbE e he)).view.set]{tok s} fu
abbrev dRest (s e : ℕ) (he : e < 32) : sProp 𝕄 := wdM.view.loc (c : Thread nD τ) ↦[Finset.univ \ (dsrc ![e, 0, 0] (inbE' e he)).view.set]{tok s} fd
abbrev wB (s : ℕ) (hs : s < 3) (e : ℕ) (he : e < 32) (f₀ : Cnt (F := F) c gbM) (f₁ : Cnt (F := F) c ubM) (f₂ : Cnt (F := F) c dbM) (j u : ℕ) : sProp 𝕄 :=
  Transfers.Batch (countersEmb (U := Pipeline.UD sig nD τ)) (c : Thread nD τ) (SemLoc.dma (wsem ![s] (inbS s hs))) () 65536 (wDel c fg fu fd s hs e he f₀ f₁ f₂) j u

/-- Buffer `s` of the ring of weights, free. -/
def WF (s : ℕ) (hs : s < 3) : sProp 𝕄 :=
  iprop(∃ f₀ f₁ f₂, pt c (aslot gbM ![s, 0, 0] (inbA s hs)) fullShare f₀ ∗ pt c (aslot ubM ![s, 0, 0] (inbA s hs)) fullShare f₁
    ∗ pt c (dslot ![s, 0, 0] (inbD s hs)) fullShare f₂
    ∗ semVal ((c : Thread nD τ), SemLoc.dma (wsem ![s] (inbS s hs))) 0
    ∗ (wgM.view.loc (c : Thread nD τ) ↦{tok s} fg) ∗ (wuM.view.loc (c : Thread nD τ) ↦{tok s} fu) ∗ (wdM.view.loc (c : Thread nD τ) ↦{tok s} fd))
/-- The first copy issued; -/
def W1 (s : ℕ) (hs : s < 3) (e : ℕ) (he : e < 32) : sProp 𝕄 :=
  iprop(∃ f₀ f₁ f₂, wB c fg fu fd s hs e he f₀ f₁ f₂ 1 0 ∗ gRest c fg s e he ∗ pt c (aslot ubM ![s, 0, 0] (inbA s hs)) fullShare f₁
    ∗ pt c (dslot ![s, 0, 0] (inbD s hs)) fullShare f₂
    ∗ (wuM.view.loc (c : Thread nD τ) ↦{tok s} fu) ∗ (wdM.view.loc (c : Thread nD τ) ↦{tok s} fd))
/-- the second issued too. -/
def W2 (s : ℕ) (hs : s < 3) (e : ℕ) (he : e < 32) : sProp 𝕄 :=
  iprop(∃ f₀ f₁ f₂, wB c fg fu fd s hs e he f₀ f₁ f₂ 2 0 ∗ gRest c fg s e he ∗ uRest c fu s e he
    ∗ pt c (dslot ![s, 0, 0] (inbD s hs)) fullShare f₂ ∗ (wdM.view.loc (c : Thread nD τ) ↦{tok s} fd))
/-- Buffer `s` of the ring of weights, expert `e`'s three arrays on their way, `u` units of them waited for. -/
def WI (s : ℕ) (hs : s < 3) (e : ℕ) (he : e < 32) (u : ℕ) : sProp 𝕄 :=
  iprop(∃ f₀ f₁ f₂, wB c fg fu fd s hs e he f₀ f₁ f₂ 3 u ∗ gRest c fg s e he ∗ uRest c fu s e he ∗ dRest c fd s e he)
/-- Buffer `s` of the ring of weights, expert `e`'s weights arrived. -/
def WL (s : ℕ) (hs : s < 3) (e : ℕ) (he : e < 32) : sProp 𝕄 :=
  iprop(∃ f₀ f₁ f₂, pt c (aslot gbM ![s, 0, 0] (inbA s hs)) fullShare ((aslot gbM ![s, 0, 0] (inbA s hs)).view.write (Elt F) f₀ (gpay c fg e he) Finset.univ)
    ∗ pt c (aslot ubM ![s, 0, 0] (inbA s hs)) fullShare ((aslot ubM ![s, 0, 0] (inbA s hs)).view.write (Elt F) f₁ (upay c fu e he) Finset.univ)
    ∗ pt c (dslot ![s, 0, 0] (inbD s hs)) fullShare ((dslot ![s, 0, 0] (inbD s hs)).view.write (Elt F) f₂ (dpay c fd e he) Finset.univ)
    ∗ semVal ((c : Thread nD τ), SemLoc.dma (wsem ![s] (inbS s hs))) 0
    ∗ (wgM.view.loc (c : Thread nD τ) ↦{tok s} fg) ∗ (wuM.view.loc (c : Thread nD τ) ↦{tok s} fu) ∗ (wdM.view.loc (c : Thread nD τ) ↦{tok s} fd))
theorem WL_free {s : ℕ} (hs : s < 3) {e : ℕ} (he : e < 32) : WL c fg fu fd s hs e he ⊢ WF c fg fu fd s hs := by
  unfold WL WF
  iintro ⟨%f₀, %f₁, %f₂, H⟩
  iexists _, _, _; iexact H

set_option maxHeartbeats 1000000 in
theorem wStart0 {s : ℕ} (hs : s < 3) {e : ℕ} (he : e < 32) {o₁ : Fin 1 → ℕ} {o₂ o₃ : Fin 3 → ℕ}
    (e₁ : o₁ = ![s]) (e₂ : o₂ = ![s, 0, 0]) (e₃ : o₃ = ![e, 0, 0]) {h₁ h₂ h₃}
    {w₁ : (asrc wgM o₃ h₃).view.WordExact} {w₂ : (aslot gbM o₂ h₂).view.WordExact} {w₃}
    {α : Type} {k : PUnit → Prog (TpuEff nD τ sig (Elt F) Λ₀ .tc) α} {Q : α → sProp 𝕄} :
    WF c fg fu fd s hs ⊢ iprop((W1 c fg fu fd s hs e he -∗ wp frame (wpE (defs₀ (F := F)) Variants.none c none) Set.univ (k ⟨⟩) Q)
      -∗ wp frame (wpE (defs₀ (F := F)) Variants.none c none) Set.univ
          (.op (.enqueueDma (asrc wgM o₃ h₃) (.here (aslot gbM o₂ h₂)) (.dma (wsem o₁ h₁)) w₁ w₂ w₃) k) Q) := by
  subst e₁ e₂ e₃
  unfold WF W1
  iintro ⟨%f₀, %f₁, %f₂, H0, H1, H2, Hs, Hg, Hu, Hd⟩ Hk
  imod (Transfers.batch_alloc' (Lvl := ℕ) (countersEmb (U := Pipeline.UD sig nD τ)) (c : Thread nD τ) () 65536
      (wDel c fg fu fd s hs e he f₀ f₁ f₂) (E := Set.univ)) $$ Hs with HB
  ihave Hg := (pointsTo_split_subset (Finset.subset_univ (asrc wgM ![e, 0, 0] (inbE e he)).view.set)).1 $$ Hg
  icases Hg with ⟨Hg, Hr⟩
  iapply (Transfers.wp_dmaBatch (countersEmb (U := Pipeline.UD sig nD τ)) Variants.none (c : Thread nD τ) none (D := wDel c fg fu fd s hs e he f₀ f₁ f₂) (j := 0) (u := 0) () 65536 (by rfl) (Finset.Subset.refl _) (by decide) (by decide) (Entails.refl _)) $$ [Hg H0 HB]
  · isplitl [Hg]; · iexact Hg
    isplitl [H0]; · iexact H0
    iexact HB
  iintro HB
  iapply Hk
  iexists f₀, f₁, f₂
  isplitl [HB]; · iexact HB
  isplitl [Hr]; · iexact Hr
  isplitl [H1]; · iexact H1
  isplitl [H2]; · iexact H2
  isplitl [Hu]; · iexact Hu
  iexact Hd

set_option maxHeartbeats 1000000 in
theorem wStart1 {s : ℕ} (hs : s < 3) {e : ℕ} (he : e < 32) {o₁ : Fin 1 → ℕ} {o₂ o₃ : Fin 3 → ℕ}
    (e₁ : o₁ = ![s]) (e₂ : o₂ = ![s, 0, 0]) (e₃ : o₃ = ![e, 0, 0]) {h₁ h₂ h₃}
    {w₁ : (asrc wuM o₃ h₃).view.WordExact} {w₂ : (aslot ubM o₂ h₂).view.WordExact} {w₃}
    {α : Type} {k : PUnit → Prog (TpuEff nD τ sig (Elt F) Λ₀ .tc) α} {Q : α → sProp 𝕄} :
    W1 c fg fu fd s hs e he ⊢ iprop((W2 c fg fu fd s hs e he -∗ wp frame (wpE (defs₀ (F := F)) Variants.none c none) Set.univ (k ⟨⟩) Q)
      -∗ wp frame (wpE (defs₀ (F := F)) Variants.none c none) Set.univ
          (.op (.enqueueDma (asrc wuM o₃ h₃) (.here (aslot ubM o₂ h₂)) (.dma (wsem o₁ h₁)) w₁ w₂ w₃) k) Q) := by
  subst e₁ e₂ e₃
  unfold W1 W2
  iintro ⟨%f₀, %f₁, %f₂, HB, Hr, H1, H2, Hu, Hd⟩ Hk
  ihave Hu := (pointsTo_split_subset (Finset.subset_univ (asrc wuM ![e, 0, 0] (inbE e he)).view.set)).1 $$ Hu
  icases Hu with ⟨Hu, Hru⟩
  iapply (Transfers.wp_dmaBatch (countersEmb (U := Pipeline.UD sig nD τ)) Variants.none (c : Thread nD τ) none (D := wDel c fg fu fd s hs e he f₀ f₁ f₂) (j := 1) (u := 0) () 65536 (by rfl) (Finset.Subset.refl _) (by decide) (by decide) (Entails.refl _)) $$ [Hu H1 HB]
  · isplitl [Hu]; · iexact Hu
    isplitl [H1]; · iexact H1
    iexact HB
  iintro HB
  iapply Hk
  iexists f₀, f₁, f₂
  isplitl [HB]; · iexact HB
  isplitl [Hr]; · iexact Hr
  isplitl [Hru]; · iexact Hru
  isplitl [H2]; · iexact H2
  iexact Hd

set_option maxHeartbeats 1000000 in
theorem wStart2 {s : ℕ} (hs : s < 3) {e : ℕ} (he : e < 32) {o₁ : Fin 1 → ℕ} {o₂ o₃ : Fin 3 → ℕ}
    (e₁ : o₁ = ![s]) (e₂ : o₂ = ![s, 0, 0]) (e₃ : o₃ = ![e, 0, 0]) {h₁ h₂ h₃}
    {w₁ : (dsrc o₃ h₃).view.WordExact} {w₂ : (dslot o₂ h₂).view.WordExact} {w₃}
    {α : Type} {k : PUnit → Prog (TpuEff nD τ sig (Elt F) Λ₀ .tc) α} {Q : α → sProp 𝕄} :
    W2 c fg fu fd s hs e he ⊢ iprop((WI c fg fu fd s hs e he 0 -∗ wp frame (wpE (defs₀ (F := F)) Variants.none c none) Set.univ (k ⟨⟩) Q)
      -∗ wp frame (wpE (defs₀ (F := F)) Variants.none c none) Set.univ
          (.op (.enqueueDma (dsrc o₃ h₃) (.here (dslot o₂ h₂)) (.dma (wsem o₁ h₁)) w₁ w₂ w₃) k) Q) := by
  subst e₁ e₂ e₃
  unfold W2 WI
  iintro ⟨%f₀, %f₁, %f₂, HB, Hr, Hru, H2, Hd⟩ Hk
  ihave Hd := (pointsTo_split_subset (Finset.subset_univ (dsrc ![e, 0, 0] (inbE' e he)).view.set)).1 $$ Hd
  icases Hd with ⟨Hd, Hrd⟩
  iapply (Transfers.wp_dmaBatch (countersEmb (U := Pipeline.UD sig nD τ)) Variants.none (c : Thread nD τ) none (D := wDel c fg fu fd s hs e he f₀ f₁ f₂) (j := 2) (u := 0) () 65536 (by rfl) (Finset.Subset.refl _) (by decide) (by decide) (Entails.refl _)) $$ [Hd H2 HB]
  · isplitl [Hd]; · iexact Hd
    isplitl [H2]; · iexact H2
    iexact HB
  iintro HB
  iapply Hk
  iexists f₀, f₁, f₂
  isplitl [HB]; · iexact HB
  isplitl [Hr]; · iexact Hr
  isplitl [Hru]; · iexact Hru
  iexact Hrd

set_option maxHeartbeats 1000000 in
/-- A wait for one of the first two arrays of a buffer. -/
theorem wWaitA {s : ℕ} (hs : s < 3) {e : ℕ} (he : e < 32) (u : ℕ) (hu : u ≤ 65536) {M : Memref sig .tc .vmem S3x1024x512 .f32} {M' : Memref sig .tc .hbm S32x1024x512 .f32}
    {o₁ : Fin 1 → ℕ} {o₂ o₃ : Fin 3 → ℕ} (e₁ : o₁ = ![s]) {h₁ h₂ h₃}
    {w₁ : (asrc M' o₃ h₃).view.WordExact} {w₂ : (aslot M o₂ h₂).view.WordExact}
    {α : Type} {k : PUnit → Prog (TpuEff nD τ sig (Elt F) Λ₀ .tc) α} {Q : α → sProp 𝕄} :
    iprop(WI c fg fu fd s hs e he u ∗ Ow c) ⊢ iprop((iprop(WI c fg fu fd s hs e he (u + 65536) ∗ Ow c) -∗ wp frame (wpE (defs₀ (F := F)) Variants.none c none) Set.univ (k ⟨⟩) Q)
      -∗ wp frame (wpE (defs₀ (F := F)) Variants.none c none) Set.univ
          (.op (.waitDma2 (wsem o₁ h₁) (asrc M' o₃ h₃) (aslot M o₂ h₂) w₁ w₂) k) Q) := by
  subst e₁
  unfold WI Ow
  iintro ⟨⟨%f₀, %f₁, %f₂, HB, Hr⟩, ⟨%W, HW⟩⟩ Hk
  iapply (Transfers.wp_waitBatch (countersEmb (U := Pipeline.UD sig nD τ)) Variants.none (c : Thread nD τ) none (D := wDel c fg fu fd s hs e he f₀ f₁ f₂) (u := u) () (N := 65536) (by rfl) (by omega)) $$ [HB HW]
  · isplitl [HB]; · iexact HB
    iexact HW
  iintro ⟨HB, HW⟩
  iapply Hk
  isplitr [HW]
  · iexists f₀, f₁, f₂
    isplitl [HB]; · iexact HB
    iexact Hr
  · iexists _; iexact HW

set_option maxHeartbeats 1000000 in
/-- The wait for the last array of a buffer. -/
theorem wWaitD {s : ℕ} (hs : s < 3) {e : ℕ} (he : e < 32)
    {o₁ : Fin 1 → ℕ} {o₂ o₃ : Fin 3 → ℕ} (e₁ : o₁ = ![s]) {h₁ h₂ h₃}
    {w₁ : (dsrc o₃ h₃).view.WordExact} {w₂ : (dslot o₂ h₂).view.WordExact}
    {α : Type} {k : PUnit → Prog (TpuEff nD τ sig (Elt F) Λ₀ .tc) α} {Q : α → sProp 𝕄} :
    iprop(WI c fg fu fd s hs e he (0 + 65536 + 65536) ∗ Ow c) ⊢ iprop((iprop(WL c fg fu fd s hs e he ∗ Ow c) -∗ wp frame (wpE (defs₀ (F := F)) Variants.none c none) Set.univ (k ⟨⟩) Q)
      -∗ wp frame (wpE (defs₀ (F := F)) Variants.none c none) Set.univ
          (.op (.waitDma2 (wsem o₁ h₁) (dsrc o₃ h₃) (dslot o₂ h₂) w₁ w₂) k) Q) := by
  subst e₁
  unfold WI WL Ow
  iintro ⟨⟨%f₀, %f₁, %f₂, HB, Hg, Hu, Hd⟩, ⟨%W, HW⟩⟩ Hk
  iapply (Transfers.wp_waitBatchLast (countersEmb (U := Pipeline.UD sig nD τ)) Variants.none (c : Thread nD τ) none (D := wDel c fg fu fd s hs e he f₀ f₁ f₂) (u := 0 + 65536 + 65536) () (N := 65536) (by rfl) (by decide) (by decide)) $$ [HB HW]
  · isplitl [HB]; · iexact HB
    iexact HW
  iintro ⟨HD, Hs, HW⟩
  ihave HD := (show bigSep Finset.univ (wDel c fg fu fd s hs e he f₀ f₁ f₂) ⊢ iprop(wDel c fg fu fd s hs e he f₀ f₁ f₂ 0 ∗ wDel c fg fu fd s hs e he f₀ f₁ f₂ 1 ∗ wDel c fg fu fd s hs e he f₀ f₁ f₂ 2)
    from Entails.of_eq (by rw [BI.bigSep_eq_bigSepL_of_eq [0, 1, 2] (by decide) (by decide)]; rfl)) $$ HD
  unfold wDel
  icases HD with ⟨⟨H0, Hg'⟩, ⟨H1, Hu'⟩, ⟨H2, Hd'⟩⟩
  iapply Hk
  isplitr [HW]
  · iexists f₀, f₁, f₂
    isplitl [H0]; · iexact H0
    isplitl [H1]; · iexact H1
    isplitl [H2]; · iexact H2
    isplitl [Hs]; · iexact Hs
    isplitl [Hg Hg']
    · iapply (pointsTo_split_subset (Finset.subset_univ (asrc wgM ![e, 0, 0] (inbE e he)).view.set)).2
      isplitl [Hg']; · iexact Hg'
      iexact Hg
    isplitl [Hu Hu']
    · iapply (pointsTo_split_subset (Finset.subset_univ (asrc wuM ![e, 0, 0] (inbE e he)).view.set)).2
      isplitl [Hu']; · iexact Hu'
      iexact Hu
    · iapply (pointsTo_split_subset (Finset.subset_univ (dsrc ![e, 0, 0] (inbE' e he)).view.set)).2
      isplitl [Hd']; · iexact Hd'
      iexact Hd
  · iexists _; iexact HW

end Cert.Kernel.Hand
-- ==== Proof.Words.lean ====
/-
  Hand-written. The kernel's scalar words in numbers: the offsets it computes from the grid point and from the tables'
  words, and the conditions it branches on.
-/
module

public import proofs.«01_k».proof.Proof.Gen.Kernel.Skeleton
public import Idealize.ShloMosaic.Lib.WordCmp

@[expose] public section

namespace Cert.Kernel.Hand

open Cert.Kernel Cert.Kernel.Gen
open Idealize.ShloMosaic

/-- The grid point's number. -/
abbrev pn (i : grid0.Coords) : ℕ := (i 0).val
theorem pn_lt (i : grid0.Coords) : pn i < 90 := (i 0).isLt

theorem off1_eq : ∀ i : grid0.Coords, k0_off1 i = ![(pn i + 2) % 3] := by decide +kernel
theorem off2_eq : ∀ i : grid0.Coords, k0_off2 i = ![(pn i + 2) % 3, 0, 0] := by decide +kernel
theorem off3_eq : ∀ i : grid0.Coords, k0_off3 i = ![2560 * (pn i + 2), 0] := by decide +kernel
theorem off4_eq : ∀ i : grid0.Coords, k0_off4 i = ![pn i - 1] := by decide +kernel
theorem off5_eq : ∀ i : grid0.Coords, k0_off5 i = ![pn i] := by decide +kernel
theorem off6_eq : ∀ i : grid0.Coords, k0_off6 i = ![pn i] := by decide +kernel
theorem off20_eq : ∀ i : grid0.Coords, k0_off20 i = ![pn i] := by decide +kernel
theorem off21_eq : ∀ i : grid0.Coords, k0_off21 i = ![pn i] := by decide +kernel
theorem off29_eq : ∀ i : grid0.Coords, k0_off29 i = ![pn i % 3] := by decide +kernel
theorem off30_eq : ∀ i : grid0.Coords, k0_off30 i = ![pn i % 3, 0, 0] := by decide +kernel
theorem off32_eq : ∀ i : grid0.Coords, k0_off32 i = ![pn i] := by decide +kernel
theorem off34_eq : ∀ i : grid0.Coords, k0_off34 i = ![pn i] := by decide +kernel
theorem off36_eq : ∀ i : grid0.Coords, k0_off36 i = ![pn i] := by decide +kernel
theorem off38_eq : ∀ i : grid0.Coords, k0_off38 i = ![pn i] := by decide +kernel
theorem off40_eq : ∀ i : grid0.Coords, k0_off40 i = ![pn i] := by decide +kernel
theorem off33_eq : ∀ i : grid0.Coords, k0_off33 i = ![pn i % 3, 0, 0] := by decide +kernel
theorem off35_eq : ∀ i : grid0.Coords, k0_off35 i = ![pn i % 3, 0, 0] := by decide +kernel
theorem off37_eq : ∀ i : grid0.Coords, k0_off37 i = ![pn i % 3, 0, 0] := by decide +kernel
theorem off39_eq : ∀ i : grid0.Coords, k0_off39 i = ![pn i % 3, 0, 0] := by decide +kernel
theorem off41_eq : ∀ i : grid0.Coords, k0_off41 i = ![pn i % 3, 0, 0] := by decide +kernel

/-- A word of the weights' buffer number. -/
theorem off22_eq : ∀ s : Fin 3, k0_off22 (BitVec.ofNat 32 s) = ![(s.val + 2) % 3] := by decide +kernel
theorem off25_eq : ∀ s : Fin 3, k0_off25 (BitVec.ofNat 32 s) = ![(s.val + 2) % 3] := by decide +kernel
theorem off23_eq : ∀ s : Fin 3, k0_off23 (BitVec.ofNat 32 s) = ![(s.val + 2) % 3, 0, 0] := by decide +kernel
theorem off26_eq : ∀ s : Fin 3, k0_off26 (BitVec.ofNat 32 s) = ![(s.val + 2) % 3, 0, 0] := by decide +kernel
theorem off27_eq : ∀ s : Fin 3, k0_off27 (BitVec.ofNat 32 s) = ![(s.val + 2) % 3, 0, 0] := by decide +kernel
theorem off11_eq : ∀ s : Fin 3, k0_off11 (BitVec.ofNat 32 s) = ![s.val] := by decide +kernel
theorem off14_eq : ∀ s : Fin 3, k0_off14 (BitVec.ofNat 32 s) = ![s.val] := by decide +kernel
theorem off12_eq : ∀ s : Fin 3, k0_off12 (BitVec.ofNat 32 s) = ![s.val, 0, 0] := by decide +kernel
theorem off15_eq : ∀ s : Fin 3, k0_off15 (BitVec.ofNat 32 s) = ![s.val, 0, 0] := by decide +kernel
theorem off16_eq : ∀ s : Fin 3, k0_off16 (BitVec.ofNat 32 s) = ![s.val, 0, 0] := by decide +kernel
theorem off18_eq : ∀ s : Fin 3, k0_off18 (BitVec.ofNat 32 s) = ![s.val, 0, 0] := by decide +kernel
theorem off19_eq : ∀ s : Fin 3, k0_off19 (BitVec.ofNat 32 s) = ![s.val, 0, 0] := by decide +kernel
/-- A word of an expert's number. -/
theorem off7_eq : ∀ e : Fin 32, k0_off7 (BitVec.ofNat 32 e) = ![e.val, 0, 0] := by decide +kernel
theorem off8_eq : ∀ e : Fin 32, k0_off8 (BitVec.ofNat 32 e) = ![e.val, 0, 0] := by decide +kernel
theorem off9_eq : ∀ e : Fin 32, k0_off9 (BitVec.ofNat 32 e) = ![e.val, 0, 0] := by decide +kernel
theorem off10_eq : ∀ e : Fin 32, k0_off10 (BitVec.ofNat 32 e) = ![e.val, 0, 0] := by decide +kernel
theorem off13_eq : ∀ e : Fin 32, k0_off13 (BitVec.ofNat 32 e) = ![e.val, 0, 0] := by decide +kernel
theorem off17_eq : ∀ e : Fin 32, k0_off17 (BitVec.ofNat 32 e) = ![e.val, 0, 0] := by decide +kernel
theorem off24_eq : ∀ e : Fin 32, k0_off24 (BitVec.ofNat 32 e) = ![e.val, 0, 0] := by decide +kernel
theorem off28_eq : ∀ e : Fin 32, k0_off28 (BitVec.ofNat 32 e) = ![e.val, 0, 0] := by decide +kernel

theorem cond1_iff : ∀ (i : grid0.Coords) (n : Fin 91), k0_cond1 i (BitVec.ofNat 32 n) = 1#1 ↔ pn i < n.val := by decide +kernel
theorem cond16_iff : ∀ (i : grid0.Coords) (n : Fin 91), k0_cond16 i (BitVec.ofNat 32 n) = 1#1 ↔ n.val ≤ pn i := by decide +kernel
theorem cond5_iff : ∀ (i : grid0.Coords) (n : Fin 91), k0_cond5 i (BitVec.ofNat 32 n) = 1#1 ↔ pn i + 2 < n.val := by decide +kernel
theorem condZ_iff : ∀ (i : grid0.Coords) (n : Fin 91), Scalar.cmpi .ne (Scalar.extui (Scalar.cmpi .eq (BitVec.ofNat 32 (i 0).val) (BitVec.ofNat 32 n)) : BitVec 32) 0#32 = 1#1 ↔ pn i = n.val := by decide +kernel
theorem cond2_iff : ∀ (i : grid0.Coords), k0_cond2 i = 1#1 ↔ pn i = 0 := by decide +kernel
theorem cond7_iff : ∀ (i : grid0.Coords), k0_cond7 i = 1#1 ↔ pn i = 0 := by decide +kernel
theorem condA_iff : ∀ (n : Fin 91), Scalar.cmpi .ne (Scalar.extui (Scalar.cmpi .sgt (BitVec.ofNat 32 n) 0#32) : BitVec 32) 0#32 = 1#1 ↔ 0 < n.val := by decide +kernel
theorem condB_iff : ∀ (n : Fin 91), Scalar.cmpi .ne (Scalar.extui (Scalar.cmpi .sgt (BitVec.ofNat 32 n) 1#32) : BitVec 32) 0#32 = 1#1 ↔ 1 < n.val := by decide +kernel
theorem cond8_of : ∀ e : Fin 32, k0_cond8 (BitVec.ofNat 32 e) = 1#1 := by decide +kernel
theorem cond8_neg : ¬ k0_cond8 (-1#32) = 1#1 := by decide +kernel
theorem cond9_of : ∀ e : Fin 32, k0_cond9 (BitVec.ofNat 32 e) = 1#1 := by decide +kernel
theorem cond9_neg : ¬ k0_cond9 (-1#32) = 1#1 := by decide +kernel
theorem cond10_iff : ∀ g : Fin 6, k0_cond10 (BitVec.ofNat 32 g) = 1#1 ↔ g.val = 1 := by decide +kernel
theorem cond11_iff : ∀ g : Fin 6, k0_cond11 (BitVec.ofNat 32 g) = 1#1 ↔ g.val = 2 := by decide +kernel
theorem cond12_iff : ∀ g : Fin 6, k0_cond12 (BitVec.ofNat 32 g) = 1#1 ↔ g.val = 3 := by decide +kernel
theorem cond13_iff : ∀ g : Fin 6, k0_cond13 (BitVec.ofNat 32 g) = 1#1 ↔ g.val = 4 := by decide +kernel
theorem cond14_iff : ∀ g : Fin 6, k0_cond14 (BitVec.ofNat 32 g) = 1#1 ↔ g.val = 5 := by decide +kernel
theorem cond6_iff0 : ∀ (z b : Bool), Scalar.cmpi .ne (Scalar.extui (Scalar.ori (BitVec.ofBool z) (BitVec.ofBool b)) : BitVec 32) 0#32 = 1#1 ↔ (z = true ∨ b = true) := by decide +kernel
theorem pnz_iff : ∀ (i : grid0.Coords), (BitVec.ofNat 32 (i 0).val == 0#32) = true ↔ pn i = 0 := by decide +kernel
/-- A tile starts a segment of tiles of one expert if it is the first or its expert is not the one before's. -/
theorem cond6_iff (i : grid0.Coords) (a b : BitVec 32) : k0_cond6 i a b = 1#1 ↔ (pn i = 0 ∨ b ≠ a) := by
  have h' : k0_cond6 i a b = Scalar.cmpi .ne (Scalar.extui (Scalar.ori (BitVec.ofBool (BitVec.ofNat 32 (i 0).val == 0#32)) (BitVec.ofBool (b != a))) : BitVec 32) 0#32 := rfl
  rw [h', cond6_iff0, pnz_iff, bne_iff_ne]

end Cert.Kernel.Hand
-- ==== Proof.Plan.lean ====
/-
  Hand-written. The tables the kernel reads, the plan they carry, and the two rings in the plan's terms.
-/
module

public import proofs.«01_k».proof.Proof.Ring
public import proofs.«01_k».proof.Proof.Words

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-- The proof's user algebra: the pipeline library's beside the transfers' counters. -/
local notation "𝕄" => MT nD τ sig Unit (Elt F) ℕ (Pipeline.UD sig nD τ) ℕ

abbrev teM : Memref sig .tc .smem S90 .i32 := Memref.whole main_v28
abbrev nuM : Memref sig .tc .smem S1 .i32 := Memref.whole main_v12
abbrev paM : Memref sig .tc .smem S90 .i32 := Memref.whole main_v83
abbrev nxM : Memref sig .tc .smem S90 .i32 := Memref.whole main_v86
abbrev n2M : Memref sig .tc .smem S90 .i32 := Memref.whole main_v89
abbrev ngM : Memref sig .tc .smem S90 .i32 := Memref.whole main_v47
abbrev ztM : Memref sig .tc .vmem S2560x128 .i32 := Memref.whole cc0_scratch1
abbrev g16M : Memref sig .tc .vmem S1024x512 .bf16 := Memref.whole cc0_scratch5
abbrev u16M : Memref sig .tc .vmem S1024x512 .bf16 := Memref.whole cc0_scratch6
abbrev d16M : Memref sig .tc .vmem S512x1024 .bf16 := Memref.whole cc0_scratch7

/-! ## The plan -/

/-- How the tiles of rows follow the experts: `n` tiles are in use, in `nseg` runs of tiles of one expert; run `k` belongs to
    expert `E k`; `K t` runs begin before tile `t`; tile `t` has `g t` groups of 128 rows of tokens. -/
structure Plan where
  n : ℕ
  nseg : ℕ
  E : ℕ → ℕ
  K : ℕ → ℕ
  g : ℕ → ℕ
  hn : n ≤ 90
  hE : ∀ k, E k < 32
  hK0 : K 0 = 0
  hKpos : ∀ t, t < n → 1 ≤ K (t + 1)
  hKle : ∀ t, t < n → K (t + 1) ≤ nseg
  hKend : ∀ t, n ≤ t → K t = nseg
  hg : ∀ t, t < n → 1 ≤ g t ∧ g t ≤ 5

/-- The expert of tile `t`. -/
abbrev Plan.ex (p : Plan) (t : ℕ) : ℕ := p.E (p.K (t + 1) - 1)

/-- What the tables' words say of the plan. -/
structure Plan.Fits (p : Plan) (te pa nx n2 ng : ℕ → BitVec 32) : Prop where
  te_eq : ∀ t, t < p.n → te t = BitVec.ofNat 32 (p.ex t)
  step : ∀ t, t < p.n → (p.K (t + 1) = p.K t + 1 ∧ (t = 0 ∨ te t ≠ te (t - 1))) ∨ (0 < t ∧ p.K (t + 1) = p.K t ∧ te t = te (t - 1))
  pa_eq : ∀ t, t < p.n → p.K (t + 1) = p.K t + 1 → pa t = BitVec.ofNat 32 (p.K t % 3)
  nx_eq : 0 < p.n → nx 0 = if 1 < p.nseg then BitVec.ofNat 32 (p.E 1) else -1#32
  n2_eq : ∀ t, t < p.n → p.K (t + 1) = p.K t + 1 → n2 t = if p.K t + 2 < p.nseg then BitVec.ofNat 32 (p.E (p.K t + 2)) else -1#32
  ng_eq : ∀ t, t < p.n → ng t = BitVec.ofNat 32 (p.g t)

/-! ## The tables -/

/-- The index of a table's word. -/
abbrev ixT (t : ℕ) (ht : t < 90) : S90.Idx := fun _ => ⟨t, by simpa [S90] using ht⟩

/-- A table of 90 words, held to be read. -/
def Tab (c : Dev nD) (M : Memref sig .tc .smem S90 .i32) (f : Cnt (F := F) c M) (T : ℕ → BitVec 32) : sProp 𝕄 :=
  iprop(⌜∀ t (ht : t < 90), M.view.read (Elt F) f (ixT t ht) = T t⌝ ∗ pt c M fullShare.right f)

theorem tabLoad (c : Dev nD) {M : Memref sig .tc .smem S90 .i32} {f : Cnt (F := F) c M} {T : ℕ → BitVec 32} {t : ℕ} (ht : t < 90)
    {o : Fin 1 → ℕ} (e : o = ![t]) {w : BitVec 32} (hw : T t = w)
    {h} {h1 : (Rect.unit (s := S90) o S1.size h).shape.numel = 1} {hpk : EltTy.i32.packing = 1}
    {α : Type} {k : BitVec 32 → Prog (TpuEff nD τ sig (Elt F) Λ₀ .tc) α} {Q : α → sProp 𝕄} :
    Tab c M f T ⊢ iprop((Tab c M f T -∗ wp frame (wpE (defs₀ (F := F)) Variants.none c none) Set.univ (k w) Q)
      -∗ wp frame (wpE (defs₀ (F := F)) Variants.none c none) Set.univ
          (smemLoad M (Rect.unit (s := S90) o S1.size h) h1 hpk >>= k) Q) := by
  subst e hw
  unfold Tab
  iintro ⟨%hT, Ht⟩ Hk
  iapply (wp_smemLoadElt Variants.none (c : Thread nD τ) none Set.univ (m := M) (r := Rect.unit (s := S90) ![t] S1.size h) (hw := View.loads_smem_one hpk h1) (x := Shape.Idx.first (h1.symm ▸ Nat.one_pos)) (k := k) (q := fullShare.right) (f := f) (S := M.view.set) (View.set_slice_subset _ _)) $$ Ht
  iintro Ht
  generalize (Shape.Idx.first (h1.symm ▸ Nat.one_pos) : S1.Idx) = x
  have hr : (M.access (Rect.unit (s := S90) ![t] S1.size h)).read (Elt F) f x = T t := by
    rw [← hT t ht]
    show M.view.read (Elt F) f _ = _
    congr 1
    funext a
    apply Fin.ext
    fin_cases a
    have hx : (x 0).val < 1 := (x 0).isLt
    rw [Rect.emb_apply]
    show t + 1 * (x 0).val = t
    omega
  rw [hr]
  iapply Hk
  isplitr
  · ipureintro; exact hT
  · iexact Ht

/-- One operation and what follows it. -/
theorem liftOp {c : Dev nD} {β : Type} {e : TpuEff nD τ sig (Elt F) Λ₀ .tc β} {α : Type} {k : β → Prog (TpuEff nD τ sig (Elt F) Λ₀ .tc) α} {Q : α → sProp 𝕄} :
    wp frame (wpE (defs₀ (F := F)) Variants.none (c : Thread nD τ) none) Set.univ (.op e k) Q
      ⊢ wp frame (wpE (defs₀ (F := F)) Variants.none (c : Thread nD τ) none) Set.univ (Prog.lift e >>= k) Q := Entails.refl _

/-! ## The rings in the plan's terms -/

variable (c : Dev nD) (fx : Cnt (F := F) c xsM)
variable (fg : Cnt (F := F) c wgM) (fu : Cnt (F := F) c wuM) (fd : Cnt (F := F) c wdM)

theorem m3 (k : ℕ) : k % 3 < 3 := Nat.mod_lt _ (by decide)

/-- Tile `j`'s slot: the tile on its way if `b` and there is such a tile, else free. -/
def XC (j : ℕ) (b : Prop) [Decidable b] : sProp 𝕄 := if h : b ∧ j < 90 then XI c fx (j % 3) (m3 j) j h.2 else XF c fx (j % 3) (m3 j)
/-- Run `k`'s buffer: its expert's weights on their way if `b`, else free. -/
def WC (p : Plan) (k : ℕ) (b : Prop) [Decidable b] : sProp 𝕄 :=
  if b then WI c fg fu fd (k % 3) (m3 k) (p.E k) (p.hE k) 0 else WF c fg fu fd (k % 3) (m3 k)

end Cert.Kernel.Hand
-- ==== Proof.Counts.lean ====
/-
  Hand-written. The plan that follows from the counts: how many tiles each expert takes, which expert a tile belongs to, which expert
  comes next. Natural numbers only.
-/
module

public import proofs.«01_k».proof.Proof.Plan
public import Idealize.ShloMosaic.Lib.Routing.Count

@[expose] public section

noncomputable section

namespace Cert.Kernel.Hand

open Idealize.ShloMosaic.Routing

/-! ## Searching a monotone sequence -/

/-- The step of `f` that `t` falls into. -/
def pos (f : ℕ → ℕ) (t : ℕ) : ℕ := Nat.count (fun q => f (q + 1) ≤ t) 32

theorem pos_spec {f : ℕ → ℕ} (hf : Monotone f) (h0 : f 0 = 0) {t : ℕ} (ht : t < f 32) :
    pos f t < 32 ∧ f (pos f t) ≤ t ∧ t < f (pos f t + 1) := by
  have hQ : ∀ a b, a ≤ b → b < 32 → f (b + 1) ≤ t → f (a + 1) ≤ t := fun a b hab _ h => le_trans (hf (by omega)) h
  have key : ∀ r, r < 32 → (r < pos f t ↔ f (r + 1) ≤ t) := fun r hr => (lt_count_iff (Q := fun q => f (q + 1) ≤ t) hQ hr).symm
  have hle : pos f t ≤ 32 := Nat.count_le _
  have h32 : pos f t < 32 := by
    by_contra h
    have := (key 31 (by omega)).1 (by omega)
    simp only [Nat.reduceAdd] at this
    omega
  refine ⟨h32, ?_, ?_⟩
  · rcases Nat.eq_zero_or_pos (pos f t) with h | h
    · rw [h, h0]; omega
    · have := (key (pos f t - 1) (by omega)).1 (by omega)
      rwa [Nat.sub_add_cancel h] at this
  · by_contra h
    have := (key (pos f t) h32).2 (by omega)
    omega

theorem pos_unique {f : ℕ → ℕ} (hf : Monotone f) (h0 : f 0 = 0) {t e : ℕ} (he : e < 32) (h1 : f e ≤ t) (h2 : t < f (e + 1)) : pos f t = e := by
  obtain ⟨a, b, d⟩ := pos_spec hf h0 (lt_of_lt_of_le h2 (hf (by omega : e + 1 ≤ 32)))
  rcases Nat.lt_trichotomy (pos f t) e with h | h | h
  · have := hf (by omega : pos f t + 1 ≤ e); omega
  · exact h
  · have := hf (by omega : e + 1 ≤ pos f t); omega

theorem count_cut (P : ℕ → Prop) [DecidablePred P] {a b : ℕ} (h : a ≤ b) : Nat.count (fun q => P q ∧ q < a) b = Nat.count P a := by
  induction b, h using Nat.le_induction with
  | base => exact count_congr_of_lt _ fun i hi => ⟨fun h => h.1, fun h => ⟨h, hi⟩⟩
  | succ b hb ih => rw [Nat.count_succ, ih, if_neg (by omega), Nat.add_zero]

/-! ## Tiles and runs -/

section
variable (cn : ℕ → ℕ)

/-- The tiles of expert `e`. -/
def nbOf (e : ℕ) : ℕ := (cn e + 639) / 640
/-- The tiles of the experts before `e`. -/
def offOf (e : ℕ) : ℕ := ((List.range (e)).map (nbOf cn)).sum
/-- The experts with a row among those before `e`. -/
def runs (e : ℕ) : ℕ := Nat.count (fun q => 0 < cn q) e
def nsegOf : ℕ := runs cn 32
/-- The expert of tile `t`. -/
def expOf (t : ℕ) : ℕ := pos (offOf cn) t
/-- The runs that begin before tile `t`. -/
def KOf (t : ℕ) : ℕ := Nat.count (fun q => 0 < cn q ∧ offOf cn q < t) 32
/-- The expert of run `k`. -/
def EOf (k : ℕ) : ℕ := if k < nsegOf cn then pos (runs cn) k else 0
/-- The expert after `e` that has a row, 32 for none. -/
def nxOf (e : ℕ) : ℕ := if runs cn (e + 1) < nsegOf cn then EOf cn (runs cn (e + 1)) else 32
/-- The groups of 128 rows of tile `t`. -/
def gOf (t : ℕ) : ℕ := min (max ((640 * offOf cn (expOf cn t) + cn (expOf cn t) - 640 * t + 127) / 128) 1) 5

/-- What a table says of the expert after `e`. -/
def NX (e : ℕ) : BitVec 32 := if nxOf cn e = 32 then -1#32 else BitVec.ofNat 32 (nxOf cn e)
def N2 (e : ℕ) : BitVec 32 := if nxOf cn e = 32 then -1#32 else NX cn (nxOf cn e)

theorem off_zero : offOf cn 0 = 0 := rfl
theorem off_succ (e : ℕ) : offOf cn (e + 1) = offOf cn e + nbOf cn e := by
  unfold offOf; rw [List.range_succ, List.map_append, List.sum_append]; simp
theorem off_mono : Monotone (offOf cn) := monotone_nat_of_le_succ fun e => by rw [off_succ]; omega
theorem runs_zero : runs cn 0 = 0 := rfl
theorem runs_mono : Monotone (runs cn) := Nat.count_monotone _
theorem runs_succ (e : ℕ) : runs cn (e + 1) = runs cn e + if 0 < cn e then 1 else 0 := Nat.count_succ _ _
theorem nb_pos {e : ℕ} : 0 < nbOf cn e ↔ 0 < cn e := by unfold nbOf; omega

theorem off_le (e : ℕ) : 640 * offOf cn e ≤ ((List.range e).map cn).sum + 639 * e := by
  induction e with
  | zero => simp [off_zero]
  | succ e ih =>
    rw [off_succ, List.range_succ, List.map_append, List.sum_append]
    simp only [List.map_cons, List.map_nil, List.sum_cons, List.sum_nil]
    unfold nbOf; omega

variable {cn}

theorem EOf_spec {k : ℕ} (hk : k < nsegOf cn) : EOf cn k < 32 ∧ 0 < cn (EOf cn k) ∧ runs cn (EOf cn k) = k := by
  unfold EOf; rw [if_pos hk]
  obtain ⟨a, b, d⟩ := pos_spec (runs_mono cn) (runs_zero cn) hk
  rw [runs_succ] at d
  split at d
  · exact ⟨a, by assumption, by omega⟩
  · omega

theorem EOf_unique {e : ℕ} (he : e < 32) (hp : 0 < cn e) : EOf cn (runs cn e) = e := by
  have h : runs cn e < runs cn (e + 1) := by rw [runs_succ, if_pos hp]; omega
  unfold EOf; rw [if_pos (show runs cn e < nsegOf cn from lt_of_lt_of_le h (runs_mono cn (show e + 1 ≤ 32 by omega)))]
  exact pos_unique (runs_mono cn) (runs_zero cn) he (le_refl _) h

theorem exp_spec {t : ℕ} (ht : t < offOf cn 32) : expOf cn t < 32 ∧ offOf cn (expOf cn t) ≤ t ∧ t < offOf cn (expOf cn t + 1) :=
  pos_spec (off_mono cn) (off_zero cn) ht

theorem exp_pos {t : ℕ} (ht : t < offOf cn 32) : 0 < cn (expOf cn t) := by
  obtain ⟨a, b, d⟩ := exp_spec ht
  rw [off_succ] at d
  exact (nb_pos cn).1 (by omega)

theorem K_mid {t e : ℕ} (he : e < 32) (h1 : offOf cn e ≤ t) (h2 : t < offOf cn (e + 1)) : KOf cn (t + 1) = runs cn (e + 1) := by
  unfold KOf runs
  rw [← count_cut (fun q => 0 < cn q) (show e + 1 ≤ 32 by omega)]
  refine count_congr_of_lt _ fun q hq => and_congr_right fun hp => ⟨fun h => ?_, fun h => ?_⟩
  · by_contra hn
    have := off_mono cn (show e + 1 ≤ q by omega); omega
  · have := off_mono cn (show q ≤ e by omega); omega

theorem K_start {t e : ℕ} (he : e ≤ 32) (h1 : offOf cn e = t) : KOf cn t = runs cn e := by
  unfold KOf runs
  rw [← count_cut (fun q => 0 < cn q) he]
  refine count_congr_of_lt _ fun q hq => and_congr_right fun hp => ⟨fun h => ?_, fun h => ?_⟩
  · by_contra hn
    have := off_mono cn (show e ≤ q by omega); omega
  · have h3 := off_mono cn (show q + 1 ≤ e by omega)
    have h4 := (nb_pos cn).2 hp
    rw [off_succ] at h3; omega

theorem K_end {t : ℕ} (h : offOf cn 32 ≤ t) : KOf cn t = nsegOf cn := by
  unfold KOf nsegOf runs
  refine count_congr_of_lt _ fun q hq => ⟨fun h => h.1, fun hp => ⟨hp, ?_⟩⟩
  have h3 := off_mono cn (show q + 1 ≤ 32 by omega)
  have h4 := (nb_pos cn).2 hp
  rw [off_succ] at h3; omega

theorem K_exp {t : ℕ} (ht : t < offOf cn 32) : KOf cn (t + 1) = runs cn (expOf cn t) + 1 := by
  obtain ⟨a, b, d⟩ := exp_spec ht
  rw [K_mid a b d, runs_succ, if_pos (exp_pos ht)]

theorem nx_run {e k : ℕ} (hp : 0 < cn e) (hk : runs cn e = k) : nxOf cn e = if k + 1 < nsegOf cn then EOf cn (k + 1) else 32 := by
  unfold nxOf; rw [runs_succ, if_pos hp, hk]

theorem NX_run {e k : ℕ} (hp : 0 < cn e) (hk : runs cn e = k) :
    NX cn e = if k + 1 < nsegOf cn then BitVec.ofNat 32 (EOf cn (k + 1)) else -1#32 := by
  unfold NX; rw [nx_run hp hk]
  by_cases h : k + 1 < nsegOf cn
  · simp only [if_pos h]
    rw [if_neg (by have := (EOf_spec h).1; omega)]
  · simp only [if_neg h, if_true]

theorem N2_run {e k : ℕ} (hp : 0 < cn e) (hk : runs cn e = k) :
    N2 cn e = if k + 2 < nsegOf cn then BitVec.ofNat 32 (EOf cn (k + 2)) else -1#32 := by
  unfold N2; rw [nx_run hp hk]
  by_cases h : k + 1 < nsegOf cn
  · simp only [if_pos h]
    obtain ⟨a, b, d⟩ := EOf_spec h
    rw [if_neg (by omega), NX_run b d]
  · simp only [if_neg h, if_true]
    rw [if_neg (by omega)]

/-- The counts are a batch's: no more rows than there are, and no expert past the last. -/
structure Good (cn : ℕ → ℕ) : Prop where
  tot : ((List.range 32).map cn).sum ≤ 36992

theorem Good.n_le (h : Good cn) : offOf cn 32 ≤ 89 := by
  have := off_le cn 32; have := h.tot; omega

/-- The plan. -/
def planOf (cn : ℕ → ℕ) (h : Good cn) : Plan where
  n := offOf cn 32
  nseg := nsegOf cn
  E := EOf cn
  K := KOf cn
  g := gOf cn
  hn := by have := h.n_le; omega
  hE k := by
    by_cases hk : k < nsegOf cn
    · exact (EOf_spec hk).1
    · unfold EOf; rw [if_neg hk]; omega
  hK0 := K_start (by omega) (off_zero cn)
  hKpos t ht := by rw [K_exp ht]; omega
  hKle t ht := by
    obtain ⟨a, b, d⟩ := exp_spec ht
    rw [K_mid a b d]; exact runs_mono cn (by omega)
  hKend t ht := K_end ht
  hg t ht := by unfold gOf; omega

theorem plan_ex (h : Good cn) {t : ℕ} (ht : t < offOf cn 32) : (planOf cn h).ex t = expOf cn t := by
  show EOf cn (KOf cn (t + 1) - 1) = _
  rw [K_exp ht, Nat.add_sub_cancel]
  exact EOf_unique (exp_spec ht).1 (exp_pos ht)

theorem plan_fits (h : Good cn) {te pa nx n2 ng : ℕ → BitVec 32} (hte : ∀ t, t < offOf cn 32 → te t = BitVec.ofNat 32 (expOf cn t))
    (hpa : ∀ t, t < offOf cn 32 → pa t = BitVec.ofNat 32 ((runs cn (expOf cn t + 1) - 1) % 3))
    (hnx : ∀ t, t < offOf cn 32 → nx t = NX cn (expOf cn t)) (hn2 : ∀ t, t < offOf cn 32 → n2 t = N2 cn (expOf cn t))
    (hng : ∀ t, t < offOf cn 32 → ng t = BitVec.ofNat 32 (gOf cn t)) : (planOf cn h).Fits te pa nx n2 ng where
  te_eq t ht := by rw [plan_ex h ht]; exact hte t ht
  step t ht := by
    replace ht : t < offOf cn 32 := ht
    obtain ⟨a, b, d⟩ := exp_spec ht
    rcases Nat.eq_or_lt_of_le b with hs | hs
    · refine Or.inl ⟨?_, ?_⟩
      · show KOf cn (t + 1) = KOf cn t + 1
        rw [K_exp ht, K_start (by omega) hs]
      · by_cases h0 : t = 0
        · exact Or.inl h0
        · right
          have ht' : t - 1 < offOf cn 32 := by omega
          obtain ⟨a', b', d'⟩ := exp_spec ht'
          rw [hte t ht, hte (t - 1) ht']
          intro e
          have := congrArg BitVec.toNat e
          rw [BitVec.toNat_ofNat, BitVec.toNat_ofNat, Nat.mod_eq_of_lt (by omega), Nat.mod_eq_of_lt (by omega)] at this
          rw [← this] at b'; omega
    · have ht' : t - 1 < offOf cn 32 := by omega
      have he : expOf cn (t - 1) = expOf cn t := pos_unique (off_mono cn) (off_zero cn) a (by omega) (by omega)
      refine Or.inr ⟨by omega, ?_, ?_⟩
      · show KOf cn (t + 1) = KOf cn t
        have := K_exp ht'
        rw [Nat.sub_add_cancel (by omega), he] at this
        rw [K_exp ht, this]
      · rw [hte t ht, hte (t - 1) ht', he]
  pa_eq t ht hk := by
    replace hk : KOf cn (t + 1) = KOf cn t + 1 := hk
    show _ = BitVec.ofNat 32 (KOf cn t % 3)
    rw [hpa t ht, runs_succ, if_pos (exp_pos ht)]
    rw [K_exp ht] at hk
    rw [Nat.add_sub_cancel, show runs cn (expOf cn t) = KOf cn t by omega]
  nx_eq h0 := by
    rw [hnx 0 h0]
    have hk := K_exp (cn := cn) h0
    obtain ⟨a, b, d⟩ := exp_spec (cn := cn) h0
    have : runs cn (expOf cn 0) = 0 := by
      rw [← K_start (t := 0) (by omega) (by omega)]; exact K_start (by omega) (off_zero cn)
    exact NX_run (exp_pos h0) this
  n2_eq t ht hk := by
    replace hk : KOf cn (t + 1) = KOf cn t + 1 := hk
    rw [hn2 t ht]
    rw [K_exp ht] at hk
    exact N2_run (k := KOf cn t) (exp_pos ht) (by omega)
  ng_eq t ht := hng t ht

end

end Cert.Kernel.Hand

end
-- ==== Proof.Folds.lean ====
/-
  Hand-written. Reductions along the rows of a table of words: a sum that picks one entry out, and a least entry.
-/
module

public import Idealize.ShloMosaic.Lib.Routing.OpsSearch
public import Idealize.ShloMosaic.Lib.Routing.Words

@[expose] public section

noncomputable section

namespace Cert.Kernel.Hand

open Idealize.ShloMosaic Idealize.ShloMosaic.Routing Idealize.ShloMosaic.WordCmp Idealize.ShloMosaic.ValueIdx

theorem minsi_at {s : Shape} (x y : IVec s 32) (i : s.Idx) : minsi x y i = IntOp.minsi (x i) (y i) := rfl
theorem maxsi_at {s : Shape} (x y : IVec s 32) (i : s.Idx) : maxsi x y i = IntOp.maxsi (x i) (y i) := rfl

/-- A reduction along the columns, at a row, is the fold over the row's entries. -/
theorem reduce_row {α : Type} {n k : ℕ} (f : α → α → α) [Std.Commutative f] [Std.Associative f] (x : (shape2 n k).Idx → α)
    (init : shape0.Idx → α) (h : (shape2 n k).ReducesTo [1] (shape1 n)) (hu : 0 < shape0.numel) (i : Fin n) :
    Host.reduce f x init h hu (ix1 i) = (Finset.univ : Finset (Fin k)).fold f (init ix0) fun q => x (ix2 i q) := by
  rw [Host.reduce_eq_fold, show Shape.Idx.first hu = ix0 from eq_ix0 _]
  have hdrop : ∀ y : (shape2 n k).Idx, h.drop y = ix1 i ↔ y 0 = i := by
    intro y
    have hv : (h.drop y 0 : ℕ) = y 0 := Shape.ReducesTo.drop_apply_val h y 0
    constructor
    · intro e; rw [e] at hv; exact Fin.ext hv.symm
    · intro e; funext b; have hb : b = 0 := Subsingleton.elim _ _; subst hb; exact Fin.ext (by rw [hv, e]; rfl)
  have hs : (Finset.univ.filter fun y : (shape2 n k).Idx => h.drop y = ix1 i)
      = (Finset.univ : Finset (Fin k)).map ⟨fun q : Fin k => (ix2 i q : (shape2 n k).Idx), fun a b e => by have := congrFun e 1; exact this⟩ := by
    ext y
    simp only [Finset.mem_filter, Finset.mem_univ, true_and, Finset.mem_map, Function.Embedding.coeFn_mk, hdrop]
    constructor
    · intro e; refine ⟨y 1, ?_⟩
      funext b; match b with
      | ⟨0, _⟩ => exact e.symm
      | ⟨1, _⟩ => rfl
    · rintro ⟨q, rfl⟩; rfl
  rw [hs, Finset.fold_map]; rfl

theorem fold_addi (n : ℕ) (f : Fin n → BitVec 32) :
    (Finset.univ : Finset (Fin n)).fold IntOp.addi 0#32 f = ∑ q, f q := rfl

/-- A sum of a row that is `w` at column `e` and zero elsewhere. -/
theorem sum_pick {n : ℕ} (e : ℕ) (he : e < n) (f : Fin n → BitVec 32) :
    (∑ q : Fin n, if e = q.val then f q else 0#32) = f ⟨e, he⟩ := by
  rw [Finset.sum_eq_single (⟨e, he⟩ : Fin n)]
  · rw [if_pos rfl]
  · intro b _ hb; rw [if_neg fun h => hb (Fin.ext h.symm)]; rfl
  · intro h; exact absurd (Finset.mem_univ _) h

theorem minsi_ofNat {a b : ℕ} (ha : a < 2 ^ 31) (hb : b < 2 ^ 31) :
    IntOp.minsi (BitVec.ofNat 32 a) (BitVec.ofNat 32 b) = BitVec.ofNat 32 (min a b) := by
  unfold IntOp.minsi
  rw [slt_ofNat32 ha hb]
  by_cases h : a < b
  · rw [if_pos (decide_eq_true h), Nat.min_eq_left (Nat.le_of_lt h)]
  · rw [if_neg (fun e => h (of_decide_eq_true e)), Nat.min_eq_right (by omega)]

/-- The least of words that hold small numbers. -/
theorem fold_minsi {n : ℕ} (s : Finset (Fin n)) (f : Fin n → ℕ) (hf : ∀ q, f q < 2 ^ 31) (b : ℕ) (hb : b < 2 ^ 31) :
    s.fold IntOp.minsi (BitVec.ofNat 32 b) (fun q => BitVec.ofNat 32 (f q)) = BitVec.ofNat 32 (s.fold min b f) ∧ s.fold min b f < 2 ^ 31 := by
  classical
  induction s using Finset.induction_on with
  | empty => exact ⟨rfl, hb⟩
  | insert a s ha ih =>
    rw [Finset.fold_insert ha, Finset.fold_insert ha, ih.1, minsi_ofNat (hf a) ih.2]
    exact ⟨rfl, lt_of_le_of_lt (min_le_left _ _) (hf a)⟩

theorem fold_min_eq {n : ℕ} (f : Fin n → ℕ) (b v : ℕ) (hb : v ≤ b) (h1 : ∀ q, v ≤ f q) (h2 : ∃ q, f q ≤ v) :
    (Finset.univ : Finset (Fin n)).fold min b f = v := by
  apply le_antisymm
  · obtain ⟨q, hq⟩ := h2
    exact (Finset.fold_min_le _).2 (Or.inr ⟨q, Finset.mem_univ _, hq⟩)
  · exact (Finset.le_fold_min _).2 ⟨hb, fun q _ => h1 q⟩

end Cert.Kernel.Hand

end
-- ==== Proof.PreFacts.lean ====
/-
  Hand-written. What the precondition says of the counts, in natural numbers.
-/
module

public import proofs.«01_k».proof.Pre_counts_ok
public import proofs.«01_k».proof.Proof.Counts
public import proofs.«01_k».proof.Proof.Folds

@[expose] public section

noncomputable section

namespace Cert.Kernel.Hand

open Idealize.ShloMosaic Idealize.ShloMosaic.Routing Idealize.ShloMosaic.WordCmp

theorem minsi_toInt (a b : BitVec 32) : (IntOp.minsi a b).toInt = min a.toInt b.toInt := by
  unfold IntOp.minsi BitVec.slt
  by_cases h : a.toInt < b.toInt
  · rw [if_pos (decide_eq_true h), min_eq_left (le_of_lt h)]
  · rw [if_neg (fun e => h (of_decide_eq_true e)), min_eq_right (by omega)]

theorem maxsi_toInt (a b : BitVec 32) : (IntOp.maxsi a b).toInt = max a.toInt b.toInt := by
  unfold IntOp.maxsi BitVec.slt
  by_cases h : b.toInt < a.toInt
  · rw [if_pos (decide_eq_true h), max_eq_left (le_of_lt h)]
  · rw [if_neg (fun e => h (of_decide_eq_true e)), max_eq_right (by omega)]

theorem fold_minsi_le {ι : Type} [DecidableEq ι] (s : Finset ι) (f : ι → BitVec 32) (b : BitVec 32) :
    ∀ e ∈ s, (s.fold IntOp.minsi b f).toInt ≤ (f e).toInt := by
  induction s using Finset.induction_on with
  | empty => intro e he; exact absurd he (Finset.notMem_empty e)
  | insert a s ha ih =>
    intro e he
    rw [Finset.fold_insert ha, minsi_toInt]
    rcases Finset.mem_insert.1 he with rfl | he
    · exact min_le_left _ _
    · exact le_trans (min_le_right _ _) (ih e he)

theorem le_fold_maxsi {ι : Type} [DecidableEq ι] (s : Finset ι) (f : ι → BitVec 32) (b : BitVec 32) :
    ∀ e ∈ s, (f e).toInt ≤ (s.fold IntOp.maxsi b f).toInt := by
  induction s using Finset.induction_on with
  | empty => intro e he; exact absurd he (Finset.notMem_empty e)
  | insert a s ha ih =>
    intro e he
    rw [Finset.fold_insert ha, maxsi_toInt]
    rcases Finset.mem_insert.1 he with rfl | he
    · exact le_max_left _ _
    · exact le_trans (ih e he) (le_max_right _ _)

theorem and_one {a b : BitVec 1} (h : IntOp.andi a b = 1#1) : a = 1#1 ∧ b = 1#1 := by
  revert a b; decide

/-- The counts as numbers. -/
def cnOf (x : IVec (shape1 32) 32) (e : ℕ) : ℕ := if h : e < 32 then (x (ValueIdx.ix1 ⟨e, h⟩)).toNat else 0

theorem cnOf_word (x : IVec (shape1 32) 32) (e : Fin 32) : x (ValueIdx.ix1 e) = BitVec.ofNat 32 (cnOf x e.val) := by
  unfold cnOf; rw [dif_pos e.isLt, BitVec.ofNat_toNat, BitVec.setWidth_eq]

variable {F : FTy → Type} [FloatOps F] [hP : Cert.Pre_counts_ok.Facts]

theorem good_of_pre (x : IVec (shape1 32) 32) (a1 : IVec Cert.Pre_counts_ok.S230432x128 32) (a2 a3 : FVec F Cert.Pre_counts_ok.S1x32x1024x512 .f32)
    (a4 : FVec F Cert.Pre_counts_ok.S1x32x512x1024 .f32) (h : Cert.Pre_counts_ok.fn (F := F) x a1 a2 a3 a4 = fun _ => 1#1) : Good (cnOf x) := by
  have h0 := congrFun h ValueIdx.ix0
  unfold Cert.Pre_counts_ok.fn at h0
  simp only [andi_at, cmpi_at, constantI_at] at h0
  obtain ⟨h1, h3⟩ := and_one h0
  obtain ⟨h1, h2⟩ := and_one h1
  rw [Host.reduce_eq_fold] at h1 h2
  have hm : ∀ (y : (shape1 32).Idx), y ∈ Finset.univ.filter fun i : (shape1 32).Idx =>
      Shape.ReducesTo.drop Cert.Pre_counts_ok.Facts.reducesTo_S32_S_d0 i = ValueIdx.ix0 := fun y =>
    Finset.mem_filter.2 ⟨Finset.mem_univ _, funext fun a => a.elim0⟩
  have hlo : ∀ y, 0 ≤ (x y).toInt := fun y => by
    have := fold_minsi_le _ x (constantI Cert.Pre_counts_ok.S_ 32 2147483647#32 (Shape.Idx.first Cert.Pre_counts_ok.Facts.h_S_)) y (hm y)
    refine le_trans ?_ this
    have := of_decide_eq_true ((StableHlo.Predicate.ofBool_eq_one_iff _).1 h1)
    exact this
  have hhi : ∀ y, (x y).toInt ≤ 36992 := fun y => by
    have := le_fold_maxsi _ x (constantI Cert.Pre_counts_ok.S_ 32 2147483648#32 (Shape.Idx.first Cert.Pre_counts_ok.Facts.h_S_)) y (hm y)
    refine le_trans this ?_
    have := of_decide_eq_true ((StableHlo.Predicate.ofBool_eq_one_iff _).1 h2)
    exact this
  have hn : ∀ e : Fin 32, cnOf x e.val ≤ 36992 := fun e => by
    unfold cnOf; rw [dif_pos e.isLt]
    have := hlo (ValueIdx.ix1 e); have h' := hhi (ValueIdx.ix1 e)
    have h'' := toNat_lt_of_toInt_nonneg _ this
    rw [BitVec.toInt_eq_toNat_of_lt (by omega)] at h'
    exact_mod_cast h'
  have hs := reduce_sum (N := 32) x (cnOf x) (cnOf_word x) Cert.Pre_counts_ok.Facts.reducesTo_S32_S_d0 Cert.Pre_counts_ok.Facts.h_S_
  rw [hs] at h3
  have hb : ∀ n, n ≤ 32 → ((List.range n).map (cnOf x)).sum ≤ 36992 * n := by
    intro n hn'
    induction n with
    | zero => simp
    | succ n ih =>
      rw [List.range_succ, List.map_append, List.sum_append]
      have := hn ⟨n, by omega⟩
      have := ih (by omega)
      simp only [List.map_cons, List.map_nil, List.sum_cons, List.sum_nil]
      dsimp only at *
      omega
  have hb := hb 32 (le_refl _)
  exact ⟨(cmpi_sle_ofNat_eq_one_iff (w := 32) (by omega) (by omega)).1 h3⟩

end Cert.Kernel.Hand

end
-- ==== Proof.Host.lean ====
/-
  Hand-written. The host lines before the region: the valuation they leave, that they write no argument, and the program as those lines
  followed by the region.
-/
module

public import proofs.«01_k».proof.Proof.Gen.Kernel.Launch
public import Idealize.ShloMosaic.Lib.Pipeline.FrameSuffix

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

open Idealize.ShloMosaic.Pipeline (Dat Cfg Window BodyObligation BodyObligationLoose cellOf)

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## The arrays when the region is entered -/

/-- The host lines before the region, in their order. -/
abbrev lines : List (List (HloOp τ sig (Elt F))) :=
  [hostOps0, hostOps0_1, hostOps0_2, hostOps0_3, hostOps0_4, hostOps0_5, hostOps0_6, hostOps0_7, hostOps0_8, hostOps0_9, hostOps0_10,
   hostOps0_11, hostOps0_12, hostOps0_13, hostOps0_14, hostOps0_15, hostOps0_16, hostOps0_17, hostOps0_18, hostOps0_19, hostOps0_20,
   hostOps0_21, hostOps0_22, hostOps0_23, hostOps0_24, hostOps0_25, hostOps0_26, hostOps0_27, hostOps0_28, hostOps0_29, hostOps0_30]

/-- Every buffer's contents when the region is entered. -/
def V0 (c : Dev nD) : Valuation τ sig (Elt F) := StableHlo.after (lines (F := F)).flatten (fun b => m (c, b))
abbrev V (c : Dev nD) (b : Ref sig .tc) : Buf (Elt F) ((c : Thread nD τ).loc b) := V0 m c (Proc.devRef .tc b)

theorem lines_sub : (lines (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub⟩
set_option maxHeartbeats 4000000 in
theorem lines_fresh : (lines (F := F)).Forall fun ops => ops.Forall fun op => op.fresh = ∅ := by
  simp only [List.Forall]; repeat' constructor

/-- An argument is written by no host line. -/
theorem V_arg (c : Dev nD) (b : Ref sig .tc) (hb : b = main_arg0 ∨ b = main_arg1 ∨ b = main_arg2 ∨ b = main_arg3 ∨ b = main_arg4) :
    V m c b = m ((c : Thread nD τ).loc b) := by
  refine StableHlo.after_of_forall_not_mem (b := Proc.devRef .tc b) _ _ (List.forall_iff_forall_mem.mp ?_)
  simp only [lines, hostOps0, hostOps0_1, hostOps0_2, hostOps0_3, hostOps0_4, hostOps0_5, hostOps0_6, hostOps0_7, hostOps0_8, hostOps0_9, hostOps0_10,
   hostOps0_11, hostOps0_12, hostOps0_13, hostOps0_14, hostOps0_15, hostOps0_16, hostOps0_17, hostOps0_18, hostOps0_19, hostOps0_20,
   hostOps0_21, hostOps0_22, hostOps0_23, hostOps0_24, hostOps0_25, hostOps0_26, hostOps0_27, hostOps0_28, hostOps0_29, hostOps0_30,
   List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  rcases hb with h | h | h | h | h <;> subst h <;>
  · repeat' apply And.intro
    all_goals exact StableHlo.devRef_ne_of_ne (by decide)

theorem hmain : Pipeline.HMainPK (Ix := Unit) (Name := ℕ) (U := Pipeline.UD sig nD τ) (Lvl := ℕ) pcfgs 0 defs₀ Variants.none m (main (F := F))
    (fun c b => V0 m c b) (fun _ => Pipeline.chain (([] : List (List (HloOp τ sig (Elt F)))).map StableHlo.seq)) :=
  Pipeline.hmainP_around pcfgs 0 defs₀ Variants.none m main lines [] lines_sub lines_fresh main_chain

end Cert.Kernel.Hand

end
-- ==== Proof.TabEqs.lean ====
/-
  Hand-written. The host lines' table values, one equation each: a value in terms of the values it is computed from.
-/
module

public import proofs.«01_k».proof.Proof.Host
public import Idealize.ShloMosaic.Lib.StableHlo.RunRead
public import Idealize.ShloMosaic.Lib.Routing.OpsSearch
public import Idealize.ShloMosaic.Lib.Routing.Words

@[expose] public section

set_option maxRecDepth 20000
set_option maxHeartbeats 800000

noncomputable section

namespace Cert.Kernel.Hand

open Idealize.ShloMosaic Idealize.ShloMosaic.TcCoe Idealize.ShloMosaic.Routing
open Cert.Kernel Cert.Kernel.Gen

variable {F : FTy → Type} [BitOps F]
variable (m : (ℓ : Loc nD τ sig) → Buf (Elt F) ℓ) (c : Dev nD)

theorem e4 : (V m c main_v4 : IVec S32 32) = pyDiv bcast_S_S32 (subi (addi (V m c main_arg0 : IVec S32 32) (broadcastInDim S32 ![] bcast_S_S32 (constantI S_ 32 640#32))) (broadcastInDim S32 ![] bcast_S_S32 (constantI S_ 32 1#32))) (constantI S_ 32 640#32) := by
  unfold V V0 lines
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e6 : (V m c main_v6 : IVec S32 32) = muli (V m c main_v4 : IVec S32 32) (broadcastInDim S32 ![] bcast_S_S32 (constantI S_ 32 640#32)) := by
  unfold V V0 lines
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e7 : (V m c main_v7 : IVec S32 32) = Host.reduceWindow IntOp.addi ![32] ![1] ![31] ![0] (V m c main_v6 : IVec S32 32) (broadcastInDim S_ ![] bcast_S_S_ (constantI S_ 32 0#32)) reduceWindows_S32_S32_w32s1p31_0 h_S_ := by
  unfold V V0 lines
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e8 : (V m c main_v8 : IVec S32 32) = subi (V m c main_v7 : IVec S32 32) (V m c main_v6 : IVec S32 32) := by
  unfold V V0 lines
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e10 : (V m c main_v10 : IVec S_ 32) = shapeCast S_ (extractStridedSlice S1 ![31] (V m c main_v7 : IVec S32 32) slices_S32_S1_31) shapeCasts_S1_S_ := by
  unfold V V0 lines
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e11 : (V m c main_v11 : IVec S_ 32) = pyDiv0 (V m c main_v10 : IVec S_ 32) (constantI S_ 32 640#32) := by
  unfold V V0 lines
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e12 : (V m c main_v12 : IVec S1 32) = shapeCast S1 (V m c main_v11 : IVec S_ 32) shapeCasts_S_S1 := by
  unfold V V0 lines
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e17 : (V m c main_v17 : IVec S90 32) = minsi (iotaInDim S90 32 0) (broadcastInDim S90 ![0] bcast_S1_S90_0 (subi (V m c main_v12 : IVec S1 32) (broadcastInDim S1 ![] bcast_S_S1 (constantI S_ 32 1#32)))) := by
  unfold V V0 lines
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e26 : (V m c main_v26 : IVec S90 32) = Host.reduce IntOp.addi (extui 32 (cmpi .sge (broadcastInDim S90x32 ![0, 1] bcast_S90x1_S90x32_0_1 (muli (broadcastInDim S90x1 ![0] bcast_S90_S90x1_0 (V m c main_v17 : IVec S90 32)) (broadcastInDim S90x1 ![] bcast_S_S90x1 (constantI S_ 32 640#32)))) (broadcastInDim S90x32 ![0, 1] bcast_S1x32_S90x32_0_1 (broadcastInDim S1x32 ![1] bcast_S32_S1x32_1 (V m c main_v7 : IVec S32 32)))) natLt_1_32) (constantI S_ 32 0#32) reducesTo_S90x32_S90_d1 h_S_ := by
  unfold V V0 lines
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e28 : (V m c main_v28 : IVec S90 32) = minsi (V m c main_v26 : IVec S90 32) (broadcastInDim S90 ![] bcast_S_S90 (constantI S_ 32 31#32)) := by
  unfold V V0 lines
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e34 : (V m c main_v34 : IVec S90x32 1) = cmpi .eq (broadcastInDim S90x32 ![0, 1] bcast_S90x1_S90x32_0_1 (broadcastInDim S90x1 ![0] bcast_S90_S90x1_0 (V m c main_v28 : IVec S90 32))) (broadcastInDim S90x32 ![0, 1] bcast_S1x32_S90x32_0_1 (broadcastInDim S1x32 ![1] bcast_S32_S1x32_1 (iotaInDim S32 32 0 : IVec S32 32))) := by
  unfold V V0 lines
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e38 : (V m c main_v38 : IVec S90 32) = Host.reduce IntOp.addi (select (V m c main_v34 : IVec S90x32 1) (broadcastInDim S90x32 ![0, 1] bcast_S1x32_S90x32_0_1 (broadcastInDim S1x32 ![1] bcast_S32_S1x32_1 (addi (V m c main_v8 : IVec S32 32) (V m c main_arg0 : IVec S32 32)))) (broadcastInDim S90x32 ![] bcast_S_S90x32 (constantI S_ 32 0#32))) (constantI S_ 32 0#32) reducesTo_S90x32_S90_d1 h_S_ := by
  unfold V V0 lines
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e46 : (V m c main_v46 : IVec S90 32) = pyDiv bcast_S_S90 (subi (addi (subi (V m c main_v38 : IVec S90 32) (muli (V m c main_v17 : IVec S90 32) (broadcastInDim S90 ![] bcast_S_S90 (constantI S_ 32 640#32)))) (broadcastInDim S90 ![] bcast_S_S90 (constantI S_ 32 128#32))) (broadcastInDim S90 ![] bcast_S_S90 (constantI S_ 32 1#32))) (constantI S_ 32 128#32) := by
  unfold V V0 lines
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e47 : (V m c main_v47 : IVec S90 32) = minsi (broadcastInDim S90 ![] bcast_S_S90 (constantI S_ 32 5#32)) (maxsi (broadcastInDim S90 ![] bcast_S_S90 (constantI S_ 32 1#32)) (V m c main_v46 : IVec S90 32)) := by
  unfold V V0 lines
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e50 : (V m c main_v50 : IVec S32 1) = cmpi .sgt (V m c main_v6 : IVec S32 32) (broadcastInDim S32 ![] bcast_S_S32 (constantI S_ 32 0#32)) := by
  unfold V V0 lines
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e52 : (V m c main_v52 : IVec S32 32) = Host.reduceWindow IntOp.addi ![32] ![1] ![31] ![0] (extui 32 (V m c main_v50 : IVec S32 1) natLt_1_32) (broadcastInDim S_ ![] bcast_S_S_ (constantI S_ 32 0#32)) reduceWindows_S32_S32_w32s1p31_0 h_S_ := by
  unfold V V0 lines
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e54 : (V m c main_v54 : IVec S32 32) = subi (V m c main_v52 : IVec S32 32) (broadcastInDim S32 ![] bcast_S_S32 (constantI S_ 32 1#32)) := by
  unfold V V0 lines
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e65 : (V m c main_v65 : IVec S32 32) = Host.reduce IntOp.minsi (select (andi (broadcastInDim S32x32 ![0, 1] bcast_S1x32_S32x32_0_1 (broadcastInDim S1x32 ![1] bcast_S32_S1x32_1 (V m c main_v50 : IVec S32 1))) (cmpi .sgt (broadcastInDim S32x32 ![0, 1] bcast_S1x32_S32x32_0_1 (broadcastInDim S1x32 ![1] bcast_S32_S1x32_1 (iotaInDim S32 32 0 : IVec S32 32))) (broadcastInDim S32x32 ![0, 1] bcast_S32x1_S32x32_0_1 (broadcastInDim S32x1 ![0] bcast_S32_S32x1_0 (iotaInDim S32 32 0 : IVec S32 32))))) (broadcastInDim S32x32 ![0, 1] bcast_S1x32_S32x32_0_1 (broadcastInDim S1x32 ![1] bcast_S32_S1x32_1 (iotaInDim S32 32 0 : IVec S32 32))) (broadcastInDim S32x32 ![] bcast_S_S32x32 (constantI S_ 32 32#32))) (constantI S_ 32 2147483647#32) reducesTo_S32x32_S32_d1 h_S_ := by
  unfold V V0 lines
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e68 : (V m c main_v68 : IVec S32 32) = select (cmpi .eq (V m c main_v65 : IVec S32 32) (broadcastInDim S32 ![] bcast_S_S32 (constantI S_ 32 32#32))) (broadcastInDim S32 ![] bcast_S_S32 (constantI S_ 32 4294967295#32)) (V m c main_v65 : IVec S32 32) := by
  unfold V V0 lines
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e76 : (V m c main_v76 : IVec S32 32) = Host.reduce IntOp.addi (select (cmpi .eq (broadcastInDim S32x32 ![0, 1] bcast_S32x1_S32x32_0_1 (broadcastInDim S32x1 ![0] bcast_S32_S32x1_0 (V m c main_v68 : IVec S32 32))) (broadcastInDim S32x32 ![0, 1] bcast_S1x32_S32x32_0_1 (broadcastInDim S1x32 ![1] bcast_S32_S1x32_1 (iotaInDim S32 32 0 : IVec S32 32)))) (broadcastInDim S32x32 ![0, 1] bcast_S1x32_S32x32_0_1 (broadcastInDim S1x32 ![1] bcast_S32_S1x32_1 (V m c main_v68 : IVec S32 32))) (broadcastInDim S32x32 ![] bcast_S_S32x32 (constantI S_ 32 0#32))) (constantI S_ 32 0#32) reducesTo_S32x32_S32_d1 h_S_ := by
  unfold V V0 lines
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e79 : (V m c main_v79 : IVec S32 32) = select (cmpi .sge (V m c main_v68 : IVec S32 32) (broadcastInDim S32 ![] bcast_S_S32 (constantI S_ 32 0#32))) (V m c main_v76 : IVec S32 32) (broadcastInDim S32 ![] bcast_S_S32 (constantI S_ 32 4294967295#32)) := by
  unfold V V0 lines
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e82 : (V m c main_v82 : IVec S90 32) = Host.reduce IntOp.addi (select (V m c main_v34 : IVec S90x32 1) (broadcastInDim S90x32 ![0, 1] bcast_S1x32_S90x32_0_1 (broadcastInDim S1x32 ![1] bcast_S32_S1x32_1 (V m c main_v54 : IVec S32 32))) (broadcastInDim S90x32 ![] bcast_S_S90x32 (constantI S_ 32 0#32))) (constantI S_ 32 0#32) reducesTo_S90x32_S90_d1 h_S_ := by
  unfold V V0 lines
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e83 : (V m c main_v83 : IVec S90 32) = pyRem bcast_S_S90 (V m c main_v82 : IVec S90 32) (constantI S_ 32 3#32) := by
  unfold V V0 lines
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e86 : (V m c main_v86 : IVec S90 32) = Host.reduce IntOp.addi (select (V m c main_v34 : IVec S90x32 1) (broadcastInDim S90x32 ![0, 1] bcast_S1x32_S90x32_0_1 (broadcastInDim S1x32 ![1] bcast_S32_S1x32_1 (V m c main_v68 : IVec S32 32))) (broadcastInDim S90x32 ![] bcast_S_S90x32 (constantI S_ 32 0#32))) (constantI S_ 32 0#32) reducesTo_S90x32_S90_d1 h_S_ := by
  unfold V V0 lines
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e89 : (V m c main_v89 : IVec S90 32) = Host.reduce IntOp.addi (select (V m c main_v34 : IVec S90x32 1) (broadcastInDim S90x32 ![0, 1] bcast_S1x32_S90x32_0_1 (broadcastInDim S1x32 ![1] bcast_S32_S1x32_1 (V m c main_v79 : IVec S32 32))) (broadcastInDim S90x32 ![] bcast_S_S90x32 (constantI S_ 32 0#32))) (constantI S_ 32 0#32) reducesTo_S90x32_S90_d1 h_S_ := by
  unfold V V0 lines
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

end Cert.Kernel.Hand

end
-- ==== Proof.Tables.lean ====
/-
  Hand-written. The words of the host lines' tables as numbers computed from the counts.
-/
module

public import proofs.«01_k».proof.Proof.TabEqs
public import proofs.«01_k».proof.Proof.Counts
public import proofs.«01_k».proof.Proof.Folds

@[expose] public section

noncomputable section

namespace Cert.Kernel.Hand

open Idealize.ShloMosaic Idealize.ShloMosaic.TcCoe Idealize.ShloMosaic.Routing Idealize.ShloMosaic.WordCmp Idealize.ShloMosaic.ValueIdx
open Cert.Kernel Cert.Kernel.Gen

variable {F : FTy → Type} [BitOps F]
variable (m : (ℓ : Loc nD τ sig) → Buf (Elt F) ℓ) (c : Dev nD) {cn : ℕ → ℕ} (hG : Good cn)
  (hc : ∀ e : Fin 32, (V m c main_arg0 : IVec S32 32) (ix1 e) = BitVec.ofNat 32 (cn e.val))

include hG in
theorem cn_le (e : Fin 32) : cn e.val ≤ 36992 :=
  le_trans (List.single_le_sum (fun _ _ => Nat.zero_le _) _ (List.mem_map.2 ⟨e.val, List.mem_range.2 e.isLt, rfl⟩)) hG.tot

include hG in
theorem off_bd {e : ℕ} (he : e ≤ 32) : offOf cn e ≤ 89 := le_trans (off_mono cn he) hG.n_le

include hG hc

theorem w4 (e : Fin 32) : (V m c main_v4 : IVec S32 32) (ix1 e) = BitVec.ofNat 32 (nbOf cn e.val) := by
  have hb := cn_le hG e
  rw [e4]
  refine pyDiv_ap bcast_S_S32 _ _ _ ?_ rfl (show cn e.val + 639 < 2 ^ 31 by omega) (by omega) (by omega)
  rw [subi_ap, addi_ap, bc0, bc0, constantI_at, constantI_at, hc e, ← BitVec.ofNat_add, ofNat32_sub (by omega)]
  rfl

theorem w6 (e : Fin 32) : (V m c main_v6 : IVec S32 32) (ix1 e) = BitVec.ofNat 32 (640 * nbOf cn e.val) := by
  rw [e6, muli_ap, bc0, constantI_at, w4 m c hG hc e, ← BitVec.ofNat_mul, Nat.mul_comm]

omit hG hc in
theorem sum_mul (e : ℕ) : ((List.range e).map fun q => 640 * nbOf cn q).sum = 640 * offOf cn e := by
  induction e with
  | zero => rfl
  | succ e ih => rw [off_succ, List.range_succ, List.map_append, List.sum_append, ih]; simp; ring

theorem w7 (e : Fin 32) : (V m c main_v7 : IVec S32 32) (ix1 e) = BitVec.ofNat 32 (640 * offOf cn (e.val + 1)) := by
  rw [e7]
  refine (cumsum1 (N := 32) rfl _ (fun q => 640 * nbOf cn q) (w6 m c hG hc) _ (bc0 _ _ _) reduceWindows_S32_S32_w32s1p31_0 h_S_ e).trans ?_
  rw [sum_mul]

theorem w8 (e : Fin 32) : (V m c main_v8 : IVec S32 32) (ix1 e) = BitVec.ofNat 32 (640 * offOf cn e.val) := by
  rw [e8, subi_ap, w7 m c hG hc, w6 m c hG hc, off_succ, ofNat32_sub (by omega)]
  congr 1; omega

theorem w11 : (V m c main_v11 : IVec S_ 32) ValueIdx.ix0 = BitVec.ofNat 32 (offOf cn 32) := by
  have hb := hG.n_le
  rw [e11]
  have := pyDiv0_ap (V m c main_v10 : IVec S_ 32) (constantI S_ 32 640#32) (a := 640 * offOf cn 32) (b := 640) ?_ rfl (by omega) (by omega) (by omega)
  · exact this.trans (congrArg _ (by omega))
  · rw [e10]
    refine (shapeCast_apply _ shapeCasts_S1_S_ ValueIdx.ix0 (ix1 (0 : Fin 1)) rfl).trans ?_
    rw [slice1 31 _ slices_S32_S1_31 0 (by decide)]
    exact w7 m c hG hc 31

theorem w12 (x : S1.Idx) : (V m c main_v12 : IVec S1 32) x = BitVec.ofNat 32 (offOf cn 32) := by
  rw [e12, shapeCast_apply _ shapeCasts_S_S1 x ValueIdx.ix0 (by
    have := (S1.rowMajor x).isLt; have h1 : S1.numel = 1 := rfl; have := (S_.rowMajor ValueIdx.ix0).isLt; have h0 : S_.numel = 1 := rfl; omega)]
  exact w11 m c hG hc

theorem w17 (t : Fin 90) (ht : t.val < offOf cn 32) : (V m c main_v17 : IVec S90 32) (ix1 t) = BitVec.ofNat 32 t.val := by
  have hb := hG.n_le
  rw [e17]
  rw [minsi_at, broadcastInDim_apply _ bcast_S1_S90_0 _ _ (ix1 (0 : Fin 1)) (fun a => by match a with | ⟨0, _⟩ => rfl), subi_ap, w12 m c hG hc, bc0,
    constantI_at, show (1#32 : BitVec 32) = BitVec.ofNat 32 1 from rfl, ofNat32_sub (by omega), iota1_ap, minsi_ofNat (by omega) (by omega)]
  congr 1; omega

theorem w26 (t : Fin 90) (ht : t.val < offOf cn 32) : (V m c main_v26 : IVec S90 32) (ix1 t) = BitVec.ofNat 32 (expOf cn t.val) := by
  rw [e26]
  refine reduce_count (n := 90) (m := 32) (by omega) _ natLt_1_32 reducesTo_S90x32_S90_d1 h_S_ t (fun q => offOf cn (q + 1) ≤ t.val) fun q => ?_
  have hq := off_bd hG (show q.val + 1 ≤ 32 by omega)
  rw [cmpi_at, bcCols bcast_S32_S1x32_1 bcast_S1x32_S90x32_0_1, w7 m c hG hc,
    broadcastInDim_apply _ bcast_S90x1_S90x32_0_1 _ _ (ix2 t (0 : Fin 1)) (fun a => by match a with | ⟨0, _⟩ => rfl | ⟨1, _⟩ => rfl), muli_ap, bc0,
    constantI_at, bcCol bcast_S90_S90x1_0, w17 m c hG hc t ht, ← BitVec.ofNat_mul, cmpi_sge_ofNat_eq_one_iff (by omega) (by omega)]
  omega

theorem w28 (t : Fin 90) (ht : t.val < offOf cn 32) : (V m c main_v28 : IVec S90 32) (ix1 t) = BitVec.ofNat 32 (expOf cn t.val) := by
  have := (exp_spec ht).1
  rw [e28]
  rw [minsi_at, w26 m c hG hc t ht, bc0, constantI_at, show (31#32 : BitVec 32) = BitVec.ofNat 32 31 from rfl, minsi_ofNat (by omega) (by omega)]
  congr 1; omega

theorem w34 (t : Fin 90) (ht : t.val < offOf cn 32) (q : Fin 32) :
    (V m c main_v34 : IVec S90x32 1) (ix2 t q) = BitVec.ofBool (decide (expOf cn t.val = q.val)) := by
  have := (exp_spec ht).1
  rw [e34, cmpi_at, bcRows bcast_S90_S90x1_0 bcast_S90x1_S90x32_0_1, bcCols bcast_S32_S1x32_1 bcast_S1x32_S90x32_0_1, w28 m c hG hc t ht,
    iota1_ap, cmpi_eq_ofNat (by omega) (by omega)]

/-- A table over the experts picked at a tile's expert. -/
theorem pick (x : IVec S32 32) (t : Fin 90) (ht : t.val < offOf cn 32) :
    Host.reduce IntOp.addi (select (V m c main_v34 : IVec S90x32 1) (broadcastInDim S90x32 ![0, 1] bcast_S1x32_S90x32_0_1 (broadcastInDim S1x32 ![1] bcast_S32_S1x32_1 x))
      (broadcastInDim S90x32 ![] bcast_S_S90x32 (constantI S_ 32 0#32))) (constantI S_ 32 0#32) reducesTo_S90x32_S90_d1 h_S_ (ix1 t)
      = x (ix1 ⟨expOf cn t.val, (exp_spec ht).1⟩) := by
  refine (reduce_row (n := 90) (k := 32) IntOp.addi _ _ reducesTo_S90x32_S90_d1 h_S_ t).trans ?_
  have : ∀ q : Fin 32, (select (V m c main_v34 : IVec S90x32 1) (broadcastInDim S90x32 ![0, 1] bcast_S1x32_S90x32_0_1 (broadcastInDim S1x32 ![1] bcast_S32_S1x32_1 x))
      (broadcastInDim S90x32 ![] bcast_S_S90x32 (constantI S_ 32 0#32))) (ix2 t q) = if expOf cn t.val = q.val then x (ix1 q) else 0#32 := by
    intro q
    rw [select_at, w34 m c hG hc t ht, select_decide, bcCols bcast_S32_S1x32_1 bcast_S1x32_S90x32_0_1, bc0, constantI_at]
  simp only [this]
  rw [constantI_at, fold_addi, sum_pick _ (exp_spec ht).1 (fun q => x (ix1 q))]

theorem w46 (t : Fin 90) (ht : t.val < offOf cn 32) : (V m c main_v46 : IVec S90 32) (ix1 t)
    = BitVec.ofNat 32 ((640 * offOf cn (expOf cn t.val) + cn (expOf cn t.val) - 640 * t.val + 127) / 128) := by
  obtain ⟨a, b, d⟩ := exp_spec ht
  have h1 : cn (expOf cn t.val) ≤ 36992 := cn_le hG ⟨_, a⟩
  have h2 := off_bd hG (show expOf cn t.val ≤ 32 by omega)
  rw [off_succ] at d; unfold nbOf at d
  rw [e46]
  refine pyDiv_ap bcast_S_S90 _ _ _ ?_ rfl (by omega) (by omega) (by omega)
  rw [subi_ap, addi_ap, subi_ap, muli_ap, bc0, bc0, bc0, constantI_at, constantI_at, constantI_at, e38, pick m c hG hc _ t ht, addi_ap, w8 m c hG hc,
    hc, w17 m c hG hc t ht, ← BitVec.ofNat_add, ← BitVec.ofNat_mul, ofNat32_sub (by dsimp only; omega), ← BitVec.ofNat_add, ofNat32_sub (by omega)]
  congr 1; dsimp only; omega

theorem w47 (t : Fin 90) (ht : t.val < offOf cn 32) : (V m c main_v47 : IVec S90 32) (ix1 t) = BitVec.ofNat 32 (gOf cn t.val) := by
  obtain ⟨a, b, d⟩ := exp_spec ht
  have h1 : cn (expOf cn t.val) ≤ 36992 := cn_le hG ⟨_, a⟩
  have h2 := off_bd hG (show expOf cn t.val ≤ 32 by omega)
  rw [e47]
  rw [minsi_at, maxsi_at, bc0, bc0, constantI_at, constantI_at, w46 m c hG hc t ht]
  exact clip_word (lo := 1) (hi := 5) (by omega) (by omega) (by omega)

theorem w50 (e : Fin 32) : (V m c main_v50 : IVec S32 1) (ix1 e) = BitVec.ofBool (decide (0 < cn e.val)) := by
  have := cn_le hG e
  rw [e50, cmpi_at, w6 m c hG hc, bc0, constantI_at, show (0#32 : BitVec 32) = BitVec.ofNat 32 0 from rfl,
    cmpi_sgt_ofNat (by unfold nbOf; omega) (by omega)]
  congr 2; have := nb_pos cn (e := e.val); exact propext ⟨fun h => this.1 (by omega), fun h => by have := this.2 h; omega⟩

omit hG hc in
theorem sum_count (e : ℕ) : ((List.range e).map fun q => if 0 < cn q then 1 else 0).sum = runs cn e := by
  induction e with
  | zero => rfl
  | succ e ih => rw [runs_succ, List.range_succ, List.map_append, List.sum_append, ih]; simp

theorem w54 (e : Fin 32) (hp : 0 < cn e.val) : (V m c main_v54 : IVec S32 32) (ix1 e) = BitVec.ofNat 32 (runs cn (e.val + 1) - 1) := by
  rw [e54, subi_ap, bc0, constantI_at, e52]
  rw [show Host.reduceWindow IntOp.addi ![32] ![1] ![31] ![0] (extui 32 (V m c main_v50 : IVec S32 1) natLt_1_32)
      (broadcastInDim S_ ![] bcast_S_S_ (constantI S_ 32 0#32)) reduceWindows_S32_S32_w32s1p31_0 h_S_ (ix1 e) = BitVec.ofNat 32 (runs cn (e.val + 1)) from ?_]
  · exact ofNat32_sub (b := 1) (by rw [runs_succ, if_pos hp]; omega)
  · refine (cumsum1 (N := 32) rfl _ (fun q => if 0 < cn q then 1 else 0) (fun q => ?_) _ (bc0 _ _ _) reduceWindows_S32_S32_w32s1p31_0 h_S_ e).trans ?_
    · rw [extui_at, w50 m c hG hc]
      by_cases h : 0 < cn q.val
      · simp [h]
      · simp [h]
    · rw [sum_count]

theorem w65 (e : Fin 32) : (V m c main_v65 : IVec S32 32) (ix1 e) = BitVec.ofNat 32 (nxOf cn e.val) := by
  rw [e65]
  refine (reduce_row (n := 32) (k := 32) IntOp.minsi _ _ reducesTo_S32x32_S32_d1 h_S_ e).trans ?_
  have : ∀ q : Fin 32, (select (andi (broadcastInDim S32x32 ![0, 1] bcast_S1x32_S32x32_0_1 (broadcastInDim S1x32 ![1] bcast_S32_S1x32_1 (V m c main_v50 : IVec S32 1)))
        (cmpi .sgt (broadcastInDim S32x32 ![0, 1] bcast_S1x32_S32x32_0_1 (broadcastInDim S1x32 ![1] bcast_S32_S1x32_1 (iotaInDim S32 32 0 : IVec S32 32)))
          (broadcastInDim S32x32 ![0, 1] bcast_S32x1_S32x32_0_1 (broadcastInDim S32x1 ![0] bcast_S32_S32x1_0 (iotaInDim S32 32 0 : IVec S32 32)))))
      (broadcastInDim S32x32 ![0, 1] bcast_S1x32_S32x32_0_1 (broadcastInDim S1x32 ![1] bcast_S32_S1x32_1 (iotaInDim S32 32 0 : IVec S32 32)))
      (broadcastInDim S32x32 ![] bcast_S_S32x32 (constantI S_ 32 32#32))) (ix2 e q)
      = BitVec.ofNat 32 (if 0 < cn q.val ∧ e.val < q.val then q.val else 32) := by
    intro q
    rw [select_at, andi_at, cmpi_at, bcCols bcast_S32_S1x32_1 bcast_S1x32_S32x32_0_1, bcCols bcast_S32_S1x32_1 bcast_S1x32_S32x32_0_1,
      bcRows bcast_S32_S32x1_0 bcast_S32x1_S32x32_0_1, bc0, constantI_at, w50 m c hG hc, iota1_ap, iota1_ap, cmpi_sgt_ofNat (by omega) (by omega)]
    by_cases h1 : 0 < cn q.val <;> by_cases h2 : e.val < q.val <;> simp only [h1, h2, decide_true, decide_false, and_self, and_true, true_and, and_false, false_and, if_true, if_false] <;> rfl
  simp only [this]
  rw [constantI_at, show (2147483647#32 : BitVec 32) = BitVec.ofNat 32 2147483647 from rfl,
    (fold_minsi Finset.univ (fun q : Fin 32 => if 0 < cn q.val ∧ e.val < q.val then q.val else 32) (fun q => by split <;> omega) 2147483647 (by omega)).1]
  congr 1
  have hr := runs_mono cn (show e.val + 1 ≤ 32 by omega)
  by_cases hk : runs cn (e.val + 1) < nsegOf cn
  · obtain ⟨a, b, d⟩ := EOf_spec hk
    have hnx : nxOf cn e.val = EOf cn (runs cn (e.val + 1)) := by unfold nxOf; rw [if_pos hk]
    rw [hnx]
    refine fold_min_eq _ _ _ (by omega) (fun q => ?_) ⟨⟨_, a⟩, ?_⟩
    · split
      · next h =>
        by_contra hn
        have h3 := runs_mono cn (show e.val + 1 ≤ q.val by omega)
        have h4 := runs_mono cn (show q.val + 1 ≤ EOf cn (runs cn (e.val + 1)) by omega)
        rw [runs_succ, if_pos h.1] at h4; omega
      · omega
    · have hlt : e.val < EOf cn (runs cn (e.val + 1)) := by
        by_contra hn
        have h3 := runs_mono cn (show EOf cn (runs cn (e.val + 1)) + 1 ≤ e.val + 1 by omega)
        rw [runs_succ cn (EOf cn _), if_pos b] at h3; omega
      rw [if_pos ⟨b, hlt⟩]
  · have hnx : nxOf cn e.val = 32 := by unfold nxOf; rw [if_neg hk]
    rw [hnx]
    refine fold_min_eq _ _ _ (by omega) (fun q => ?_) ⟨0, ?_⟩
    · split
      · next h =>
        exfalso
        have h3 := runs_mono cn (show e.val + 1 ≤ q.val by omega)
        have h4 := runs_mono cn (show q.val + 1 ≤ 32 by omega)
        rw [runs_succ, if_pos h.1] at h4
        have : nsegOf cn = runs cn 32 := rfl
        omega
      · exact le_refl _
    · rw [if_neg (by intro h; exact absurd h.2 (by show ¬ e.val < 0; omega))]

omit hG hc in
theorem nx_le (e : ℕ) : nxOf cn e ≤ 32 := by
  unfold nxOf; split
  · next h => exact le_of_lt (EOf_spec h).1
  · exact le_refl _

theorem w68 (e : Fin 32) : (V m c main_v68 : IVec S32 32) (ix1 e) = NX cn e.val := by
  have := nx_le (cn := cn) e.val
  rw [e68, select_at, cmpi_at, w65 m c hG hc, bc0, bc0, constantI_at, constantI_at, show (32#32 : BitVec 32) = BitVec.ofNat 32 32 from rfl,
    cmpi_eq_ofNat (by omega) (by omega), select_decide]
  rfl

theorem w76 (e : Fin 32) (h : nxOf cn e.val ≠ 32) : (V m c main_v76 : IVec S32 32) (ix1 e) = NX cn (nxOf cn e.val) := by
  have h2 := nx_le (cn := cn) e.val
  have hlt : nxOf cn e.val < 32 := by omega
  rw [e76]
  refine (reduce_row (n := 32) (k := 32) IntOp.addi _ _ reducesTo_S32x32_S32_d1 h_S_ e).trans ?_
  have : ∀ q : Fin 32, (select (cmpi .eq (broadcastInDim S32x32 ![0, 1] bcast_S32x1_S32x32_0_1 (broadcastInDim S32x1 ![0] bcast_S32_S32x1_0 (V m c main_v68 : IVec S32 32)))
        (broadcastInDim S32x32 ![0, 1] bcast_S1x32_S32x32_0_1 (broadcastInDim S1x32 ![1] bcast_S32_S1x32_1 (iotaInDim S32 32 0 : IVec S32 32))))
      (broadcastInDim S32x32 ![0, 1] bcast_S1x32_S32x32_0_1 (broadcastInDim S1x32 ![1] bcast_S32_S1x32_1 (V m c main_v68 : IVec S32 32)))
      (broadcastInDim S32x32 ![] bcast_S_S32x32 (constantI S_ 32 0#32))) (ix2 e q)
      = if nxOf cn e.val = q.val then NX cn q.val else 0#32 := by
    intro q
    rw [select_at, cmpi_at, bcCols bcast_S32_S1x32_1 bcast_S1x32_S32x32_0_1, bcCols bcast_S32_S1x32_1 bcast_S1x32_S32x32_0_1,
      bcRows bcast_S32_S32x1_0 bcast_S32x1_S32x32_0_1, bc0, constantI_at, w68 m c hG hc, w68 m c hG hc, iota1_ap,
      show NX cn e.val = BitVec.ofNat 32 (nxOf cn e.val) by unfold NX; rw [if_neg h], cmpi_eq_ofNat (by omega) (by omega), select_decide]
  simp only [this]
  rw [constantI_at, fold_addi, sum_pick _ hlt (fun q => NX cn q.val)]

theorem w79 (e : Fin 32) : (V m c main_v79 : IVec S32 32) (ix1 e) = N2 cn e.val := by
  have h2 := nx_le (cn := cn) e.val
  rw [e79, select_at, cmpi_at, w68 m c hG hc, bc0, bc0, constantI_at, constantI_at]
  unfold N2
  by_cases h : nxOf cn e.val = 32
  · rw [if_pos h, show NX cn e.val = -1#32 by unfold NX; rw [if_pos h]]; rfl
  · rw [if_neg h, w76 m c hG hc e h, show NX cn e.val = BitVec.ofNat 32 (nxOf cn e.val) by unfold NX; rw [if_neg h],
      show (0#32 : BitVec 32) = BitVec.ofNat 32 0 from rfl, cmpi_sge_ofNat (by omega) (by omega), select_decide, if_pos (by omega)]

theorem w83 (t : Fin 90) (ht : t.val < offOf cn 32) : (V m c main_v83 : IVec S90 32) (ix1 t) = BitVec.ofNat 32 ((runs cn (expOf cn t.val + 1) - 1) % 3) := by
  have := (exp_spec ht).1
  have h1 : runs cn (expOf cn t.val + 1) ≤ expOf cn t.val + 1 := Nat.count_le _
  rw [e83]
  refine pyRem_ap bcast_S_S90 _ _ _ ?_ rfl (by omega) (by omega) (by omega)
  rw [e82, pick m c hG hc _ t ht]
  exact w54 m c hG hc ⟨_, this⟩ (exp_pos ht)

theorem w86 (t : Fin 90) (ht : t.val < offOf cn 32) : (V m c main_v86 : IVec S90 32) (ix1 t) = NX cn (expOf cn t.val) := by
  rw [e86, pick m c hG hc _ t ht]; exact w68 m c hG hc _
theorem w89 (t : Fin 90) (ht : t.val < offOf cn 32) : (V m c main_v89 : IVec S90 32) (ix1 t) = N2 cn (expOf cn t.val) := by
  rw [e89, pick m c hG hc _ t ht]; exact w79 m c hG hc _

end Cert.Kernel.Hand

end
-- ==== Proof.Cells.lean ====
/-
  Hand-written. Loads and stores of a buffer whose contents are known as a function of the index; what a landed buffer of weights reads;
  the side conditions of the kernel's offsets.
-/
module

public import proofs.«01_k».proof.Proof.Plan
public import proofs.«01_k».proof.Proof.Words

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-- The proof's user algebra: the pipeline library's beside the transfers' counters. -/
local notation "𝕄" => MT nD τ sig Unit (Elt F) ℕ (Pipeline.UD sig nD τ) ℕ

/-- A buffer held whole, reading as `w`. -/
def Held (c : Dev nD) {S : Shape} {e : EltTy} (M : Memref sig .tc .vmem S e) (w : S.Idx → Elt F e) : sProp 𝕄 :=
  iprop(∃ f : Cnt (F := F) c M, ⌜M.view.read (Elt F) f = w⌝ ∗ pt c M fullShare f)

theorem heldLoad (c : Dev nD) {S : Shape} {e : EltTy} {M : Memref sig .tc .vmem S e} {w : S.Idx → Elt F e} {r : Rect S} {hl : M.view.LoadsAt r.toLoadRect}
    {v : r.shape.Idx → Elt F e} (hv : ∀ x, w (r.emb x) = v x)
    {α : Type} {k : (r.shape.Idx → Elt F e) → Prog (TpuEff nD τ sig (Elt F) Λ₀ .tc) α} {Q : α → sProp 𝕄} :
    Held c M w ⊢ iprop((Held c M w -∗ wp frame (wpE (defs₀ (F := F)) Variants.none (c : Thread nD τ) none) Set.univ (k v) Q)
      -∗ wp frame (wpE (defs₀ (F := F)) Variants.none (c : Thread nD τ) none) Set.univ (Prog.lift (.load M r.toLoadRect hl) >>= k) Q) := by
  unfold Held
  iintro ⟨%f, %hf, H⟩ Hk
  iapply liftOp
  iapply (wp_load_rect Variants.none (c : Thread nD τ) none Set.univ (m := M) (r := r) (hl := hl) (S := M.view.set) (q := fullShare) (f := f) (View.set_slice_subset _ _)) $$ H
  iintro H
  have e : (M.access r).read (Elt F) f = v := by
    funext x; rw [← hv x, ← hf]; rfl
  rw [e]
  iapply Hk
  iexists f
  isplitr
  · ipureintro; exact hf
  · iexact H

theorem heldStore (c : Dev nD) {S : Shape} {e : EltTy} {M : Memref sig .tc .vmem S e} {w w' : S.Idx → Elt F e} {r : Rect S} {v : r.shape.Idx → Elt F e}
    {hx : (M.access r).Stores Finset.univ} {hm}
    (h₁ : ∀ x, w' (r.emb x) = v x) (h₂ : ∀ y, y ∉ r.set → w' y = w y)
    {α : Type} {k : PUnit → Prog (TpuEff nD τ sig (Elt F) Λ₀ .tc) α} {Q : α → sProp 𝕄} :
    Held c M w ⊢ iprop((Held c M w' -∗ wp frame (wpE (defs₀ (F := F)) Variants.none (c : Thread nD τ) none) Set.univ (k ⟨⟩) Q)
      -∗ wp frame (wpE (defs₀ (F := F)) Variants.none (c : Thread nD τ) none) Set.univ (Prog.lift (.store M r v Finset.univ hx hm) >>= k) Q) := by
  unfold Held
  iintro ⟨%f, %hf, H⟩ Hk
  iapply liftOp
  iapply (wp_store Variants.none (c : Thread nD τ) none Set.univ (m := M) (r := r) (w := v) (S := M.view.set) (f := f) (by rw [View.setOn_univ]; exact View.set_slice_subset _ _)) $$ H
  iintro H
  iapply Hk
  iexists ((M.access r).write (Elt F) f v Finset.univ)
  isplitr
  · ipureintro
    funext y
    by_cases hy : y ∈ r.set
    · rw [← Rect.map_emb_univ] at hy
      obtain ⟨x, -, rfl⟩ := Finset.mem_map.mp hy
      rw [h₁]
      exact View.read_write_of_mem (v := M.access r) f v (Finset.mem_univ x)
    · rw [h₂ y hy, ← hf]
      have hn : M.view.emb y ∉ (M.access r).setOn Finset.univ := by
        rw [View.setOn_univ, View.set_slice]
        intro hmem
        obtain ⟨z, hz, hzy⟩ := Finset.mem_map.mp hmem
        exact hy (M.view.emb.injective hzy ▸ hz)
      show M.view.read (Elt F) _ y = M.view.read (Elt F) f y
      rw [View.read_apply, View.read_apply, View.write_of_not_mem _ _ _ hn]
  · iexact H

theorem rect0_emb {S : Shape} {o : Fin S.rank → ℕ} (ho : ∀ a, o a = 0) {h : ∀ a, o a + S.size a ≤ S.size a} (x : (Rect.unit o S.size h).shape.Idx) :
    (Rect.unit o S.size h).emb x = (x : S.Idx) := by
  funext a; apply Fin.ext; rw [Rect.emb_apply]; show o a + 1 * (x a).val = (x a).val; rw [ho]; omega

theorem fullLoad (c : Dev nD) {S : Shape} {e : EltTy} {M : Memref sig .tc .vmem S e} {w : S.Idx → Elt F e} {o : Fin S.rank → ℕ} {h : ∀ a, o a + S.size a ≤ S.size a}
    (ho : ∀ a, o a = 0) {hl : M.view.LoadsAt (Rect.unit o S.size h).toLoadRect}
    {α : Type} {k : (S.Idx → Elt F e) → Prog (TpuEff nD τ sig (Elt F) Λ₀ .tc) α} {Q : α → sProp 𝕄} :
    Held c M w ⊢ iprop((Held c M w -∗ wp frame (wpE (defs₀ (F := F)) Variants.none (c : Thread nD τ) none) Set.univ (k w) Q)
      -∗ wp frame (wpE (defs₀ (F := F)) Variants.none (c : Thread nD τ) none) Set.univ (Prog.lift (.load M (Rect.unit o S.size h).toLoadRect hl) >>= k) Q) :=
  heldLoad c (v := w) (fun x => by rw [rect0_emb ho (h := h) x])

theorem fullStore (c : Dev nD) {S : Shape} {e : EltTy} {M : Memref sig .tc .vmem S e} {w v : S.Idx → Elt F e} {o : Fin S.rank → ℕ} {h : ∀ a, o a + S.size a ≤ S.size a}
    (ho : ∀ a, o a = 0) {hx : (M.access (Rect.unit o S.size h)).Stores Finset.univ} {hm}
    {α : Type} {k : PUnit → Prog (TpuEff nD τ sig (Elt F) Λ₀ .tc) α} {Q : α → sProp 𝕄} :
    Held c M w ⊢ iprop((Held c M v -∗ wp frame (wpE (defs₀ (F := F)) Variants.none (c : Thread nD τ) none) Set.univ (k ⟨⟩) Q)
      -∗ wp frame (wpE (defs₀ (F := F)) Variants.none (c : Thread nD τ) none) Set.univ (Prog.lift (.store M (Rect.unit o S.size h) v Finset.univ hx hm) >>= k) Q) :=
  heldStore c (fun x => by rw [rect0_emb ho (h := h) x]) (fun y hy => absurd (by rw [← Rect.map_emb_univ]; exact Finset.mem_map.mpr ⟨(y : S.Idx), Finset.mem_univ _, rect0_emb ho (h := h) _⟩) hy)

/-- The load of a slot of a ring that holds `w`. -/
theorem slotLoad (c : Dev nD) {S S' : Shape} {e : EltTy} {M : Memref sig .tc .vmem S e} {r : Rect S} {hn : S'.numel = r.shape.numel} {w : S'.Idx → Elt F e} {f : Cnt (F := F) c M}
    {hl : M.view.LoadsAt r.toLoadRect}
    {α : Type} {k : (r.shape.Idx → Elt F e) → Prog (TpuEff nD τ sig (Elt F) Λ₀ .tc) α} {Q : α → sProp 𝕄} :
    (M.view.loc (c : Thread nD τ) ↦[((M.access r).reshape S' hn).set]{fullShare} ((M.access r).reshape S' hn).write (Elt F) f w Finset.univ : sProp 𝕄) ⊢
      iprop(((M.view.loc (c : Thread nD τ) ↦[((M.access r).reshape S' hn).set]{fullShare} ((M.access r).reshape S' hn).write (Elt F) f w Finset.univ)
          -∗ wp frame (wpE (defs₀ (F := F)) Variants.none (c : Thread nD τ) none) Set.univ (k (fun x => w ((Shape.reshapeEquiv hn).symm x))) Q)
      -∗ wp frame (wpE (defs₀ (F := F)) Variants.none (c : Thread nD τ) none) Set.univ (Prog.lift (.load M r.toLoadRect hl) >>= k) Q) := by
  iintro H Hk
  iapply liftOp
  iapply (wp_load_rect Variants.none (c : Thread nD τ) none Set.univ (m := M) (r := r) (hl := hl) (S := ((M.access r).reshape S' hn).set) (q := fullShare) (f := ((M.access r).reshape S' hn).write (Elt F) f w Finset.univ) (by rw [View.set_reshape])) $$ H
  iintro H
  have e : (M.access r).read (Elt F) (((M.access r).reshape S' hn).write (Elt F) f w Finset.univ) = fun x => w ((Shape.reshapeEquiv hn).symm x) := by
    rw [View.write_reshape_univ, View.read_write_univ]
  rw [e]
  iapply Hk
  iexact H

variable (c : Dev nD)
variable (fg : Cnt (F := F) c wgM) (fu : Cnt (F := F) c wuM) (fd : Cnt (F := F) c wdM)

/-- Expert `e`'s weights as the kernel's loads bring them, a unit axis in front. -/
def gvec (e : ℕ) (he : e < 32) : Vec F S1x1024x512 .f32 := fun x => gpay c fg e he ((Shape.reshapeEquiv squeezes_S1x1024x512_S1024x512.numel_eq).symm x)
def uvec (e : ℕ) (he : e < 32) : Vec F S1x1024x512 .f32 := fun x => upay c fu e he ((Shape.reshapeEquiv squeezes_S1x1024x512_S1024x512.numel_eq).symm x)
def dvec (e : ℕ) (he : e < 32) : Vec F S1x512x1024 .f32 := fun x => dpay c fd e he ((Shape.reshapeEquiv squeezes_S1x512x1024_S512x1024.numel_eq).symm x)

theorem wLoadG {s : ℕ} (hs : s < 3) {e : ℕ} (he : e < 32) {o : Fin 3 → ℕ} (eo : o = ![s, 0, 0]) {h} {hl}
    {α : Type} {k : Vec F S1x1024x512 .f32 → Prog (TpuEff nD τ sig (Elt F) Λ₀ .tc) α} {Q : α → sProp 𝕄} :
    WL c fg fu fd s hs e he ⊢ iprop((WL c fg fu fd s hs e he -∗ wp frame (wpE (defs₀ (F := F)) Variants.none (c : Thread nD τ) none) Set.univ (k (gvec c fg e he)) Q)
      -∗ wp frame (wpE (defs₀ (F := F)) Variants.none (c : Thread nD τ) none) Set.univ (Prog.lift (.load gbM (Rect.unit (s := S3x1024x512) o S1x1024x512.size h).toLoadRect hl) >>= k) Q) := by
  subst eo
  unfold WL
  iintro ⟨%f₀, %f₁, %f₂, H0, HR⟩ Hk
  iapply (slotLoad c (M := gbM) (r := Rect.unit (s := S3x1024x512) ![s, 0, 0] S1x1024x512.size h) (S' := S1024x512) (hn := squeezes_S1x1024x512_S1024x512.numel_eq) (w := gpay c fg e he) (f := f₀)) $$ H0
  iintro H0
  iapply Hk
  iexists f₀, f₁, f₂
  isplitl [H0]; · iexact H0
  iexact HR

theorem wLoadU {s : ℕ} (hs : s < 3) {e : ℕ} (he : e < 32) {o : Fin 3 → ℕ} (eo : o = ![s, 0, 0]) {h} {hl}
    {α : Type} {k : Vec F S1x1024x512 .f32 → Prog (TpuEff nD τ sig (Elt F) Λ₀ .tc) α} {Q : α → sProp 𝕄} :
    WL c fg fu fd s hs e he ⊢ iprop((WL c fg fu fd s hs e he -∗ wp frame (wpE (defs₀ (F := F)) Variants.none (c : Thread nD τ) none) Set.univ (k (uvec c fu e he)) Q)
      -∗ wp frame (wpE (defs₀ (F := F)) Variants.none (c : Thread nD τ) none) Set.univ (Prog.lift (.load ubM (Rect.unit (s := S3x1024x512) o S1x1024x512.size h).toLoadRect hl) >>= k) Q) := by
  subst eo
  unfold WL
  iintro ⟨%f₀, %f₁, %f₂, H0, H1, HR⟩ Hk
  iapply (slotLoad c (M := ubM) (r := Rect.unit (s := S3x1024x512) ![s, 0, 0] S1x1024x512.size h) (S' := S1024x512) (hn := squeezes_S1x1024x512_S1024x512.numel_eq) (w := upay c fu e he) (f := f₁)) $$ H1
  iintro H1
  iapply Hk
  iexists f₀, f₁, f₂
  isplitl [H0]; · iexact H0
  isplitl [H1]; · iexact H1
  iexact HR

theorem wLoadD {s : ℕ} (hs : s < 3) {e : ℕ} (he : e < 32) {o : Fin 3 → ℕ} (eo : o = ![s, 0, 0]) {h} {hl}
    {α : Type} {k : Vec F S1x512x1024 .f32 → Prog (TpuEff nD τ sig (Elt F) Λ₀ .tc) α} {Q : α → sProp 𝕄} :
    WL c fg fu fd s hs e he ⊢ iprop((WL c fg fu fd s hs e he -∗ wp frame (wpE (defs₀ (F := F)) Variants.none (c : Thread nD τ) none) Set.univ (k (dvec c fd e he)) Q)
      -∗ wp frame (wpE (defs₀ (F := F)) Variants.none (c : Thread nD τ) none) Set.univ (Prog.lift (.load dbM (Rect.unit (s := S3x512x1024) o S1x512x1024.size h).toLoadRect hl) >>= k) Q) := by
  subst eo
  unfold WL
  iintro ⟨%f₀, %f₁, %f₂, H0, H1, H2, HR⟩ Hk
  iapply (slotLoad c (M := dbM) (r := Rect.unit (s := S3x512x1024) ![s, 0, 0] S1x512x1024.size h) (S' := S512x1024) (hn := squeezes_S1x512x1024_S512x1024.numel_eq) (w := dpay c fd e he) (f := f₂)) $$ H2
  iintro H2
  iapply Hk
  iexists f₀, f₁, f₂
  isplitl [H0]; · iexact H0
  isplitl [H1]; · iexact H1
  isplitl [H2]; · iexact H2
  iexact HR

/-! ## The side conditions -/

theorem chk1_of (i : grid0.Coords) (n : Fin 91) : k0_chk1 i (BitVec.ofNat 32 n) := fun _ h5 => by
  rw [off3_eq]; exact inbT _ (by have := (cond5_iff i n).1 h5; have := n.isLt; omega)
theorem chk2_of (i : grid0.Coords) (a b d : BitVec 32) (e : Fin 32) : k0_chk2 i a b d (BitVec.ofNat 32 e) :=
  ⟨fun _ _ _ => by rw [off7_eq]; exact inbE _ e.isLt, fun _ _ _ => by rw [off8_eq]; exact inbE' _ e.isLt⟩
theorem chk3_of (i : grid0.Coords) (a b d q : BitVec 32) (e : Fin 32) : k0_chk3 i a b d q (BitVec.ofNat 32 e) :=
  ⟨fun _ _ _ _ => by rw [off9_eq]; exact inbE _ e.isLt, fun _ _ _ _ => by rw [off10_eq]; exact inbE' _ e.isLt⟩
theorem chk4_of (i : grid0.Coords) (a b d : BitVec 32) (s : Fin 3) : k0_chk4 i a b d (BitVec.ofNat 32 s) :=
  ⟨fun _ _ => by rw [off11_eq]; exact inbS _ s.isLt, fun _ _ => by rw [off12_eq]; exact inbA _ s.isLt, fun _ _ => by rw [off14_eq]; exact inbS _ s.isLt,
    fun _ _ => by rw [off15_eq]; exact inbA _ s.isLt, fun _ _ => by rw [off16_eq]; exact inbD _ s.isLt, fun _ _ => by rw [off18_eq]; exact inbA _ s.isLt,
    fun _ _ => by rw [off19_eq]; exact inbD _ s.isLt⟩
theorem chk5_of (i : grid0.Coords) (a b d : BitVec 32) (e : Fin 32) : k0_chk5 i a b d (BitVec.ofNat 32 e) :=
  ⟨fun _ _ => by rw [off13_eq]; exact inbE _ e.isLt, fun _ _ => by rw [off17_eq]; exact inbE' _ e.isLt⟩
theorem chk6_of (i : grid0.Coords) (a b d : BitVec 32) (s : Fin 3) (q : BitVec 32) : k0_chk6 i a b d (BitVec.ofNat 32 s) q :=
  ⟨fun _ _ _ => by rw [off22_eq]; exact inbS _ (m3 _), fun _ _ _ => by rw [off23_eq]; exact inbA _ (m3 _), fun _ _ _ => by rw [off25_eq]; exact inbS _ (m3 _),
    fun _ _ _ => by rw [off26_eq]; exact inbA _ (m3 _), fun _ _ _ => by rw [off27_eq]; exact inbD _ (m3 _)⟩
theorem chk7_of (i : grid0.Coords) (a b d q : BitVec 32) (e : Fin 32) : k0_chk7 i a b d q (BitVec.ofNat 32 e) :=
  ⟨fun _ _ _ => by rw [off24_eq]; exact inbE _ e.isLt, fun _ _ _ => by rw [off28_eq]; exact inbE' _ e.isLt⟩

end Cert.Kernel.Hand
-- ==== Proof.Fill.lean ====
/-
  Hand-written. A buffer that is filled step by step towards a known final value: strided stores, loads whose result is not used, and the
  slot of the ring of rows as a buffer that reads as a known tile.
-/
module

public import proofs.«01_k».proof.Proof.Cells

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-- The proof's user algebra: the pipeline library's beside the transfers' counters. -/
local notation "𝕄" => MT nD τ sig Unit (Elt F) ℕ (Pipeline.UD sig nD τ) ℕ

/-- A buffer that agrees with `G` at the indices in `D`. -/
def Fill (c : Dev nD) (M : Memref sig .tc .vmem S2560x128 .i32) (G : S2560x128.Idx → BitVec 32) (D : S2560x128.Idx → Prop) : sProp 𝕄 :=
  iprop(∃ f : Cnt (F := F) c M, ⌜∀ y, D y → M.view.read (Elt F) f y = G y⌝ ∗ pt c M fullShare f)

theorem fillAny (c : Dev nD) {M : Memref sig .tc .vmem S2560x128 .i32} {G : S2560x128.Idx → BitVec 32} {D : S2560x128.Idx → Prop} {r : LoadRect S2560x128} {hl : M.view.LoadsAt r}
    {α : Type} {k : (r.shape.Idx → Elt F .i32) → Prog (TpuEff nD τ sig (Elt F) Λ₀ .tc) α} {Q : α → sProp 𝕄} :
    Fill c M G D ⊢ iprop((∀ v, Fill c M G D -∗ wp frame (wpE (defs₀ (F := F)) Variants.none (c : Thread nD τ) none) Set.univ (k v) Q)
      -∗ wp frame (wpE (defs₀ (F := F)) Variants.none (c : Thread nD τ) none) Set.univ (Prog.lift (.load M r hl) >>= k) Q) := by
  unfold Fill
  iintro ⟨%f, %hf, H⟩ Hk
  iapply liftOp
  iapply (wp_load Variants.none (c : Thread nD τ) none Set.univ (m := M) (r := r) (hl := hl) (S := M.view.set) (q := fullShare) (f := f)
    (by rw [← View.setOn_univ]; exact Finset.map_subset_map.2 (Finset.subset_univ _))) $$ H
  iintro H
  iapply Hk
  iexists f
  isplitr
  · ipureintro; exact hf
  · iexact H

theorem fillAnyS (c : Dev nD) {M : Memref sig .tc .vmem S2560x128 .i32} {G : S2560x128.Idx → BitVec 32} {D : S2560x128.Idx → Prop} {R : Rect S2560x128} {hs} {r : LoadRect R.shape} {hl : (M.slice R hs).view.LoadsAt r}
    {α : Type} {k : (r.shape.Idx → Elt F .i32) → Prog (TpuEff nD τ sig (Elt F) Λ₀ .tc) α} {Q : α → sProp 𝕄} :
    Fill c M G D ⊢ iprop((∀ v, Fill c M G D -∗ wp frame (wpE (defs₀ (F := F)) Variants.none (c : Thread nD τ) none) Set.univ (k v) Q)
      -∗ wp frame (wpE (defs₀ (F := F)) Variants.none (c : Thread nD τ) none) Set.univ (Prog.lift (.load (M.slice R hs) r hl) >>= k) Q) := by
  unfold Fill
  iintro ⟨%f, %hf, H⟩ Hk
  iapply liftOp
  iapply (wp_load Variants.none (c : Thread nD τ) none Set.univ (m := M.slice R hs) (r := r) (hl := hl) (S := M.view.set) (q := fullShare) (f := f)
    ((Finset.map_subset_map.2 (Finset.subset_univ _)).trans (by rw [← View.setOn_univ] ; exact View.set_slice_subset M.view R))) $$ H
  iintro H
  iapply Hk
  iexists f
  isplitr
  · ipureintro; exact hf
  · iexact H

theorem fillStore (c : Dev nD) {M : Memref sig .tc .vmem S2560x128 .i32} {G : S2560x128.Idx → BitVec 32} {D D' : S2560x128.Idx → Prop} {r : Rect S2560x128} {v : r.shape.Idx → BitVec 32}
    {hx : (M.access r).Stores Finset.univ} {hm}
    (hv : ∀ x, G (r.emb x) = v x) (hD : ∀ y, D' y → D y ∨ ∃ x, r.emb x = y)
    {α : Type} {k : PUnit → Prog (TpuEff nD τ sig (Elt F) Λ₀ .tc) α} {Q : α → sProp 𝕄} :
    Fill c M G D ⊢ iprop((Fill c M G D' -∗ wp frame (wpE (defs₀ (F := F)) Variants.none (c : Thread nD τ) none) Set.univ (k ⟨⟩) Q)
      -∗ wp frame (wpE (defs₀ (F := F)) Variants.none (c : Thread nD τ) none) Set.univ (Prog.lift (.store M r v Finset.univ hx hm) >>= k) Q) := by
  unfold Fill
  iintro ⟨%f, %hf, H⟩ Hk
  iapply liftOp
  iapply (wp_store Variants.none (c : Thread nD τ) none Set.univ (m := M) (r := r) (w := v) (S := M.view.set) (f := f) (by rw [View.setOn_univ]; exact View.set_slice_subset _ _)) $$ H
  iintro H
  iapply Hk
  iexists ((M.access r).write (Elt F) f v Finset.univ)
  isplitr
  · ipureintro
    intro y hy
    by_cases hm : ∃ x, r.emb x = y
    · obtain ⟨x, rfl⟩ := hm
      rw [hv]
      exact View.read_write_of_mem (v := M.access r) f v (Finset.mem_univ x)
    · have hy' := (hD y hy).resolve_right hm
      rw [← hf y hy']
      have hn : M.view.emb y ∉ (M.access r).setOn Finset.univ := by
        intro hmem
        obtain ⟨z, -, hzy⟩ := Finset.mem_map.mp hmem
        exact hm ⟨z, M.view.emb.injective hzy⟩
      show M.view.read (Elt F) _ y = M.view.read (Elt F) f y
      rw [View.read_apply, View.read_apply, View.write_of_not_mem _ _ _ hn]
  · iexact H

theorem fillStoreS (c : Dev nD) {M : Memref sig .tc .vmem S2560x128 .i32} {G : S2560x128.Idx → BitVec 32} {D D' : S2560x128.Idx → Prop} {R : Rect S2560x128} {hs} {r : Rect R.shape} {v : r.shape.Idx → BitVec 32}
    {hx : ((M.slice R hs).access r).Stores Finset.univ} {hm}
    (hv : ∀ x, G (R.emb (r.emb x)) = v x) (hD : ∀ y, D' y → D y ∨ ∃ x, R.emb (r.emb x) = y)
    {α : Type} {k : PUnit → Prog (TpuEff nD τ sig (Elt F) Λ₀ .tc) α} {Q : α → sProp 𝕄} :
    Fill c M G D ⊢ iprop((Fill c M G D' -∗ wp frame (wpE (defs₀ (F := F)) Variants.none (c : Thread nD τ) none) Set.univ (k ⟨⟩) Q)
      -∗ wp frame (wpE (defs₀ (F := F)) Variants.none (c : Thread nD τ) none) Set.univ (Prog.lift (.store (M.slice R hs) r v Finset.univ hx hm) >>= k) Q) := by
  unfold Fill
  iintro ⟨%f, %hf, H⟩ Hk
  iapply liftOp
  iapply (wp_store Variants.none (c : Thread nD τ) none Set.univ (m := M.slice R hs) (r := r) (w := v) (S := M.view.set) (f := f)
    (by rw [View.setOn_univ]; exact (View.set_slice_subset _ _).trans (View.set_slice_subset M.view R))) $$ H
  iintro H
  iapply Hk
  iexists (((M.slice R hs).access r).write (Elt F) f v Finset.univ)
  isplitr
  · ipureintro
    intro y hy
    by_cases hm : ∃ x, R.emb (r.emb x) = y
    · obtain ⟨x, rfl⟩ := hm
      rw [hv]
      exact View.read_write_of_mem (v := (M.slice R hs).access r) f v (Finset.mem_univ x)
    · have hy' := (hD y hy).resolve_right hm
      rw [← hf y hy']
      have hn : M.view.emb y ∉ ((M.slice R hs).access r).setOn Finset.univ := by
        intro hmem
        obtain ⟨z, -, hzy⟩ := Finset.mem_map.mp hmem
        exact hm ⟨z, M.view.emb.injective hzy⟩
      show M.view.read (Elt F) _ y = M.view.read (Elt F) f y
      rw [View.read_apply, View.read_apply, View.write_of_not_mem _ _ _ hn]
  · iexact H

/-- A tile of the result: the first `128 k` rows (`512 k` rows of the split layout) hold `P`, the rest the packed zero. -/
def tileG (k : ℕ) (z : BitVec 32) (P : ℕ → ℕ → BitVec 32) : S2560x128.Idx → BitVec 32 :=
  fun y => if (y 0).val < 512 * k then P ((y 0).val / 4) (128 * ((y 0).val % 4) + (y 1).val) else z

/-- What has been stored after `a` of the four stores of products and `b` of the four of zeros. -/
def DA (k a b : ℕ) (y : S2560x128.Idx) : Prop :=
  ((y 0).val < 512 * k ∧ (y 0).val % 4 < a) ∨ (512 * k ≤ (y 0).val ∧ (y 0).val % 4 < b)

theorem storeA (c : Dev nD) {M : Memref sig .tc .vmem S2560x128 .i32} {k q : ℕ} {z : BitVec 32} {P : ℕ → ℕ → BitVec 32} (hq : q < 4)
    {sz : Fin 2 → ℕ} (h0 : sz 0 = 128 * k) (h1 : sz 1 = 128) {inb sp} {v : (⟨2, sz⟩ : Shape).Idx → BitVec 32} {hx} {hm}
    (hv : ∀ x : (⟨2, sz⟩ : Shape).Idx, P (x 0).val (128 * q + (x 1).val) = v x)
    {α : Type} {kk : PUnit → Prog (TpuEff nD τ sig (Elt F) Λ₀ .tc) α} {Q : α → sProp 𝕄} :
    Fill c M (tileG k z P) (DA k q 0) ⊢ iprop((Fill c M (tileG k z P) (DA k (q + 1) 0) -∗ wp frame (wpE (defs₀ (F := F)) Variants.none (c : Thread nD τ) none) Set.univ (kk ⟨⟩) Q)
      -∗ wp frame (wpE (defs₀ (F := F)) Variants.none (c : Thread nD τ) none) Set.univ (Prog.lift (.store M (⟨(⟨![q, 0], sz, ![4, 1], inb⟩ : LoadRect S2560x128), sp⟩ : Rect S2560x128) v Finset.univ hx hm) >>= kk) Q) := by
  refine fillStore c ?_ ?_
  · intro x
    rw [← hv x]
    have hx0 : (x 0).val < sz 0 := (x 0).isLt
    have e0 : (((⟨(⟨![q, 0], sz, ![4, 1], inb⟩ : LoadRect S2560x128), sp⟩ : Rect S2560x128).emb x) 0).val = q + 4 * (x 0).val := rfl
    have e1 : (((⟨(⟨![q, 0], sz, ![4, 1], inb⟩ : LoadRect S2560x128), sp⟩ : Rect S2560x128).emb x) 1).val = 0 + 1 * (x 1).val := rfl
    unfold tileG
    rw [e0, e1, if_pos (by omega)]
    congr 1 <;> omega
  · intro y hy
    by_cases hD : DA k q 0 y
    · exact Or.inl hD
    · right
      unfold DA at hy hD
      have hy1 : (y 1).val < 128 := (y 1).isLt
      refine ⟨fun a => match a with | ⟨0, _⟩ => ⟨(y 0).val / 4, by show _ < sz 0; omega⟩ | ⟨1, _⟩ => ⟨(y 1).val, by show _ < sz 1; omega⟩, ?_⟩
      funext a
      apply Fin.ext
      fin_cases a
      · show q + 4 * ((y 0).val / 4) = (y 0).val
        omega
      · show 0 + 1 * (y 1).val = (y 1).val
        omega

theorem storeB (c : Dev nD) {M : Memref sig .tc .vmem S2560x128 .i32} {k q : ℕ} {z : BitVec 32} {P : ℕ → ℕ → BitVec 32} (hq : q < 4) {r0 : ℕ} (hr : r0 = 512 * k)
    {sz' : Fin 2 → ℕ} {inb'} {hs} {sz : Fin 2 → ℕ} (h0 : 4 * sz 0 = 2560 - 512 * k) (h1 : sz 1 = 128) {inb sp} {v : (⟨2, sz⟩ : Shape).Idx → BitVec 32} {hx} {hm}
    (hv : ∀ x : (⟨2, sz⟩ : Shape).Idx, z = v x)
    {α : Type} {kk : PUnit → Prog (TpuEff nD τ sig (Elt F) Λ₀ .tc) α} {Q : α → sProp 𝕄} :
    Fill c M (tileG k z P) (DA k 4 q) ⊢ iprop((Fill c M (tileG k z P) (DA k 4 (q + 1)) -∗ wp frame (wpE (defs₀ (F := F)) Variants.none (c : Thread nD τ) none) Set.univ (kk ⟨⟩) Q)
      -∗ wp frame (wpE (defs₀ (F := F)) Variants.none (c : Thread nD τ) none) Set.univ
        (Prog.lift (.store (M.slice (Rect.unit (s := S2560x128) ![r0, 0] sz' inb') hs) (⟨(⟨![q, 0], sz, ![4, 1], inb⟩ : LoadRect (⟨2, sz'⟩ : Shape)), sp⟩ : Rect (⟨2, sz'⟩ : Shape)) v Finset.univ hx hm) >>= kk) Q) := by
  refine fillStoreS c ?_ ?_
  · intro x
    rw [← hv x]
    have e0 : (((Rect.unit (s := S2560x128) ![r0, 0] sz' inb').emb ((⟨(⟨![q, 0], sz, ![4, 1], inb⟩ : LoadRect (⟨2, sz'⟩ : Shape)), sp⟩ : Rect (⟨2, sz'⟩ : Shape)).emb x)) 0).val = r0 + 1 * (q + 4 * (x 0).val) := rfl
    unfold tileG
    rw [e0, if_neg (by omega)]
  · intro y hy
    by_cases hD : DA k 4 q y
    · exact Or.inl hD
    · right
      unfold DA at hy hD
      have hy1 : (y 1).val < 128 := (y 1).isLt
      have hy0 : (y 0).val < 2560 := (y 0).isLt
      refine ⟨fun a => match a with | ⟨0, _⟩ => ⟨((y 0).val - r0) / 4, by show _ < sz 0; omega⟩ | ⟨1, _⟩ => ⟨(y 1).val, by show _ < sz 1; omega⟩, ?_⟩
      funext a
      apply Fin.ext
      fin_cases a
      · show r0 + 1 * (q + 4 * (((y 0).val - r0) / 4)) = (y 0).val
        omega
      · show 0 + 1 * (0 + 1 * (y 1).val) = (y 1).val
        omega

/-! ## The slot of rows a tile is computed from -/

variable (fx : ∀ c : Dev nD, Cnt (F := F) c xsM)

/-- A whole buffer read by a strided load. -/
def xld (r : LoadRect S2560x128) (w : S2560x128.Idx → BitVec 32) : r.shape.Idx → BitVec 32 := fun x => w (r.idx x)

theorem xldLoad (c : Dev nD) {s : ℕ} (hs : s < 3) {w : S2560x128.Idx → BitVec 32} {o : Fin 3 → ℕ} (eo : o = ![s, 0, 0]) {h} {r : LoadRect S2560x128} {hl}
    {α : Type} {k : (r.shape.Idx → Elt F .i32) → Prog (TpuEff nD τ sig (Elt F) Λ₀ .tc) α} {Q : α → sProp 𝕄} :
    Held c (xslot ![s, 0, 0] (inbX s hs)) w ⊢ iprop((Held c (xslot ![s, 0, 0] (inbX s hs)) w -∗ wp frame (wpE (defs₀ (F := F)) Variants.none (c : Thread nD τ) none) Set.univ (k (xld r w)) Q)
      -∗ wp frame (wpE (defs₀ (F := F)) Variants.none (c : Thread nD τ) none) Set.univ (Prog.lift (.load (xslot o h) r hl) >>= k) Q) := by
  subst eo
  unfold Held
  iintro ⟨%f, %hf, H⟩ Hk
  iapply liftOp
  iapply (wp_load Variants.none (c : Thread nD τ) none Set.univ (m := xslot ![s, 0, 0] (inbX s hs)) (r := r) (hl := hl) (S := (xslot ![s, 0, 0] (inbX s hs)).view.set) (q := fullShare) (f := f)
    (by rw [← View.setOn_univ]; exact Finset.map_subset_map.2 (Finset.subset_univ _))) $$ H
  iintro H
  have e : (xslot ![s, 0, 0] (inbX s hs)).view.readAt (Elt F) r f = xld r w := by
    funext x; rw [View.readAt_apply, hf]; rfl
  rw [e]
  iapply Hk
  iexists f
  isplitr
  · ipureintro; exact hf
  · iexact H

/-- What stays of a landed slot beside its contents. -/
def XR (c : Dev nD) (fx : Cnt (F := F) c xsM) (s : ℕ) (hs : s < 3) : sProp 𝕄 :=
  iprop(semVal ((c : Thread nD τ), SemLoc.dma (xsem ![s] (inbS s hs))) 0 ∗ (xsM.view.loc (c : Thread nD τ) ↦{tok s} fx))

theorem XL_held (c : Dev nD) (fx : Cnt (F := F) c xsM) {s : ℕ} (hs : s < 3) {j : ℕ} (hj : j < 90) :
    XL c fx s hs j hj ⊢ iprop(Held c (xslot ![s, 0, 0] (inbX s hs)) (xpay c fx j hj) ∗ XR c fx s hs) := by
  unfold XL Held XR
  iintro ⟨%f, H, HR⟩
  isplitl [H]
  · iexists _
    isplitr
    rotate_left
    · iexact H
    · ipureintro; exact View.read_write_univ _ _
  · iexact HR

theorem held_XF (c : Dev nD) (fx : Cnt (F := F) c xsM) {s : ℕ} (hs : s < 3) {w : S2560x128.Idx → BitVec 32} :
    iprop(Held c (xslot ![s, 0, 0] (inbX s hs)) w ∗ XR c fx s hs) ⊢ XF c fx s hs := by
  unfold XF Held XR
  iintro ⟨⟨%f, %hf, H⟩, HR⟩
  iexists f
  isplitl [H]
  · iexact H
  · iexact HR

/-! ## The table of one word -/

/-- The word table of the number of tiles in use. -/
def Tab1 (c : Dev nD) (f : Cnt (F := F) c nuM) (n : BitVec 32) : sProp 𝕄 :=
  iprop(⌜∀ x, nuM.view.read (Elt F) f x = n⌝ ∗ pt c nuM fullShare.right f)

theorem tab1Load (c : Dev nD) {f : Cnt (F := F) c nuM} {n : BitVec 32} {r : Rect S1} {h1 : r.shape.numel = 1} {hpk : EltTy.i32.packing = 1}
    {α : Type} {k : BitVec 32 → Prog (TpuEff nD τ sig (Elt F) Λ₀ .tc) α} {Q : α → sProp 𝕄} :
    Tab1 c f n ⊢ iprop((Tab1 c f n -∗ wp frame (wpE (defs₀ (F := F)) Variants.none c none) Set.univ (k n) Q)
      -∗ wp frame (wpE (defs₀ (F := F)) Variants.none c none) Set.univ (smemLoad nuM r h1 hpk >>= k) Q) := by
  unfold Tab1
  iintro ⟨%hT, Ht⟩ Hk
  iapply (wp_smemLoadElt Variants.none (c : Thread nD τ) none Set.univ (m := nuM) (r := r) (hw := View.loads_smem_one hpk h1) (x := Shape.Idx.first (h1.symm ▸ Nat.one_pos)) (k := k) (q := fullShare.right) (f := f) (S := nuM.view.set) (View.set_slice_subset _ _)) $$ Ht
  iintro Ht
  have hr : ∀ x, (nuM.access r).read (Elt F) f x = n := fun x => hT (r.emb x)
  rw [hr]
  iapply Hk
  isplitr
  · ipureintro; exact hT
  · iexact Ht

/-! ## The packed zero -/

/-- The packed pair of zeros. -/
def zw (F : FTy → Type) [BitOps F] : BitVec 32 := BitOps.toBits (F := F) (FloatOps.truncf (F := F) (φ := .f32) .bf16 (by decide) (FloatOps.ofBits (F := F) .f32 0x00000000#32)) ++ BitOps.toBits (F := F) (FloatOps.truncf (F := F) (φ := .f32) .bf16 (by decide) (FloatOps.ofBits (F := F) .f32 0x00000000#32))

end Cert.Kernel.Hand
-- ==== Proof.Vals.lean ====
/-
  Hand-written. The values a tile's products and zeros have, and the parts of the kernel that store them.
-/
module

public import proofs.«01_k».proof.Proof.Fill
public import Idealize.ShloMosaic.Lib.Pointwise

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-- The proof's user algebra: the pipeline library's beside the transfers' counters. -/
local notation "𝕄" => MT nD τ sig Unit (Elt F) ℕ (Pipeline.UD sig nD τ) ℕ

/-- The entries of a block of products, zero outside it. -/
def ofV {N : ℕ} (v : (⟨2, ![N, 512]⟩ : Shape).Idx → BitVec 32) : ℕ → ℕ → BitVec 32 :=
  fun r l => if h : r < N ∧ l < 512 then v (ix2 ⟨r, h.1⟩ ⟨l, h.2⟩) else 0#32

theorem ofV_slice {N : ℕ} (v : (⟨2, ![N, 512]⟩ : Shape).Idx → BitVec 32) {q o : ℕ} (hq : q < 4) (ho : o = 128 * q)
    (h : (⟨2, ![N, 512]⟩ : Shape).Slices ![0, o] (⟨2, ![N, 128]⟩ : Shape)) (x : (⟨2, ![N, 128]⟩ : Shape).Idx) :
    ofV v (x 0).val (128 * q + (x 1).val) = extractStridedSlice (⟨2, ![N, 128]⟩ : Shape) ![0, o] v h x := by
  have h0 : (x 0).val < N := (x 0).isLt
  have h1 : (x 1).val < 128 := (x 1).isLt
  unfold ofV
  rw [dif_pos ⟨h0, by omega⟩]
  symm
  apply extractStridedSlice_apply
  intro a
  fin_cases a
  · show (x 0).val = 0 + (x 0).val; omega
  · show 128 * q + (x 1).val = o + (x 1).val; omega

/-- No sum of two indices is below the smaller of zero and a word that is not negative. -/
theorem slt_zero (a b n : ℕ) (ha : a < 4096) (hb : b < 4096) (hn : n < 91) :
    IntOp.cmpi .slt (IntOp.addi (BitVec.ofNat 32 a) (BitVec.ofNat 32 b)) (Scalar.minsi (BitVec.ofNat 32 n) 0#32) = 0#1 := by
  have e : Scalar.minsi (BitVec.ofNat 32 n) 0#32 = 0#32 := by
    have : ∀ n : Fin 91, Scalar.minsi (BitVec.ofNat 32 n.val) 0#32 = 0#32 := by decide +kernel
    exact this ⟨n, hn⟩
  rw [e]
  have e2 : IntOp.addi (BitVec.ofNat 32 a) (BitVec.ofNat 32 b) = BitVec.ofNat 32 (a + b) := by
    show BitVec.ofNat 32 a + BitVec.ofNat 32 b = _
    rw [BitVec.ofNat_add]
  rw [e2]
  show BitVec.ofBool ((BitVec.ofNat 32 (a + b)).slt 0#32) = 0#1
  have : (BitVec.ofNat 32 (a + b)).slt 0#32 = false := by
    rw [BitVec.slt_zero_eq_msb, BitVec.msb_eq_false_iff_two_mul_lt, BitVec.toNat_ofNat]
    rw [Nat.mod_eq_of_lt (by omega)]; omega
  rw [this]; rfl

/-- The zeros the kernel packs: the mask that would choose one is nowhere true. -/
theorem zpack {M n : ℕ} (hM : M ≤ 4096) (hn : n < 91) {i0 i1 h0 h1} :
    packElementwise (F := F) (extractStridedSlice (⟨2, ![M, 512]⟩ : Shape) ![0, 0]
        (select (cmpi .slt (addi (iota .tc (⟨2, ![M, 1024]⟩ : Shape) 32 [0] i0) (iota .tc (⟨2, ![M, 1024]⟩ : Shape) 32 [1] i1)) (broadcast (⟨2, ![M, 1024]⟩ : Shape) (Scalar.minsi (BitVec.ofNat 32 n) 0#32)))
          (broadcast (⟨2, ![M, 1024]⟩ : Shape) (Scalar.ofBits (F := F) .f32 0x3F800000#32)) (broadcast (⟨2, ![M, 1024]⟩ : Shape) (Scalar.ofBits (F := F) .f32 0x00000000#32))) h0)
      (extractStridedSlice (⟨2, ![M, 512]⟩ : Shape) ![0, 512]
        (select (cmpi .slt (addi (iota .tc (⟨2, ![M, 1024]⟩ : Shape) 32 [0] i0) (iota .tc (⟨2, ![M, 1024]⟩ : Shape) 32 [1] i1)) (broadcast (⟨2, ![M, 1024]⟩ : Shape) (Scalar.minsi (BitVec.ofNat 32 n) 0#32)))
          (broadcast (⟨2, ![M, 1024]⟩ : Shape) (Scalar.ofBits (F := F) .f32 0x3F800000#32)) (broadcast (⟨2, ![M, 1024]⟩ : Shape) (Scalar.ofBits (F := F) .f32 0x00000000#32))) h1)
      = fun _ => zw F := by
  have e : (cmpi .slt (addi (iota .tc (⟨2, ![M, 1024]⟩ : Shape) 32 [0] i0) (iota .tc (⟨2, ![M, 1024]⟩ : Shape) 32 [1] i1)) (broadcast (⟨2, ![M, 1024]⟩ : Shape) (Scalar.minsi (BitVec.ofNat 32 n) 0#32))) = fun _ => 0#1 := by
    funext x
    have b0 : (x 0).val < M := (x 0).isLt
    have b1 : (x 1).val < 1024 := (x 1).isLt
    rw [cmpi_apply, addi_apply, iota_apply, iota_apply]
    have e0 : ([0] : List (Fin 2)).foldl (fun n a => n * (⟨2, ![M, 1024]⟩ : Shape).size a + (x a).val) 0 = (x 0).val := by
      show 0 * _ + (x 0).val = _; omega
    have e1 : ([1] : List (Fin 2)).foldl (fun n a => n * (⟨2, ![M, 1024]⟩ : Shape).size a + (x a).val) 0 = (x 1).val := by
      show 0 * _ + (x 1).val = _; omega
    erw [e0, e1]
    exact slt_zero _ _ n (by omega) (by omega) hn
  rw [e]
  rfl

/-- The products of a tile of which the first 128 rows are used, packed. -/
def mlp1 (w : S2560x128.Idx → BitVec 32) (wg wu : S1024x512.Idx → Elt F .bf16) (wd : S512x1024.Idx → Elt F .bf16) : IVec S128x512 32 :=
  k0_pay10 (xld (⟨![0, 0], S128x128.size, ![4, 1], inb_S2560x128_S128x128_0_0_s_4_1⟩ : LoadRect S2560x128) w) (xld (⟨![1, 0], S128x128.size, ![4, 1], inb_S2560x128_S128x128_1_0_s_4_1⟩ : LoadRect S2560x128) w) (xld (⟨![2, 0], S128x128.size, ![4, 1], inb_S2560x128_S128x128_2_0_s_4_1⟩ : LoadRect S2560x128) w) (xld (⟨![3, 0], S128x128.size, ![4, 1], inb_S2560x128_S128x128_3_0_s_4_1⟩ : LoadRect S2560x128) w) wg wu wd

theorem pay11_ofV (v83 v86 v89 v92 : Vec F S128x128 .i32) (v98 v100 : Vec F S1024x512 .bf16) (v106 : Vec F S512x1024 .bf16) (x : (⟨2, ![128, 128]⟩ : Shape).Idx) :
    ofV (k0_pay10 v83 v86 v89 v92 v98 v100 v106) (x 0).val (128 * 0 + (x 1).val) = k0_pay11 v83 v86 v89 v92 v98 v100 v106 x := by
  unfold k0_pay11; exact ofV_slice _ (by decide) rfl _ x
theorem pay12_ofV (v : IVec S128x512 32) (x : (⟨2, ![128, 128]⟩ : Shape).Idx) : ofV v (x 0).val (128 * 1 + (x 1).val) = k0_pay12 v x := by
  unfold k0_pay12; exact ofV_slice _ (by decide) rfl _ x
theorem pay13_ofV (v : IVec S128x512 32) (x : (⟨2, ![128, 128]⟩ : Shape).Idx) : ofV v (x 0).val (128 * 2 + (x 1).val) = k0_pay13 v x := by
  unfold k0_pay13; exact ofV_slice _ (by decide) rfl _ x
theorem pay14_ofV (v : IVec S128x512 32) (x : (⟨2, ![128, 128]⟩ : Shape).Idx) : ofV v (x 0).val (128 * 3 + (x 1).val) = k0_pay14 v x := by
  unfold k0_pay14; exact ofV_slice _ (by decide) rfl _ x
theorem pay15_zero {n : ℕ} (hn : n < 91) : k0_pay15 (F := F) (BitVec.ofNat 32 n) = fun _ => zw F := by
  unfold k0_pay15; exact zpack (by decide) hn
theorem pay16_zero {n : ℕ} (hn : n < 91) (x : (⟨2, ![512, 128]⟩ : Shape).Idx) : zw F = k0_pay16 (F := F) (BitVec.ofNat 32 n) x := by
  unfold k0_pay16; rw [pay15_zero hn]; rfl
theorem pay17_zero {n : ℕ} (hn : n < 91) (x : (⟨2, ![512, 128]⟩ : Shape).Idx) : zw F = k0_pay17 (F := F) (BitVec.ofNat 32 n) x := by
  unfold k0_pay17; rw [pay15_zero hn]; rfl
theorem pay18_zero {n : ℕ} (hn : n < 91) (x : (⟨2, ![512, 128]⟩ : Shape).Idx) : zw F = k0_pay18 (F := F) (BitVec.ofNat 32 n) x := by
  unfold k0_pay18; rw [pay15_zero hn]; rfl
theorem pay19_zero {n : ℕ} (hn : n < 91) (x : (⟨2, ![512, 128]⟩ : Shape).Idx) : zw F = k0_pay19 (F := F) (BitVec.ofNat 32 n) x := by
  unfold k0_pay19; rw [pay15_zero hn]; rfl

/-- The products of a tile of which the first 256 rows are used, packed. -/
def mlp2 (w : S2560x128.Idx → BitVec 32) (wg wu : S1024x512.Idx → Elt F .bf16) (wd : S512x1024.Idx → Elt F .bf16) : IVec S256x512 32 :=
  k0_pay20 (xld (⟨![0, 0], S256x128.size, ![4, 1], inb_S2560x128_S256x128_0_0_s_4_1⟩ : LoadRect S2560x128) w) (xld (⟨![1, 0], S256x128.size, ![4, 1], inb_S2560x128_S256x128_1_0_s_4_1⟩ : LoadRect S2560x128) w) (xld (⟨![2, 0], S256x128.size, ![4, 1], inb_S2560x128_S256x128_2_0_s_4_1⟩ : LoadRect S2560x128) w) (xld (⟨![3, 0], S256x128.size, ![4, 1], inb_S2560x128_S256x128_3_0_s_4_1⟩ : LoadRect S2560x128) w) wg wu wd

theorem pay21_ofV (v83 v86 v89 v92 : Vec F S256x128 .i32) (v98 v100 : Vec F S1024x512 .bf16) (v106 : Vec F S512x1024 .bf16) (x : (⟨2, ![256, 128]⟩ : Shape).Idx) :
    ofV (k0_pay20 v83 v86 v89 v92 v98 v100 v106) (x 0).val (128 * 0 + (x 1).val) = k0_pay21 v83 v86 v89 v92 v98 v100 v106 x := by
  unfold k0_pay21; exact ofV_slice _ (by decide) rfl _ x
theorem pay22_ofV (v : IVec S256x512 32) (x : (⟨2, ![256, 128]⟩ : Shape).Idx) : ofV v (x 0).val (128 * 1 + (x 1).val) = k0_pay22 v x := by
  unfold k0_pay22; exact ofV_slice _ (by decide) rfl _ x
theorem pay23_ofV (v : IVec S256x512 32) (x : (⟨2, ![256, 128]⟩ : Shape).Idx) : ofV v (x 0).val (128 * 2 + (x 1).val) = k0_pay23 v x := by
  unfold k0_pay23; exact ofV_slice _ (by decide) rfl _ x
theorem pay24_ofV (v : IVec S256x512 32) (x : (⟨2, ![256, 128]⟩ : Shape).Idx) : ofV v (x 0).val (128 * 3 + (x 1).val) = k0_pay24 v x := by
  unfold k0_pay24; exact ofV_slice _ (by decide) rfl _ x
theorem pay25_zero {n : ℕ} (hn : n < 91) : k0_pay25 (F := F) (BitVec.ofNat 32 n) = fun _ => zw F := by
  unfold k0_pay25; exact zpack (by decide) hn
theorem pay26_zero {n : ℕ} (hn : n < 91) (x : (⟨2, ![384, 128]⟩ : Shape).Idx) : zw F = k0_pay26 (F := F) (BitVec.ofNat 32 n) x := by
  unfold k0_pay26; rw [pay25_zero hn]; rfl
theorem pay27_zero {n : ℕ} (hn : n < 91) (x : (⟨2, ![384, 128]⟩ : Shape).Idx) : zw F = k0_pay27 (F := F) (BitVec.ofNat 32 n) x := by
  unfold k0_pay27; rw [pay25_zero hn]; rfl
theorem pay28_zero {n : ℕ} (hn : n < 91) (x : (⟨2, ![384, 128]⟩ : Shape).Idx) : zw F = k0_pay28 (F := F) (BitVec.ofNat 32 n) x := by
  unfold k0_pay28; rw [pay25_zero hn]; rfl
theorem pay29_zero {n : ℕ} (hn : n < 91) (x : (⟨2, ![384, 128]⟩ : Shape).Idx) : zw F = k0_pay29 (F := F) (BitVec.ofNat 32 n) x := by
  unfold k0_pay29; rw [pay25_zero hn]; rfl

/-- The products of a tile of which the first 384 rows are used, packed. -/
def mlp3 (w : S2560x128.Idx → BitVec 32) (wg wu : S1024x512.Idx → Elt F .bf16) (wd : S512x1024.Idx → Elt F .bf16) : IVec S384x512 32 :=
  k0_pay30 (xld (⟨![0, 0], S384x128.size, ![4, 1], inb_S2560x128_S384x128_0_0_s_4_1⟩ : LoadRect S2560x128) w) (xld (⟨![1, 0], S384x128.size, ![4, 1], inb_S2560x128_S384x128_1_0_s_4_1⟩ : LoadRect S2560x128) w) (xld (⟨![2, 0], S384x128.size, ![4, 1], inb_S2560x128_S384x128_2_0_s_4_1⟩ : LoadRect S2560x128) w) (xld (⟨![3, 0], S384x128.size, ![4, 1], inb_S2560x128_S384x128_3_0_s_4_1⟩ : LoadRect S2560x128) w) wg wu wd

theorem pay31_ofV (v83 v86 v89 v92 : Vec F S384x128 .i32) (v98 v100 : Vec F S1024x512 .bf16) (v106 : Vec F S512x1024 .bf16) (x : (⟨2, ![384, 128]⟩ : Shape).Idx) :
    ofV (k0_pay30 v83 v86 v89 v92 v98 v100 v106) (x 0).val (128 * 0 + (x 1).val) = k0_pay31 v83 v86 v89 v92 v98 v100 v106 x := by
  unfold k0_pay31; exact ofV_slice _ (by decide) rfl _ x
theorem pay32_ofV (v : IVec S384x512 32) (x : (⟨2, ![384, 128]⟩ : Shape).Idx) : ofV v (x 0).val (128 * 1 + (x 1).val) = k0_pay32 v x := by
  unfold k0_pay32; exact ofV_slice _ (by decide) rfl _ x
theorem pay33_ofV (v : IVec S384x512 32) (x : (⟨2, ![384, 128]⟩ : Shape).Idx) : ofV v (x 0).val (128 * 2 + (x 1).val) = k0_pay33 v x := by
  unfold k0_pay33; exact ofV_slice _ (by decide) rfl _ x
theorem pay34_ofV (v : IVec S384x512 32) (x : (⟨2, ![384, 128]⟩ : Shape).Idx) : ofV v (x 0).val (128 * 3 + (x 1).val) = k0_pay34 v x := by
  unfold k0_pay34; exact ofV_slice _ (by decide) rfl _ x
theorem pay35_zero {n : ℕ} (hn : n < 91) : k0_pay35 (F := F) (BitVec.ofNat 32 n) = fun _ => zw F := by
  unfold k0_pay35; exact zpack (by decide) hn
theorem pay36_zero {n : ℕ} (hn : n < 91) (x : (⟨2, ![256, 128]⟩ : Shape).Idx) : zw F = k0_pay36 (F := F) (BitVec.ofNat 32 n) x := by
  unfold k0_pay36; rw [pay35_zero hn]; rfl
theorem pay37_zero {n : ℕ} (hn : n < 91) (x : (⟨2, ![256, 128]⟩ : Shape).Idx) : zw F = k0_pay37 (F := F) (BitVec.ofNat 32 n) x := by
  unfold k0_pay37; rw [pay35_zero hn]; rfl
theorem pay38_zero {n : ℕ} (hn : n < 91) (x : (⟨2, ![256, 128]⟩ : Shape).Idx) : zw F = k0_pay38 (F := F) (BitVec.ofNat 32 n) x := by
  unfold k0_pay38; rw [pay35_zero hn]; rfl
theorem pay39_zero {n : ℕ} (hn : n < 91) (x : (⟨2, ![256, 128]⟩ : Shape).Idx) : zw F = k0_pay39 (F := F) (BitVec.ofNat 32 n) x := by
  unfold k0_pay39; rw [pay35_zero hn]; rfl

/-- The products of a tile of which the first 512 rows are used, packed. -/
def mlp4 (w : S2560x128.Idx → BitVec 32) (wg wu : S1024x512.Idx → Elt F .bf16) (wd : S512x1024.Idx → Elt F .bf16) : IVec S512x512 32 :=
  k0_pay40 (xld (⟨![0, 0], S512x128.size, ![4, 1], inb_S2560x128_S512x128_0_0_s_4_1⟩ : LoadRect S2560x128) w) (xld (⟨![1, 0], S512x128.size, ![4, 1], inb_S2560x128_S512x128_1_0_s_4_1⟩ : LoadRect S2560x128) w) (xld (⟨![2, 0], S512x128.size, ![4, 1], inb_S2560x128_S512x128_2_0_s_4_1⟩ : LoadRect S2560x128) w) (xld (⟨![3, 0], S512x128.size, ![4, 1], inb_S2560x128_S512x128_3_0_s_4_1⟩ : LoadRect S2560x128) w) wg wu wd

theorem pay41_ofV (v83 v86 v89 v92 : Vec F S512x128 .i32) (v98 v100 : Vec F S1024x512 .bf16) (v106 : Vec F S512x1024 .bf16) (x : (⟨2, ![512, 128]⟩ : Shape).Idx) :
    ofV (k0_pay40 v83 v86 v89 v92 v98 v100 v106) (x 0).val (128 * 0 + (x 1).val) = k0_pay41 v83 v86 v89 v92 v98 v100 v106 x := by
  unfold k0_pay41; exact ofV_slice _ (by decide) rfl _ x
theorem pay42_ofV (v : IVec S512x512 32) (x : (⟨2, ![512, 128]⟩ : Shape).Idx) : ofV v (x 0).val (128 * 1 + (x 1).val) = k0_pay42 v x := by
  unfold k0_pay42; exact ofV_slice _ (by decide) rfl _ x
theorem pay43_ofV (v : IVec S512x512 32) (x : (⟨2, ![512, 128]⟩ : Shape).Idx) : ofV v (x 0).val (128 * 2 + (x 1).val) = k0_pay43 v x := by
  unfold k0_pay43; exact ofV_slice _ (by decide) rfl _ x
theorem pay44_ofV (v : IVec S512x512 32) (x : (⟨2, ![512, 128]⟩ : Shape).Idx) : ofV v (x 0).val (128 * 3 + (x 1).val) = k0_pay44 v x := by
  unfold k0_pay44; exact ofV_slice _ (by decide) rfl _ x
theorem pay45_zero {n : ℕ} (hn : n < 91) : k0_pay45 (F := F) (BitVec.ofNat 32 n) = fun _ => zw F := by
  unfold k0_pay45; exact zpack (by decide) hn
theorem pay46_zero {n : ℕ} (hn : n < 91) (x : (⟨2, ![128, 128]⟩ : Shape).Idx) : zw F = k0_pay46 (F := F) (BitVec.ofNat 32 n) x := by
  unfold k0_pay46; rw [pay45_zero hn]; rfl
theorem pay47_zero {n : ℕ} (hn : n < 91) (x : (⟨2, ![128, 128]⟩ : Shape).Idx) : zw F = k0_pay47 (F := F) (BitVec.ofNat 32 n) x := by
  unfold k0_pay47; rw [pay45_zero hn]; rfl
theorem pay48_zero {n : ℕ} (hn : n < 91) (x : (⟨2, ![128, 128]⟩ : Shape).Idx) : zw F = k0_pay48 (F := F) (BitVec.ofNat 32 n) x := by
  unfold k0_pay48; rw [pay45_zero hn]; rfl
theorem pay49_zero {n : ℕ} (hn : n < 91) (x : (⟨2, ![128, 128]⟩ : Shape).Idx) : zw F = k0_pay49 (F := F) (BitVec.ofNat 32 n) x := by
  unfold k0_pay49; rw [pay45_zero hn]; rfl

/-- The products of a tile of which the first 640 rows are used, packed. -/
def mlp5 (w : S2560x128.Idx → BitVec 32) (wg wu : S1024x512.Idx → Elt F .bf16) (wd : S512x1024.Idx → Elt F .bf16) : IVec S640x512 32 :=
  k0_pay50 (xld (⟨![0, 0], S640x128.size, ![4, 1], inb_S2560x128_S640x128_0_0_s_4_1⟩ : LoadRect S2560x128) w) (xld (⟨![1, 0], S640x128.size, ![4, 1], inb_S2560x128_S640x128_1_0_s_4_1⟩ : LoadRect S2560x128) w) (xld (⟨![2, 0], S640x128.size, ![4, 1], inb_S2560x128_S640x128_2_0_s_4_1⟩ : LoadRect S2560x128) w) (xld (⟨![3, 0], S640x128.size, ![4, 1], inb_S2560x128_S640x128_3_0_s_4_1⟩ : LoadRect S2560x128) w) wg wu wd

theorem pay51_ofV (v83 v86 v89 v92 : Vec F S640x128 .i32) (v98 v100 : Vec F S1024x512 .bf16) (v106 : Vec F S512x1024 .bf16) (x : (⟨2, ![640, 128]⟩ : Shape).Idx) :
    ofV (k0_pay50 v83 v86 v89 v92 v98 v100 v106) (x 0).val (128 * 0 + (x 1).val) = k0_pay51 v83 v86 v89 v92 v98 v100 v106 x := by
  unfold k0_pay51; exact ofV_slice _ (by decide) rfl _ x
theorem pay1_ofV (v : IVec S640x512 32) (x : (⟨2, ![640, 128]⟩ : Shape).Idx) : ofV v (x 0).val (128 * 1 + (x 1).val) = k0_pay1 v x := by
  unfold k0_pay1; exact ofV_slice _ (by decide) rfl _ x
theorem pay2_ofV (v : IVec S640x512 32) (x : (⟨2, ![640, 128]⟩ : Shape).Idx) : ofV v (x 0).val (128 * 2 + (x 1).val) = k0_pay2 v x := by
  unfold k0_pay2; exact ofV_slice _ (by decide) rfl _ x
theorem pay3_ofV (v : IVec S640x512 32) (x : (⟨2, ![640, 128]⟩ : Shape).Idx) : ofV v (x 0).val (128 * 3 + (x 1).val) = k0_pay3 v x := by
  unfold k0_pay3; exact ofV_slice _ (by decide) rfl _ x

theorem pay4_zero {n : ℕ} (hn : n < 91) : k0_pay4 (F := F) (BitVec.ofNat 32 n) = fun _ => zw F := by
  unfold k0_pay4; exact zpack (by decide) hn
theorem pay5_zero {n : ℕ} (hn : n < 91) (x : (⟨2, ![640, 128]⟩ : Shape).Idx) : zw F = k0_pay5 (F := F) (BitVec.ofNat 32 n) x := by
  unfold k0_pay5; rw [pay4_zero hn]; rfl
theorem pay6_zero {n : ℕ} (hn : n < 91) (x : (⟨2, ![640, 128]⟩ : Shape).Idx) : zw F = k0_pay6 (F := F) (BitVec.ofNat 32 n) x := by
  unfold k0_pay6; rw [pay4_zero hn]; rfl
theorem pay7_zero {n : ℕ} (hn : n < 91) (x : (⟨2, ![640, 128]⟩ : Shape).Idx) : zw F = k0_pay7 (F := F) (BitVec.ofNat 32 n) x := by
  unfold k0_pay7; rw [pay4_zero hn]; rfl
theorem pay8_zero {n : ℕ} (hn : n < 91) (x : (⟨2, ![640, 128]⟩ : Shape).Idx) : zw F = k0_pay8 (F := F) (BitVec.ofNat 32 n) x := by
  unfold k0_pay8; rw [pay4_zero hn]; rfl

end Cert.Kernel.Hand
-- ==== Proof.Comp.lean ====
/-
  Hand-written. The parts of the kernel that compute a tile: the loads of its rows and weights, and the stores of the packed products and zeros.
-/
module

public import proofs.«01_k».proof.Proof.Vals

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-- The proof's user algebra: the pipeline library's beside the transfers' counters. -/
local notation "𝕄" => MT nD τ sig Unit (Elt F) ℕ (Pipeline.UD sig nD τ) ℕ

variable (c : Dev nD)

theorem DA0 {M : Memref sig .tc .vmem S2560x128 .i32} {G : S2560x128.Idx → BitVec 32} (k : ℕ) : Fill (F := F) c M G (fun _ => False) ⊢ Fill c M G (DA k 0 0) := by
  unfold Fill
  iintro ⟨%f, %hf, H⟩
  iexists f
  isplitr
  · ipureintro; intro y hy; unfold DA at hy; omega
  · iexact H

theorem Fill_held {M : Memref sig .tc .vmem S2560x128 .i32} {G : S2560x128.Idx → BitVec 32} {D : S2560x128.Idx → Prop} (hD : ∀ y, D y) : Fill (F := F) c M G D ⊢ Held c M G := by
  unfold Fill Held
  iintro ⟨%f, %hf, H⟩
  iexists f
  isplitr
  · ipureintro; funext y; exact hf y (hD y)
  · iexact H

theorem held_Fill {M : Memref sig .tc .vmem S2560x128 .i32} {w G : S2560x128.Idx → BitVec 32} : Held (F := F) c M w ⊢ Fill c M G (fun _ => False) := by
  unfold Fill Held
  iintro ⟨%f, %hf, H⟩
  iexists f
  isplitr
  · ipureintro; intro y hy; exact hy.elim
  · iexact H

theorem DA_all {k : ℕ} (y : S2560x128.Idx) : DA k 4 4 y := by unfold DA; omega
theorem DA_five (y : S2560x128.Idx) : DA 5 4 0 y := by
  have : (y 0).val < 2560 := (y 0).isLt
  unfold DA; omega

/-- What a tile is computed from: its rows and the three buffers of weights. -/
def Src (s : ℕ) (hs : s < 3) (w : S2560x128.Idx → BitVec 32) (wg wu : S1024x512.Idx → Elt F .bf16) (wd : S512x1024.Idx → Elt F .bf16) : sProp 𝕄 :=
  iprop(Held c (xslot ![s, 0, 0] (inbX s hs)) w ∗ Held c g16M wg ∗ Held c u16M wu ∗ Held c d16M wd)

theorem mlp1_ofV (w : S2560x128.Idx → BitVec 32) (wg wu : S1024x512.Idx → Elt F .bf16) (wd : S512x1024.Idx → Elt F .bf16) (x : (⟨2, ![128, 128]⟩ : Shape).Idx) :
    ofV (mlp1 w wg wu wd) (x 0).val (128 * 0 + (x 1).val) = k0_pay11 (xld (⟨![0, 0], S128x128.size, ![4, 1], inb_S2560x128_S128x128_0_0_s_4_1⟩ : LoadRect S2560x128) w) (xld (⟨![1, 0], S128x128.size, ![4, 1], inb_S2560x128_S128x128_1_0_s_4_1⟩ : LoadRect S2560x128) w) (xld (⟨![2, 0], S128x128.size, ![4, 1], inb_S2560x128_S128x128_2_0_s_4_1⟩ : LoadRect S2560x128) w) (xld (⟨![3, 0], S128x128.size, ![4, 1], inb_S2560x128_S128x128_3_0_s_4_1⟩ : LoadRect S2560x128) w) wg wu wd x :=
  pay11_ofV _ _ _ _ _ _ _ x

theorem mlp1_def (w : S2560x128.Idx → BitVec 32) (wg wu : S1024x512.Idx → Elt F .bf16) (wd : S512x1024.Idx → Elt F .bf16) :
    mlp1 w wg wu wd = k0_pay10 (xld (⟨![0, 0], S128x128.size, ![4, 1], inb_S2560x128_S128x128_0_0_s_4_1⟩ : LoadRect S2560x128) w) (xld (⟨![1, 0], S128x128.size, ![4, 1], inb_S2560x128_S128x128_1_0_s_4_1⟩ : LoadRect S2560x128) w) (xld (⟨![2, 0], S128x128.size, ![4, 1], inb_S2560x128_S128x128_2_0_s_4_1⟩ : LoadRect S2560x128) w) (xld (⟨![3, 0], S128x128.size, ![4, 1], inb_S2560x128_S128x128_3_0_s_4_1⟩ : LoadRect S2560x128) w) wg wu wd := rfl

/-- The products of the first 128 rows, and the first of the four stores of them. -/
abbrev part2 (i : grid0.Coords) (oM : Memref sig .tc .vmem S2560x128 .i32) (hoM : oM.IsWhole) :=
    k0_part2 (F := F) i teM (Memref.isWhole_whole _) nuM (Memref.isWhole_whole _) paM (Memref.isWhole_whole _) nxM (Memref.isWhole_whole _) n2M (Memref.isWhole_whole _) ngM (Memref.isWhole_whole _)
      xsM (Memref.isWhole_whole _) wgM (Memref.isWhole_whole _) wuM (Memref.isWhole_whole _) wdM (Memref.isWhole_whole _) oM hoM xbM (Memref.isWhole_whole _) ztM (Memref.isWhole_whole _)
      gbM (Memref.isWhole_whole _) ubM (Memref.isWhole_whole _) dbM (Memref.isWhole_whole _) g16M (Memref.isWhole_whole _) u16M (Memref.isWhole_whole _) d16M (Memref.isWhole_whole _)
      cc0_scratch8 cc0_scratch9

set_option maxHeartbeats 4000000 in
theorem part2_run (i : grid0.Coords) (oM : Memref sig .tc .vmem S2560x128 .i32) (hoM : oM.IsWhole) (hs : pn i % 3 < 3) {w wg wu wd} {z : BitVec 32} (Q) :
    iprop(Src c (pn i % 3) hs w wg wu wd ∗ Fill c oM (tileG 1 z (ofV (mlp1 w wg wu wd))) (DA 1 0 0))
   ⊢ iprop((iprop(Src c (pn i % 3) hs w wg wu wd ∗ Fill c oM (tileG 1 z (ofV (mlp1 w wg wu wd))) (DA 1 1 0)) -∗ Q (mlp1 w wg wu wd))
     -∗ wp frame (wpE (defs₀ (F := F)) Variants.none (c : Thread nD τ) none) Set.univ (part2 i oM hoM) Q) := by
  unfold part2 Src
  rw [k0_part2_eq_skeleton]; unfold k0_part2_skel
  iintro ⟨⟨Hx, Hg, Hu, Hd⟩, Ho⟩ HQ
  iapply (xldLoad c hs (off33_eq i)) $$ Hx
  iintro Hx
  iapply (xldLoad c hs (off33_eq i)) $$ Hx
  iintro Hx
  iapply (xldLoad c hs (off33_eq i)) $$ Hx
  iintro Hx
  iapply (xldLoad c hs (off33_eq i)) $$ Hx
  iintro Hx
  iapply (fullLoad c (M := g16M) (by decide)) $$ Hg
  iintro Hg
  iapply (fullLoad c (M := u16M) (by decide)) $$ Hu
  iintro Hu
  iapply (fullLoad c (M := d16M) (by decide)) $$ Hd
  iintro Hd
  iapply (fillAny c) $$ Ho
  iintro %v Ho
  iapply (storeA c (by decide) rfl rfl (mlp1_ofV w wg wu wd)) $$ Ho
  iintro Ho
  iapply (Idealize.SL.Sem.le_wp_ret _ _)
  rw [← mlp1_def w wg wu wd]
  iapply HQ
  isplitr [Ho]
  · isplitl [Hx]; · iexact Hx
    isplitl [Hg]; · iexact Hg
    isplitl [Hu]; · iexact Hu
    iexact Hd
  · iexact Ho

/-- The other stores of the first 128 rows, and three of the four of the zeros behind them. -/
abbrev part3 (i : grid0.Coords) (oM : Memref sig .tc .vmem S2560x128 .i32) (hoM : oM.IsWhole) (v : IVec S128x512 32) :=
    k0_part3 (F := F) i teM (Memref.isWhole_whole _) nuM (Memref.isWhole_whole _) paM (Memref.isWhole_whole _) nxM (Memref.isWhole_whole _) n2M (Memref.isWhole_whole _) ngM (Memref.isWhole_whole _)
      xsM (Memref.isWhole_whole _) wgM (Memref.isWhole_whole _) wuM (Memref.isWhole_whole _) wdM (Memref.isWhole_whole _) oM hoM xbM (Memref.isWhole_whole _) ztM (Memref.isWhole_whole _)
      gbM (Memref.isWhole_whole _) ubM (Memref.isWhole_whole _) dbM (Memref.isWhole_whole _) g16M (Memref.isWhole_whole _) u16M (Memref.isWhole_whole _) d16M (Memref.isWhole_whole _)
      cc0_scratch8 cc0_scratch9 v

set_option maxHeartbeats 4000000 in
theorem part3_run (i : grid0.Coords) (oM : Memref sig .tc .vmem S2560x128 .i32) (hoM : oM.IsWhole) (v : IVec S128x512 32) {n : ℕ} (hn : n < 91) (fnu) (Q) :
    iprop(Tab1 c fnu (BitVec.ofNat 32 n) ∗ Fill c oM (tileG 1 (zw F) (ofV v)) (DA 1 1 0))
   ⊢ iprop((iprop(Tab1 c fnu (BitVec.ofNat 32 n) ∗ Fill c oM (tileG 1 (zw F) (ofV v)) (DA 1 4 3)) -∗ Q (k0_pay19 (F := F) (BitVec.ofNat 32 n)))
     -∗ wp frame (wpE (defs₀ (F := F)) Variants.none (c : Thread nD τ) none) Set.univ (part3 i oM hoM v) Q) := by
  unfold part3
  rw [k0_part3_eq_skeleton]; unfold k0_part3_skel
  iintro ⟨Hn, Ho⟩ HQ
  iapply (fillAny c) $$ Ho
  iintro %v1 Ho
  iapply (storeA c (by decide) rfl rfl (pay12_ofV v)) $$ Ho
  iintro Ho
  iapply (fillAny c) $$ Ho
  iintro %v2 Ho
  iapply (storeA c (by decide) rfl rfl (pay13_ofV v)) $$ Ho
  iintro Ho
  iapply (fillAny c) $$ Ho
  iintro %v3 Ho
  iapply (storeA c (by decide) rfl rfl (pay14_ofV v)) $$ Ho
  iintro Ho
  iapply (tab1Load c) $$ Hn
  iintro Hn
  iapply (fillAnyS c) $$ Ho
  iintro %u0 Ho
  iapply (storeB c (by decide) rfl rfl rfl (pay16_zero hn)) $$ Ho
  iintro Ho
  iapply (fillAnyS c) $$ Ho
  iintro %u1 Ho
  iapply (storeB c (by decide) rfl rfl rfl (pay17_zero hn)) $$ Ho
  iintro Ho
  iapply (fillAnyS c) $$ Ho
  iintro %u2 Ho
  iapply (storeB c (by decide) rfl rfl rfl (pay18_zero hn)) $$ Ho
  iintro Ho
  iapply (Idealize.SL.Sem.le_wp_ret _ _)
  iapply HQ
  isplitl [Hn]
  · iexact Hn
  · iexact Ho

theorem mlp2_ofV (w : S2560x128.Idx → BitVec 32) (wg wu : S1024x512.Idx → Elt F .bf16) (wd : S512x1024.Idx → Elt F .bf16) (x : (⟨2, ![256, 128]⟩ : Shape).Idx) :
    ofV (mlp2 w wg wu wd) (x 0).val (128 * 0 + (x 1).val) = k0_pay21 (xld (⟨![0, 0], S256x128.size, ![4, 1], inb_S2560x128_S256x128_0_0_s_4_1⟩ : LoadRect S2560x128) w) (xld (⟨![1, 0], S256x128.size, ![4, 1], inb_S2560x128_S256x128_1_0_s_4_1⟩ : LoadRect S2560x128) w) (xld (⟨![2, 0], S256x128.size, ![4, 1], inb_S2560x128_S256x128_2_0_s_4_1⟩ : LoadRect S2560x128) w) (xld (⟨![3, 0], S256x128.size, ![4, 1], inb_S2560x128_S256x128_3_0_s_4_1⟩ : LoadRect S2560x128) w) wg wu wd x :=
  pay21_ofV _ _ _ _ _ _ _ x

theorem mlp2_def (w : S2560x128.Idx → BitVec 32) (wg wu : S1024x512.Idx → Elt F .bf16) (wd : S512x1024.Idx → Elt F .bf16) :
    mlp2 w wg wu wd = k0_pay20 (xld (⟨![0, 0], S256x128.size, ![4, 1], inb_S2560x128_S256x128_0_0_s_4_1⟩ : LoadRect S2560x128) w) (xld (⟨![1, 0], S256x128.size, ![4, 1], inb_S2560x128_S256x128_1_0_s_4_1⟩ : LoadRect S2560x128) w) (xld (⟨![2, 0], S256x128.size, ![4, 1], inb_S2560x128_S256x128_2_0_s_4_1⟩ : LoadRect S2560x128) w) (xld (⟨![3, 0], S256x128.size, ![4, 1], inb_S2560x128_S256x128_3_0_s_4_1⟩ : LoadRect S2560x128) w) wg wu wd := rfl

/-- The products of the first 256 rows, and the first of the four stores of them. -/
abbrev part4 (i : grid0.Coords) (oM : Memref sig .tc .vmem S2560x128 .i32) (hoM : oM.IsWhole) :=
    k0_part4 (F := F) i teM (Memref.isWhole_whole _) nuM (Memref.isWhole_whole _) paM (Memref.isWhole_whole _) nxM (Memref.isWhole_whole _) n2M (Memref.isWhole_whole _) ngM (Memref.isWhole_whole _)
      xsM (Memref.isWhole_whole _) wgM (Memref.isWhole_whole _) wuM (Memref.isWhole_whole _) wdM (Memref.isWhole_whole _) oM hoM xbM (Memref.isWhole_whole _) ztM (Memref.isWhole_whole _)
      gbM (Memref.isWhole_whole _) ubM (Memref.isWhole_whole _) dbM (Memref.isWhole_whole _) g16M (Memref.isWhole_whole _) u16M (Memref.isWhole_whole _) d16M (Memref.isWhole_whole _)
      cc0_scratch8 cc0_scratch9

set_option maxHeartbeats 4000000 in
theorem part4_run (i : grid0.Coords) (oM : Memref sig .tc .vmem S2560x128 .i32) (hoM : oM.IsWhole) (hs : pn i % 3 < 3) {w wg wu wd} {z : BitVec 32} (Q) :
    iprop(Src c (pn i % 3) hs w wg wu wd ∗ Fill c oM (tileG 2 z (ofV (mlp2 w wg wu wd))) (DA 2 0 0))
   ⊢ iprop((iprop(Src c (pn i % 3) hs w wg wu wd ∗ Fill c oM (tileG 2 z (ofV (mlp2 w wg wu wd))) (DA 2 1 0)) -∗ Q (mlp2 w wg wu wd))
     -∗ wp frame (wpE (defs₀ (F := F)) Variants.none (c : Thread nD τ) none) Set.univ (part4 i oM hoM) Q) := by
  unfold part4 Src
  rw [k0_part4_eq_skeleton]; unfold k0_part4_skel
  iintro ⟨⟨Hx, Hg, Hu, Hd⟩, Ho⟩ HQ
  iapply (xldLoad c hs (off35_eq i)) $$ Hx
  iintro Hx
  iapply (xldLoad c hs (off35_eq i)) $$ Hx
  iintro Hx
  iapply (xldLoad c hs (off35_eq i)) $$ Hx
  iintro Hx
  iapply (xldLoad c hs (off35_eq i)) $$ Hx
  iintro Hx
  iapply (fullLoad c (M := g16M) (by decide)) $$ Hg
  iintro Hg
  iapply (fullLoad c (M := u16M) (by decide)) $$ Hu
  iintro Hu
  iapply (fullLoad c (M := d16M) (by decide)) $$ Hd
  iintro Hd
  iapply (fillAny c) $$ Ho
  iintro %v Ho
  iapply (storeA c (by decide) rfl rfl (mlp2_ofV w wg wu wd)) $$ Ho
  iintro Ho
  iapply (Idealize.SL.Sem.le_wp_ret _ _)
  rw [← mlp2_def w wg wu wd]
  iapply HQ
  isplitr [Ho]
  · isplitl [Hx]; · iexact Hx
    isplitl [Hg]; · iexact Hg
    isplitl [Hu]; · iexact Hu
    iexact Hd
  · iexact Ho

/-- The other stores of the first 256 rows, and three of the four of the zeros behind them. -/
abbrev part5 (i : grid0.Coords) (oM : Memref sig .tc .vmem S2560x128 .i32) (hoM : oM.IsWhole) (v : IVec S256x512 32) :=
    k0_part5 (F := F) i teM (Memref.isWhole_whole _) nuM (Memref.isWhole_whole _) paM (Memref.isWhole_whole _) nxM (Memref.isWhole_whole _) n2M (Memref.isWhole_whole _) ngM (Memref.isWhole_whole _)
      xsM (Memref.isWhole_whole _) wgM (Memref.isWhole_whole _) wuM (Memref.isWhole_whole _) wdM (Memref.isWhole_whole _) oM hoM xbM (Memref.isWhole_whole _) ztM (Memref.isWhole_whole _)
      gbM (Memref.isWhole_whole _) ubM (Memref.isWhole_whole _) dbM (Memref.isWhole_whole _) g16M (Memref.isWhole_whole _) u16M (Memref.isWhole_whole _) d16M (Memref.isWhole_whole _)
      cc0_scratch8 cc0_scratch9 v

set_option maxHeartbeats 4000000 in
theorem part5_run (i : grid0.Coords) (oM : Memref sig .tc .vmem S2560x128 .i32) (hoM : oM.IsWhole) (v : IVec S256x512 32) {n : ℕ} (hn : n < 91) (fnu) (Q) :
    iprop(Tab1 c fnu (BitVec.ofNat 32 n) ∗ Fill c oM (tileG 2 (zw F) (ofV v)) (DA 2 1 0))
   ⊢ iprop((iprop(Tab1 c fnu (BitVec.ofNat 32 n) ∗ Fill c oM (tileG 2 (zw F) (ofV v)) (DA 2 4 3)) -∗ Q (k0_pay29 (F := F) (BitVec.ofNat 32 n)))
     -∗ wp frame (wpE (defs₀ (F := F)) Variants.none (c : Thread nD τ) none) Set.univ (part5 i oM hoM v) Q) := by
  unfold part5
  rw [k0_part5_eq_skeleton]; unfold k0_part5_skel
  iintro ⟨Hn, Ho⟩ HQ
  iapply (fillAny c) $$ Ho
  iintro %v1 Ho
  iapply (storeA c (by decide) rfl rfl (pay22_ofV v)) $$ Ho
  iintro Ho
  iapply (fillAny c) $$ Ho
  iintro %v2 Ho
  iapply (storeA c (by decide) rfl rfl (pay23_ofV v)) $$ Ho
  iintro Ho
  iapply (fillAny c) $$ Ho
  iintro %v3 Ho
  iapply (storeA c (by decide) rfl rfl (pay24_ofV v)) $$ Ho
  iintro Ho
  iapply (tab1Load c) $$ Hn
  iintro Hn
  iapply (fillAnyS c) $$ Ho
  iintro %u0 Ho
  iapply (storeB c (by decide) rfl rfl rfl (pay26_zero hn)) $$ Ho
  iintro Ho
  iapply (fillAnyS c) $$ Ho
  iintro %u1 Ho
  iapply (storeB c (by decide) rfl rfl rfl (pay27_zero hn)) $$ Ho
  iintro Ho
  iapply (fillAnyS c) $$ Ho
  iintro %u2 Ho
  iapply (storeB c (by decide) rfl rfl rfl (pay28_zero hn)) $$ Ho
  iintro Ho
  iapply (Idealize.SL.Sem.le_wp_ret _ _)
  iapply HQ
  isplitl [Hn]
  · iexact Hn
  · iexact Ho

theorem mlp3_ofV (w : S2560x128.Idx → BitVec 32) (wg wu : S1024x512.Idx → Elt F .bf16) (wd : S512x1024.Idx → Elt F .bf16) (x : (⟨2, ![384, 128]⟩ : Shape).Idx) :
    ofV (mlp3 w wg wu wd) (x 0).val (128 * 0 + (x 1).val) = k0_pay31 (xld (⟨![0, 0], S384x128.size, ![4, 1], inb_S2560x128_S384x128_0_0_s_4_1⟩ : LoadRect S2560x128) w) (xld (⟨![1, 0], S384x128.size, ![4, 1], inb_S2560x128_S384x128_1_0_s_4_1⟩ : LoadRect S2560x128) w) (xld (⟨![2, 0], S384x128.size, ![4, 1], inb_S2560x128_S384x128_2_0_s_4_1⟩ : LoadRect S2560x128) w) (xld (⟨![3, 0], S384x128.size, ![4, 1], inb_S2560x128_S384x128_3_0_s_4_1⟩ : LoadRect S2560x128) w) wg wu wd x :=
  pay31_ofV _ _ _ _ _ _ _ x

theorem mlp3_def (w : S2560x128.Idx → BitVec 32) (wg wu : S1024x512.Idx → Elt F .bf16) (wd : S512x1024.Idx → Elt F .bf16) :
    mlp3 w wg wu wd = k0_pay30 (xld (⟨![0, 0], S384x128.size, ![4, 1], inb_S2560x128_S384x128_0_0_s_4_1⟩ : LoadRect S2560x128) w) (xld (⟨![1, 0], S384x128.size, ![4, 1], inb_S2560x128_S384x128_1_0_s_4_1⟩ : LoadRect S2560x128) w) (xld (⟨![2, 0], S384x128.size, ![4, 1], inb_S2560x128_S384x128_2_0_s_4_1⟩ : LoadRect S2560x128) w) (xld (⟨![3, 0], S384x128.size, ![4, 1], inb_S2560x128_S384x128_3_0_s_4_1⟩ : LoadRect S2560x128) w) wg wu wd := rfl

/-- The products of the first 384 rows, and the first of the four stores of them. -/
abbrev part6 (i : grid0.Coords) (oM : Memref sig .tc .vmem S2560x128 .i32) (hoM : oM.IsWhole) :=
    k0_part6 (F := F) i teM (Memref.isWhole_whole _) nuM (Memref.isWhole_whole _) paM (Memref.isWhole_whole _) nxM (Memref.isWhole_whole _) n2M (Memref.isWhole_whole _) ngM (Memref.isWhole_whole _)
      xsM (Memref.isWhole_whole _) wgM (Memref.isWhole_whole _) wuM (Memref.isWhole_whole _) wdM (Memref.isWhole_whole _) oM hoM xbM (Memref.isWhole_whole _) ztM (Memref.isWhole_whole _)
      gbM (Memref.isWhole_whole _) ubM (Memref.isWhole_whole _) dbM (Memref.isWhole_whole _) g16M (Memref.isWhole_whole _) u16M (Memref.isWhole_whole _) d16M (Memref.isWhole_whole _)
      cc0_scratch8 cc0_scratch9

set_option maxHeartbeats 4000000 in
theorem part6_run (i : grid0.Coords) (oM : Memref sig .tc .vmem S2560x128 .i32) (hoM : oM.IsWhole) (hs : pn i % 3 < 3) {w wg wu wd} {z : BitVec 32} (Q) :
    iprop(Src c (pn i % 3) hs w wg wu wd ∗ Fill c oM (tileG 3 z (ofV (mlp3 w wg wu wd))) (DA 3 0 0))
   ⊢ iprop((iprop(Src c (pn i % 3) hs w wg wu wd ∗ Fill c oM (tileG 3 z (ofV (mlp3 w wg wu wd))) (DA 3 1 0)) -∗ Q (mlp3 w wg wu wd))
     -∗ wp frame (wpE (defs₀ (F := F)) Variants.none (c : Thread nD τ) none) Set.univ (part6 i oM hoM) Q) := by
  unfold part6 Src
  rw [k0_part6_eq_skeleton]; unfold k0_part6_skel
  iintro ⟨⟨Hx, Hg, Hu, Hd⟩, Ho⟩ HQ
  iapply (xldLoad c hs (off37_eq i)) $$ Hx
  iintro Hx
  iapply (xldLoad c hs (off37_eq i)) $$ Hx
  iintro Hx
  iapply (xldLoad c hs (off37_eq i)) $$ Hx
  iintro Hx
  iapply (xldLoad c hs (off37_eq i)) $$ Hx
  iintro Hx
  iapply (fullLoad c (M := g16M) (by decide)) $$ Hg
  iintro Hg
  iapply (fullLoad c (M := u16M) (by decide)) $$ Hu
  iintro Hu
  iapply (fullLoad c (M := d16M) (by decide)) $$ Hd
  iintro Hd
  iapply (fillAny c) $$ Ho
  iintro %v Ho
  iapply (storeA c (by decide) rfl rfl (mlp3_ofV w wg wu wd)) $$ Ho
  iintro Ho
  iapply (Idealize.SL.Sem.le_wp_ret _ _)
  rw [← mlp3_def w wg wu wd]
  iapply HQ
  isplitr [Ho]
  · isplitl [Hx]; · iexact Hx
    isplitl [Hg]; · iexact Hg
    isplitl [Hu]; · iexact Hu
    iexact Hd
  · iexact Ho

/-- The other stores of the first 384 rows, and three of the four of the zeros behind them. -/
abbrev part7 (i : grid0.Coords) (oM : Memref sig .tc .vmem S2560x128 .i32) (hoM : oM.IsWhole) (v : IVec S384x512 32) :=
    k0_part7 (F := F) i teM (Memref.isWhole_whole _) nuM (Memref.isWhole_whole _) paM (Memref.isWhole_whole _) nxM (Memref.isWhole_whole _) n2M (Memref.isWhole_whole _) ngM (Memref.isWhole_whole _)
      xsM (Memref.isWhole_whole _) wgM (Memref.isWhole_whole _) wuM (Memref.isWhole_whole _) wdM (Memref.isWhole_whole _) oM hoM xbM (Memref.isWhole_whole _) ztM (Memref.isWhole_whole _)
      gbM (Memref.isWhole_whole _) ubM (Memref.isWhole_whole _) dbM (Memref.isWhole_whole _) g16M (Memref.isWhole_whole _) u16M (Memref.isWhole_whole _) d16M (Memref.isWhole_whole _)
      cc0_scratch8 cc0_scratch9 v

set_option maxHeartbeats 4000000 in
theorem part7_run (i : grid0.Coords) (oM : Memref sig .tc .vmem S2560x128 .i32) (hoM : oM.IsWhole) (v : IVec S384x512 32) {n : ℕ} (hn : n < 91) (fnu) (Q) :
    iprop(Tab1 c fnu (BitVec.ofNat 32 n) ∗ Fill c oM (tileG 3 (zw F) (ofV v)) (DA 3 1 0))
   ⊢ iprop((iprop(Tab1 c fnu (BitVec.ofNat 32 n) ∗ Fill c oM (tileG 3 (zw F) (ofV v)) (DA 3 4 3)) -∗ Q (k0_pay39 (F := F) (BitVec.ofNat 32 n)))
     -∗ wp frame (wpE (defs₀ (F := F)) Variants.none (c : Thread nD τ) none) Set.univ (part7 i oM hoM v) Q) := by
  unfold part7
  rw [k0_part7_eq_skeleton]; unfold k0_part7_skel
  iintro ⟨Hn, Ho⟩ HQ
  iapply (fillAny c) $$ Ho
  iintro %v1 Ho
  iapply (storeA c (by decide) rfl rfl (pay32_ofV v)) $$ Ho
  iintro Ho
  iapply (fillAny c) $$ Ho
  iintro %v2 Ho
  iapply (storeA c (by decide) rfl rfl (pay33_ofV v)) $$ Ho
  iintro Ho
  iapply (fillAny c) $$ Ho
  iintro %v3 Ho
  iapply (storeA c (by decide) rfl rfl (pay34_ofV v)) $$ Ho
  iintro Ho
  iapply (tab1Load c) $$ Hn
  iintro Hn
  iapply (fillAnyS c) $$ Ho
  iintro %u0 Ho
  iapply (storeB c (by decide) rfl rfl rfl (pay36_zero hn)) $$ Ho
  iintro Ho
  iapply (fillAnyS c) $$ Ho
  iintro %u1 Ho
  iapply (storeB c (by decide) rfl rfl rfl (pay37_zero hn)) $$ Ho
  iintro Ho
  iapply (fillAnyS c) $$ Ho
  iintro %u2 Ho
  iapply (storeB c (by decide) rfl rfl rfl (pay38_zero hn)) $$ Ho
  iintro Ho
  iapply (Idealize.SL.Sem.le_wp_ret _ _)
  iapply HQ
  isplitl [Hn]
  · iexact Hn
  · iexact Ho

theorem mlp4_ofV (w : S2560x128.Idx → BitVec 32) (wg wu : S1024x512.Idx → Elt F .bf16) (wd : S512x1024.Idx → Elt F .bf16) (x : (⟨2, ![512, 128]⟩ : Shape).Idx) :
    ofV (mlp4 w wg wu wd) (x 0).val (128 * 0 + (x 1).val) = k0_pay41 (xld (⟨![0, 0], S512x128.size, ![4, 1], inb_S2560x128_S512x128_0_0_s_4_1⟩ : LoadRect S2560x128) w) (xld (⟨![1, 0], S512x128.size, ![4, 1], inb_S2560x128_S512x128_1_0_s_4_1⟩ : LoadRect S2560x128) w) (xld (⟨![2, 0], S512x128.size, ![4, 1], inb_S2560x128_S512x128_2_0_s_4_1⟩ : LoadRect S2560x128) w) (xld (⟨![3, 0], S512x128.size, ![4, 1], inb_S2560x128_S512x128_3_0_s_4_1⟩ : LoadRect S2560x128) w) wg wu wd x :=
  pay41_ofV _ _ _ _ _ _ _ x

theorem mlp4_def (w : S2560x128.Idx → BitVec 32) (wg wu : S1024x512.Idx → Elt F .bf16) (wd : S512x1024.Idx → Elt F .bf16) :
    mlp4 w wg wu wd = k0_pay40 (xld (⟨![0, 0], S512x128.size, ![4, 1], inb_S2560x128_S512x128_0_0_s_4_1⟩ : LoadRect S2560x128) w) (xld (⟨![1, 0], S512x128.size, ![4, 1], inb_S2560x128_S512x128_1_0_s_4_1⟩ : LoadRect S2560x128) w) (xld (⟨![2, 0], S512x128.size, ![4, 1], inb_S2560x128_S512x128_2_0_s_4_1⟩ : LoadRect S2560x128) w) (xld (⟨![3, 0], S512x128.size, ![4, 1], inb_S2560x128_S512x128_3_0_s_4_1⟩ : LoadRect S2560x128) w) wg wu wd := rfl

/-- The products of the first 512 rows, and the first of the four stores of them. -/
abbrev part8 (i : grid0.Coords) (oM : Memref sig .tc .vmem S2560x128 .i32) (hoM : oM.IsWhole) :=
    k0_part8 (F := F) i teM (Memref.isWhole_whole _) nuM (Memref.isWhole_whole _) paM (Memref.isWhole_whole _) nxM (Memref.isWhole_whole _) n2M (Memref.isWhole_whole _) ngM (Memref.isWhole_whole _)
      xsM (Memref.isWhole_whole _) wgM (Memref.isWhole_whole _) wuM (Memref.isWhole_whole _) wdM (Memref.isWhole_whole _) oM hoM xbM (Memref.isWhole_whole _) ztM (Memref.isWhole_whole _)
      gbM (Memref.isWhole_whole _) ubM (Memref.isWhole_whole _) dbM (Memref.isWhole_whole _) g16M (Memref.isWhole_whole _) u16M (Memref.isWhole_whole _) d16M (Memref.isWhole_whole _)
      cc0_scratch8 cc0_scratch9

set_option maxHeartbeats 4000000 in
theorem part8_run (i : grid0.Coords) (oM : Memref sig .tc .vmem S2560x128 .i32) (hoM : oM.IsWhole) (hs : pn i % 3 < 3) {w wg wu wd} {z : BitVec 32} (Q) :
    iprop(Src c (pn i % 3) hs w wg wu wd ∗ Fill c oM (tileG 4 z (ofV (mlp4 w wg wu wd))) (DA 4 0 0))
   ⊢ iprop((iprop(Src c (pn i % 3) hs w wg wu wd ∗ Fill c oM (tileG 4 z (ofV (mlp4 w wg wu wd))) (DA 4 1 0)) -∗ Q (mlp4 w wg wu wd))
     -∗ wp frame (wpE (defs₀ (F := F)) Variants.none (c : Thread nD τ) none) Set.univ (part8 i oM hoM) Q) := by
  unfold part8 Src
  rw [k0_part8_eq_skeleton]; unfold k0_part8_skel
  iintro ⟨⟨Hx, Hg, Hu, Hd⟩, Ho⟩ HQ
  iapply (xldLoad c hs (off39_eq i)) $$ Hx
  iintro Hx
  iapply (xldLoad c hs (off39_eq i)) $$ Hx
  iintro Hx
  iapply (xldLoad c hs (off39_eq i)) $$ Hx
  iintro Hx
  iapply (xldLoad c hs (off39_eq i)) $$ Hx
  iintro Hx
  iapply (fullLoad c (M := g16M) (by decide)) $$ Hg
  iintro Hg
  iapply (fullLoad c (M := u16M) (by decide)) $$ Hu
  iintro Hu
  iapply (fullLoad c (M := d16M) (by decide)) $$ Hd
  iintro Hd
  iapply (fillAny c) $$ Ho
  iintro %v Ho
  iapply (storeA c (by decide) rfl rfl (mlp4_ofV w wg wu wd)) $$ Ho
  iintro Ho
  iapply (Idealize.SL.Sem.le_wp_ret _ _)
  rw [← mlp4_def w wg wu wd]
  iapply HQ
  isplitr [Ho]
  · isplitl [Hx]; · iexact Hx
    isplitl [Hg]; · iexact Hg
    isplitl [Hu]; · iexact Hu
    iexact Hd
  · iexact Ho

/-- The other stores of the first 512 rows, and three of the four of the zeros behind them. -/
abbrev part9 (i : grid0.Coords) (oM : Memref sig .tc .vmem S2560x128 .i32) (hoM : oM.IsWhole) (v : IVec S512x512 32) :=
    k0_part9 (F := F) i teM (Memref.isWhole_whole _) nuM (Memref.isWhole_whole _) paM (Memref.isWhole_whole _) nxM (Memref.isWhole_whole _) n2M (Memref.isWhole_whole _) ngM (Memref.isWhole_whole _)
      xsM (Memref.isWhole_whole _) wgM (Memref.isWhole_whole _) wuM (Memref.isWhole_whole _) wdM (Memref.isWhole_whole _) oM hoM xbM (Memref.isWhole_whole _) ztM (Memref.isWhole_whole _)
      gbM (Memref.isWhole_whole _) ubM (Memref.isWhole_whole _) dbM (Memref.isWhole_whole _) g16M (Memref.isWhole_whole _) u16M (Memref.isWhole_whole _) d16M (Memref.isWhole_whole _)
      cc0_scratch8 cc0_scratch9 v

set_option maxHeartbeats 4000000 in
theorem part9_run (i : grid0.Coords) (oM : Memref sig .tc .vmem S2560x128 .i32) (hoM : oM.IsWhole) (v : IVec S512x512 32) {n : ℕ} (hn : n < 91) (fnu) (Q) :
    iprop(Tab1 c fnu (BitVec.ofNat 32 n) ∗ Fill c oM (tileG 4 (zw F) (ofV v)) (DA 4 1 0))
   ⊢ iprop((iprop(Tab1 c fnu (BitVec.ofNat 32 n) ∗ Fill c oM (tileG 4 (zw F) (ofV v)) (DA 4 4 3)) -∗ Q (k0_pay49 (F := F) (BitVec.ofNat 32 n)))
     -∗ wp frame (wpE (defs₀ (F := F)) Variants.none (c : Thread nD τ) none) Set.univ (part9 i oM hoM v) Q) := by
  unfold part9
  rw [k0_part9_eq_skeleton]; unfold k0_part9_skel
  iintro ⟨Hn, Ho⟩ HQ
  iapply (fillAny c) $$ Ho
  iintro %v1 Ho
  iapply (storeA c (by decide) rfl rfl (pay42_ofV v)) $$ Ho
  iintro Ho
  iapply (fillAny c) $$ Ho
  iintro %v2 Ho
  iapply (storeA c (by decide) rfl rfl (pay43_ofV v)) $$ Ho
  iintro Ho
  iapply (fillAny c) $$ Ho
  iintro %v3 Ho
  iapply (storeA c (by decide) rfl rfl (pay44_ofV v)) $$ Ho
  iintro Ho
  iapply (tab1Load c) $$ Hn
  iintro Hn
  iapply (fillAnyS c) $$ Ho
  iintro %u0 Ho
  iapply (storeB c (by decide) rfl rfl rfl (pay46_zero hn)) $$ Ho
  iintro Ho
  iapply (fillAnyS c) $$ Ho
  iintro %u1 Ho
  iapply (storeB c (by decide) rfl rfl rfl (pay47_zero hn)) $$ Ho
  iintro Ho
  iapply (fillAnyS c) $$ Ho
  iintro %u2 Ho
  iapply (storeB c (by decide) rfl rfl rfl (pay48_zero hn)) $$ Ho
  iintro Ho
  iapply (Idealize.SL.Sem.le_wp_ret _ _)
  iapply HQ
  isplitl [Hn]
  · iexact Hn
  · iexact Ho

theorem mlp5_ofV (w : S2560x128.Idx → BitVec 32) (wg wu : S1024x512.Idx → Elt F .bf16) (wd : S512x1024.Idx → Elt F .bf16) (x : (⟨2, ![640, 128]⟩ : Shape).Idx) :
    ofV (mlp5 w wg wu wd) (x 0).val (128 * 0 + (x 1).val) = k0_pay51 (xld (⟨![0, 0], S640x128.size, ![4, 1], inb_S2560x128_S640x128_0_0_s_4_1⟩ : LoadRect S2560x128) w) (xld (⟨![1, 0], S640x128.size, ![4, 1], inb_S2560x128_S640x128_1_0_s_4_1⟩ : LoadRect S2560x128) w) (xld (⟨![2, 0], S640x128.size, ![4, 1], inb_S2560x128_S640x128_2_0_s_4_1⟩ : LoadRect S2560x128) w) (xld (⟨![3, 0], S640x128.size, ![4, 1], inb_S2560x128_S640x128_3_0_s_4_1⟩ : LoadRect S2560x128) w) wg wu wd x :=
  pay51_ofV _ _ _ _ _ _ _ x

theorem mlp5_def (w : S2560x128.Idx → BitVec 32) (wg wu : S1024x512.Idx → Elt F .bf16) (wd : S512x1024.Idx → Elt F .bf16) :
    mlp5 w wg wu wd = k0_pay50 (xld (⟨![0, 0], S640x128.size, ![4, 1], inb_S2560x128_S640x128_0_0_s_4_1⟩ : LoadRect S2560x128) w) (xld (⟨![1, 0], S640x128.size, ![4, 1], inb_S2560x128_S640x128_1_0_s_4_1⟩ : LoadRect S2560x128) w) (xld (⟨![2, 0], S640x128.size, ![4, 1], inb_S2560x128_S640x128_2_0_s_4_1⟩ : LoadRect S2560x128) w) (xld (⟨![3, 0], S640x128.size, ![4, 1], inb_S2560x128_S640x128_3_0_s_4_1⟩ : LoadRect S2560x128) w) wg wu wd := rfl

/-- The products of the first 640 rows, and the first of the four stores of them. -/
abbrev part10 (i : grid0.Coords) (oM : Memref sig .tc .vmem S2560x128 .i32) (hoM : oM.IsWhole) :=
    k0_part10 (F := F) i teM (Memref.isWhole_whole _) nuM (Memref.isWhole_whole _) paM (Memref.isWhole_whole _) nxM (Memref.isWhole_whole _) n2M (Memref.isWhole_whole _) ngM (Memref.isWhole_whole _)
      xsM (Memref.isWhole_whole _) wgM (Memref.isWhole_whole _) wuM (Memref.isWhole_whole _) wdM (Memref.isWhole_whole _) oM hoM xbM (Memref.isWhole_whole _) ztM (Memref.isWhole_whole _)
      gbM (Memref.isWhole_whole _) ubM (Memref.isWhole_whole _) dbM (Memref.isWhole_whole _) g16M (Memref.isWhole_whole _) u16M (Memref.isWhole_whole _) d16M (Memref.isWhole_whole _)
      cc0_scratch8 cc0_scratch9

set_option maxHeartbeats 4000000 in
theorem part10_run (i : grid0.Coords) (oM : Memref sig .tc .vmem S2560x128 .i32) (hoM : oM.IsWhole) (hs : pn i % 3 < 3) {w wg wu wd} {z : BitVec 32} (Q) :
    iprop(Src c (pn i % 3) hs w wg wu wd ∗ Fill c oM (tileG 5 z (ofV (mlp5 w wg wu wd))) (DA 5 0 0))
   ⊢ iprop((iprop(Src c (pn i % 3) hs w wg wu wd ∗ Fill c oM (tileG 5 z (ofV (mlp5 w wg wu wd))) (DA 5 1 0)) -∗ Q (mlp5 w wg wu wd))
     -∗ wp frame (wpE (defs₀ (F := F)) Variants.none (c : Thread nD τ) none) Set.univ (part10 i oM hoM) Q) := by
  unfold part10 Src
  rw [k0_part10_eq_skeleton]; unfold k0_part10_skel
  iintro ⟨⟨Hx, Hg, Hu, Hd⟩, Ho⟩ HQ
  iapply (xldLoad c hs (off41_eq i)) $$ Hx
  iintro Hx
  iapply (xldLoad c hs (off41_eq i)) $$ Hx
  iintro Hx
  iapply (xldLoad c hs (off41_eq i)) $$ Hx
  iintro Hx
  iapply (xldLoad c hs (off41_eq i)) $$ Hx
  iintro Hx
  iapply (fullLoad c (M := g16M) (by decide)) $$ Hg
  iintro Hg
  iapply (fullLoad c (M := u16M) (by decide)) $$ Hu
  iintro Hu
  iapply (fullLoad c (M := d16M) (by decide)) $$ Hd
  iintro Hd
  iapply (fillAny c) $$ Ho
  iintro %v Ho
  iapply (storeA c (by decide) rfl rfl (mlp5_ofV w wg wu wd)) $$ Ho
  iintro Ho
  iapply (Idealize.SL.Sem.le_wp_ret _ _)
  rw [← mlp5_def w wg wu wd]
  iapply HQ
  isplitr [Ho]
  · isplitl [Hx]; · iexact Hx
    isplitl [Hg]; · iexact Hg
    isplitl [Hu]; · iexact Hu
    iexact Hd
  · iexact Ho

end Cert.Kernel.Hand
-- ==== Proof.Parts.lean ====
/-
  Hand-written. The first part of the kernel's body at a tile that starts a run of tiles of one expert: at the first grid point the
  weights of the first two runs set out; the run's weights are waited for, and its first array is rounded into its buffer.
-/
module

public import proofs.«01_k».proof.Proof.Cells
public import proofs.«01_k».proof.Proof.Words

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-- The proof's user algebra: the pipeline library's beside the transfers' counters. -/
local notation "𝕄" => MT nD τ sig Unit (Elt F) ℕ (Pipeline.UD sig nD τ) ℕ

variable (c : Dev nD) (fx : Cnt (F := F) c xsM)
variable (fg : Cnt (F := F) c wgM) (fu : Cnt (F := F) c wuM) (fd : Cnt (F := F) c wdM)

variable (p : Plan) {te pa nx n2 ng : ℕ → BitVec 32} (hp : p.Fits te pa nx n2 ng)
   (fte : Cnt (F := F) c teM) (fpa : Cnt (F := F) c paM) (fnx : Cnt (F := F) c nxM)

/-- The three weight copies to a free buffer `k % 3`, issued one after the other. -/
theorem start3 {k : ℕ} {o₁ o₁' o₁'' : Fin 1 → ℕ} {o₂ o₂' o₂'' o₃ o₃' o₃'' : Fin 3 → ℕ}
    (e₁ : o₁ = ![k % 3]) (e₁' : o₁' = ![k % 3]) (e₁'' : o₁'' = ![k % 3]) (e₂ : o₂ = ![k % 3, 0, 0]) (e₂' : o₂' = ![k % 3, 0, 0]) (e₂'' : o₂'' = ![k % 3, 0, 0])
    (e₃ : o₃ = ![p.E k, 0, 0]) (e₃' : o₃' = ![p.E k, 0, 0]) (e₃'' : o₃'' = ![p.E k, 0, 0]) {h₁ h₁' h₁'' h₂ h₂' h₂'' h₃ h₃' h₃''}
    {w₁ : (asrc wgM o₃ h₃).view.WordExact} {w₂ : (aslot gbM o₂ h₂).view.WordExact} {w₃}
    {w₁' : (asrc wuM o₃' h₃').view.WordExact} {w₂' : (aslot ubM o₂' h₂').view.WordExact} {w₃'}
    {w₁'' : (dsrc o₃'' h₃'').view.WordExact} {w₂'' : (dslot o₂'' h₂'').view.WordExact} {w₃''}
    {α : Type} {K : PUnit → Prog (TpuEff nD τ sig (Elt F) Λ₀ .tc) α} {Q : α → sProp 𝕄} :
    WC c fg fu fd p k False ⊢ iprop((WC c fg fu fd p k True -∗ wp frame (wpE (defs₀ (F := F)) Variants.none (c : Thread nD τ) none) Set.univ (K ⟨⟩) Q)
      -∗ wp frame (wpE (defs₀ (F := F)) Variants.none (c : Thread nD τ) none) Set.univ
          (Prog.lift (.enqueueDma (asrc wgM o₃ h₃) (.here (aslot gbM o₂ h₂)) (.dma (wsem o₁ h₁)) w₁ w₂ w₃) >>= fun _ =>
            Prog.lift (.enqueueDma (asrc wuM o₃' h₃') (.here (aslot ubM o₂' h₂')) (.dma (wsem o₁' h₁')) w₁' w₂' w₃') >>= fun _ =>
            Prog.lift (.enqueueDma (dsrc o₃'' h₃'') (.here (dslot o₂'' h₂'')) (.dma (wsem o₁'' h₁'')) w₁'' w₂'' w₃'') >>= K) Q) := by
  unfold WC
  rw [if_neg not_false, if_pos trivial]
  iintro H Hk
  iapply liftOp
  iapply (wStart0 c fg fu fd (m3 k) (p.hE k) e₁ e₂ e₃) $$ H
  iintro H
  iapply liftOp
  iapply (wStart1 c fg fu fd (m3 k) (p.hE k) e₁' e₂' e₃') $$ H
  iintro H
  iapply liftOp
  iapply (wStart2 c fg fu fd (m3 k) (p.hE k) e₁'' e₂'' e₃'') $$ H
  iexact Hk

omit [BitOps F] in
theorem WC_congr {k k' : ℕ} (hk : k = k') {b b' : Prop} [Decidable b] [Decidable b'] (hb : b ↔ b') : WC c fg fu fd p k b = WC c fg fu fd p k' b' := by
  subst hk
  unfold WC
  by_cases h : b
  · rw [if_pos h, if_pos (hb.1 h)]
  · rw [if_neg h, if_neg (fun h' => h (hb.2 h'))]

/-- The kernel's first part, on the kernel's own buffers. -/
abbrev part1 (i : grid0.Coords) (oM : Memref sig .tc .vmem S2560x128 .i32) (hoM : oM.IsWhole) (v0 : BitVec 32) (h1 : k0_cond1 i v0 = 1#1) (v30 v33 : BitVec 32) (h6 : k0_cond6 i v30 v33 = 1#1) :=
    k0_part1 (F := F) i teM (Memref.isWhole_whole _) nuM (Memref.isWhole_whole _) paM (Memref.isWhole_whole _) nxM (Memref.isWhole_whole _) n2M (Memref.isWhole_whole _) ngM (Memref.isWhole_whole _)
      xsM (Memref.isWhole_whole _) wgM (Memref.isWhole_whole _) wuM (Memref.isWhole_whole _) wdM (Memref.isWhole_whole _) oM hoM xbM (Memref.isWhole_whole _) ztM (Memref.isWhole_whole _)
      gbM (Memref.isWhole_whole _) ubM (Memref.isWhole_whole _) dbM (Memref.isWhole_whole _) g16M (Memref.isWhole_whole _) u16M (Memref.isWhole_whole _) d16M (Memref.isWhole_whole _)
      cc0_scratch8 cc0_scratch9 (BitVec.ofNat 32 (i 0).val) v0 h1 v30 v33 h6

include hp in
set_option maxHeartbeats 4000000 in
/-- The part's second half: the run's weights are waited for and the first of them rounded. -/
theorem part1_run (i : grid0.Coords) (oM : Memref sig .tc .vmem S2560x128 .i32) (hoM : oM.IsWhole)
   (v0 v30 v33 : BitVec 32) (hi : pn i < p.n) (hk : p.K (pn i + 1) = p.K (pn i) + 1) (h1 : k0_cond1 i v0 = 1#1) (h6 : k0_cond6 i v30 v33 = 1#1)
   (w : S1024x512.Idx → Elt F .bf16) (Q) :
  iprop(Tab c teM fte te ∗ Tab c paM fpa pa ∗ Tab c nxM fnx nx ∗ WC c fg fu fd p (p.K (pn i)) (0 < pn i) ∗ WC c fg fu fd p (p.K (pn i) + 1) (0 < pn i ∧ p.K (pn i) + 1 < p.nseg) ∗ Ow c ∗ Held c g16M w)
   ⊢ iprop((iprop(Tab c teM fte te ∗ Tab c paM fpa pa ∗ Tab c nxM fnx nx ∗ WL c fg fu fd (p.K (pn i) % 3) (m3 _) (p.E (p.K (pn i))) (p.hE _) ∗ WC c fg fu fd p (p.K (pn i) + 1) (p.K (pn i) + 1 < p.nseg)
       ∗ Ow c ∗ Held c g16M (k0_pay9 (gvec c fg (p.E (p.K (pn i))) (p.hE _)))) -∗ Q ⟨BitVec.ofNat 32 (p.K (pn i) % 3), chk4_of i v0 v30 v33 ⟨p.K (pn i) % 3, m3 _⟩⟩)
     -∗ wp frame (wpE (defs₀ (F := F)) Variants.none c none) Set.univ (part1 i oM hoM v0 h1 v30 v33 h6) Q) := by
  unfold part1
  rw [k0_part1_eq_skeleton]; unfold k0_part1_skel
  have hte : te (pn i) = BitVec.ofNat 32 (p.E (p.K (pn i))) := by rw [hp.te_eq _ hi, Plan.ex, hk, Nat.add_sub_cancel]
  have hle : p.K (pn i) + 1 ≤ p.nseg := by rw [← hk]; exact p.hKle _ hi
  let s : Fin 3 := ⟨p.K (pn i) % 3, m3 _⟩
  let e : Fin 32 := ⟨p.E (p.K (pn i)), p.hE _⟩
  by_cases h0' : 0 < pn i
  case' neg =>
    have h0 : pn i = 0 := by omega
    have h7 := (cond7_iff i).2 h0
    have hK : p.K (pn i) = 0 := by rw [h0, p.hK0]
    rw [WC_congr c fg fu fd p rfl (b := 0 < pn i) (b' := False) (iff_false_intro (by omega)), WC_congr c fg fu fd p (k := p.K (pn i) + 1) rfl (b := 0 < pn i ∧ p.K (pn i) + 1 < p.nseg) (b' := False) (iff_false_intro (by omega))]
    iintro ⟨Ht, Hp, Hn, HW0, HW1, HO, Hg⟩ HQ
    iapply (tabLoad c (pn_lt i) (off6_eq i) (hp.pa_eq _ hi hk)) $$ Hp
    iintro Hp
    iapply liftOp
    iapply (wp_assume _ _ _ _ (chk4_of i v0 v30 v33 s))
    rw [dif_pos h7]
    iapply (tabLoad c (t := 0) (by decide) rfl (w := BitVec.ofNat 32 (p.E (p.K (pn i)))) (by rw [← hte, h0])) $$ Ht
    iintro Ht
    iapply liftOp
    iapply (wp_assume _ _ _ _ (chk2_of i v0 v30 v33 e))
    iapply (start3 c fg fu fd p (k := p.K (pn i)) (by rw [hK]) (by rw [hK]) (by rw [hK]) (by rw [hK]) (by rw [hK]) (by rw [hK]) (off7_eq e) (off7_eq e) (off8_eq e)) $$ HW0
    iintro HW0
    rcases (Nat.lt_or_ge 1 p.nseg) with h2 | h2
    case' inl =>
      have hnx : nx 0 = BitVec.ofNat 32 (p.E 1) := by rw [hp.nx_eq (by omega), if_pos h2]
      let e1 : Fin 32 := ⟨p.E 1, p.hE _⟩
      iapply (tabLoad c (t := 0) (by decide) rfl hnx) $$ Hn
      iintro Hn
      rw [dif_pos (cond8_of e1)]
      iapply (tabLoad c (t := 0) (by decide) rfl hnx) $$ Hn
      iintro Hn
      iapply liftOp
      iapply (wp_assume _ _ _ _ (chk3_of i v0 v30 v33 _ e1))
      iapply (start3 c fg fu fd p (k := p.K (pn i) + 1) (by rw [hK]) (by rw [hK]) (by rw [hK]) (by rw [hK]) (by rw [hK]) (by rw [hK])
        (by rw [hK]; exact off9_eq e1) (by rw [hK]; exact off9_eq e1) (by rw [hK]; exact off10_eq e1)) $$ HW1
      iintro HW1
    case' inr =>
      have hnx : nx 0 = -1#32 := by rw [hp.nx_eq (by omega), if_neg (by omega)]
      iapply (tabLoad c (t := 0) (by decide) rfl hnx) $$ Hn
      iintro Hn
      rw [dif_neg cond8_neg]
  case' pos =>
    have h7 : ¬ k0_cond7 i = 1#1 := fun h => absurd ((cond7_iff i).1 h) (by omega)
    rw [WC_congr c fg fu fd p rfl (b := 0 < pn i) (b' := True) (iff_true_intro (by omega)), WC_congr c fg fu fd p (k := p.K (pn i) + 1) rfl (b := 0 < pn i ∧ p.K (pn i) + 1 < p.nseg) (b' := p.K (pn i) + 1 < p.nseg) (by omega)]
    iintro ⟨Ht, Hp, Hn, HW0, HW1, HO, Hg⟩ HQ
    iapply (tabLoad c (pn_lt i) (off6_eq i) (hp.pa_eq _ hi hk)) $$ Hp
    iintro Hp
    iapply liftOp
    iapply (wp_assume _ _ _ _ (chk4_of i v0 v30 v33 s))
    rw [dif_neg h7]
  all_goals
    iapply (tabLoad c (pn_lt i) (off6_eq i) hte) $$ Ht
    iintro Ht
    iapply liftOp
    iapply (wp_assume _ _ _ _ (chk5_of i v0 v30 v33 e))
    ihave HW0 := (show WC c fg fu fd p (p.K (pn i)) True ⊢ WI c fg fu fd (p.K (pn i) % 3) (m3 _) (p.E (p.K (pn i))) (p.hE _) 0 from
      Entails.of_eq (by unfold WC; rw [if_pos trivial])) $$ HW0
    iapply liftOp
    iapply (wWaitA c fg fu fd (m3 _) (p.hE (p.K (pn i))) 0 (by decide) (off11_eq s)) $$ [HW0 HO]
    · isplitl [HW0]; · iexact HW0
      iexact HO
    iintro ⟨HW0, HO⟩
    iapply liftOp
    iapply (wWaitA c fg fu fd (m3 _) (p.hE (p.K (pn i))) (0 + 65536) (by decide) (off14_eq s)) $$ [HW0 HO]
    · isplitl [HW0]; · iexact HW0
      iexact HO
    iintro ⟨HW0, HO⟩
    iapply liftOp
    iapply (wWaitD c fg fu fd (m3 _) (p.hE (p.K (pn i))) (off14_eq s)) $$ [HW0 HO]
    · isplitl [HW0]; · iexact HW0
      iexact HO
    iintro ⟨HW0, HO⟩
    iapply (wLoadG c fg fu fd (m3 _) (p.hE (p.K (pn i))) (off18_eq s)) $$ HW0
    iintro HW0
    iapply (fullLoad c (M := g16M) (by decide)) $$ Hg
    iintro Hg
    iapply (fullStore c (M := g16M) (v := k0_pay9 (gvec c fg (p.E (p.K (pn i))) (p.hE _))) (by decide)) $$ Hg
    iintro Hg
    iapply (Idealize.SL.Sem.le_wp_ret _ _)
    iapply HQ
    isplitl [Ht]; · iexact Ht
    isplitl [Hp]; · iexact Hp
    isplitl [Hn]; · iexact Hn
    isplitl [HW0]; · iexact HW0
    isplitl [HW1]
    · first
      | iexact HW1
      | (rw [WC_congr c fg fu fd p (k := p.K (pn i) + 1) rfl (b := p.K (pn i) + 1 < p.nseg) (b' := True) (iff_true_intro (by omega))]; iexact HW1)
      | (rw [WC_congr c fg fu fd p (k := p.K (pn i) + 1) rfl (b := p.K (pn i) + 1 < p.nseg) (b' := False) (iff_false_intro (by omega))]; iexact HW1)
    isplitl [HO]; · iexact HO
    iexact Hg

end Cert.Kernel.Hand
-- ==== Proof.Part11.lean ====
/-
  Hand-written. The last part of the kernel's body, which comes first in time: at a tile in use it sends for the rows of the tile two
  further on, at a tile that starts a run brings the run's weights in and sends for those of the run two further on, and waits for the tile's rows.
-/
module

public import proofs.«01_k».proof.Proof.Parts
public import proofs.«01_k».proof.Proof.Words

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-- The proof's user algebra: the pipeline library's beside the transfers' counters. -/
local notation "𝕄" => MT nD τ sig Unit (Elt F) ℕ (Pipeline.UD sig nD τ) ℕ

variable (c : Dev nD) (fx : Cnt (F := F) c xsM)
variable (fg : Cnt (F := F) c wgM) (fu : Cnt (F := F) c wuM) (fd : Cnt (F := F) c wdM)

variable (p : Plan) {te pa nx n2 ng : ℕ → BitVec 32} (hp : p.Fits te pa nx n2 ng)
   (fte : Cnt (F := F) c teM) (fpa : Cnt (F := F) c paM) (fnx : Cnt (F := F) c nxM) (fn2 : Cnt (F := F) c n2M)

omit [BitOps F] in
theorem XC_congr {j j' : ℕ} (hj : j = j') {b b' : Prop} [Decidable b] [Decidable b'] (hb : b ↔ b') : XC c fx j b = XC c fx j' b' := by
  subst hj
  have : b = b' := propext hb
  subst this
  congr
omit [BitOps F] in
theorem XC_cyc {j j' : ℕ} (hj : j' = j + 3) : XC c fx j False = XC c fx j' False := by
  subst hj
  have e : ∀ s s' (hs : s < 3) (hs' : s' < 3), s = s' → XF c fx s hs = XF c fx s' hs' := by intro s s' hs hs' h; subst h; rfl
  unfold XC
  rw [dif_neg (fun h => h.1), dif_neg (fun h => h.1)]
  exact e _ _ _ _ (by omega)
omit [BitOps F] in
theorem WC_cyc {k k' : ℕ} (hk : k' = k + 3) : WC c fg fu fd p k False = WC c fg fu fd p k' False := by
  subst hk
  have e : ∀ s s' (hs : s < 3) (hs' : s' < 3), s = s' → WF c fg fu fd s hs = WF c fg fu fd s' hs' := by intro s s' hs hs' h; subst h; rfl
  unfold WC
  rw [if_neg not_false, if_neg not_false]
  exact e _ _ _ _ (by omega)

theorem xStartC {j : ℕ} (hj : j < 90) {o₁ : Fin 1 → ℕ} {o₂ : Fin 3 → ℕ} {o₃ : Fin 2 → ℕ}
    (e₁ : o₁ = ![j % 3]) (e₂ : o₂ = ![j % 3, 0, 0]) (e₃ : o₃ = ![2560 * j, 0]) {h₁ h₂ h₃}
    {w₁ : (xtile o₃ h₃).view.WordExact} {w₂ : (xslot o₂ h₂).view.WordExact} {w₃}
    {α : Type} {k : PUnit → Prog (TpuEff nD τ sig (Elt F) Λ₀ .tc) α} {Q : α → sProp 𝕄} :
    XC c fx j False ⊢ iprop((XC c fx j True -∗ wp frame (wpE (defs₀ (F := F)) Variants.none (c : Thread nD τ) none) Set.univ (k ⟨⟩) Q)
      -∗ wp frame (wpE (defs₀ (F := F)) Variants.none (c : Thread nD τ) none) Set.univ
          (Prog.lift (.enqueueDma (xtile o₃ h₃) (.here (xslot o₂ h₂)) (.dma (xsem o₁ h₁)) w₁ w₂ w₃) >>= k) Q) := by
  unfold XC
  rw [dif_neg (fun h => h.1), dif_pos ⟨trivial, hj⟩]
  iintro H Hk
  iapply liftOp
  iapply (xStart c fx (m3 j) hj e₁ e₂ e₃) $$ H
  iexact Hk

theorem xWaitC {j : ℕ} (hj : j < 90) {o₁ : Fin 1 → ℕ} {o₂ : Fin 3 → ℕ} {o₃ : Fin 2 → ℕ}
    (e₁ : o₁ = ![j % 3]) (e₂ : o₂ = ![j % 3, 0, 0]) {h₁ h₂ h₃}
    {w₁ : (xtile o₃ h₃).view.WordExact} {w₂ : (xslot o₂ h₂).view.WordExact}
    {α : Type} {k : PUnit → Prog (TpuEff nD τ sig (Elt F) Λ₀ .tc) α} {Q : α → sProp 𝕄} :
    iprop(XC c fx j True ∗ Ow c) ⊢ iprop((iprop(XL c fx (j % 3) (m3 j) j hj ∗ Ow c) -∗ wp frame (wpE (defs₀ (F := F)) Variants.none (c : Thread nD τ) none) Set.univ (k ⟨⟩) Q)
      -∗ wp frame (wpE (defs₀ (F := F)) Variants.none (c : Thread nD τ) none) Set.univ
          (Prog.lift (.waitDma2 (xsem o₁ h₁) (xtile o₃ h₃) (xslot o₂ h₂) w₁ w₂) >>= k) Q) := by
  unfold XC
  rw [dif_pos ⟨trivial, hj⟩]
  iintro H Hk
  iapply liftOp
  iapply (xWait c fx (m3 j) hj e₁ e₂) $$ H
  iexact Hk

/-- The bf16 weights of run `k`. -/
def bG (k : ℕ) : S1024x512.Idx → Elt F .bf16 := k0_pay9 (gvec c fg (p.E k) (p.hE k))
def bU (k : ℕ) : S1024x512.Idx → Elt F .bf16 := k0_pay52 (uvec c fu (p.E k) (p.hE k))
def bD (k : ℕ) : S512x1024.Idx → Elt F .bf16 := k0_pay53 (dvec c fd (p.E k) (p.hE k))

/-- The ring of weights from run `k` on: two runs on their way, if `b`. -/
def W3 (k : ℕ) (b : Prop) [Decidable b] : sProp 𝕄 :=
  iprop(WC c fg fu fd p k (b ∧ k < p.nseg) ∗ WC c fg fu fd p (k + 1) (b ∧ k + 1 < p.nseg) ∗ WC c fg fu fd p (k + 2) False)
/-- The three buffers of bf16 weights. -/
def B3 (wg wu : S1024x512.Idx → Elt F .bf16) (wd : S512x1024.Idx → Elt F .bf16) : sProp 𝕄 :=
  iprop(Held c g16M wg ∗ Held c u16M wu ∗ Held c d16M wd)
/-- The four tables this part reads. -/
def T4 (te pa nx n2 : ℕ → BitVec 32) : sProp 𝕄 := iprop(Tab c teM fte te ∗ Tab c paM fpa pa ∗ Tab c nxM fnx nx ∗ Tab c n2M fn2 n2)

omit [BitOps F] in
theorem W3_start {k : ℕ} (hk : k < p.nseg) (b : Prop) [Decidable b] :
    W3 c fg fu fd p k b ⊢ iprop(WC c fg fu fd p k b ∗ WC c fg fu fd p (k + 1) (b ∧ k + 1 < p.nseg) ∗ WC c fg fu fd p (k + 2) False) := by
  unfold W3
  rw [WC_congr c fg fu fd p (k := k) rfl (b := b ∧ k < p.nseg) (b' := b) (and_iff_left hk)]
theorem W3_next {k : ℕ} :
    iprop(WL c fg fu fd (k % 3) (m3 _) (p.E k) (p.hE k) ∗ WC c fg fu fd p (k + 1) (k + 1 < p.nseg) ∗ WC c fg fu fd p (k + 2) (k + 2 < p.nseg)) ⊢ W3 c fg fu fd p (k + 1) True := by
  unfold W3
  rw [WC_congr c fg fu fd p (k := k + 1) rfl (b := True ∧ k + 1 < p.nseg) (b' := k + 1 < p.nseg) (iff_of_eq (true_and _)),
    WC_congr c fg fu fd p (k := k + 1 + 1) (k' := k + 2) rfl (b := True ∧ k + 1 + 1 < p.nseg) (b' := k + 2 < p.nseg) (iff_of_eq (true_and _)),
    ← WC_cyc c fg fu fd p (k := k) (k' := k + 1 + 2) rfl]
  iintro ⟨H, H1, H2⟩
  isplitl [H1]; · iexact H1
  isplitl [H2]; · iexact H2
  unfold WC
  rw [if_neg not_false]
  iapply (WL_free c fg fu fd (m3 k) (p.hE k)); iexact H

abbrev part11 (i : grid0.Coords) (oM : Memref sig .tc .vmem S2560x128 .i32) (hoM : oM.IsWhole) (v0 : BitVec 32) (hw1 : k0_chk1 i v0) (h1 : k0_cond1 i v0 = 1#1) :=
    k0_part11 (F := F) i teM (Memref.isWhole_whole _) nuM (Memref.isWhole_whole _) paM (Memref.isWhole_whole _) nxM (Memref.isWhole_whole _) n2M (Memref.isWhole_whole _) ngM (Memref.isWhole_whole _)
      xsM (Memref.isWhole_whole _) wgM (Memref.isWhole_whole _) wuM (Memref.isWhole_whole _) wdM (Memref.isWhole_whole _) oM hoM xbM (Memref.isWhole_whole _) ztM (Memref.isWhole_whole _)
      gbM (Memref.isWhole_whole _) ubM (Memref.isWhole_whole _) dbM (Memref.isWhole_whole _) g16M (Memref.isWhole_whole _) u16M (Memref.isWhole_whole _) d16M (Memref.isWhole_whole _)
      cc0_scratch8 cc0_scratch9 (BitVec.ofNat 32 (i 0).val) v0 hw1 h1

include hp in
set_option maxHeartbeats 16000000 in
theorem part11_run (i : grid0.Coords) (oM : Memref sig .tc .vmem S2560x128 .i32) (hoM : oM.IsWhole)
   (hi : pn i < p.n) (hw1) (h1 : k0_cond1 i (BitVec.ofNat 32 p.n) = 1#1)
   (wg wu : S1024x512.Idx → Elt F .bf16) (wd : S512x1024.Idx → Elt F .bf16)
   (hB : 0 < pn i → wg = bG c fg p (p.K (pn i) - 1) ∧ wu = bU c fu p (p.K (pn i) - 1) ∧ wd = bD c fd p (p.K (pn i) - 1)) (Q) :
  iprop(T4 c fte fpa fnx fn2 te pa nx n2 ∗ (XC c fx (pn i) (0 < pn i) ∗ XC c fx (pn i + 1) (0 < pn i ∧ pn i + 1 < p.n) ∗ XC c fx (pn i + 2) False)
      ∗ W3 c fg fu fd p (p.K (pn i)) (0 < pn i) ∗ Ow c ∗ B3 c wg wu wd)
   ⊢ iprop((iprop(T4 c fte fpa fnx fn2 te pa nx n2 ∗ (XL c fx (pn i % 3) (m3 _) (pn i) (pn_lt i) ∗ XC c fx (pn i + 1) (pn i + 1 < p.n) ∗ XC c fx (pn i + 2) (pn i + 2 < p.n))
      ∗ W3 c fg fu fd p (p.K (pn i + 1)) True ∗ Ow c ∗ B3 c (bG c fg p (p.K (pn i + 1) - 1)) (bU c fu p (p.K (pn i + 1) - 1)) (bD c fd p (p.K (pn i + 1) - 1))) -∗ Q ⟨⟩)
     -∗ wp frame (wpE (defs₀ (F := F)) Variants.none c none) Set.univ (part11 i oM hoM (BitVec.ofNat 32 p.n) hw1 h1) Q) := by
  unfold part11
  rw [k0_part11_eq_skeleton]; unfold k0_part11_skel
  have hlt := pn_lt i
  have hn := p.hn
  let N : Fin 91 := ⟨p.n, by omega⟩
  have Nv : N.val = p.n := rfl
  unfold T4 B3
  by_cases h0' : 0 < pn i
  case' neg =>
    have h0 : pn i = 0 := by omega
    have h2 := (cond2_iff i).2 h0
    have hA := (condA_iff N).2 (by omega)
    rw [XC_congr c fx (j := pn i) rfl (b := 0 < pn i) (b' := False) (iff_false_intro (by omega)), XC_congr c fx (j := pn i + 1) rfl (b := 0 < pn i ∧ pn i + 1 < p.n) (b' := False) (iff_false_intro (by omega))]
    iintro ⟨⟨Ht, Hp, Hn, Hn2⟩, ⟨HX0, HX1, HX2⟩, HW, HO, ⟨Hg, Hu, Hd⟩⟩ HQ
    rw [dif_pos h2]
    rw [if_pos hA]
    iapply (xStartC c fx (j := pn i) (by omega) (by rw [h0]) (by rw [h0]) (by rw [h0])) $$ HX0
    iintro HX0
    rcases Nat.lt_or_ge 1 p.n with hN1 | hN1
    case' inl =>
      have hB1 := (condB_iff N).2 (by omega)
      rw [if_pos hB1]
      iapply (xStartC c fx (j := pn i + 1) (by omega) (by rw [h0]) (by rw [h0]) (by rw [h0])) $$ HX1
      iintro HX1
      ihave HX1 := (Entails.of_eq (XC_congr c fx (j := pn i + 1) rfl (b := True) (b' := pn i + 1 < p.n) (iff_of_true trivial (by omega)))) $$ HX1
    case' inr =>
      have hB1 := mt (condB_iff N).1 (by omega)
      rw [if_neg hB1]
      ihave HX1 := (Entails.of_eq (XC_congr c fx (j := pn i + 1) rfl (b := False) (b' := pn i + 1 < p.n) (iff_of_false not_false (by omega)))) $$ HX1
  case' pos =>
    have h2 := mt (cond2_iff i).1 (by omega)
    rw [XC_congr c fx (j := pn i) rfl (b := 0 < pn i) (b' := True) (iff_true_intro (by omega)), XC_congr c fx (j := pn i + 1) rfl (b := 0 < pn i ∧ pn i + 1 < p.n) (b' := pn i + 1 < p.n) (by omega)]
    iintro ⟨⟨Ht, Hp, Hn, Hn2⟩, ⟨HX0, HX1, HX2⟩, HW, HO, ⟨Hg, Hu, Hd⟩⟩ HQ
    rw [dif_neg h2]
  all_goals
    rcases Nat.lt_or_ge (pn i + 2) p.n with hN2 | hN2
    case' inl =>
      have h5 := (cond5_iff i N).2 hN2
      rw [dif_pos h5]
      iapply (xStartC c fx (j := pn i + 2) (by omega) (off1_eq i) (off2_eq i) (off3_eq i)) $$ HX2
      iintro HX2
      ihave HX2 := (Entails.of_eq (XC_congr c fx (j := pn i + 2) rfl (b := True) (b' := pn i + 2 < p.n) (iff_of_true trivial (by omega)))) $$ HX2
    case' inr =>
      have h5 := mt (cond5_iff i N).1 (Nat.not_lt.2 hN2)
      rw [dif_neg h5]
      ihave HX2 := (Entails.of_eq (XC_congr c fx (j := pn i + 2) rfl (b := False) (b' := pn i + 2 < p.n) (iff_of_false not_false (by omega)))) $$ HX2
  all_goals
    iapply (tabLoad c (t := pn i - 1) (w := te (pn i - 1)) (by omega) (off4_eq i) rfl) $$ Ht
    iintro Ht
    iapply (tabLoad c (t := pn i) (w := te (pn i)) (by omega) (off5_eq i) rfl) $$ Ht
    iintro Ht
    rcases hp.step _ hi with ⟨hk, hs⟩ | ⟨hpos, hk, hs⟩
    case' inl =>
      have h6 : k0_cond6 i (te (pn i - 1)) (te (pn i)) = 1#1 := (cond6_iff i _ _).2 hs
      rw [dif_pos h6]
      irw [wp_bind]
      have hnseg : p.K (pn i) < p.nseg := by have := p.hKle _ hi; omega
      let sl : Fin 3 := ⟨p.K (pn i) % 3, m3 _⟩
      ihave HW := (W3_start c fg fu fd p hnseg _) $$ HW
      icases HW with ⟨HW0, HW1, HW2⟩
      iapply (part1_run c fg fu fd p hp fte fpa fnx i oM hoM _ _ _ hi hk h1 h6 wg) $$ [Ht Hp Hn HW0 HW1 HO Hg]
      · isplitl [Ht]; · iexact Ht
        isplitl [Hp]; · iexact Hp
        isplitl [Hn]; · iexact Hn
        isplitl [HW0]; · iexact HW0
        isplitl [HW1]; · iexact HW1
        isplitl [HO]; · iexact HO
        iexact Hg
      iintro ⟨Ht, Hp, Hn, HW0, HW1, HO, Hg⟩
      iapply (wLoadU c fg fu fd (m3 _) (p.hE (p.K (pn i))) (off18_eq sl)) $$ HW0
      iintro HW0
      iapply (fullLoad c (M := u16M) (by decide)) $$ Hu
      iintro Hu
      iapply (fullStore c (M := u16M) (v := bU c fu p (p.K (pn i))) (by decide)) $$ Hu
      iintro Hu
      iapply (wLoadD c fg fu fd (m3 _) (p.hE (p.K (pn i))) (off19_eq sl)) $$ HW0
      iintro HW0
      iapply (fullLoad c (M := d16M) (by decide)) $$ Hd
      iintro Hd
      iapply (fullStore c (M := d16M) (v := bD c fd p (p.K (pn i))) (by decide)) $$ Hd
      iintro Hd
      ihave Hg := (show Held c g16M (k0_pay9 (gvec c fg (p.E (p.K (pn i))) (p.hE _))) ⊢ Held c g16M (bG c fg p (p.K (pn i))) from Entails.refl _) $$ Hg
      rw [hk, Nat.add_sub_cancel]
      rcases Nat.lt_or_ge (p.K (pn i) + 2) p.nseg with h9 | h9
      case' inl =>
        have hn2 : n2 (pn i) = BitVec.ofNat 32 (p.E (p.K (pn i) + 2)) := by rw [hp.n2_eq _ hi hk, if_pos h9]
        let e2 : Fin 32 := ⟨p.E (p.K (pn i) + 2), p.hE _⟩
        iapply (tabLoad c (pn_lt i) (off20_eq i) hn2) $$ Hn2
        iintro Hn2
        iapply liftOp
        iapply (wp_assume _ _ _ _ (chk6_of i _ _ _ sl _))
        rw [dif_pos (cond9_of e2)]
        iapply (tabLoad c (pn_lt i) (off21_eq i) hn2) $$ Hn2
        iintro Hn2
        iapply liftOp
        iapply (wp_assume _ _ _ _ (chk7_of i _ _ _ _ e2))
        iapply (start3 c fg fu fd p (k := p.K (pn i) + 2)
          ((off22_eq sl).trans (by show ![(p.K (pn i) % 3 + 2) % 3] = ![(p.K (pn i) + 2) % 3]; rw [Nat.mod_add_mod])) ((off25_eq sl).trans (by show ![(p.K (pn i) % 3 + 2) % 3] = ![(p.K (pn i) + 2) % 3]; rw [Nat.mod_add_mod])) ((off25_eq sl).trans (by show ![(p.K (pn i) % 3 + 2) % 3] = ![(p.K (pn i) + 2) % 3]; rw [Nat.mod_add_mod]))
          ((off23_eq sl).trans (by show ![(p.K (pn i) % 3 + 2) % 3, 0, 0] = ![(p.K (pn i) + 2) % 3, 0, 0]; rw [Nat.mod_add_mod])) ((off26_eq sl).trans (by show ![(p.K (pn i) % 3 + 2) % 3, 0, 0] = ![(p.K (pn i) + 2) % 3, 0, 0]; rw [Nat.mod_add_mod])) ((off27_eq sl).trans (by show ![(p.K (pn i) % 3 + 2) % 3, 0, 0] = ![(p.K (pn i) + 2) % 3, 0, 0]; rw [Nat.mod_add_mod]))
          (off24_eq e2) (off24_eq e2) (off28_eq e2)) $$ HW2
        iintro HW2
        ihave HW2 := (Entails.of_eq (WC_congr c fg fu fd p (k := p.K (pn i) + 2) rfl (b := True) (b' := p.K (pn i) + 2 < p.nseg) (iff_of_true trivial (by omega)))) $$ HW2
      case' inr =>
        have hn2 : n2 (pn i) = -1#32 := by rw [hp.n2_eq _ hi hk, if_neg (by omega)]
        iapply (tabLoad c (pn_lt i) (off20_eq i) hn2) $$ Hn2
        iintro Hn2
        iapply liftOp
        iapply (wp_assume _ _ _ _ (chk6_of i _ _ _ sl _))
        rw [dif_neg cond9_neg]
        ihave HW2 := (Entails.of_eq (WC_congr c fg fu fd p (k := p.K (pn i) + 2) rfl (b := False) (b' := p.K (pn i) + 2 < p.nseg) (iff_of_false not_false (by omega)))) $$ HW2
      all_goals
        ihave HW := (W3_next c fg fu fd p) $$ [HW0 HW1 HW2]
        · isplitl [HW0]; · iexact HW0
          isplitl [HW1]; · iexact HW1
          iexact HW2
    case' inr =>
      have h6 : ¬ k0_cond6 i (te (pn i - 1)) (te (pn i)) = 1#1 := mt (cond6_iff i _ _).1 (by rintro (h | h); omega; exact h hs)
      rw [dif_neg h6]
      obtain ⟨rfl, rfl, rfl⟩ := hB hpos
      rw [hk]
      ihave HW := (show W3 c fg fu fd p (p.K (pn i)) (0 < pn i) ⊢ W3 c fg fu fd p (p.K (pn i)) True from by
        unfold W3
        rw [WC_congr c fg fu fd p (k := p.K (pn i)) rfl (b := 0 < pn i ∧ p.K (pn i) < p.nseg) (b' := True ∧ p.K (pn i) < p.nseg) (by simp [hpos]),
          WC_congr c fg fu fd p (k := p.K (pn i) + 1) rfl (b := 0 < pn i ∧ p.K (pn i) + 1 < p.nseg) (b' := True ∧ p.K (pn i) + 1 < p.nseg) (by simp [hpos])]) $$ HW
  all_goals
    iapply (xWaitC c fx (j := pn i) (by omega) (off29_eq i) (off30_eq i)) $$ [HX0 HO]
    · isplitl [HX0]; · iexact HX0
      iexact HO
    iintro ⟨HX0, HO⟩
    iapply (Idealize.SL.Sem.le_wp_ret _ _)
    iapply HQ
    isplitl [Ht Hp Hn Hn2]
    · isplitl [Ht]; · iexact Ht
      isplitl [Hp]; · iexact Hp
      isplitl [Hn]; · iexact Hn
      iexact Hn2
    isplitl [HX0 HX1 HX2]
    · isplitl [HX0]; · iexact HX0
      isplitl [HX1]; · iexact HX1
      iexact HX2
    isplitl [HW]; · iexact HW
    isplitl [HO]; · iexact HO
    isplitl [Hg]; · iexact Hg
    isplitl [Hu]; · iexact Hu
    iexact Hd

end Cert.Kernel.Hand
-- ==== Proof.Root.lean ====
/-
  Hand-written. What holds before each point of the grid, and the kernel's body at a point: it keeps that and leaves the tile's result in its window.
-/
module

public import proofs.«01_k».proof.Proof.Comp
public import proofs.«01_k».proof.Proof.Part11

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-- The proof's user algebra: the pipeline library's beside the transfers' counters. -/
local notation "𝕄" => MT nD τ sig Unit (Elt F) ℕ (Pipeline.UD sig nD τ) ℕ

variable (c : Dev nD) (fx : Cnt (F := F) c xsM)
variable (fg : Cnt (F := F) c wgM) (fu : Cnt (F := F) c wuM) (fd : Cnt (F := F) c wdM)
variable (p : Plan) {te pa nx n2 ng : ℕ → BitVec 32} (hp : p.Fits te pa nx n2 ng)
   (fte : Cnt (F := F) c teM) (fpa : Cnt (F := F) c paM) (fnx : Cnt (F := F) c nxM) (fn2 : Cnt (F := F) c n2M) (fnu : Cnt (F := F) c nuM) (fng : Cnt (F := F) c ngM)

/-- The products of a tile with `g` groups of 128 rows. -/
def mlpN (g : ℕ) (w : S2560x128.Idx → BitVec 32) (wg wu : S1024x512.Idx → Elt F .bf16) (wd : S512x1024.Idx → Elt F .bf16) : ℕ → ℕ → BitVec 32 :=
  if g = 1 then ofV (mlp1 w wg wu wd) else if g = 2 then ofV (mlp2 w wg wu wd) else if g = 3 then ofV (mlp3 w wg wu wd)
  else if g = 4 then ofV (mlp4 w wg wu wd) else ofV (mlp5 w wg wu wd)

theorem mlpN_1 (w : S2560x128.Idx → BitVec 32) (wg wu : S1024x512.Idx → Elt F .bf16) (wd : S512x1024.Idx → Elt F .bf16) : mlpN 1 w wg wu wd = ofV (mlp1 w wg wu wd) := by simp [mlpN]
theorem mlpN_2 (w : S2560x128.Idx → BitVec 32) (wg wu : S1024x512.Idx → Elt F .bf16) (wd : S512x1024.Idx → Elt F .bf16) : mlpN 2 w wg wu wd = ofV (mlp2 w wg wu wd) := by simp [mlpN]
theorem mlpN_3 (w : S2560x128.Idx → BitVec 32) (wg wu : S1024x512.Idx → Elt F .bf16) (wd : S512x1024.Idx → Elt F .bf16) : mlpN 3 w wg wu wd = ofV (mlp3 w wg wu wd) := by simp [mlpN]
theorem mlpN_4 (w : S2560x128.Idx → BitVec 32) (wg wu : S1024x512.Idx → Elt F .bf16) (wd : S512x1024.Idx → Elt F .bf16) : mlpN 4 w wg wu wd = ofV (mlp4 w wg wu wd) := by simp [mlpN]
theorem mlpN_5 (w : S2560x128.Idx → BitVec 32) (wg wu : S1024x512.Idx → Elt F .bf16) (wd : S512x1024.Idx → Elt F .bf16) : mlpN 5 w wg wu wd = ofV (mlp5 w wg wu wd) := by simp [mlpN]

/-- The result's tile `t`. -/
def tileV (t : ℕ) : S2560x128.Idx → BitVec 32 :=
  if h : t < p.n then tileG (p.g t) (zw F) (mlpN (p.g t) (xpay c fx t (Nat.lt_of_lt_of_le h p.hn)) (bG c fg p (p.K (t + 1) - 1)) (bU c fu p (p.K (t + 1) - 1)) (bD c fd p (p.K (t + 1) - 1)))
  else fun _ => zw F

theorem tileV_of {t k : ℕ} (h : t < p.n) (hk : p.g t = k) :
    tileV c fx fg fu fd p t = tileG k (zw F) (mlpN k (xpay c fx t (Nat.lt_of_lt_of_le h p.hn)) (bG c fg p (p.K (t + 1) - 1)) (bU c fu p (p.K (t + 1) - 1)) (bD c fd p (p.K (t + 1) - 1))) := by
  unfold tileV; rw [dif_pos h, hk]
theorem tileV_off {t : ℕ} (h : p.n ≤ t) : tileV c fx fg fu fd p t = fun _ => zw F := by
  unfold tileV; rw [dif_neg (by omega)]

/-- The ring of rows before point `t`. -/
def X3 (t : ℕ) : sProp 𝕄 := iprop(XC c fx t (0 < t ∧ t < p.n) ∗ XC c fx (t + 1) (0 < t ∧ t + 1 < p.n) ∗ XC c fx (t + 2) False)
/-- The tile of zeros: written at the first point that needs it. -/
def Zt (t : ℕ) : sProp 𝕄 := iprop(∃ w : S2560x128.Idx → BitVec 32, ⌜p.n < t → w = fun _ => zw F⌝ ∗ Held c ztM w)
/-- The buffers of rounded weights before point `t`. -/
def Bt (t : ℕ) : sProp 𝕄 :=
  iprop(∃ wg wu wd, ⌜0 < t ∧ t ≤ p.n → wg = bG c fg p (p.K t - 1) ∧ wu = bU c fu p (p.K t - 1) ∧ wd = bD c fd p (p.K t - 1)⌝ ∗ B3 c wg wu wd)

/-- What the kernel keeps from point to point. -/
def Inv (te pa nx n2 ng : ℕ → BitVec 32) (t : ℕ) : sProp 𝕄 :=
  iprop(T4 c fte fpa fnx fn2 te pa nx n2 ∗ Tab1 c fnu (BitVec.ofNat 32 p.n) ∗ Tab c ngM fng ng ∗ X3 c fx p t ∗ W3 c fg fu fd p (p.K t) (0 < t) ∗ Bt c fg fu fd p t ∗ Zt (F := F) c p t)

theorem X3_next {t : ℕ} (h : t < p.n) :
    iprop(XF c fx (t % 3) (m3 t) ∗ XC c fx (t + 1) (t + 1 < p.n) ∗ XC c fx (t + 2) (t + 2 < p.n)) ⊢ X3 c fx p (t + 1) := by
  unfold X3
  rw [XC_congr c fx (j := t + 1) rfl (b := 0 < t + 1 ∧ t + 1 < p.n) (b' := t + 1 < p.n) (by omega),
    XC_congr c fx (j := t + 1 + 1) (j' := t + 2) rfl (b := 0 < t + 1 ∧ t + 1 + 1 < p.n) (b' := t + 2 < p.n) (by omega),
    ← XC_cyc c fx (j := t) (j' := t + 1 + 2) rfl]
  iintro ⟨H, H1, H2⟩
  isplitl [H1]; · iexact H1
  isplitl [H2]; · iexact H2
  unfold XC
  rw [dif_neg (fun h => h.1)]
  iexact H

theorem X3_idle {t : ℕ} (h : p.n ≤ t) : X3 (F := F) c fx p t ⊢ X3 c fx p (t + 1) := by
  unfold X3
  rw [XC_congr c fx (j := t + 1) rfl (b := 0 < t + 1 ∧ t + 1 < p.n) (b' := False) (iff_false_intro (by omega)),
    XC_congr c fx (j := t + 1 + 1) (j' := t + 2) rfl (b := 0 < t + 1 ∧ t + 1 + 1 < p.n) (b' := False) (iff_false_intro (by omega)),
    ← XC_cyc c fx (j := t) (j' := t + 1 + 2) rfl, XC_congr c fx (j := t) rfl (b := 0 < t ∧ t < p.n) (b' := False) (iff_false_intro (by omega)),
    XC_congr c fx (j := t + 1) rfl (b := 0 < t ∧ t + 1 < p.n) (b' := False) (iff_false_intro (by omega))]
  iintro ⟨H, H1, H2⟩
  isplitl [H1]; · iexact H1
  isplitl [H2]; · iexact H2
  iexact H

theorem W3_idle {t : ℕ} (h : p.n ≤ t) : W3 (F := F) c fg fu fd p (p.K t) (0 < t) ⊢ W3 c fg fu fd p (p.K (t + 1)) (0 < t + 1) := by
  have e := p.hKend t h
  have e' := p.hKend (t + 1) (by omega)
  rw [e, e']
  unfold W3
  rw [WC_congr c fg fu fd p (k := p.nseg) rfl (b := 0 < t ∧ p.nseg < p.nseg) (b' := 0 < t + 1 ∧ p.nseg < p.nseg) (by omega),
    WC_congr c fg fu fd p (k := p.nseg + 1) rfl (b := 0 < t ∧ p.nseg + 1 < p.nseg) (b' := 0 < t + 1 ∧ p.nseg + 1 < p.nseg) (by omega)]

theorem W3_true {k t : ℕ} : W3 (F := F) c fg fu fd p k (0 < t + 1) = W3 c fg fu fd p k True := by
  unfold W3
  rw [WC_congr c fg fu fd p (k := k) rfl (b := 0 < t + 1 ∧ k < p.nseg) (b' := True ∧ k < p.nseg) (by simp),
    WC_congr c fg fu fd p (k := k + 1) rfl (b := 0 < t + 1 ∧ k + 1 < p.nseg) (b' := True ∧ k + 1 < p.nseg) (by simp)]

theorem zt_all (y : S2560x128.Idx) : tileG 5 (zw F) (fun _ _ => zw F) y = zw F := by unfold tileG; split <;> rfl

/-- The kernel on its own buffers. -/
abbrev body (i : grid0.Coords) (oM : Memref sig .tc .vmem S2560x128 .i32) (hoM : oM.IsWhole) :=
    cc0_experts (F := F) i teM (Memref.isWhole_whole _) nuM (Memref.isWhole_whole _) paM (Memref.isWhole_whole _) nxM (Memref.isWhole_whole _) n2M (Memref.isWhole_whole _) ngM (Memref.isWhole_whole _)
      xsM (Memref.isWhole_whole _) wgM (Memref.isWhole_whole _) wuM (Memref.isWhole_whole _) wdM (Memref.isWhole_whole _) oM hoM xbM (Memref.isWhole_whole _) ztM (Memref.isWhole_whole _)
      gbM (Memref.isWhole_whole _) ubM (Memref.isWhole_whole _) dbM (Memref.isWhole_whole _) g16M (Memref.isWhole_whole _) u16M (Memref.isWhole_whole _) d16M (Memref.isWhole_whole _)
      cc0_scratch8 cc0_scratch9

include hp in
set_option maxHeartbeats 16000000 in
theorem body_run (i : grid0.Coords) (oM : Memref sig .tc .vmem S2560x128 .i32) (hoM : oM.IsWhole) (wo : S2560x128.Idx → BitVec 32) (Q) :
    iprop(Inv c fx fg fu fd p fte fpa fnx fn2 fnu fng te pa nx n2 ng (pn i) ∗ Ow c ∗ Held c oM wo)
   ⊢ iprop((iprop(Inv c fx fg fu fd p fte fpa fnx fn2 fnu fng te pa nx n2 ng (pn i + 1) ∗ Ow c ∗ Held c oM (tileV c fx fg fu fd p (pn i))) -∗ Q ⟨⟩)
     -∗ wp frame (wpE (defs₀ (F := F)) Variants.none (c : Thread nD τ) none) Set.univ (body i oM hoM) Q) := by
  unfold body Inv Bt Zt
  rw [cc0_experts_eq_skeleton]; unfold cc0_experts_skel
  have hn := p.hn
  have ht := pn_lt i
  let N : Fin 91 := ⟨p.n, by omega⟩
  iintro ⟨⟨HT, Hnu, Hng, HX, HW, ⟨%wg, %wu, %wd, %hB, HB⟩, ⟨%zt, %hz, Hz⟩⟩, HO, Ho⟩ HQ
  iapply (tab1Load c) $$ Hnu
  iintro Hnu
  iapply liftOp
  iapply (wp_assume _ _ _ _ (chk1_of i N))
  rcases Nat.lt_or_ge (pn i) p.n with hi | hi
  case' inl =>
    have h1 : k0_cond1 i (BitVec.ofNat 32 p.n) = 1#1 := (cond1_iff i N).2 hi
    have hZ := mt (condZ_iff i N).1 (by show pn i ≠ p.n; omega)
    have h16 := mt (cond16_iff i N).1 (by show ¬ p.n ≤ pn i; omega)
    rw [dif_pos h1]
    irw [wp_bind]
    ihave HX := (show X3 c fx p (pn i) ⊢ iprop(XC c fx (pn i) (0 < pn i) ∗ XC c fx (pn i + 1) (0 < pn i ∧ pn i + 1 < p.n) ∗ XC c fx (pn i + 2) False) from by
      unfold X3; rw [XC_congr c fx (j := pn i) rfl (b := 0 < pn i ∧ pn i < p.n) (b' := 0 < pn i) (by omega)]) $$ HX
    iapply (part11_run c fx fg fu fd p hp fte fpa fnx fn2 i oM hoM hi _ h1 wg wu wd (fun h => hB ⟨h, by omega⟩)) $$ [HT HX HW HO HB]
    · isplitl [HT]; · iexact HT
      isplitl [HX]; · iexact HX
      isplitl [HW]; · iexact HW
      isplitl [HO]; · iexact HO
      iexact HB
    iintro ⟨HT, ⟨HX0, HX1, HX2⟩, HW, HO, HB⟩
    ihave HX0 := (XL_held c fx (m3 _) (Nat.lt_of_lt_of_le hi p.hn)) $$ HX0
    icases HX0 with ⟨HX0, HR⟩
    have hg := p.hg _ hi
    have hng : ∀ k, p.g (pn i) = k → ng (pn i) = BitVec.ofNat 32 k := fun k hk => by rw [hp.ng_eq _ hi, hk]
    ihave HS := (show iprop(Held c (xslot ![pn i % 3, 0, 0] (inbX _ (m3 _))) (xpay c fx (pn i) (Nat.lt_of_lt_of_le hi p.hn)) ∗ B3 c (bG c fg p (p.K (pn i + 1) - 1)) (bU c fu p (p.K (pn i + 1) - 1)) (bD c fd p (p.K (pn i + 1) - 1)))
        ⊢ Src c (pn i % 3) (m3 _) (xpay c fx (pn i) (Nat.lt_of_lt_of_le hi p.hn)) (bG c fg p (p.K (pn i + 1) - 1)) (bU c fu p (p.K (pn i + 1) - 1)) (bD c fd p (p.K (pn i + 1) - 1)) from by unfold Src B3; exact Entails.refl _) $$ [HX0 HB]
    · isplitl [HX0]; · iexact HX0
      iexact HB
    obtain hgk | hgk | hgk | hgk | hgk : p.g (pn i) = 1 ∨ p.g (pn i) = 2 ∨ p.g (pn i) = 3 ∨ p.g (pn i) = 4 ∨ p.g (pn i) = 5 := by omega
    case' inl =>
      have hgw := hng _ hgk
      rw [tileV_of c fx fg fu fd p hi hgk, mlpN_1]
      ihave Ho := (held_Fill c (G := tileG 1 (zw F) (ofV (mlp1 (xpay c fx (pn i) (Nat.lt_of_lt_of_le hi p.hn)) (bG c fg p (p.K (pn i + 1) - 1)) (bU c fu p (p.K (pn i + 1) - 1)) (bD c fd p (p.K (pn i + 1) - 1)))))) $$ Ho
      ihave Ho := (DA0 c 1) $$ Ho
      iapply (tabLoad c (pn_lt i) (off32_eq i) hgw) $$ Hng
      iintro Hng
      rw [dif_pos ((cond10_iff ⟨1, by decide⟩).2 rfl)]
      irw [wp_bind]
      iapply (part2_run c i oM hoM (m3 _)) $$ [HS Ho]
      · isplitl [HS]; · iexact HS
        iexact Ho
      iintro ⟨HS, Ho⟩
      irw [wp_bind]
      iapply (part3_run c i oM hoM _ N.isLt fnu) $$ [Hnu Ho]
      · isplitl [Hnu]; · iexact Hnu
        iexact Ho
      iintro ⟨Hnu, Ho⟩
      iapply (fillAnyS c) $$ Ho
      iintro %v Ho
      iapply (storeB c (k := 1) (q := 3) (by decide) rfl rfl rfl (pay19_zero N.isLt)) $$ Ho
      iintro Ho
      iapply (tabLoad c (pn_lt i) (off34_eq i) hgw) $$ Hng
      iintro Hng
      rw [dif_neg (mt (cond11_iff ⟨1, by decide⟩).1 (by decide))]
      iapply (tabLoad c (pn_lt i) (off36_eq i) hgw) $$ Hng
      iintro Hng
      rw [dif_neg (mt (cond12_iff ⟨1, by decide⟩).1 (by decide))]
      iapply (tabLoad c (pn_lt i) (off38_eq i) hgw) $$ Hng
      iintro Hng
      rw [dif_neg (mt (cond13_iff ⟨1, by decide⟩).1 (by decide))]
      iapply (tabLoad c (pn_lt i) (off40_eq i) hgw) $$ Hng
      iintro Hng
      rw [dif_neg (mt (cond14_iff ⟨1, by decide⟩).1 (by decide))]
      ihave Ho := (Fill_held c DA_all) $$ Ho
    case' inr.inl =>
      have hgw := hng _ hgk
      rw [tileV_of c fx fg fu fd p hi hgk, mlpN_2]
      ihave Ho := (held_Fill c (G := tileG 2 (zw F) (ofV (mlp2 (xpay c fx (pn i) (Nat.lt_of_lt_of_le hi p.hn)) (bG c fg p (p.K (pn i + 1) - 1)) (bU c fu p (p.K (pn i + 1) - 1)) (bD c fd p (p.K (pn i + 1) - 1)))))) $$ Ho
      ihave Ho := (DA0 c 2) $$ Ho
      iapply (tabLoad c (pn_lt i) (off32_eq i) hgw) $$ Hng
      iintro Hng
      rw [dif_neg (mt (cond10_iff ⟨2, by decide⟩).1 (by decide))]
      iapply (tabLoad c (pn_lt i) (off34_eq i) hgw) $$ Hng
      iintro Hng
      rw [dif_pos ((cond11_iff ⟨2, by decide⟩).2 rfl)]
      irw [wp_bind]
      iapply (part4_run c i oM hoM (m3 _)) $$ [HS Ho]
      · isplitl [HS]; · iexact HS
        iexact Ho
      iintro ⟨HS, Ho⟩
      irw [wp_bind]
      iapply (part5_run c i oM hoM _ N.isLt fnu) $$ [Hnu Ho]
      · isplitl [Hnu]; · iexact Hnu
        iexact Ho
      iintro ⟨Hnu, Ho⟩
      iapply (fillAnyS c) $$ Ho
      iintro %v Ho
      iapply (storeB c (k := 2) (q := 3) (by decide) rfl rfl rfl (pay29_zero N.isLt)) $$ Ho
      iintro Ho
      iapply (tabLoad c (pn_lt i) (off36_eq i) hgw) $$ Hng
      iintro Hng
      rw [dif_neg (mt (cond12_iff ⟨2, by decide⟩).1 (by decide))]
      iapply (tabLoad c (pn_lt i) (off38_eq i) hgw) $$ Hng
      iintro Hng
      rw [dif_neg (mt (cond13_iff ⟨2, by decide⟩).1 (by decide))]
      iapply (tabLoad c (pn_lt i) (off40_eq i) hgw) $$ Hng
      iintro Hng
      rw [dif_neg (mt (cond14_iff ⟨2, by decide⟩).1 (by decide))]
      ihave Ho := (Fill_held c DA_all) $$ Ho
    case' inr.inr.inl =>
      have hgw := hng _ hgk
      rw [tileV_of c fx fg fu fd p hi hgk, mlpN_3]
      ihave Ho := (held_Fill c (G := tileG 3 (zw F) (ofV (mlp3 (xpay c fx (pn i) (Nat.lt_of_lt_of_le hi p.hn)) (bG c fg p (p.K (pn i + 1) - 1)) (bU c fu p (p.K (pn i + 1) - 1)) (bD c fd p (p.K (pn i + 1) - 1)))))) $$ Ho
      ihave Ho := (DA0 c 3) $$ Ho
      iapply (tabLoad c (pn_lt i) (off32_eq i) hgw) $$ Hng
      iintro Hng
      rw [dif_neg (mt (cond10_iff ⟨3, by decide⟩).1 (by decide))]
      iapply (tabLoad c (pn_lt i) (off34_eq i) hgw) $$ Hng
      iintro Hng
      rw [dif_neg (mt (cond11_iff ⟨3, by decide⟩).1 (by decide))]
      iapply (tabLoad c (pn_lt i) (off36_eq i) hgw) $$ Hng
      iintro Hng
      rw [dif_pos ((cond12_iff ⟨3, by decide⟩).2 rfl)]
      irw [wp_bind]
      iapply (part6_run c i oM hoM (m3 _)) $$ [HS Ho]
      · isplitl [HS]; · iexact HS
        iexact Ho
      iintro ⟨HS, Ho⟩
      irw [wp_bind]
      iapply (part7_run c i oM hoM _ N.isLt fnu) $$ [Hnu Ho]
      · isplitl [Hnu]; · iexact Hnu
        iexact Ho
      iintro ⟨Hnu, Ho⟩
      iapply (fillAnyS c) $$ Ho
      iintro %v Ho
      iapply (storeB c (k := 3) (q := 3) (by decide) rfl rfl rfl (pay39_zero N.isLt)) $$ Ho
      iintro Ho
      iapply (tabLoad c (pn_lt i) (off38_eq i) hgw) $$ Hng
      iintro Hng
      rw [dif_neg (mt (cond13_iff ⟨3, by decide⟩).1 (by decide))]
      iapply (tabLoad c (pn_lt i) (off40_eq i) hgw) $$ Hng
      iintro Hng
      rw [dif_neg (mt (cond14_iff ⟨3, by decide⟩).1 (by decide))]
      ihave Ho := (Fill_held c DA_all) $$ Ho
    case' inr.inr.inr.inl =>
      have hgw := hng _ hgk
      rw [tileV_of c fx fg fu fd p hi hgk, mlpN_4]
      ihave Ho := (held_Fill c (G := tileG 4 (zw F) (ofV (mlp4 (xpay c fx (pn i) (Nat.lt_of_lt_of_le hi p.hn)) (bG c fg p (p.K (pn i + 1) - 1)) (bU c fu p (p.K (pn i + 1) - 1)) (bD c fd p (p.K (pn i + 1) - 1)))))) $$ Ho
      ihave Ho := (DA0 c 4) $$ Ho
      iapply (tabLoad c (pn_lt i) (off32_eq i) hgw) $$ Hng
      iintro Hng
      rw [dif_neg (mt (cond10_iff ⟨4, by decide⟩).1 (by decide))]
      iapply (tabLoad c (pn_lt i) (off34_eq i) hgw) $$ Hng
      iintro Hng
      rw [dif_neg (mt (cond11_iff ⟨4, by decide⟩).1 (by decide))]
      iapply (tabLoad c (pn_lt i) (off36_eq i) hgw) $$ Hng
      iintro Hng
      rw [dif_neg (mt (cond12_iff ⟨4, by decide⟩).1 (by decide))]
      iapply (tabLoad c (pn_lt i) (off38_eq i) hgw) $$ Hng
      iintro Hng
      rw [dif_pos ((cond13_iff ⟨4, by decide⟩).2 rfl)]
      irw [wp_bind]
      iapply (part8_run c i oM hoM (m3 _)) $$ [HS Ho]
      · isplitl [HS]; · iexact HS
        iexact Ho
      iintro ⟨HS, Ho⟩
      irw [wp_bind]
      iapply (part9_run c i oM hoM _ N.isLt fnu) $$ [Hnu Ho]
      · isplitl [Hnu]; · iexact Hnu
        iexact Ho
      iintro ⟨Hnu, Ho⟩
      iapply (fillAnyS c) $$ Ho
      iintro %v Ho
      iapply (storeB c (k := 4) (q := 3) (by decide) rfl rfl rfl (pay49_zero N.isLt)) $$ Ho
      iintro Ho
      iapply (tabLoad c (pn_lt i) (off40_eq i) hgw) $$ Hng
      iintro Hng
      rw [dif_neg (mt (cond14_iff ⟨4, by decide⟩).1 (by decide))]
      ihave Ho := (Fill_held c DA_all) $$ Ho
    case' inr.inr.inr.inr =>
      have hgw := hng _ hgk
      rw [tileV_of c fx fg fu fd p hi hgk, mlpN_5]
      ihave Ho := (held_Fill c (G := tileG 5 (zw F) (ofV (mlp5 (xpay c fx (pn i) (Nat.lt_of_lt_of_le hi p.hn)) (bG c fg p (p.K (pn i + 1) - 1)) (bU c fu p (p.K (pn i + 1) - 1)) (bD c fd p (p.K (pn i + 1) - 1)))))) $$ Ho
      ihave Ho := (DA0 c 5) $$ Ho
      iapply (tabLoad c (pn_lt i) (off32_eq i) hgw) $$ Hng
      iintro Hng
      rw [dif_neg (mt (cond10_iff ⟨5, by decide⟩).1 (by decide))]
      iapply (tabLoad c (pn_lt i) (off34_eq i) hgw) $$ Hng
      iintro Hng
      rw [dif_neg (mt (cond11_iff ⟨5, by decide⟩).1 (by decide))]
      iapply (tabLoad c (pn_lt i) (off36_eq i) hgw) $$ Hng
      iintro Hng
      rw [dif_neg (mt (cond12_iff ⟨5, by decide⟩).1 (by decide))]
      iapply (tabLoad c (pn_lt i) (off38_eq i) hgw) $$ Hng
      iintro Hng
      rw [dif_neg (mt (cond13_iff ⟨5, by decide⟩).1 (by decide))]
      iapply (tabLoad c (pn_lt i) (off40_eq i) hgw) $$ Hng
      iintro Hng
      rw [dif_pos ((cond14_iff ⟨5, by decide⟩).2 rfl)]
      irw [wp_bind]
      iapply (part10_run c i oM hoM (m3 _)) $$ [HS Ho]
      · isplitl [HS]; · iexact HS
        iexact Ho
      iintro ⟨HS, Ho⟩
      iapply (fillAny c) $$ Ho
      iintro %v1 Ho
      iapply (storeA c (k := 5) (q := 1) (by decide) rfl rfl (pay1_ofV _)) $$ Ho
      iintro Ho
      iapply (fillAny c) $$ Ho
      iintro %v2 Ho
      iapply (storeA c (k := 5) (q := 2) (by decide) rfl rfl (pay2_ofV _)) $$ Ho
      iintro Ho
      iapply (fillAny c) $$ Ho
      iintro %v3 Ho
      iapply (storeA c (k := 5) (q := 3) (by decide) rfl rfl (pay3_ofV _)) $$ Ho
      iintro Ho
      ihave Ho := (Fill_held c DA_five) $$ Ho
    all_goals
      rw [if_neg hZ]
      rw [dif_neg h16]
      iapply (Idealize.SL.Sem.le_wp_ret _ _)
      iapply HQ
      unfold Src
      icases HS with ⟨HX0, Hg, Hu, Hd⟩
      isplitr [HO Ho]
      · isplitl [HT]; · iexact HT
        isplitl [Hnu]; · iexact Hnu
        isplitl [Hng]; · iexact Hng
        isplitl [HX0 HR HX1 HX2]
        · iapply (X3_next c fx p hi)
          isplitl [HX0 HR]
          · iapply (held_XF c fx (m3 _))
            isplitl [HX0]; · iexact HX0
            iexact HR
          isplitl [HX1]; · iexact HX1
          iexact HX2
        isplitl [HW]
        · rw [W3_true c fg fu fd p (t := pn i)]; iexact HW
        isplitl [Hg Hu Hd]
        · unfold B3
          iexists _, _, _
          isplitr
          rotate_left
          · isplitl [Hg]; · iexact Hg
            isplitl [Hu]; · iexact Hu
            iexact Hd
          · ipureintro; intro _; exact ⟨rfl, rfl, rfl⟩
        · iexists zt
          isplitr
          · ipureintro; intro h; omega
          · iexact Hz
      · isplitl [HO]; · iexact HO
        iexact Ho
  case' inr =>
    have h1 : ¬ k0_cond1 i (BitVec.ofNat 32 p.n) = 1#1 := mt (cond1_iff i N).1 (by show ¬ pn i < p.n; omega)
    have h16 := (cond16_iff i N).2 hi
    rw [dif_neg h1, tileV_off c fx fg fu fd p hi]
    rcases Nat.lt_or_ge p.n (pn i) with hlt | hge
    case' inl =>
      have hZ := mt (condZ_iff i N).1 (by show pn i ≠ p.n; omega)
      rw [if_neg hZ]
      obtain rfl := hz hlt
    case' inr =>
      have hZ := (condZ_iff i N).2 (by show pn i = p.n; omega)
      rw [if_pos hZ]
      iapply (tab1Load c) $$ Hnu
      iintro Hnu
      ihave Hz := (held_Fill c (G := tileG 5 (zw F) (fun _ _ => zw F))) $$ Hz
      ihave Hz := (DA0 c 5) $$ Hz
      iapply (fillAny c) $$ Hz
      iintro %v0 Hz
      iapply (storeA c (k := 5) (q := 0) (by decide) rfl rfl (pay5_zero N.isLt)) $$ Hz
      iintro Hz
      iapply (fillAny c) $$ Hz
      iintro %v1 Hz
      iapply (storeA c (k := 5) (q := 1) (by decide) rfl rfl (pay6_zero N.isLt)) $$ Hz
      iintro Hz
      iapply (fillAny c) $$ Hz
      iintro %v2 Hz
      iapply (storeA c (k := 5) (q := 2) (by decide) rfl rfl (pay7_zero N.isLt)) $$ Hz
      iintro Hz
      iapply (fillAny c) $$ Hz
      iintro %v3 Hz
      iapply (storeA c (k := 5) (q := 3) (by decide) rfl rfl (pay8_zero N.isLt)) $$ Hz
      iintro Hz
      ihave Hz := (Fill_held c DA_five) $$ Hz
      ihave Hz := (Entails.of_eq (congrArg (Held c ztM) (show tileG 5 (zw F) (fun _ _ => zw F) = fun _ => zw F from funext zt_all))) $$ Hz
    all_goals
      rw [dif_pos h16]
      iapply (fullLoad c (M := ztM) (by decide)) $$ Hz
      iintro Hz
      iapply (fullLoad c (M := oM) (by decide)) $$ Ho
      iintro Ho
      iapply (fullStore c (M := oM) (v := fun _ => zw F) (by decide)) $$ Ho
      iintro Ho
      iapply (Idealize.SL.Sem.le_wp_ret _ _)
      iapply HQ
      isplitr [HO Ho]
      · isplitl [HT]; · iexact HT
        isplitl [Hnu]; · iexact Hnu
        isplitl [Hng]; · iexact Hng
        isplitl [HX]
        · iapply (X3_idle c fx p hi); iexact HX
        isplitl [HW]
        · iapply (W3_idle c fg fu fd p hi); iexact HW
        isplitl [HB]
        · iexists wg, wu, wd
          isplitr
          · ipureintro; intro h; omega
          · iexact HB
        · iexists (fun _ => zw F)
          isplitr
          · ipureintro; intro h; rfl
          · iexact Hz
      · isplitl [HO]; · iexact HO
        iexact Ho

end Cert.Kernel.Hand
-- ==== Proof.Slots.lean ====
/-
  Hand-written. The rings as the launch hands them over: each buffer whole and each counter at zero, split into the three slots, and joined back.
-/
module

public import proofs.«01_k».proof.Proof.Root
public import Idealize.ShloMosaic.Lib.Ring

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-- The proof's user algebra: the pipeline library's beside the transfers' counters. -/
local notation "𝕄" => MT nD τ sig Unit (Elt F) ℕ (Pipeline.UD sig nD τ) ℕ

/-! ## The rings' buffers as their three slots, and back -/

/-- The elements of slot `s` of the ring of rows. -/
abbrev JX (s : Fin 3) : Finset S3x2560x128.Idx := (Rect.unit (s := S3x2560x128) ![s.val, 0, 0] S1x2560x128.size (inbX s.val s.isLt)).set
abbrev JA (s : Fin 3) : Finset S3x1024x512.Idx := (Rect.unit (s := S3x1024x512) ![s.val, 0, 0] S1x1024x512.size (inbA s.val s.isLt)).set
abbrev JD (s : Fin 3) : Finset S3x512x1024.Idx := (Rect.unit (s := S3x512x1024) ![s.val, 0, 0] S1x512x1024.size (inbD s.val s.isLt)).set

theorem mem_JX (s : Fin 3) (i : S3x2560x128.Idx) : i ∈ JX s ↔ (i 0).val = s.val := by
  rw [Rect.mem_set_unit]
  have h0 : (i 0).val < 3 := (i 0).isLt
  have h1 : (i 1).val < 2560 := (i 1).isLt
  have h2 : (i 2).val < 128 := (i 2).isLt
  constructor
  · intro h; have := h 0; simp [S1x2560x128] at this; omega
  · intro h a; fin_cases a <;> simp [S1x2560x128] <;> omega
theorem mem_JA (s : Fin 3) (i : S3x1024x512.Idx) : i ∈ JA s ↔ (i 0).val = s.val := by
  rw [Rect.mem_set_unit]
  have h0 : (i 0).val < 3 := (i 0).isLt
  have h1 : (i 1).val < 1024 := (i 1).isLt
  have h2 : (i 2).val < 512 := (i 2).isLt
  constructor
  · intro h; have := h 0; simp [S1x1024x512] at this; omega
  · intro h a; fin_cases a <;> simp [S1x1024x512] <;> omega
theorem mem_JD (s : Fin 3) (i : S3x512x1024.Idx) : i ∈ JD s ↔ (i 0).val = s.val := by
  rw [Rect.mem_set_unit]
  have h0 : (i 0).val < 3 := (i 0).isLt
  have h1 : (i 1).val < 512 := (i 1).isLt
  have h2 : (i 2).val < 1024 := (i 2).isLt
  constructor
  · intro h; have := h 0; simp [S1x512x1024] at this; omega
  · intro h a; fin_cases a <;> simp [S1x512x1024] <;> omega

theorem split3 {α : Type} [DecidableEq α] [Fintype α] (J : Fin 3 → Finset α) (f : α → ℕ) (h : ∀ s i, i ∈ J s ↔ f i = s.val) (hf : ∀ i, f i < 3) :
    (∀ s s', s ≠ s' → Disjoint (J s) (J s')) ∧ Finset.univ.biUnion J = Finset.univ := by
  constructor
  · intro s s' hne
    rw [Finset.disjoint_left]
    intro i hi hi'
    exact hne (Fin.ext (((h s i).1 hi).symm.trans ((h s' i).1 hi')))
  · ext i
    simp only [Finset.mem_biUnion, Finset.mem_univ, true_and, iff_true]
    exact ⟨⟨f i, hf i⟩, (h _ i).2 rfl⟩

theorem xslot_set (s : ℕ) (hs : s < 3) : (xslot ![s, 0, 0] (inbX s hs)).view.set = JX ⟨s, hs⟩ :=
  (View.set_reshape _ _).trans (View.set_slice_whole _ _)
theorem gslot_set (s : ℕ) (hs : s < 3) : (aslot gbM ![s, 0, 0] (inbA s hs)).view.set = JA ⟨s, hs⟩ :=
  (View.set_reshape _ _).trans (View.set_slice_whole _ _)
theorem uslot_set (s : ℕ) (hs : s < 3) : (aslot ubM ![s, 0, 0] (inbA s hs)).view.set = JA ⟨s, hs⟩ :=
  (View.set_reshape _ _).trans (View.set_slice_whole _ _)
theorem dslot_set (s : ℕ) (hs : s < 3) : (dslot ![s, 0, 0] (inbD s hs)).view.set = JD ⟨s, hs⟩ :=
  (View.set_reshape _ _).trans (View.set_slice_whole _ _)

variable (c : Dev nD)

abbrev px (s : ℕ) (hs : s < 3) (f : Cnt (F := F) c xbM) : sProp 𝕄 := pt c (xslot ![s, 0, 0] (inbX s hs)) fullShare f
abbrev pg (s : ℕ) (hs : s < 3) (f : Cnt (F := F) c gbM) : sProp 𝕄 := pt c (aslot gbM ![s, 0, 0] (inbA s hs)) fullShare f
abbrev pu (s : ℕ) (hs : s < 3) (f : Cnt (F := F) c ubM) : sProp 𝕄 := pt c (aslot ubM ![s, 0, 0] (inbA s hs)) fullShare f
abbrev pd (s : ℕ) (hs : s < 3) (f : Cnt (F := F) c dbM) : sProp 𝕄 := pt c (dslot ![s, 0, 0] (inbD s hs)) fullShare f

theorem X_split : iprop(∃ f : Cnt (F := F) c xbM, xbM.view.loc (c : Thread nD τ) ↦{fullShare} f)
    ⊢ (iprop((∃ f, px c 0 (by decide) f) ∗ (∃ f, px c 1 (by decide) f) ∗ ∃ f, px c 2 (by decide) f) : sProp 𝕄) :=
  have h := split3 (α := S3x2560x128.Idx) JX (fun i => (i 0).val) mem_JX (fun i => (i 0).isLt)
  Ring.slots3_split (ℓ := xbM.view.loc (c : Thread nD τ)) JX h.1 h.2 _ _ _ (fun f => by unfold px pt; rw [xslot_set 0 (by decide)]; rfl) (fun f => by unfold px pt; rw [xslot_set 1 (by decide)]; rfl) (fun f => by unfold px pt; rw [xslot_set 2 (by decide)]; rfl)
theorem X_join : (iprop((∃ f, px c 0 (by decide) f) ∗ (∃ f, px c 1 (by decide) f) ∗ ∃ f, px c 2 (by decide) f) : sProp 𝕄)
    ⊢ iprop(∃ f : Cnt (F := F) c xbM, xbM.view.loc (c : Thread nD τ) ↦{fullShare} f) :=
  have h := split3 (α := S3x2560x128.Idx) JX (fun i => (i 0).val) mem_JX (fun i => (i 0).isLt)
  Ring.slots3_join (ℓ := xbM.view.loc (c : Thread nD τ)) JX h.1 h.2 _ _ _ (fun f => by unfold px pt; rw [xslot_set 0 (by decide)]; rfl) (fun f => by unfold px pt; rw [xslot_set 1 (by decide)]; rfl) (fun f => by unfold px pt; rw [xslot_set 2 (by decide)]; rfl)
theorem G_split : iprop(∃ f : Cnt (F := F) c gbM, gbM.view.loc (c : Thread nD τ) ↦{fullShare} f)
    ⊢ (iprop((∃ f, pg c 0 (by decide) f) ∗ (∃ f, pg c 1 (by decide) f) ∗ ∃ f, pg c 2 (by decide) f) : sProp 𝕄) :=
  have h := split3 (α := S3x1024x512.Idx) JA (fun i => (i 0).val) mem_JA (fun i => (i 0).isLt)
  Ring.slots3_split (ℓ := gbM.view.loc (c : Thread nD τ)) JA h.1 h.2 _ _ _ (fun f => by unfold pg pt; rw [gslot_set 0 (by decide)]; rfl) (fun f => by unfold pg pt; rw [gslot_set 1 (by decide)]; rfl) (fun f => by unfold pg pt; rw [gslot_set 2 (by decide)]; rfl)
theorem G_join : (iprop((∃ f, pg c 0 (by decide) f) ∗ (∃ f, pg c 1 (by decide) f) ∗ ∃ f, pg c 2 (by decide) f) : sProp 𝕄)
    ⊢ iprop(∃ f : Cnt (F := F) c gbM, gbM.view.loc (c : Thread nD τ) ↦{fullShare} f) :=
  have h := split3 (α := S3x1024x512.Idx) JA (fun i => (i 0).val) mem_JA (fun i => (i 0).isLt)
  Ring.slots3_join (ℓ := gbM.view.loc (c : Thread nD τ)) JA h.1 h.2 _ _ _ (fun f => by unfold pg pt; rw [gslot_set 0 (by decide)]; rfl) (fun f => by unfold pg pt; rw [gslot_set 1 (by decide)]; rfl) (fun f => by unfold pg pt; rw [gslot_set 2 (by decide)]; rfl)
theorem U_split : iprop(∃ f : Cnt (F := F) c ubM, ubM.view.loc (c : Thread nD τ) ↦{fullShare} f)
    ⊢ (iprop((∃ f, pu c 0 (by decide) f) ∗ (∃ f, pu c 1 (by decide) f) ∗ ∃ f, pu c 2 (by decide) f) : sProp 𝕄) :=
  have h := split3 (α := S3x1024x512.Idx) JA (fun i => (i 0).val) mem_JA (fun i => (i 0).isLt)
  Ring.slots3_split (ℓ := ubM.view.loc (c : Thread nD τ)) JA h.1 h.2 _ _ _ (fun f => by unfold pu pt; rw [uslot_set 0 (by decide)]; rfl) (fun f => by unfold pu pt; rw [uslot_set 1 (by decide)]; rfl) (fun f => by unfold pu pt; rw [uslot_set 2 (by decide)]; rfl)
theorem U_join : (iprop((∃ f, pu c 0 (by decide) f) ∗ (∃ f, pu c 1 (by decide) f) ∗ ∃ f, pu c 2 (by decide) f) : sProp 𝕄)
    ⊢ iprop(∃ f : Cnt (F := F) c ubM, ubM.view.loc (c : Thread nD τ) ↦{fullShare} f) :=
  have h := split3 (α := S3x1024x512.Idx) JA (fun i => (i 0).val) mem_JA (fun i => (i 0).isLt)
  Ring.slots3_join (ℓ := ubM.view.loc (c : Thread nD τ)) JA h.1 h.2 _ _ _ (fun f => by unfold pu pt; rw [uslot_set 0 (by decide)]; rfl) (fun f => by unfold pu pt; rw [uslot_set 1 (by decide)]; rfl) (fun f => by unfold pu pt; rw [uslot_set 2 (by decide)]; rfl)
theorem D_split : iprop(∃ f : Cnt (F := F) c dbM, dbM.view.loc (c : Thread nD τ) ↦{fullShare} f)
    ⊢ (iprop((∃ f, pd c 0 (by decide) f) ∗ (∃ f, pd c 1 (by decide) f) ∗ ∃ f, pd c 2 (by decide) f) : sProp 𝕄) :=
  have h := split3 (α := S3x512x1024.Idx) JD (fun i => (i 0).val) mem_JD (fun i => (i 0).isLt)
  Ring.slots3_split (ℓ := dbM.view.loc (c : Thread nD τ)) JD h.1 h.2 _ _ _ (fun f => by unfold pd pt; rw [dslot_set 0 (by decide)]; rfl) (fun f => by unfold pd pt; rw [dslot_set 1 (by decide)]; rfl) (fun f => by unfold pd pt; rw [dslot_set 2 (by decide)]; rfl)
theorem D_join : (iprop((∃ f, pd c 0 (by decide) f) ∗ (∃ f, pd c 1 (by decide) f) ∗ ∃ f, pd c 2 (by decide) f) : sProp 𝕄)
    ⊢ iprop(∃ f : Cnt (F := F) c dbM, dbM.view.loc (c : Thread nD τ) ↦{fullShare} f) :=
  have h := split3 (α := S3x512x1024.Idx) JD (fun i => (i 0).val) mem_JD (fun i => (i 0).isLt)
  Ring.slots3_join (ℓ := dbM.view.loc (c : Thread nD τ)) JD h.1 h.2 _ _ _ (fun f => by unfold pd pt; rw [dslot_set 0 (by decide)]; rfl) (fun f => by unfold pd pt; rw [dslot_set 1 (by decide)]; rfl) (fun f => by unfold pd pt; rw [dslot_set 2 (by decide)]; rfl)

/-! ## A source as the three slots' read shares and what is left -/

theorem toks3 {c : Dev nD} {sp : Space} {S : Shape} {e : EltTy} (M : Memref sig .tc sp S e) (f : Cnt (F := F) c M) :
    (M.view.loc (c : Thread nD τ) ↦{fullShare} f : sProp 𝕄)
      ⊣⊢ iprop((M.view.loc (c : Thread nD τ) ↦{Transfers.shareDrop fullShare 3} f) ∗ (M.view.loc (c : Thread nD τ) ↦{tok 0} f) ∗ (M.view.loc (c : Thread nD τ) ↦{tok 1} f) ∗ (M.view.loc (c : Thread nD τ) ↦{tok 2} f)) := by
  have h := Transfers.pointsTo_toks (Ix := Unit) (Name := ℕ) (U := Pipeline.UD sig nD τ) (Lvl := ℕ) (ℓ := M.view.loc (c : Thread nD τ)) (S := Finset.univ) (f := f) fullShare 3
  rw [Ring.bigSep_fin3] at h
  exact h

theorem xsem_0 (h) : SemLoc.dma (xsem ![0] h) = (SemLoc.dma 2 : SemLoc sig) := by decide +revert
theorem xsem_1 (h) : SemLoc.dma (xsem ![1] h) = (SemLoc.dma 3 : SemLoc sig) := by decide +revert
theorem xsem_2 (h) : SemLoc.dma (xsem ![2] h) = (SemLoc.dma 4 : SemLoc sig) := by decide +revert
theorem wsem_0 (h) : SemLoc.dma (wsem ![0] h) = (SemLoc.dma 5 : SemLoc sig) := by decide +revert
theorem wsem_1 (h) : SemLoc.dma (wsem ![1] h) = (SemLoc.dma 6 : SemLoc sig) := by decide +revert
theorem wsem_2 (h) : SemLoc.dma (wsem ![2] h) = (SemLoc.dma 7 : SemLoc sig) := by decide +revert

abbrev cell (c : Dev nD) (l : SemLoc sig) : sProp 𝕄 := semVal ((c : Thread nD τ), l) 0

variable (fx : Cnt (F := F) c xsM) (fg : Cnt (F := F) c wgM) (fu : Cnt (F := F) c wuM) (fd : Cnt (F := F) c wdM)

/-- What no slot holds of the sources. -/
def Rest4 : sProp 𝕄 :=
  iprop((xsM.view.loc (c : Thread nD τ) ↦{Transfers.shareDrop fullShare 3} fx) ∗ (wgM.view.loc (c : Thread nD τ) ↦{Transfers.shareDrop fullShare 3} fg)
    ∗ (wuM.view.loc (c : Thread nD τ) ↦{Transfers.shareDrop fullShare 3} fu) ∗ (wdM.view.loc (c : Thread nD τ) ↦{Transfers.shareDrop fullShare 3} fd))
/-- Every slot of both rings free. -/
def Free : sProp 𝕄 :=
  iprop((XF c fx 0 (by decide) ∗ XF c fx 1 (by decide) ∗ XF c fx 2 (by decide))
    ∗ WF c fg fu fd 0 (by decide) ∗ WF c fg fu fd 1 (by decide) ∗ WF c fg fu fd 2 (by decide))
/-- The rings' buffers, counters and sources as the launch has them. -/
def Raw : sProp 𝕄 :=
  iprop((∃ f : Cnt (F := F) c xbM, xbM.view.loc (c : Thread nD τ) ↦{fullShare} f) ∗ (∃ f : Cnt (F := F) c gbM, gbM.view.loc (c : Thread nD τ) ↦{fullShare} f)
    ∗ (∃ f : Cnt (F := F) c ubM, ubM.view.loc (c : Thread nD τ) ↦{fullShare} f) ∗ (∃ f : Cnt (F := F) c dbM, dbM.view.loc (c : Thread nD τ) ↦{fullShare} f)
    ∗ (cell c (SemLoc.dma 2) ∗ cell c (SemLoc.dma 3) ∗ cell c (SemLoc.dma 4) ∗ cell c (SemLoc.dma 5) ∗ cell c (SemLoc.dma 6) ∗ cell c (SemLoc.dma 7))
    ∗ ((xsM.view.loc (c : Thread nD τ) ↦{fullShare} fx) ∗ (wgM.view.loc (c : Thread nD τ) ↦{fullShare} fg) ∗ (wuM.view.loc (c : Thread nD τ) ↦{fullShare} fu) ∗ (wdM.view.loc (c : Thread nD τ) ↦{fullShare} fd)))

theorem raw_free : Raw c fx fg fu fd ⊢ iprop(Free c fx fg fu fd ∗ Rest4 c fx fg fu fd) := by
  unfold Raw Free Rest4 XF WF
  iintro ⟨Hxb, Hgb, Hub, Hdb, ⟨Hs0, Hs1, Hs2, Hw0, Hw1, Hw2⟩, ⟨Hx, Hg, Hu, Hd⟩⟩
  ihave Hxb := (X_split c) $$ Hxb
  ihave Hgb := (G_split c) $$ Hgb
  ihave Hub := (U_split c) $$ Hub
  ihave Hdb := (D_split c) $$ Hdb
  ihave Hx := (toks3 xsM fx).1 $$ Hx
  ihave Hg := (toks3 wgM fg).1 $$ Hg
  ihave Hu := (toks3 wuM fu).1 $$ Hu
  ihave Hd := (toks3 wdM fd).1 $$ Hd
  icases Hxb with ⟨⟨%x0, Hxb0⟩, ⟨%x1, Hxb1⟩, ⟨%x2, Hxb2⟩⟩
  icases Hgb with ⟨⟨%g0, Hgb0⟩, ⟨%g1, Hgb1⟩, ⟨%g2, Hgb2⟩⟩
  icases Hub with ⟨⟨%u0, Hub0⟩, ⟨%u1, Hub1⟩, ⟨%u2, Hub2⟩⟩
  icases Hdb with ⟨⟨%d0, Hdb0⟩, ⟨%d1, Hdb1⟩, ⟨%d2, Hdb2⟩⟩
  icases Hx with ⟨Hxr, Hx0, Hx1, Hx2⟩
  icases Hg with ⟨Hgr, Hg0, Hg1, Hg2⟩
  icases Hu with ⟨Hur, Hu0, Hu1, Hu2⟩
  icases Hd with ⟨Hdr, Hd0, Hd1, Hd2⟩
  isplitr [Hxr Hgr Hur Hdr]
  · isplitl [Hxb0 Hxb1 Hxb2 Hs0 Hs1 Hs2 Hx0 Hx1 Hx2]
    · isplitl [Hxb0 Hs0 Hx0]
      · iexists x0; isplitl [Hxb0]; · iexact Hxb0
        isplitl [Hs0]; · iexact Hs0
        iexact Hx0
      isplitl [Hxb1 Hs1 Hx1]
      · iexists x1; isplitl [Hxb1]; · iexact Hxb1
        isplitl [Hs1]; · iexact Hs1
        iexact Hx1
      · iexists x2; isplitl [Hxb2]; · iexact Hxb2
        isplitl [Hs2]; · iexact Hs2
        iexact Hx2
    isplitl [Hgb0 Hub0 Hdb0 Hw0 Hg0 Hu0 Hd0]
    · iexists g0, u0, d0
      isplitl [Hgb0]; · iexact Hgb0
      isplitl [Hub0]; · iexact Hub0
      isplitl [Hdb0]; · iexact Hdb0
      isplitl [Hw0]; · iexact Hw0
      isplitl [Hg0]; · iexact Hg0
      isplitl [Hu0]; · iexact Hu0
      iexact Hd0
    isplitl [Hgb1 Hub1 Hdb1 Hw1 Hg1 Hu1 Hd1]
    · iexists g1, u1, d1
      isplitl [Hgb1]; · iexact Hgb1
      isplitl [Hub1]; · iexact Hub1
      isplitl [Hdb1]; · iexact Hdb1
      isplitl [Hw1]; · iexact Hw1
      isplitl [Hg1]; · iexact Hg1
      isplitl [Hu1]; · iexact Hu1
      iexact Hd1
    · iexists g2, u2, d2
      isplitl [Hgb2]; · iexact Hgb2
      isplitl [Hub2]; · iexact Hub2
      isplitl [Hdb2]; · iexact Hdb2
      isplitl [Hw2]; · iexact Hw2
      isplitl [Hg2]; · iexact Hg2
      isplitl [Hu2]; · iexact Hu2
      iexact Hd2
  · isplitl [Hxr]; · iexact Hxr
    isplitl [Hgr]; · iexact Hgr
    isplitl [Hur]; · iexact Hur
    iexact Hdr

theorem free_raw : iprop(Free c fx fg fu fd ∗ Rest4 c fx fg fu fd) ⊢ Raw c fx fg fu fd := by
  unfold Raw Free Rest4 XF WF
  iintro ⟨⟨⟨⟨%x0, Hxb0, Hs0, Hx0⟩, ⟨%x1, Hxb1, Hs1, Hx1⟩, ⟨%x2, Hxb2, Hs2, Hx2⟩⟩,
    ⟨%g0, %u0, %d0, Hgb0, Hub0, Hdb0, Hw0, Hg0, Hu0, Hd0⟩, ⟨%g1, %u1, %d1, Hgb1, Hub1, Hdb1, Hw1, Hg1, Hu1, Hd1⟩, ⟨%g2, %u2, %d2, Hgb2, Hub2, Hdb2, Hw2, Hg2, Hu2, Hd2⟩⟩,
    ⟨Hxr, Hgr, Hur, Hdr⟩⟩
  isplitl [Hxb0 Hxb1 Hxb2]
  · iapply (X_join c)
    isplitl [Hxb0]; · iexists x0; iexact Hxb0
    isplitl [Hxb1]; · iexists x1; iexact Hxb1
    iexists x2; iexact Hxb2
  isplitl [Hgb0 Hgb1 Hgb2]
  · iapply (G_join c)
    isplitl [Hgb0]; · iexists g0; iexact Hgb0
    isplitl [Hgb1]; · iexists g1; iexact Hgb1
    iexists g2; iexact Hgb2
  isplitl [Hub0 Hub1 Hub2]
  · iapply (U_join c)
    isplitl [Hub0]; · iexists u0; iexact Hub0
    isplitl [Hub1]; · iexists u1; iexact Hub1
    iexists u2; iexact Hub2
  isplitl [Hdb0 Hdb1 Hdb2]
  · iapply (D_join c)
    isplitl [Hdb0]; · iexists d0; iexact Hdb0
    isplitl [Hdb1]; · iexists d1; iexact Hdb1
    iexists d2; iexact Hdb2
  isplitl [Hs0 Hs1 Hs2 Hw0 Hw1 Hw2]
  · isplitl [Hs0]; · iexact Hs0
    isplitl [Hs1]; · iexact Hs1
    isplitl [Hs2]; · iexact Hs2
    isplitl [Hw0]; · iexact Hw0
    isplitl [Hw1]; · iexact Hw1
    iexact Hw2
  isplitl [Hxr Hx0 Hx1 Hx2]
  · iapply (toks3 xsM fx).2
    isplitl [Hxr]; · iexact Hxr
    isplitl [Hx0]; · iexact Hx0
    isplitl [Hx1]; · iexact Hx1
    iexact Hx2
  isplitl [Hgr Hg0 Hg1 Hg2]
  · iapply (toks3 wgM fg).2
    isplitl [Hgr]; · iexact Hgr
    isplitl [Hg0]; · iexact Hg0
    isplitl [Hg1]; · iexact Hg1
    iexact Hg2
  isplitl [Hur Hu0 Hu1 Hu2]
  · iapply (toks3 wuM fu).2
    isplitl [Hur]; · iexact Hur
    isplitl [Hu0]; · iexact Hu0
    isplitl [Hu1]; · iexact Hu1
    iexact Hu2
  · iapply (toks3 wdM fd).2
    isplitl [Hdr]; · iexact Hdr
    isplitl [Hd0]; · iexact Hd0
    isplitl [Hd1]; · iexact Hd1
    iexact Hd2

/-! ## The rings at the first point and past the last -/

variable (p : Plan)

theorem XC_off {j : ℕ} {b : Prop} [Decidable b] (h : ¬ b) : XC c fx j b = XF c fx (j % 3) (m3 j) := by
  unfold XC; rw [dif_neg (fun h' => h h'.1)]
theorem WC_off {k : ℕ} {b : Prop} [Decidable b] (h : ¬ b) : WC c fg fu fd p k b = WF c fg fu fd (k % 3) (m3 k) := by
  unfold WC; rw [if_neg h]

/-- Three slots in a row, from any, are the three slots. -/
theorem three_slots (P : ∀ s : ℕ, s < 3 → sProp 𝕄) (k : ℕ) :
    iprop(P (k % 3) (m3 k) ∗ P ((k + 1) % 3) (m3 _) ∗ P ((k + 2) % 3) (m3 _)) ⊣⊢ iprop(P 0 (by decide) ∗ P 1 (by decide) ∗ P 2 (by decide)) := by
  have hP : ∀ {s s' : ℕ} (e : s = s') (h : s < 3) (h' : s' < 3), P s h = P s' h' := fun e _ _ => by subst e; rfl
  obtain h | h | h : k % 3 = 0 ∨ k % 3 = 1 ∨ k % 3 = 2 := by omega
  · rw [hP h _ (by decide : 0 < 3), hP (show (k + 1) % 3 = 1 by omega) _ (by decide), hP (show (k + 2) % 3 = 2 by omega) _ (by decide)]
  · rw [hP h _ (by decide : 1 < 3), hP (show (k + 1) % 3 = 2 by omega) _ (by decide), hP (show (k + 2) % 3 = 0 by omega) _ (by decide)]
    constructor
    · iintro ⟨A, B, C⟩
      isplitl [C]; · iexact C
      isplitl [A]; · iexact A
      iexact B
    · iintro ⟨A, B, C⟩
      isplitl [B]; · iexact B
      isplitl [C]; · iexact C
      iexact A
  · rw [hP h _ (by decide : 2 < 3), hP (show (k + 1) % 3 = 0 by omega) _ (by decide), hP (show (k + 2) % 3 = 1 by omega) _ (by decide)]
    constructor
    · iintro ⟨A, B, C⟩
      isplitl [B]; · iexact B
      isplitl [C]; · iexact C
      iexact A
    · iintro ⟨A, B, C⟩
      isplitl [C]; · iexact C
      isplitl [A]; · iexact A
      iexact B

theorem XW_free {t : ℕ} (h : t = 0 ∨ p.n ≤ t) : iprop(X3 c fx p t ∗ W3 c fg fu fd p (p.K t) (0 < t)) ⊣⊢ Free c fx fg fu fd := by
  unfold X3 W3 Free
  have hk : ¬ (0 < t ∧ p.K t < p.nseg) := by
    rintro ⟨h0, h1⟩
    obtain h | h := h
    · omega
    · have := p.hKend t h; omega
  have hk' : ¬ (0 < t ∧ p.K t + 1 < p.nseg) := fun h => hk ⟨h.1, by omega⟩
  rw [XC_off c fx (by omega : ¬ (0 < t ∧ t < p.n)), XC_off c fx (by omega : ¬ (0 < t ∧ t + 1 < p.n)), XC_off c fx not_false,
    WC_off c fg fu fd p hk, WC_off c fg fu fd p hk', WC_off c fg fu fd p not_false]
  have hX := three_slots (fun s hs => XF c fx s hs) t
  have hW := three_slots (fun s hs => WF c fg fu fd s hs) (p.K t)
  exact ⟨BI.sep_mono hX.1 hW.1, BI.sep_mono hX.2 hW.2⟩

end Cert.Kernel.Hand

end
-- ==== Proof.Launch.lean ====
/-
  Hand-written. The launch: the region around the run of the body, its invariant entered from what the launch hands over and left again, and the run of
  the whole program under what the tables say of a plan.
-/
module

public import proofs.«01_k».proof.Proof.Slots
public import proofs.«01_k».proof.Proof.Host

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

open Idealize.ShloMosaic.Pipeline (Dat Cfg Window BodyObligation BodyObligationLoose cellOf)

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## The tables' words -/

/-- Word `t` of a table. -/
def wordT (c : Dev nD) (M : Memref sig .tc .smem S90 .i32) (f : Cnt (F := F) c M) (t : ℕ) : BitVec 32 :=
  if h : t < 90 then M.view.read (Elt F) f (ixT t h) else 0#32
theorem wordT_of (c : Dev nD) (M : Memref sig .tc .smem S90 .i32) (f : Cnt (F := F) c M) (t : ℕ) (h : t < 90) :
    M.view.read (Elt F) f (ixT t h) = wordT c M f t := by unfold wordT; rw [dif_pos h]

abbrev teT (c : Dev nD) : ℕ → BitVec 32 := wordT c teM (V m c main_v28)
abbrev paT (c : Dev nD) : ℕ → BitVec 32 := wordT c paM (V m c main_v83)
abbrev nxT (c : Dev nD) : ℕ → BitVec 32 := wordT c nxM (V m c main_v86)
abbrev n2T (c : Dev nD) : ℕ → BitVec 32 := wordT c n2M (V m c main_v89)
abbrev ngT (c : Dev nD) : ℕ → BitVec 32 := wordT c ngM (V m c main_v47)

/-- The tables a region is entered with describe the plan `p`. -/
structure Ready (c : Dev nD) (p : Plan) : Prop where
  fits : p.Fits (teT m c) (paT m c) (nxT m c) (n2T m c) (ngT m c)
  num : ∀ x, nuM.view.read (Elt F) (V m c main_v12) x = BitVec.ofNat 32 p.n

variable (P : Dev nD → Plan)

/-! ## The proof data -/

/-- The contents the region reads its tables at. -/
def adm : (q : Fin 1) → (pcfgs (F := F) q).Adm := fun q => ⟨fun k => V m 0 (pre0.ref k), trivial⟩

/-- What the region keeps from point to point. -/
def Keep (c : Dev nD) (t : ℕ) : sProp 𝕄 :=
  iprop(Inv c (V m c main_arg1) (V m c main_v90) (V m c main_v91) (V m c main_v92) (P c)
      (V m c main_v28) (V m c main_v83) (V m c main_v86) (V m c main_v89) (V m c main_v12) (V m c main_v47)
      (teT m c) (paT m c) (nxT m c) (n2T m c) (ngT m c) t
    ∗ Rest4 c (V m c main_arg1) (V m c main_v90) (V m c main_v91) (V m c main_v92) ∗ ∃ r, prngReg c r)

/-- What point `t` leaves in the output's buffer. -/
abbrev outs (c : Dev nD) (t : ℕ) : S2560x128.Idx → BitVec 32 :=
  tileV c (V m c main_arg1) (V m c main_v90) (V m c main_v91) (V m c main_v92) (P c) t

def dats (q : Fin 1) (c : Dev nD) : Dat τ (Elt F) Unit ℕ (Pipeline.UD sig nD τ) ℕ (Pipeline.pin pcfgs (adm m) q) c where
  A w := V m c (Pipeline.arrRef spec0 w)
  after w t := match w with
    | ⟨0, _⟩ => outs m P c t.val
  Φ t := Keep m P c t.val
  q _ := fullShare
  owed _ := 0

abbrev cfgA : Cfg sig Λ₀ := cfg0 (adm (F := F) m 0)

/-- A buffer written back at a point is left at what the data say, whatever the point's idleness. -/
theorem leaves_flush {cfg : Cfg sig Λ₀} {c : Dev nD} (dat : Dat τ (Elt F) Unit ℕ (Pipeline.UD sig nD τ) ℕ cfg c) (w : Fin cfg.W) (t : Fin cfg.N)
    (hf : (cfg.win w).flush t = true) : owns c ((cfg.win w).stage (cfg.slots t w)) fullShare (dat.after w t) = dat.leavesExact w t := by
  unfold Dat.leavesExact; rw [hf]; cases cfg.idle w (cfg.grid.coords t) <;> rfl

/-- A body obligation whose every buffer is written back at every point, from the run at each. -/
theorem obligation_of {cfg : Cfg sig Λ₀} {c : Dev nD} (dat : Dat τ (Elt F) Unit ℕ (Pipeline.UD sig nD τ) ℕ cfg c) (D : Defs nD τ sig (Elt F) Λ₀)
    (hf : ∀ w t, (cfg.win w).flush t = true)
    (h : ∀ t, iprop(dat.Φ t.castSucc ∗ dat.owesAt () t.castSucc
        ∗ bigSep Finset.univ fun w => iprop(∃ d, owns c ((cfg.win w).stage (cfg.slots t w)) fullShare (dat.before w t d)))
      ⊢ wp frame (wpE D Variants.none (c : Thread nD τ) none) Set.univ (D .tc cfg.body (cfg.bodyArgs t (cfg.slots t))) (fun _ =>
        iprop(dat.Φ t.succ ∗ dat.owesAt () t.succ ∗ bigSep Finset.univ fun w => owns c ((cfg.win w).stage (cfg.slots t w)) fullShare (dat.after w t)))) :
    BodyObligation dat D Variants.none () Set.univ := fun t => by
  have h := h t
  rw [show (fun w => owns c ((cfg.win w).stage (cfg.slots t w)) fullShare (dat.after w t)) = (fun w => dat.leavesExact w t) from
    funext fun w => leaves_flush dat w t (hf w t)] at h
  exact h

theorem pn_coords : ∀ t : Fin grid0.N, pn (grid0.coords t) = t.val := by decide +kernel

theorem defs₀_row (t : Fin (cfgA m).N) :
    defs₀ (F := F) .tc (cfgA m).body ((cfgA m).bodyArgs t ((cfgA m).slots t))
      = body (grid0.coords t) (spec0_0.stage ((cfgA m).slots t 0)) (hstage0_0 (((cfgA m).slots t 0).cast nbuf0_0)) := by
  unfold defs₀; rw [Defs.onTc_tc]

theorem flushes (t : Fin (cfgA m).N) : ((cfgA m).win 0).flush t = true := by
  have h : ∀ t : Fin grid0.N, Window.flushOf grid0 true cc0_transform_4 t = true := by decide +kernel
  exact h t

variable (hP : ∀ c, Ready m c (P c))
include hP

theorem sound_body (c : Dev nD) (t : Fin (cfgA m).N) :
    iprop((dats m P 0 c).Φ t.castSucc ∗ (dats m P 0 c).owesAt () t.castSucc
      ∗ (∃ d, owns (c : Thread nD τ) (spec0_0.stage ((cfgA m).slots t 0)) fullShare ((dats m P 0 c).before 0 t d)))
    ⊢ wp frame (wpE (defs₀ (F := F)) Variants.none (c : Thread nD τ) none) Set.univ
        (body (grid0.coords t) (spec0_0.stage ((cfgA m).slots t 0)) (hstage0_0 (((cfgA m).slots t 0).cast nbuf0_0)))
        (fun _ => iprop((dats m P 0 c).Φ t.succ ∗ (dats m P 0 c).owesAt () t.succ
          ∗ owns (c : Thread nD τ) (spec0_0.stage ((cfgA m).slots t 0)) fullShare ((dats m P 0 c).after 0 t))) := by
  rw [show (dats m P 0 c).Φ t.castSucc = Keep m P c (pn (grid0.coords t)) from by rw [pn_coords]; rfl,
    show (dats m P 0 c).Φ t.succ = Keep m P c (pn (grid0.coords t) + 1) from by rw [pn_coords]; rfl,
    show (dats m P 0 c).after 0 t = outs m P c (pn (grid0.coords t)) from by rw [pn_coords]; rfl]
  unfold Dat.owesAt Pipeline.owesWithin
  rw [show (dats m P 0 c).owed t.castSucc = 0 from rfl, show (dats m P 0 c).owed t.succ = 0 from rfl]
  unfold Keep owns
  iintro ⟨⟨HI, HR, Hg⟩, ⟨%W, -, HW⟩, ⟨%d0, ⟨%f0, -, H0⟩⟩⟩
  iapply (body_run c (V m c main_arg1) (V m c main_v90) (V m c main_v91) (V m c main_v92) (P c) (hP c).fits
      (V m c main_v28) (V m c main_v83) (V m c main_v86) (V m c main_v89) (V m c main_v12) (V m c main_v47) (grid0.coords t)
      (spec0_0.stage ((cfgA m).slots t 0)) (hstage0_0 (((cfgA m).slots t 0).cast nbuf0_0)) _ _) $$ [HI HW H0]
  · isplitl [HI]; · iexact HI
    isplitl [HW]
    · unfold Ow; iexists W; iexact HW
    unfold Held; iexists f0; isplitr; · ipureintro; rfl
    iexact H0
  unfold Ow Held
  iintro ⟨HI, ⟨%W', HW⟩, ⟨%f1, %e1, H1⟩⟩
  isplitl [HI HR Hg]
  · isplitl [HI]; · iexact HI
    isplitl [HR]; · iexact HR
    iexact Hg
  isplitl [HW]
  · iexists W'; isplitr; · ipureintro; exact fun _ _ => Or.inl trivial
    iexact HW
  iexists f1; isplitr; · ipureintro; exact e1
  iexact H1

theorem body_obligation (c : Dev nD) : BodyObligation (dats (F := F) m P 0 c) (defs₀ (F := F)) Variants.none () Set.univ := by
  refine obligation_of (dats m P 0 c) defs₀ (fun w t => ?_) (fun t => ?_)
  · have hw : w = 0 := Subsingleton.elim (α := Fin 1) w 0
    subst hw; exact flushes m t
  rw [bigSep_W0, bigSep_W0, defs₀_row m t]
  exact sound_body m P hP c t

omit hP

/-! ## Entering and leaving -/

/-- The region's own semaphores and the buffers it copies from. -/
abbrev osem0 : Fin 6 → SemLoc sig := fun j => (![SemLoc.dma 2, SemLoc.dma 3, SemLoc.dma 4, SemLoc.dma 5, SemLoc.dma 6, SemLoc.dma 7] : Fin 6 → SemLoc sig) j
theorem ownSemFacts0 : Pipeline.OwnSemFacts spec0 osem0 := by decide
abbrev H0 : Finset (Ref sig .tc) := {main_arg1, main_v90, main_v91, main_v92}
theorem H0_sub : H0 ⊆ Pipeline.restRefsP sig pre0 spec0 := by decide

theorem ownSems_eq (c : Dev nD) : (Pipeline.ownSems0 (Ix := Unit) (Name := ℕ) (U := Pipeline.UD sig nD τ) (Lvl := ℕ) (Val := Elt F) (τ := τ) osem0 c : sProp 𝕄)
    = iprop(cell c (SemLoc.dma 2) ∗ cell c (SemLoc.dma 3) ∗ cell c (SemLoc.dma 4) ∗ cell c (SemLoc.dma 5) ∗ cell c (SemLoc.dma 6) ∗ cell c (SemLoc.dma 7)) :=
  Pipeline.ownSems0_eq_of_list c osem0 [0, 1, 2, 3, 4, 5] (by decide) (by decide)
theorem H0_eq (c : Dev nD) : (bigSep H0 fun b => ((c : Thread nD τ).loc b) ↦{fullShare} V m c b : sProp 𝕄)
    = iprop(((c : Thread nD τ).loc main_arg1 ↦{fullShare} V m c main_arg1) ∗ ((c : Thread nD τ).loc main_v90 ↦{fullShare} V m c main_v90)
      ∗ ((c : Thread nD τ).loc main_v91 ↦{fullShare} V m c main_v91) ∗ ((c : Thread nD τ).loc main_v92 ↦{fullShare} V m c main_v92)) :=
  bigSep_eq_bigSepL_of_eq [main_arg1, main_v90, main_v91, main_v92] (by decide) (by decide) _
omit [BitOps F] in
theorem tabs_eq (c : Dev nD) (v : (b : Ref sig .tc) → Buf (Elt F) ((c : Thread nD τ).loc b)) : (Pipeline.ΦT pre0 (fun k => v (pre0.ref k)) c : sProp 𝕄)
    = iprop(((c : Thread nD τ).loc main_v28 ↦{fullShare.right} v main_v28) ∗ ((c : Thread nD τ).loc main_v12 ↦{fullShare.right} v main_v12)
      ∗ ((c : Thread nD τ).loc main_v83 ↦{fullShare.right} v main_v83) ∗ ((c : Thread nD τ).loc main_v86 ↦{fullShare.right} v main_v86)
      ∗ ((c : Thread nD τ).loc main_v89 ↦{fullShare.right} v main_v89) ∗ ((c : Thread nD τ).loc main_v47 ↦{fullShare.right} v main_v47)) :=
  bigSep_univ_eq_bigSepL [0, 1, 2, 3, 4, 5] (by decide) (by decide) _
theorem adm_eq (c : Dev nD) : (adm m 0).1 = fun k => V m c (pre0.ref k) := by
  have hc : c = 0 := Subsingleton.elim (α := Fin 1) c 0
  subst hc; rfl

omit [BitOps F] in
/-- A whole buffer's part is the buffer. -/
theorem pt_whole (c : Dev nD) (b : Ref sig .tc) (q : PosShare TreeShare) (f : Buf (Elt F) ((c : Thread nD τ).loc b)) :
    (((Memref.whole b).view.loc (c : Thread nD τ) ↦[(Memref.whole b).view.set]{q} f : sProp 𝕄)) = ((c : Thread nD τ).loc b ↦{q} f) := by
  show ((c : Thread nD τ).loc b ↦[(View.whole b).set]{q} f) = _
  rw [View.set_whole]

include hP in
theorem enter (c : Dev nD) : iprop(Pipeline.ΦD osem0 spec0 H0 (fun c b => V0 m c (Proc.devRef .tc b)) c ∗ Pipeline.ΦT pre0 (adm m 0).1 c) ⊢ Keep m P c 0 := by
  rw [Pipeline.ΦD_eq, scopedRest0_eq, ownSems_eq, H0_eq, adm_eq m c, tabs_eq c (V m c)]
  unfold Keep Inv T4 Tab Tab1 Zt Bt B3 Held
  iintro ⟨⟨⟨H0, ⟨%z, H1⟩, H2, H3, H4, ⟨%g, H5⟩, ⟨%u, H6⟩, ⟨%d, H7⟩⟩, Hg, Hs, ⟨Hx, Hwg, Hwu, Hwd⟩⟩, ⟨T0, T1, T2, T3, T4, T5⟩⟩
  ihave T0 := (Entails.of_eq (pt_whole c main_v28 fullShare.right (V m c main_v28)).symm) $$ T0
  ihave T1 := (Entails.of_eq (pt_whole c main_v12 fullShare.right (V m c main_v12)).symm) $$ T1
  ihave T2 := (Entails.of_eq (pt_whole c main_v83 fullShare.right (V m c main_v83)).symm) $$ T2
  ihave T3 := (Entails.of_eq (pt_whole c main_v86 fullShare.right (V m c main_v86)).symm) $$ T3
  ihave T4 := (Entails.of_eq (pt_whole c main_v89 fullShare.right (V m c main_v89)).symm) $$ T4
  ihave T5 := (Entails.of_eq (pt_whole c main_v47 fullShare.right (V m c main_v47)).symm) $$ T5
  ihave H1 := (Entails.of_eq (pt_whole c cc0_scratch1 fullShare z).symm) $$ H1
  ihave H5 := (Entails.of_eq (pt_whole c cc0_scratch5 fullShare g).symm) $$ H5
  ihave H6 := (Entails.of_eq (pt_whole c cc0_scratch6 fullShare u).symm) $$ H6
  ihave H7 := (Entails.of_eq (pt_whole c cc0_scratch7 fullShare d).symm) $$ H7
  ihave HR := (raw_free c (V m c main_arg1) (V m c main_v90) (V m c main_v91) (V m c main_v92)) $$ [H0 H2 H3 H4 Hs Hx Hwg Hwu Hwd]
  · unfold Raw
    isplitl [H0]; · iexact H0
    isplitl [H2]; · iexact H2
    isplitl [H3]; · iexact H3
    isplitl [H4]; · iexact H4
    isplitl [Hs]; · iexact Hs
    isplitl [Hx]; · iexact Hx
    isplitl [Hwg]; · iexact Hwg
    isplitl [Hwu]; · iexact Hwu
    iexact Hwd
  icases HR with ⟨HF, HR⟩
  ihave HXW := (XW_free c (V m c main_arg1) (V m c main_v90) (V m c main_v91) (V m c main_v92) (P c) (t := 0) (Or.inl rfl)).2 $$ HF
  icases HXW with ⟨HX, HW⟩
  isplitl [T0 T1 T2 T3 T4 T5 HX HW H1 H5 H6 H7]
  · isplitl [T0 T2 T3 T4]
    · isplitl [T0]
      · isplitr
        · ipureintro; exact fun t ht => wordT_of c teM _ t ht
        iexact T0
      isplitl [T2]
      · isplitr
        · ipureintro; exact fun t ht => wordT_of c paM _ t ht
        iexact T2
      isplitl [T3]
      · isplitr
        · ipureintro; exact fun t ht => wordT_of c nxM _ t ht
        iexact T3
      isplitr
      · ipureintro; exact fun t ht => wordT_of c n2M _ t ht
      iexact T4
    isplitl [T1]
    · isplitr
      · ipureintro; exact (hP c).num
      iexact T1
    isplitl [T5]
    · isplitr
      · ipureintro; exact fun t ht => wordT_of c ngM _ t ht
      iexact T5
    isplitl [HX]; · iexact HX
    isplitl [HW]; · iexact HW
    isplitl [H5 H6 H7]
    · iexists g16M.view.read (Elt F) g; iexists u16M.view.read (Elt F) u; iexists d16M.view.read (Elt F) d
      isplitr; · ipureintro; exact fun h => absurd h.1 (Nat.lt_irrefl 0)
      isplitl [H5]
      · iexists g; isplitr; · ipureintro; rfl
        iexact H5
      isplitl [H6]
      · iexists u; isplitr; · ipureintro; rfl
        iexact H6
      iexists d; isplitr; · ipureintro; rfl
      iexact H7
    iexists ztM.view.read (Elt F) z
    isplitr; · ipureintro; exact fun h => absurd h (Nat.not_lt_zero _)
    iexists z; isplitr; · ipureintro; rfl
    iexact H1
  isplitl [HR]; · iexact HR
  iexact Hg

theorem leave (c : Dev nD) : Keep m P c 90 ⊢ Pipeline.ΦD osem0 spec0 H0 (fun c b => V0 m c (Proc.devRef .tc b)) c := by
  rw [Pipeline.ΦD_eq, scopedRest0_eq, ownSems_eq, H0_eq]
  unfold Keep Inv Zt Bt B3 Held
  iintro ⟨⟨-, -, -, HX, HW, ⟨%wg, %wu, %wd, -, ⟨%g, -, H5⟩, ⟨%u, -, H6⟩, ⟨%d, -, H7⟩⟩, ⟨%z, -, ⟨%fz, -, H1⟩⟩⟩, HR, Hg⟩
  ihave H1 := (Entails.of_eq (pt_whole c cc0_scratch1 fullShare fz)) $$ H1
  ihave H5 := (Entails.of_eq (pt_whole c cc0_scratch5 fullShare g)) $$ H5
  ihave H6 := (Entails.of_eq (pt_whole c cc0_scratch6 fullShare u)) $$ H6
  ihave H7 := (Entails.of_eq (pt_whole c cc0_scratch7 fullShare d)) $$ H7
  ihave HF := (XW_free c (V m c main_arg1) (V m c main_v90) (V m c main_v91) (V m c main_v92) (P c) (t := 90) (Or.inr (P c).hn)).1 $$ [HX HW]
  · isplitl [HX]; · iexact HX
    iexact HW
  ihave HF := (free_raw c (V m c main_arg1) (V m c main_v90) (V m c main_v91) (V m c main_v92)) $$ [HF HR]
  · isplitl [HF]; · iexact HF
    iexact HR
  unfold Raw
  icases HF with ⟨H0, H2, H3, H4, Hs, Hx, Hwg, Hwu, Hwd⟩
  isplitl [H0 H1 H2 H3 H4 H5 H6 H7]
  · isplitl [H0]; · iexact H0
    isplitl [H1]; · iexists fz; iexact H1
    isplitl [H2]; · iexact H2
    isplitl [H3]; · iexact H3
    isplitl [H4]; · iexact H4
    isplitl [H5]; · iexists g; iexact H5
    isplitl [H6]; · iexists u; iexact H6
    iexists d; iexact H7
  isplitl [Hg]; · iexact Hg
  isplitl [Hs]; · iexact Hs
  isplitl [Hx]; · iexact Hx
  isplitl [Hwg]; · iexact Hwg
  isplitl [Hwu]; · iexact Hwu
  iexact Hwd

/-! ## The run -/

include hP in
set_option backward.isDefEq.respectTransparency.types false in
theorem run_post : θ_run defs (onTc (τ := τ) (main (F := F))) (s₀ m ρ) (fun r =>
    Pipeline.FramePost (Pipeline.pin pcfgs (adm m)) (dats m P) 0 (Pipeline.afterTail pcfgs (adm m) (dats m P) 0 (V0 m) []) r ∧ r.2.sem = fun _ => 0) :=
  Pipeline.θ_run_frameP_dma_around pcfgs (adm m) (dats m P) (0 : Fin 1) launch0 osem0 defs₀ Variants.none ownSemFacts0 H0 H0_sub m ρ main
    (hbody := fun c => (body_obligation m P hP c).loose) (hshare := fun c => (dats m P 0 c).share_full fun _ => rfl)
    (howed := fun _ _ => rfl) (V₀ := V0 m) (opss := []) (hsub := fun _ h => absurd h List.not_mem_nil) (hfresh := fun _ h => absurd h List.not_mem_nil)
    (hkeep := fun _ h => absurd h List.not_mem_nil) (hmain := hmain m) (hA := fun _ _ => rfl)
    (hpf := fun c k => by have hc : c = 0 := Subsingleton.elim (α := Fin 1) c 0
                          subst hc; rfl)
    (hin := fun c => enter m P hP c) (hout := fun c => leave m P c) (Q' := _) (hQ' := fun _ h => h)

/-- An argument ends as it began, and the result holds what the points leave, tile by tile. -/
theorem tail_arg (c : Dev nD) (b : Ref sig .tc) (hb : b = main_arg0 ∨ b = main_arg1 ∨ b = main_arg2 ∨ b = main_arg3 ∨ b = main_arg4)
    (r : PUnit × MemSt nD τ sig (Elt F))
    (h : Pipeline.FramePost (Pipeline.pin pcfgs (adm m)) (dats m P) 0 (Pipeline.afterTail pcfgs (adm m) (dats m P) 0 (V0 m) []) r) :
    r.2.mem ((c : Thread nD τ).loc b) = m ((c : Thread nD τ).loc b) := by
  have hw : ∀ w : Fin 1, Pipeline.arrRef spec0 w ≠ b := by
    intro w; rcases hb with h | h | h | h | h <;> subst h <;> revert w <;> decide
  have hs : b.isScoped = false := by rcases hb with h | h | h | h | h <;> subst h <;> rfl
  rw [(h c).2 b (Pipeline.mem_restRefs_of b hs hw)]
  refine Eq.trans ?_ (V_arg m c b hb)
  unfold Pipeline.afterTail
  rw [List.flatten_nil, StableHlo.after_nil]
  exact Pipeline.withArrays_of_ne _ c (V0 m c) _ b hw

end Cert.Kernel.Hand

end
-- ==== Proof.Ready.lean ====
/-
  Hand-written. The tables the host lines leave describe the plan of the counts.
-/
module

public import proofs.«01_k».proof.Proof.Tables
public import proofs.«01_k».proof.Proof.Launch

@[expose] public section

noncomputable section

namespace Cert.Kernel.Hand

open Cert.Kernel Cert.Kernel.Gen
open Idealize.ShloMosaic Idealize.ShloMosaic.TcCoe

variable {F : FTy → Type} [BitOps F]
variable (m : (ℓ : Loc nD τ sig) → Buf (Elt F) ℓ) (c : Dev nD) {cn : ℕ → ℕ} (hG : Good cn)
  (hc : ∀ e : Fin 32, (m ((c : Thread nD τ).loc main_arg0) : IVec S32 32) (ValueIdx.ix1 e) = BitVec.ofNat 32 (cn e.val))

theorem ixT_eq (t : ℕ) (ht : t < 90) : ixT t ht = ValueIdx.ix1 (⟨t, ht⟩ : Fin 90) := by
  funext a; match a with | ⟨0, _⟩ => rfl

include hc in
theorem counts_eq : ∀ e : Fin 32, (V m c main_arg0 : IVec S32 32) (ValueIdx.ix1 e) = BitVec.ofNat 32 (cn e.val) := by
  intro e; rw [V_arg m c main_arg0 (Or.inl rfl)]; exact hc e

include hG hc in
theorem te_is (t : ℕ) (ht : t < offOf cn 32) : teT m c t = BitVec.ofNat 32 (expOf cn t) := by
  have hb := hG.n_le
  have h := w28 m c hG (counts_eq m c hc) ⟨t, by omega⟩ ht
  refine (wordT_of c teM _ t (by omega)).symm.trans ?_
  rw [ixT_eq]; exact h

include hG hc in
theorem pa_is (t : ℕ) (ht : t < offOf cn 32) : paT m c t = BitVec.ofNat 32 ((runs cn (expOf cn t + 1) - 1) % 3) := by
  have hb := hG.n_le
  have h := w83 m c hG (counts_eq m c hc) ⟨t, by omega⟩ ht
  refine (wordT_of c paM _ t (by omega)).symm.trans ?_
  rw [ixT_eq]; exact h

include hG hc in
theorem nx_is (t : ℕ) (ht : t < offOf cn 32) : nxT m c t = NX cn (expOf cn t) := by
  have hb := hG.n_le
  have h := w86 m c hG (counts_eq m c hc) ⟨t, by omega⟩ ht
  refine (wordT_of c nxM _ t (by omega)).symm.trans ?_
  rw [ixT_eq]; exact h

include hG hc in
theorem n2_is (t : ℕ) (ht : t < offOf cn 32) : n2T m c t = N2 cn (expOf cn t) := by
  have hb := hG.n_le
  have h := w89 m c hG (counts_eq m c hc) ⟨t, by omega⟩ ht
  refine (wordT_of c n2M _ t (by omega)).symm.trans ?_
  rw [ixT_eq]; exact h

include hG hc in
theorem ng_is (t : ℕ) (ht : t < offOf cn 32) : ngT m c t = BitVec.ofNat 32 (gOf cn t) := by
  have hb := hG.n_le
  have h := w47 m c hG (counts_eq m c hc) ⟨t, by omega⟩ ht
  refine (wordT_of c ngM _ t (by omega)).symm.trans ?_
  rw [ixT_eq]; exact h

include hc in
theorem ready : Ready m c (planOf cn hG) :=
  ⟨plan_fits hG (te_is m c hG hc) (pa_is m c hG hc) (nx_is m c hG hc) (n2_is m c hG hc) (ng_is m c hG hc), fun x => w12 m c hG (counts_eq m c hc) x⟩

end Cert.Kernel.Hand

end
-- ==== Proof.RWords.lean ====
/-
  Hand-written. The words of the plain program's loop over blocks of 640 rows: the number of groups of 128 rows a block has, which of the five
  branches runs, and the offsets of what the branch reads and writes.
-/
module

public import proofs.«01_k».proof.Proof.Gen.Reference.Skeleton
public import Idealize.ShloMosaic.Lib.Routing.Words
public import Idealize.ShloMosaic.Lib.PlanTiles.Words

@[expose] public section

noncomputable section

namespace Cert.Reference.Hand

open Cert.Reference Cert.Reference.Gen
open Idealize.ShloMosaic Idealize.ShloMosaic.TcCoe

/-- The rounded-down quotient by 128, at most five. -/
def FD (x : BitVec 32) : BitVec 32 :=
  Scalar.minsi (Scalar.select (Scalar.andi (Scalar.cmpi .ne (Scalar.subi (Scalar.extui (Scalar.cmpi .sgt x 0#32)) (Scalar.extui (Scalar.cmpi .slt x 0#32)))
    (Scalar.subi (Scalar.extui (Scalar.cmpi .sgt 128#32 0#32)) (Scalar.extui (Scalar.cmpi .slt 128#32 0#32)))) (Scalar.cmpi .ne (Scalar.remsi x 128#32) 0#32))
    (Scalar.subi (Scalar.divsi x 128#32) 1#32) (Scalar.divsi x 128#32)) 5#32

theorem sel_ne (y : BitVec 32) (p q : Bool) (a b : BitVec 32) (hp : (y == 1#32) = p) (r : BitVec 32) (hq : (r == 0#32) = q) :
    Scalar.select (Scalar.andi (Scalar.cmpi .ne y (Scalar.subi (Scalar.extui (Scalar.cmpi .sgt 128#32 0#32)) (Scalar.extui (Scalar.cmpi .slt 128#32 0#32)))) (Scalar.cmpi .ne r 0#32)) a b
      = if !p && !q then a else b := by
  have e : Scalar.subi (Scalar.extui (Scalar.cmpi .sgt 128#32 0#32)) (Scalar.extui (Scalar.cmpi .slt 128#32 0#32) : BitVec 32) = 1#32 := by decide +kernel
  rw [e]
  have c1 : Scalar.cmpi .ne y 1#32 = BitVec.ofBool (!p) := by rw [← hp]; rfl
  have c2 : Scalar.cmpi .ne r 0#32 = BitVec.ofBool (!q) := by rw [← hq]; rfl
  rw [c1, c2]
  cases p <;> cases q <;> rfl

theorem toInt_small {a : ℕ} (ha : a < 2 ^ 31) : (BitVec.ofNat 32 a).toInt = (a : ℤ) := by
  rw [BitVec.toInt_eq_toNat_of_lt (by rw [BitVec.toNat_ofNat]; omega), BitVec.toNat_ofNat]; omega

theorem FD_pos {a : ℕ} (ha : a < 2 ^ 31) : FD (BitVec.ofNat 32 a) = BitVec.ofNat 32 (min (a / 128) 5) := by
  have hd : Scalar.divsi (BitVec.ofNat 32 a) 128#32 = BitVec.ofNat 32 (a / 128) := Routing.divsi_word _ (b := 128) ha (by decide) (by decide)
  have hr : Scalar.remsi (BitVec.ofNat 32 a) 128#32 = BitVec.ofNat 32 (a % 128) := Routing.remsi_word _ (b := 128) ha (by decide) (by decide)
  have hmin : Scalar.minsi (BitVec.ofNat 32 (a / 128)) 5#32 = BitVec.ofNat 32 (min (a / 128) 5) := by
    show (if (BitVec.ofNat 32 (a / 128)).slt 5#32 then BitVec.ofNat 32 (a / 128) else 5#32) = _
    have e : (BitVec.ofNat 32 (a / 128)).slt 5#32 = decide (a / 128 < 5) := by
      unfold BitVec.slt; rw [toInt_small (by omega)]
      have : (5#32 : BitVec 32).toInt = 5 := by decide
      rw [this]; simp only [decide_eq_decide]; omega
    rw [e]
    by_cases h : a / 128 < 5
    · rw [if_pos (decide_eq_true h), Nat.min_eq_left (by omega)]
    · rw [if_neg (by simpa using h), Nat.min_eq_right (by omega)]
  unfold FD
  rw [hd, hr]
  rcases Nat.eq_zero_or_pos a with h0 | h0
  · subst h0; decide +kernel
  · have hs : Scalar.subi (Scalar.extui (Scalar.cmpi .sgt (BitVec.ofNat 32 a) 0#32)) (Scalar.extui (Scalar.cmpi .slt (BitVec.ofNat 32 a) 0#32) : BitVec 32) = 1#32 := by
      have e1 : Scalar.cmpi .sgt (BitVec.ofNat 32 a) 0#32 = 1#1 := by
        show BitVec.ofBool ((0#32 : BitVec 32).slt (BitVec.ofNat 32 a)) = 1#1
        have : (0#32 : BitVec 32).slt (BitVec.ofNat 32 a) = true := by
          unfold BitVec.slt; rw [toInt_small ha]; simp; omega
        rw [this]; rfl
      have e2 : Scalar.cmpi .slt (BitVec.ofNat 32 a) 0#32 = 0#1 := by
        show BitVec.ofBool ((BitVec.ofNat 32 a).slt 0#32) = 0#1
        have : (BitVec.ofNat 32 a).slt 0#32 = false := by
          unfold BitVec.slt; rw [toInt_small ha]; simp
        rw [this]; rfl
      rw [e1, e2]; rfl
    rw [hs, sel_ne 1#32 true _ _ _ rfl _ rfl, ← hmin]
    rfl

theorem FD_neg {a : ℕ} (h0 : 0 < a) (ha : a < 2 ^ 30) : (FD (-BitVec.ofNat 32 a)).toInt ≤ 0 := by
  have hd : Scalar.divsi (-BitVec.ofNat 32 a) 128#32 = -BitVec.ofNat 32 (a / 128) := by
    have hc : ¬ IntOp.SDivCorner (-BitVec.ofNat 32 a) 128#32 := by
      rintro (h | ⟨_, h⟩) <;> revert h <;> decide
    show IntOp.divsi _ _ _ = _
    unfold IntOp.divsi
    have hm : (-BitVec.ofNat 32 a).msb = true := by
      rw [BitVec.msb_eq_toInt, PlanTiles.toInt_neg_ofNat32 (by omega)]; simp; omega
    rw [if_neg hc, BitVec.sdiv_eq, hm, show (128#32 : BitVec 32).msb = false from by decide]
    simp only [BitVec.neg_neg]
    exact congrArg (fun v : BitVec 32 => -v) (Routing.udiv_ofNat32 (a := a) (b := 128) (by omega) (by omega))
  have key : ∀ b : Bool, ((if b then Scalar.subi (-BitVec.ofNat 32 (a / 128)) 1#32 else -BitVec.ofNat 32 (a / 128)).toInt) ≤ 0 := by
    intro b
    cases b
    · show (-BitVec.ofNat 32 (a / 128)).toInt ≤ 0
      rw [PlanTiles.toInt_neg_ofNat32 (by omega)]; omega
    · show (-BitVec.ofNat 32 (a / 128) - 1#32).toInt ≤ 0
      have : -BitVec.ofNat 32 (a / 128) - 1#32 = -BitVec.ofNat 32 (a / 128 + 1) := by
        rw [BitVec.ofNat_add, BitVec.neg_add]
      rw [this, PlanTiles.toInt_neg_ofNat32 (by omega)]; omega
  unfold FD
  rw [hd, sel_ne _ _ _ _ _ rfl _ rfl]
  generalize hb : (!_ && !_) = b
  have := key b
  generalize (if b = true then Scalar.subi (-BitVec.ofNat 32 (a / 128)) 1#32 else -BitVec.ofNat 32 (a / 128)) = w at this
  show (if w.slt 5#32 then w else 5#32).toInt ≤ 0
  have hw : w.slt 5#32 = true := by
    unfold BitVec.slt
    have : (5#32 : BitVec 32).toInt = 5 := by decide
    rw [this]; simp; omega
  rw [if_pos hw]; exact this

/-- The word whose quotient is taken: the rows left, rounded up. -/
def LW (c : BitVec 32) (t : ℕ) : BitVec 32 := Scalar.subi (Scalar.addi (Scalar.subi c (Scalar.muli (BitVec.ofNat 32 t) 640#32)) 128#32) 1#32

theorem LW_pos {c t : ℕ} (hc : c ≤ 36992) (ht : t < 58) (h : 640 * t ≤ c + 127) : LW (BitVec.ofNat 32 c) t = BitVec.ofNat 32 (c + 127 - 640 * t) := by
  apply BitVec.eq_of_toNat_eq
  show (BitVec.ofNat 32 c - BitVec.ofNat 32 t * 640#32 + 128#32 - 1#32).toNat = _
  simp only [BitVec.toNat_sub, BitVec.toNat_add, BitVec.toNat_mul, BitVec.toNat_ofNat]
  omega
theorem LW_neg {c t : ℕ} (hc : c ≤ 36992) (ht : t < 58) (h : c + 127 < 640 * t) : LW (BitVec.ofNat 32 c) t = -BitVec.ofNat 32 (640 * t - (c + 127)) := by
  apply BitVec.eq_of_toNat_eq
  show (BitVec.ofNat 32 c - BitVec.ofNat 32 t * 640#32 + 128#32 - 1#32).toNat = _
  simp only [BitVec.toNat_sub, BitVec.toNat_add, BitVec.toNat_mul, BitVec.toNat_ofNat, BitVec.toNat_neg]
  omega

theorem cmp_one (x : BitVec 32) (q : ℕ) : Scalar.cmpi .ne (Scalar.extui (Scalar.cmpi .eq x (BitVec.ofNat 32 q)) : BitVec 32) 0#32 = 1#1 ↔ x = BitVec.ofNat 32 q := by
  have : ∀ b : Bool, Scalar.cmpi .ne (Scalar.extui (BitVec.ofBool b) : BitVec 32) 0#32 = 1#1 ↔ b = true := by decide
  exact (this (x == BitVec.ofNat 32 q)).trans beq_iff_eq

/-- Branch `q` runs at block `t` exactly when the expert has rows there and they make `q` groups of 128. -/
theorem cond_word {c t q : ℕ} (hc : c ≤ 36992) (ht : t < 58) (h0 : 0 < q) (h5 : q ≤ 5) :
    Scalar.cmpi .ne (Scalar.extui (Scalar.cmpi .eq (FD (LW (BitVec.ofNat 32 c) t)) (BitVec.ofNat 32 q)) : BitVec 32) 0#32 = 1#1
      ↔ 640 * t < c ∧ min ((c + 127 - 640 * t) / 128) 5 = q := by
  rw [cmp_one]
  rcases Nat.lt_or_ge (c + 127) (640 * t) with h | h
  · rw [LW_neg hc ht h]
    constructor
    · intro e
      have := FD_neg (a := 640 * t - (c + 127)) (by omega) (by omega)
      rw [e, toInt_small (by omega)] at this; omega
    · intro e; omega
  · rw [LW_pos hc ht h, FD_pos (by omega)]
    constructor
    · intro e
      have e' := congrArg BitVec.toNat e
      simp only [BitVec.toNat_ofNat] at e'
      rw [Nat.mod_eq_of_lt (by omega), Nat.mod_eq_of_lt (by omega)] at e'
      omega
    · rintro ⟨_, e⟩; rw [e]

theorem trips2 : k0_t2_loop.trips = 58 := by decide +kernel
theorem trips1 : k0_t1_loop.trips = 32 := by decide +kernel
theorem iv2 : ∀ t : Fin k0_t2_loop.trips, Scf.iv 0#32 1#32 t = BitVec.ofNat 32 t.val := by decide +kernel

theorem cond1_iff {c : ℕ} (hc : c ≤ 36992) (t : Fin k0_t2_loop.trips) : k0_cond1 (BitVec.ofNat 32 c) t = 1#1 ↔ 640 * t.val < c ∧ min ((c + 127 - 640 * t.val) / 128) 5 = 1 := by
  rw [← cond_word hc (Nat.lt_of_lt_of_eq t.isLt trips2) (q := 1) (by decide) (by decide)]
  unfold LW; rw [← iv2 t]; rfl
theorem cond2_iff {c : ℕ} (hc : c ≤ 36992) (t : Fin k0_t2_loop.trips) : k0_cond2 (BitVec.ofNat 32 c) t = 1#1 ↔ 640 * t.val < c ∧ min ((c + 127 - 640 * t.val) / 128) 5 = 2 := by
  rw [← cond_word hc (Nat.lt_of_lt_of_eq t.isLt trips2) (q := 2) (by decide) (by decide)]
  unfold LW; rw [← iv2 t]; rfl
theorem cond3_iff {c : ℕ} (hc : c ≤ 36992) (t : Fin k0_t2_loop.trips) : k0_cond3 (BitVec.ofNat 32 c) t = 1#1 ↔ 640 * t.val < c ∧ min ((c + 127 - 640 * t.val) / 128) 5 = 3 := by
  rw [← cond_word hc (Nat.lt_of_lt_of_eq t.isLt trips2) (q := 3) (by decide) (by decide)]
  unfold LW; rw [← iv2 t]; rfl
theorem cond4_iff {c : ℕ} (hc : c ≤ 36992) (t : Fin k0_t2_loop.trips) : k0_cond4 (BitVec.ofNat 32 c) t = 1#1 ↔ 640 * t.val < c ∧ min ((c + 127 - 640 * t.val) / 128) 5 = 4 := by
  rw [← cond_word hc (Nat.lt_of_lt_of_eq t.isLt trips2) (q := 4) (by decide) (by decide)]
  unfold LW; rw [← iv2 t]; rfl
theorem cond5_iff {c : ℕ} (hc : c ≤ 36992) (t : Fin k0_t2_loop.trips) : k0_cond5 (BitVec.ofNat 32 c) t = 1#1 ↔ 640 * t.val < c ∧ min ((c + 127 - 640 * t.val) / 128) 5 = 5 := by
  rw [← cond_word hc (Nat.lt_of_lt_of_eq t.isLt trips2) (q := 5) (by decide) (by decide)]
  unfold LW; rw [← iv2 t]; rfl

/-- The first row of block `t` of an expert whose first tile is tile `o`. -/
theorem row_word {o : ℕ} (ho : o ≤ 89) (t : Fin k0_t2_loop.trips) :
    (Scalar.indexCast (Scalar.addi (BitVec.ofNat 32 (640 * o)) (Scalar.muli (Scf.iv 0#32 1#32 t) 640#32)) : Index).toNat = 640 * (o + t.val) := by
  have ht : t.val < 58 := Nat.lt_of_lt_of_eq t.isLt trips2
  rw [iv2]
  show (BitVec.ofNat 32 (640 * o) + BitVec.ofNat 32 t.val * 640#32).toNat = _
  simp only [BitVec.toNat_add, BitVec.toNat_mul, BitVec.toNat_ofNat]
  omega

section Offsets
variable {o : ℕ} (ho : o ≤ 89) (t : Fin k0_t2_loop.trips)
include ho
theorem off2_eq : k0_off2 (BitVec.ofNat 32 (640 * o)) t = ![640 * (o + t.val), 0] := congrArg (fun n => ![n, 0]) (row_word ho t)
theorem off5_eq : k0_off5 (BitVec.ofNat 32 (640 * o)) t = ![640 * (o + t.val), 0] := congrArg (fun n => ![n, 0]) (row_word ho t)
theorem off6_eq : k0_off6 (BitVec.ofNat 32 (640 * o)) t = ![640 * (o + t.val), 0] := congrArg (fun n => ![n, 0]) (row_word ho t)
theorem off9_eq : k0_off9 (BitVec.ofNat 32 (640 * o)) t = ![640 * (o + t.val), 0] := congrArg (fun n => ![n, 0]) (row_word ho t)
theorem off10_eq : k0_off10 (BitVec.ofNat 32 (640 * o)) t = ![640 * (o + t.val), 0] := congrArg (fun n => ![n, 0]) (row_word ho t)
theorem off13_eq : k0_off13 (BitVec.ofNat 32 (640 * o)) t = ![640 * (o + t.val), 0] := congrArg (fun n => ![n, 0]) (row_word ho t)
theorem off14_eq : k0_off14 (BitVec.ofNat 32 (640 * o)) t = ![640 * (o + t.val), 0] := congrArg (fun n => ![n, 0]) (row_word ho t)
theorem off17_eq : k0_off17 (BitVec.ofNat 32 (640 * o)) t = ![640 * (o + t.val), 0] := congrArg (fun n => ![n, 0]) (row_word ho t)
theorem off18_eq : k0_off18 (BitVec.ofNat 32 (640 * o)) t = ![640 * (o + t.val), 0] := congrArg (fun n => ![n, 0]) (row_word ho t)
theorem off21_eq : k0_off21 (BitVec.ofNat 32 (640 * o)) t = ![640 * (o + t.val), 0] := congrArg (fun n => ![n, 0]) (row_word ho t)
end Offsets

theorem off1_eq : ∀ e : Fin k0_t1_loop.trips, k0_off1 e = ![e.val] := by decide +kernel
theorem off3_eq : ∀ e : Fin k0_t1_loop.trips, k0_off3 e = ![e.val, 0, 0] := by decide +kernel
theorem off4_eq : ∀ e : Fin k0_t1_loop.trips, k0_off4 e = ![e.val, 0, 0] := by decide +kernel
theorem off7_eq : ∀ e : Fin k0_t1_loop.trips, k0_off7 e = ![e.val, 0, 0] := by decide +kernel
theorem off8_eq : ∀ e : Fin k0_t1_loop.trips, k0_off8 e = ![e.val, 0, 0] := by decide +kernel
theorem off11_eq : ∀ e : Fin k0_t1_loop.trips, k0_off11 e = ![e.val, 0, 0] := by decide +kernel
theorem off12_eq : ∀ e : Fin k0_t1_loop.trips, k0_off12 e = ![e.val, 0, 0] := by decide +kernel
theorem off15_eq : ∀ e : Fin k0_t1_loop.trips, k0_off15 e = ![e.val, 0, 0] := by decide +kernel
theorem off16_eq : ∀ e : Fin k0_t1_loop.trips, k0_off16 e = ![e.val, 0, 0] := by decide +kernel
theorem off19_eq : ∀ e : Fin k0_t1_loop.trips, k0_off19 e = ![e.val, 0, 0] := by decide +kernel
theorem off20_eq : ∀ e : Fin k0_t1_loop.trips, k0_off20 e = ![e.val, 0, 0] := by decide +kernel

/-- The side condition the program states about an expert's start and count. -/
theorem chk_of {o c : ℕ} (hc : c ≤ 36992) (ho : o + (c + 639) / 640 ≤ 89) : k0_chk1 (BitVec.ofNat 32 (640 * o)) (BitVec.ofNat 32 c) := by
  have key : ∀ (t : Fin k0_t2_loop.trips) (z : Fin 2 → ℕ) (n N : ℕ), n ≤ 640 → 57600 ≤ N → (640 * t.val < c) → z = ![640 * (o + t.val), 0]
      → ∀ a, z a + (⟨2, ![n, 512]⟩ : Shape).size a ≤ (⟨2, ![N, 512]⟩ : Shape).size a := by
    intro t z n N hn hN h hz a
    subst hz
    match a with
    | ⟨0, _⟩ => show 640 * (o + t.val) + n ≤ N; omega
    | ⟨1, _⟩ => show 0 + 512 ≤ 512; omega
  have ho' : o ≤ 89 := by omega
  unfold k0_chk1
  refine ⟨fun t h => ?_, fun t h => ?_, fun t h => ?_, fun t h => ?_, fun t h => ?_, fun t h => ?_, fun t h => ?_, fun t h => ?_, fun t h => ?_, fun t h => ?_⟩
  · exact key t _ 128 57608 (by decide) (by decide) ((cond1_iff hc t).1 h).1 (off2_eq ho' t)
  · exact key t _ 128 57600 (by decide) (by decide) ((cond1_iff hc t).1 h).1 (off5_eq ho' t)
  · exact key t _ 256 57608 (by decide) (by decide) ((cond2_iff hc t).1 h).1 (off6_eq ho' t)
  · exact key t _ 256 57600 (by decide) (by decide) ((cond2_iff hc t).1 h).1 (off9_eq ho' t)
  · exact key t _ 384 57608 (by decide) (by decide) ((cond3_iff hc t).1 h).1 (off10_eq ho' t)
  · exact key t _ 384 57600 (by decide) (by decide) ((cond3_iff hc t).1 h).1 (off13_eq ho' t)
  · exact key t _ 512 57608 (by decide) (by decide) ((cond4_iff hc t).1 h).1 (off14_eq ho' t)
  · exact key t _ 512 57600 (by decide) (by decide) ((cond4_iff hc t).1 h).1 (off17_eq ho' t)
  · exact key t _ 640 57608 (by decide) (by decide) ((cond5_iff hc t).1 h).1 (off18_eq ho' t)
  · exact key t _ 640 57600 (by decide) (by decide) ((cond5_iff hc t).1 h).1 (off21_eq ho' t)

end Cert.Reference.Hand

end
-- ==== Proof.RCells.lean ====
/-
  Hand-written. What the plain program leaves in its result, row by row, and buffers that read as known arrays.
-/
module

public import proofs.«01_k».proof.Proof.RWords
public import proofs.«01_k».proof.Proof.Counts
public import proofs.«01_k».proof.Proof.Gen.Reference.Frame
public import Idealize.ShloMosaic.Lib.Tactic

@[expose] public section

noncomputable section

namespace Cert.Reference.Hand

open Cert.Reference Cert.Reference.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Hand (nbOf offOf expOf gOf Good off_succ off_mono off_zero nb_pos exp_spec)

variable {F : FTy → Type} [BitOps F]

/-- The proof's algebra: the pipeline library's. -/
local notation "𝕄" => MT nD τ sig Unit (Elt F) ℕ (UR sig nD τ) ℕ

/-! ## The rows of the result -/

section Values
variable (cn : ℕ → ℕ) (X : S57608x512.Idx → BitVec 32) (wg wu : S32x1024x512.Idx → Elt F .f32) (wd : S32x512x1024.Idx → Elt F .f32)

/-- An array of rows of 512 words, read at naturals. -/
def at2 {N : ℕ} (v : (⟨2, ![N, 512]⟩ : Shape).Idx → BitVec 32) : ℕ → ℕ → BitVec 32 :=
  fun r l => if h : r < N ∧ l < 512 then v (ValueIdx.ix2 ⟨r, h.1⟩ ⟨l, h.2⟩) else 0#32

theorem at2_apply {N : ℕ} (v : (⟨2, ![N, 512]⟩ : Shape).Idx → BitVec 32) (x : (⟨2, ![N, 512]⟩ : Shape).Idx) : at2 v (x 0).val (x 1).val = v x := by
  unfold at2
  rw [dif_pos ⟨(x 0).isLt, (x 1).isLt⟩]
  congr 1
  funext a; match a with | ⟨0, _⟩ => rfl | ⟨1, _⟩ => rfl

/-- `n` rows of the gathered rows, from row `r`. -/
def xrows (n r : ℕ) : (⟨2, ![n, 512]⟩ : Shape).Idx → BitVec 32 := fun x => X (ValueIdx.ix2 ⟨(r + (x 0).val) % 57608, Nat.mod_lt _ (by decide)⟩ (x 1))
/-- An expert's weights. -/
def wIn (w : S32x1024x512.Idx → Elt F .f32) (e : ℕ) : S1x1024x512.Idx → Elt F .f32 := fun x => w (ValueIdx.ix3 ⟨e % 32, Nat.mod_lt _ (by decide)⟩ (x 1) (x 2))
def wOut (w : S32x512x1024.Idx → Elt F .f32) (e : ℕ) : S1x512x1024.Idx → Elt F .f32 := fun x => w (ValueIdx.ix3 ⟨e % 32, Nat.mod_lt _ (by decide)⟩ (x 1) (x 2))

/-- The packed results of `128 g` rows from row `r` under expert `e`. -/
def mlpR (g r e : ℕ) : ℕ → ℕ → BitVec 32 :=
  if g = 1 then at2 (k0_pay4 (xrows X 128 r) (wIn wg e) (wIn wu e) (wOut wd e)) else if g = 2 then at2 (k0_pay5 (xrows X 256 r) (wIn wg e) (wIn wu e) (wOut wd e))
  else if g = 3 then at2 (k0_pay6 (xrows X 384 r) (wIn wg e) (wIn wu e) (wOut wd e)) else if g = 4 then at2 (k0_pay2 (xrows X 512 r) (wIn wg e) (wIn wu e) (wOut wd e))
  else at2 (k0_pay3 (xrows X 640 r) (wIn wg e) (wIn wu e) (wOut wd e))

theorem mlpR_1 (r e : ℕ) : mlpR X wg wu wd 1 r e = at2 (k0_pay4 (xrows X 128 r) (wIn wg e) (wIn wu e) (wOut wd e)) := by unfold mlpR; rw [if_pos rfl]
theorem mlpR_2 (r e : ℕ) : mlpR X wg wu wd 2 r e = at2 (k0_pay5 (xrows X 256 r) (wIn wg e) (wIn wu e) (wOut wd e)) := by unfold mlpR; rw [if_neg (by decide), if_pos rfl]
theorem mlpR_3 (r e : ℕ) : mlpR X wg wu wd 3 r e = at2 (k0_pay6 (xrows X 384 r) (wIn wg e) (wIn wu e) (wOut wd e)) := by unfold mlpR; rw [if_neg (by decide), if_neg (by decide), if_pos rfl]
theorem mlpR_4 (r e : ℕ) : mlpR X wg wu wd 4 r e = at2 (k0_pay2 (xrows X 512 r) (wIn wg e) (wIn wu e) (wOut wd e)) := by unfold mlpR; rw [if_neg (by decide), if_neg (by decide), if_neg (by decide), if_pos rfl]
theorem mlpR_5 (r e : ℕ) : mlpR X wg wu wd 5 r e = at2 (k0_pay3 (xrows X 640 r) (wIn wg e) (wIn wu e) (wOut wd e)) := by unfold mlpR; rw [if_neg (by decide), if_neg (by decide), if_neg (by decide), if_neg (by decide)]

/-- The packed pair of zeros. -/
def zr (F : FTy → Type) [BitOps F] : BitVec 32 := k0_pay1 (F := F) (ValueIdx.ix2 ⟨0, by decide⟩ ⟨0, by decide⟩)

/-- Tile `t` of 640 rows: the groups of 128 its expert has rows in, then zeros. -/
def tileR (t i l : ℕ) : BitVec 32 := if i < 128 * gOf cn t then mlpR X wg wu wd (gOf cn t) (640 * t) (expOf cn t) i l else zr F

/-- The result when the first `b` tiles are done. -/
def GR (b : ℕ) : S57600x512.Idx → BitVec 32 := fun y => if (y 0).val / 640 < b then tileR cn X wg wu wd ((y 0).val / 640) ((y 0).val % 640) (y 1).val else zr F

theorem GR_zero : GR cn X wg wu wd 0 = k0_pay1 (F := F) := by
  funext y; unfold GR; rw [if_neg (Nat.not_lt_zero _)]; rfl

end Values

/-! ## Buffers -/

abbrev Cnt (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Cnt (F := F) c M) : sProp 𝕄 :=
  M.view.loc (c : Thread nD τ) ↦[M.view.set]{fullShare} f

theorem liftOp {c : Dev nD} {β : Type} {e : TpuEff nD τ sig (Elt F) Λ₀ .tc β} {α : Type} {k : β → Prog (TpuEff nD τ sig (Elt F) Λ₀ .tc) α} {Q : α → sProp 𝕄} :
    wp frame (wpE (defs₀ (F := F)) Variants.none (c : Thread nD τ) none) Set.univ (.op e k) Q
      ⊢ wp frame (wpE (defs₀ (F := F)) Variants.none (c : Thread nD τ) none) Set.univ (Prog.lift e >>= k) Q := Entails.refl _

/-- A buffer held whole, reading as `w`. -/
def Held (c : Dev nD) {sp : Space} {S : Shape} {e : EltTy} (M : Memref sig .tc sp S e) (w : S.Idx → Elt F e) : sProp 𝕄 :=
  iprop(∃ f : Cnt (F := F) c M, ⌜M.view.read (Elt F) f = w⌝ ∗ pt c M f)

theorem heldLoad (c : Dev nD) {S : Shape} {e : EltTy} {M : Memref sig .tc .vmem S e} {w : S.Idx → Elt F e} {r : Rect S} {hl : M.view.LoadsAt r.toLoadRect}
    {v : r.shape.Idx → Elt F e} (hv : ∀ x, w (r.emb x) = v x)
    {α : Type} {k : (r.shape.Idx → Elt F e) → Prog (TpuEff nD τ sig (Elt F) Λ₀ .tc) α} {Q : α → sProp 𝕄} :
    Held c M w ⊢ iprop((Held c M w -∗ wp frame (wpE (defs₀ (F := F)) Variants.none (c : Thread nD τ) none) Set.univ (k v) Q)
      -∗ wp frame (wpE (defs₀ (F := F)) Variants.none (c : Thread nD τ) none) Set.univ (Prog.lift (.load M r.toLoadRect hl) >>= k) Q) := by
  unfold Held
  iintro ⟨%f, %hf, H⟩ Hk
  iapply liftOp
  iapply (wp_load_rect Variants.none (c : Thread nD τ) none Set.univ (m := M) (r := r) (hl := hl) (S := M.view.set) (q := fullShare) (f := f) (View.set_slice_subset _ _)) $$ H
  iintro H
  have e : (M.access r).read (Elt F) f = v := by
    funext x; rw [← hv x, ← hf]; rfl
  rw [e]
  iapply Hk
  iexists f
  isplitr
  · ipureintro; exact hf
  · iexact H

/-- A load whose value is not used. -/
theorem anyLoad (c : Dev nD) {S : Shape} {e : EltTy} {M : Memref sig .tc .vmem S e} {w : S.Idx → Elt F e} {r : Rect S} {hl : M.view.LoadsAt r.toLoadRect}
    {α : Type} {k : (r.shape.Idx → Elt F e) → Prog (TpuEff nD τ sig (Elt F) Λ₀ .tc) α} {Q : α → sProp 𝕄} :
    Held c M w ⊢ iprop((Held c M w -∗ wp frame (wpE (defs₀ (F := F)) Variants.none (c : Thread nD τ) none) Set.univ (k (fun x => w (r.emb x))) Q)
      -∗ wp frame (wpE (defs₀ (F := F)) Variants.none (c : Thread nD τ) none) Set.univ (Prog.lift (.load M r.toLoadRect hl) >>= k) Q) :=
  heldLoad c (fun _ => rfl)

theorem heldStore (c : Dev nD) {S : Shape} {e : EltTy} {M : Memref sig .tc .vmem S e} {w w' : S.Idx → Elt F e} {r : Rect S} {v : r.shape.Idx → Elt F e}
    {hx : (M.access r).Stores Finset.univ} {hm}
    (h₁ : ∀ x, w' (r.emb x) = v x) (h₂ : ∀ y, (∀ x, r.emb x ≠ y) → w' y = w y)
    {α : Type} {k : PUnit → Prog (TpuEff nD τ sig (Elt F) Λ₀ .tc) α} {Q : α → sProp 𝕄} :
    Held c M w ⊢ iprop((Held c M w' -∗ wp frame (wpE (defs₀ (F := F)) Variants.none (c : Thread nD τ) none) Set.univ (k ⟨⟩) Q)
      -∗ wp frame (wpE (defs₀ (F := F)) Variants.none (c : Thread nD τ) none) Set.univ (Prog.lift (.store M r v Finset.univ hx hm) >>= k) Q) := by
  unfold Held
  iintro ⟨%f, %hf, H⟩ Hk
  iapply liftOp
  iapply (wp_store Variants.none (c : Thread nD τ) none Set.univ (m := M) (r := r) (w := v) (S := M.view.set) (f := f) (by rw [View.setOn_univ]; exact View.set_slice_subset _ _)) $$ H
  iintro H
  iapply Hk
  iexists ((M.access r).write (Elt F) f v Finset.univ)
  isplitr
  · ipureintro
    funext y
    by_cases hy : ∃ x, r.emb x = y
    · obtain ⟨x, rfl⟩ := hy
      rw [h₁]
      exact View.read_write_of_mem (v := M.access r) f v (Finset.mem_univ x)
    · rw [h₂ y (fun x hx => hy ⟨x, hx⟩), ← hf]
      have hn : M.view.emb y ∉ (M.access r).setOn Finset.univ := by
        intro hmem
        obtain ⟨z, -, hzy⟩ := Finset.mem_map.mp hmem
        exact hy ⟨z, M.view.emb.injective hzy⟩
      show M.view.read (Elt F) _ y = M.view.read (Elt F) f y
      rw [View.read_apply, View.read_apply, View.write_of_not_mem _ _ _ hn]
  · iexact H

/-- The load of one word of a table. -/
theorem wordLoad (c : Dev nD) {S : Shape} {M : Memref sig .tc .smem S .i32} {w : S.Idx → BitVec 32} {r : Rect S} {h1 : r.shape.numel = 1} {hpk : EltTy.i32.packing = 1}
    {v : BitVec 32} (hv : ∀ x, w (r.emb x) = v)
    {α : Type} {k : BitVec 32 → Prog (TpuEff nD τ sig (Elt F) Λ₀ .tc) α} {Q : α → sProp 𝕄} :
    Held c M w ⊢ iprop((Held c M w -∗ wp frame (wpE (defs₀ (F := F)) Variants.none c none) Set.univ (k v) Q)
      -∗ wp frame (wpE (defs₀ (F := F)) Variants.none c none) Set.univ (smemLoad M r h1 hpk >>= k) Q) := by
  unfold Held
  iintro ⟨%f, %hf, Ht⟩ Hk
  iapply (wp_smemLoadElt Variants.none (c : Thread nD τ) none Set.univ (m := M) (r := r) (hw := View.loads_smem_one hpk h1) (x := Shape.Idx.first (h1.symm ▸ Nat.one_pos)) (k := k) (q := fullShare) (f := f) (S := M.view.set) (View.set_slice_subset _ _)) $$ Ht
  iintro Ht
  have hr : ∀ x, (M.access r).read (Elt F) f x = v := fun x => by rw [← hv x, ← hf]; rfl
  rw [hr]
  iapply Hk
  iexists f
  isplitr
  · ipureintro; exact hf
  · iexact Ht

/-! ## The loads of a block's rows and of an expert's weights, and the store of its results -/

theorem xLoad (c : Dev nD) {M : Memref sig .tc .vmem S57608x512 .i32} {X : S57608x512.Idx → BitVec 32} {n r : ℕ} {o : Fin 2 → ℕ} (eo : o = ![r, 0])
    {h : ∀ a, o a + (⟨2, ![n, 512]⟩ : Shape).size a ≤ S57608x512.size a} {hl : M.view.LoadsAt (Rect.unit (s := S57608x512) o (⟨2, ![n, 512]⟩ : Shape).size h).toLoadRect}
    {α : Type} {k : ((⟨2, ![n, 512]⟩ : Shape).Idx → BitVec 32) → Prog (TpuEff nD τ sig (Elt F) Λ₀ .tc) α} {Q : α → sProp 𝕄} :
    Held (F := F) c M X ⊢ iprop((Held (F := F) c M X -∗ wp frame (wpE (defs₀ (F := F)) Variants.none (c : Thread nD τ) none) Set.univ (k (xrows X n r)) Q)
      -∗ wp frame (wpE (defs₀ (F := F)) Variants.none (c : Thread nD τ) none) Set.univ (Prog.lift (.load M (Rect.unit (s := S57608x512) o (⟨2, ![n, 512]⟩ : Shape).size h).toLoadRect hl) >>= k) Q) := by
  subst eo
  refine heldLoad (F := F) c (M := M) (r := Rect.unit (s := S57608x512) ![r, 0] (⟨2, ![n, 512]⟩ : Shape).size h) (hl := hl) (v := xrows X n r) (fun x => ?_)
  have h0 : r + n ≤ 57608 := h 0
  have hx : (x 0).val < n := (x 0).isLt
  unfold xrows
  congr 1
  funext a
  apply Fin.ext
  rw [Rect.emb_apply]
  match a with
  | ⟨0, _⟩ => show r + 1 * (x 0).val = (r + (x 0).val) % 57608; rw [Nat.mod_eq_of_lt (by omega)]; omega
  | ⟨1, _⟩ => show 0 + 1 * (x 1).val = (x 1).val; omega

theorem gLoad (c : Dev nD) {M : Memref sig .tc .vmem S32x1024x512 .f32} {w : S32x1024x512.Idx → Elt F .f32} {e : ℕ} (he : e < 32) {o : Fin 3 → ℕ} (eo : o = ![e, 0, 0])
    {h : ∀ a, o a + S1x1024x512.size a ≤ S32x1024x512.size a} {hl : M.view.LoadsAt (Rect.unit (s := S32x1024x512) o S1x1024x512.size h).toLoadRect}
    {α : Type} {k : (S1x1024x512.Idx → Elt F .f32) → Prog (TpuEff nD τ sig (Elt F) Λ₀ .tc) α} {Q : α → sProp 𝕄} :
    Held c M w ⊢ iprop((Held c M w -∗ wp frame (wpE (defs₀ (F := F)) Variants.none (c : Thread nD τ) none) Set.univ (k (wIn w e)) Q)
      -∗ wp frame (wpE (defs₀ (F := F)) Variants.none (c : Thread nD τ) none) Set.univ (Prog.lift (.load M (Rect.unit (s := S32x1024x512) o S1x1024x512.size h).toLoadRect hl) >>= k) Q) := by
  subst eo
  refine heldLoad (F := F) c (M := M) (r := Rect.unit (s := S32x1024x512) ![e, 0, 0] S1x1024x512.size h) (hl := hl) (v := wIn w e) (fun x => ?_)
  have hx : (x 0).val < 1 := (x 0).isLt
  unfold wIn
  congr 1
  funext a
  apply Fin.ext
  rw [Rect.emb_apply]
  match a with
  | ⟨0, _⟩ => show e + 1 * (x 0).val = e % 32; omega
  | ⟨1, _⟩ => show 0 + 1 * (x 1).val = (x 1).val; omega
  | ⟨2, _⟩ => show 0 + 1 * (x 2).val = (x 2).val; omega
theorem dLoad (c : Dev nD) {M : Memref sig .tc .vmem S32x512x1024 .f32} {w : S32x512x1024.Idx → Elt F .f32} {e : ℕ} (he : e < 32) {o : Fin 3 → ℕ} (eo : o = ![e, 0, 0])
    {h : ∀ a, o a + S1x512x1024.size a ≤ S32x512x1024.size a} {hl : M.view.LoadsAt (Rect.unit (s := S32x512x1024) o S1x512x1024.size h).toLoadRect}
    {α : Type} {k : (S1x512x1024.Idx → Elt F .f32) → Prog (TpuEff nD τ sig (Elt F) Λ₀ .tc) α} {Q : α → sProp 𝕄} :
    Held c M w ⊢ iprop((Held c M w -∗ wp frame (wpE (defs₀ (F := F)) Variants.none (c : Thread nD τ) none) Set.univ (k (wOut w e)) Q)
      -∗ wp frame (wpE (defs₀ (F := F)) Variants.none (c : Thread nD τ) none) Set.univ (Prog.lift (.load M (Rect.unit (s := S32x512x1024) o S1x512x1024.size h).toLoadRect hl) >>= k) Q) := by
  subst eo
  refine heldLoad (F := F) c (M := M) (r := Rect.unit (s := S32x512x1024) ![e, 0, 0] S1x512x1024.size h) (hl := hl) (v := wOut w e) (fun x => ?_)
  have hx : (x 0).val < 1 := (x 0).isLt
  unfold wOut
  congr 1
  funext a
  apply Fin.ext
  rw [Rect.emb_apply]
  match a with
  | ⟨0, _⟩ => show e + 1 * (x 0).val = e % 32; omega
  | ⟨1, _⟩ => show 0 + 1 * (x 1).val = (x 1).val; omega
  | ⟨2, _⟩ => show 0 + 1 * (x 2).val = (x 2).val; omega

/-- The store of tile `t`'s `128 g` rows of results. -/
theorem tileStore (c : Dev nD) {M : Memref sig .tc .vmem S57600x512 .i32} (cn : ℕ → ℕ) (X : S57608x512.Idx → BitVec 32) (wg wu : S32x1024x512.Idx → Elt F .f32) (wd : S32x512x1024.Idx → Elt F .f32)
    {n t g : ℕ} (hn : n = 128 * g) (hg : gOf cn t = g) (h5 : g ≤ 5) {o : Fin 2 → ℕ} (eo : o = ![640 * t, 0])
    {h : ∀ a, o a + (⟨2, ![n, 512]⟩ : Shape).size a ≤ S57600x512.size a} {v : (⟨2, ![n, 512]⟩ : Shape).Idx → BitVec 32}
    (hv : mlpR X wg wu wd g (640 * t) (expOf cn t) = at2 v)
    {hx : (M.access (Rect.unit (s := S57600x512) o (⟨2, ![n, 512]⟩ : Shape).size h)).Stores Finset.univ} {hm}
    {α : Type} {k : PUnit → Prog (TpuEff nD τ sig (Elt F) Λ₀ .tc) α} {Q : α → sProp 𝕄} :
    Held (F := F) c M (GR cn X wg wu wd t) ⊢ iprop((Held (F := F) c M (GR cn X wg wu wd (t + 1)) -∗ wp frame (wpE (defs₀ (F := F)) Variants.none (c : Thread nD τ) none) Set.univ (k ⟨⟩) Q)
      -∗ wp frame (wpE (defs₀ (F := F)) Variants.none (c : Thread nD τ) none) Set.univ (Prog.lift (.store M (Rect.unit (s := S57600x512) o (⟨2, ![n, 512]⟩ : Shape).size h) v Finset.univ hx hm) >>= k) Q) := by
  subst eo
  refine heldStore c (fun x => ?_) (fun y hy => ?_)
  · have hx0 : (x 0).val < n := (x 0).isLt
    have e0 : ((Rect.unit (s := S57600x512) ![640 * t, 0] (⟨2, ![n, 512]⟩ : Shape).size h).emb x 0).val = 640 * t + 1 * (x 0).val := rfl
    have e1 : ((Rect.unit (s := S57600x512) ![640 * t, 0] (⟨2, ![n, 512]⟩ : Shape).size h).emb x 1).val = 0 + 1 * (x 1).val := rfl
    unfold GR
    rw [e0, e1, show (640 * t + 1 * (x 0).val) / 640 = t from by omega, show (640 * t + 1 * (x 0).val) % 640 = (x 0).val from by omega,
      show 0 + 1 * (x 1).val = (x 1).val from by omega, if_pos (Nat.lt_succ_self t)]
    unfold tileR
    rw [hg, if_pos (by omega), hv]
    exact at2_apply v x
  · unfold GR
    rcases Nat.lt_trichotomy ((y 0).val / 640) t with h1 | h1 | h1
    · rw [if_pos h1, if_pos (by omega)]
    · rw [if_neg (by omega : ¬ (y 0).val / 640 < t), if_pos (by omega)]
      unfold tileR
      rw [h1, hg, if_neg]
      intro hlt
      have hy0 : (y 0).val = 640 * t + (y 0).val % 640 := by omega
      refine hy (ValueIdx.ix2 ⟨(y 0).val % 640, by omega⟩ (y 1)) ?_
      funext a
      apply Fin.ext
      rw [Rect.emb_apply]
      match a with
      | ⟨0, _⟩ => show 640 * t + 1 * ((y 0).val % 640) = (y 0).val; omega
      | ⟨1, _⟩ => show 0 + 1 * (y 1).val = (y 1).val; omega
    · rw [if_neg (by omega), if_neg (by omega)]

end Cert.Reference.Hand

end
-- ==== Proof.Pays.lean ====
/-
  Hand-written. One tile's products in the two programs: the kernel's, over four strided groups of rows of 128 words and
  weights rounded beforehand, and the plain one's, over rows of 512 words and weights rounded where they are used.
-/
module

public import proofs.«01_k».proof.Proof.Root
public import proofs.«01_k».proof.Proof.RCells
public import Idealize.ShloMosaic.Lib.Pipeline.ValueKit

@[expose] public section

set_option maxRecDepth 20000

noncomputable section

namespace Cert.Join

open Idealize.ShloMosaic Idealize.ShloMosaic.TcCoe
open Cert.Kernel.Hand (xld xpay gpay upay dpay gvec uvec dvec bG bU bD mlp1 mlp2 mlp3 mlp4 mlp5 Cnt)
open Cert.Reference.Hand (xrows wIn wOut at2)

variable {F : FTy → Type} [BitOps F]

theorem pay1 (v0 v1 v2 v3 : Vec F Cert.Kernel.S128x128 .i32) (X : Vec F Cert.Reference.S128x512 .i32)
    (Wg Wu : Vec F Cert.Reference.S1x1024x512 .f32) (Wd : Vec F Cert.Reference.S1x512x1024 .f32)
    (hx : (concatenate Cert.Kernel.S128x512 1 [⟨Cert.Kernel.S128x128, v0⟩, ⟨Cert.Kernel.S128x128, v1⟩, ⟨Cert.Kernel.S128x128, v2⟩, ⟨Cert.Kernel.S128x128, v3⟩] Cert.Kernel.Gen.concatenates_S128x128_S128x128_S128x128_S128x128_S128x512_d1 : IVec Cert.Kernel.S128x512 32) = X) :
    Cert.Kernel.Gen.k0_pay10 v0 v1 v2 v3 (Cert.Kernel.Gen.k0_pay9 Wg) (Cert.Kernel.Gen.k0_pay52 Wu) (Cert.Kernel.Gen.k0_pay53 Wd) = Cert.Reference.Gen.k0_pay4 X Wg Wu Wd := by
  unfold Cert.Kernel.Gen.k0_pay10 Cert.Kernel.Gen.k0_pay9 Cert.Kernel.Gen.k0_pay52 Cert.Kernel.Gen.k0_pay53 Cert.Reference.Gen.k0_pay4
  dsimp only
  rw [hx, shapeCast_self, shapeCast_self, shapeCast_self, shapeCast_self]
  rfl

theorem pay2 (v0 v1 v2 v3 : Vec F Cert.Kernel.S256x128 .i32) (X : Vec F Cert.Reference.S256x512 .i32)
    (Wg Wu : Vec F Cert.Reference.S1x1024x512 .f32) (Wd : Vec F Cert.Reference.S1x512x1024 .f32)
    (hx : (concatenate Cert.Kernel.S256x512 1 [⟨Cert.Kernel.S256x128, v0⟩, ⟨Cert.Kernel.S256x128, v1⟩, ⟨Cert.Kernel.S256x128, v2⟩, ⟨Cert.Kernel.S256x128, v3⟩] Cert.Kernel.Gen.concatenates_S256x128_S256x128_S256x128_S256x128_S256x512_d1 : IVec Cert.Kernel.S256x512 32) = X) :
    Cert.Kernel.Gen.k0_pay20 v0 v1 v2 v3 (Cert.Kernel.Gen.k0_pay9 Wg) (Cert.Kernel.Gen.k0_pay52 Wu) (Cert.Kernel.Gen.k0_pay53 Wd) = Cert.Reference.Gen.k0_pay5 X Wg Wu Wd := by
  unfold Cert.Kernel.Gen.k0_pay20 Cert.Kernel.Gen.k0_pay9 Cert.Kernel.Gen.k0_pay52 Cert.Kernel.Gen.k0_pay53 Cert.Reference.Gen.k0_pay5
  dsimp only
  rw [hx, shapeCast_self, shapeCast_self, shapeCast_self, shapeCast_self]
  rfl

theorem pay3 (v0 v1 v2 v3 : Vec F Cert.Kernel.S384x128 .i32) (X : Vec F Cert.Reference.S384x512 .i32)
    (Wg Wu : Vec F Cert.Reference.S1x1024x512 .f32) (Wd : Vec F Cert.Reference.S1x512x1024 .f32)
    (hx : (concatenate Cert.Kernel.S384x512 1 [⟨Cert.Kernel.S384x128, v0⟩, ⟨Cert.Kernel.S384x128, v1⟩, ⟨Cert.Kernel.S384x128, v2⟩, ⟨Cert.Kernel.S384x128, v3⟩] Cert.Kernel.Gen.concatenates_S384x128_S384x128_S384x128_S384x128_S384x512_d1 : IVec Cert.Kernel.S384x512 32) = X) :
    Cert.Kernel.Gen.k0_pay30 v0 v1 v2 v3 (Cert.Kernel.Gen.k0_pay9 Wg) (Cert.Kernel.Gen.k0_pay52 Wu) (Cert.Kernel.Gen.k0_pay53 Wd) = Cert.Reference.Gen.k0_pay6 X Wg Wu Wd := by
  unfold Cert.Kernel.Gen.k0_pay30 Cert.Kernel.Gen.k0_pay9 Cert.Kernel.Gen.k0_pay52 Cert.Kernel.Gen.k0_pay53 Cert.Reference.Gen.k0_pay6
  dsimp only
  rw [hx, shapeCast_self, shapeCast_self, shapeCast_self, shapeCast_self]
  rfl

theorem pay4 (v0 v1 v2 v3 : Vec F Cert.Kernel.S512x128 .i32) (X : Vec F Cert.Reference.S512x512 .i32)
    (Wg Wu : Vec F Cert.Reference.S1x1024x512 .f32) (Wd : Vec F Cert.Reference.S1x512x1024 .f32)
    (hx : (concatenate Cert.Kernel.S512x512 1 [⟨Cert.Kernel.S512x128, v0⟩, ⟨Cert.Kernel.S512x128, v1⟩, ⟨Cert.Kernel.S512x128, v2⟩, ⟨Cert.Kernel.S512x128, v3⟩] Cert.Kernel.Gen.concatenates_S512x128_S512x128_S512x128_S512x128_S512x512_d1 : IVec Cert.Kernel.S512x512 32) = X) :
    Cert.Kernel.Gen.k0_pay40 v0 v1 v2 v3 (Cert.Kernel.Gen.k0_pay9 Wg) (Cert.Kernel.Gen.k0_pay52 Wu) (Cert.Kernel.Gen.k0_pay53 Wd) = Cert.Reference.Gen.k0_pay2 X Wg Wu Wd := by
  unfold Cert.Kernel.Gen.k0_pay40 Cert.Kernel.Gen.k0_pay9 Cert.Kernel.Gen.k0_pay52 Cert.Kernel.Gen.k0_pay53 Cert.Reference.Gen.k0_pay2
  dsimp only
  rw [hx, shapeCast_self, shapeCast_self, shapeCast_self, shapeCast_self]
  rfl

theorem pay5 (v0 v1 v2 v3 : Vec F Cert.Kernel.S640x128 .i32) (X : Vec F Cert.Reference.S640x512 .i32)
    (Wg Wu : Vec F Cert.Reference.S1x1024x512 .f32) (Wd : Vec F Cert.Reference.S1x512x1024 .f32)
    (hx : (concatenate Cert.Kernel.S640x512 1 [⟨Cert.Kernel.S640x128, v0⟩, ⟨Cert.Kernel.S640x128, v1⟩, ⟨Cert.Kernel.S640x128, v2⟩, ⟨Cert.Kernel.S640x128, v3⟩] Cert.Kernel.Gen.concatenates_S640x128_S640x128_S640x128_S640x128_S640x512_d1 : IVec Cert.Kernel.S640x512 32) = X) :
    Cert.Kernel.Gen.k0_pay50 v0 v1 v2 v3 (Cert.Kernel.Gen.k0_pay9 Wg) (Cert.Kernel.Gen.k0_pay52 Wu) (Cert.Kernel.Gen.k0_pay53 Wd) = Cert.Reference.Gen.k0_pay3 X Wg Wu Wd := by
  unfold Cert.Kernel.Gen.k0_pay50 Cert.Kernel.Gen.k0_pay9 Cert.Kernel.Gen.k0_pay52 Cert.Kernel.Gen.k0_pay53 Cert.Reference.Gen.k0_pay3
  dsimp only
  rw [hx, shapeCast_self, shapeCast_self, shapeCast_self, shapeCast_self]
  rfl

end Cert.Join

end
-- ==== Proof.JoinRows.lean ====
/-
  Hand-written. The two programs read the same rows and the same weights.
-/
module

public import proofs.«01_k».proof.Proof.Pays
public import Idealize.ShloMosaic.Lib.Pipeline.ValueKit

@[expose] public section

set_option maxRecDepth 20000

noncomputable section

namespace Cert.Join

open Idealize.ShloMosaic Idealize.ShloMosaic.TcCoe
open Cert.Kernel.Hand (xld xpay gpay upay dpay gvec uvec dvec zw Cnt)
open Cert.Reference.Hand (xrows wIn wOut at2 zr)

variable {F : FTy → Type} [BitOps F]

/-- Four arrays of rows of 128 words side by side: column `j` is column `j % 128` of array `j / 128`. -/
theorem cat4 {α : Type} {N : ℕ} (v0 v1 v2 v3 : (⟨2, ![N, 128]⟩ : Shape).Idx → α)
    (hc : Shape.Concatenates [⟨2, ![N, 128]⟩, ⟨2, ![N, 128]⟩, ⟨2, ![N, 128]⟩, ⟨2, ![N, 128]⟩] (⟨2, ![N, 512]⟩ : Shape) 1)
    (x : (⟨2, ![N, 512]⟩ : Shape).Idx) (n : Fin 4) (hn : (x 1).val / 128 = n.val) (i : (⟨2, ![N, 128]⟩ : Shape).Idx)
    (h0 : (i 0).val = (x 0).val) (h1 : (i 1).val = (x 1).val % 128) :
    concatenate (⟨2, ![N, 512]⟩ : Shape) 1 [⟨⟨2, ![N, 128]⟩, v0⟩, ⟨⟨2, ![N, 128]⟩, v1⟩, ⟨⟨2, ![N, 128]⟩, v2⟩, ⟨⟨2, ![N, 128]⟩, v3⟩] hc x
      = (![v0, v1, v2, v3] : Fin 4 → _) n i :=
  concatenate_ofFn_apply (t := (⟨2, ![N, 512]⟩ : Shape)) (s₁ := ⟨2, ![N, 128]⟩) 1 (![v0, v1, v2, v3] : Fin 4 → _) hc rfl 128 rfl x n hn i h1
    (fun b hb => by
      match b with
      | ⟨0, _⟩ => exact h0
      | ⟨1, _⟩ => exact absurd rfl hb)

/-- A strided load's word. -/
theorem xld_at {N : ℕ} (w : Cert.Kernel.S2560x128.Idx → BitVec 32) (q : ℕ) (h)
    (j : (⟨2, ![N, 128]⟩ : Shape).Idx) (i : Cert.Kernel.S2560x128.Idx) (h0 : (i 0).val = q + 4 * (j 0).val) (h1 : (i 1).val = (j 1).val) :
    xld (⟨![q, 0], ![N, 128], ![4, 1], h⟩ : LoadRect Cert.Kernel.S2560x128) w j = w i := by
  unfold xld
  refine congrArg w ?_
  have hv : ∀ a : Fin 2, ((⟨![q, 0], ![N, 128], ![4, 1], h⟩ : LoadRect Cert.Kernel.S2560x128).idx j a).val = (i a).val := by
    intro a
    match a with
    | ⟨0, _⟩ => rw [LoadRect.idx_apply]; exact h0.symm
    | ⟨1, _⟩ => rw [LoadRect.idx_apply]; show 0 + 1 * (j 1).val = (i 1).val; omega
  funext a
  exact Fin.ext (hv a)

/-- Rows `q, q + 4, …` of a tile, for `q = 0 … 3`, side by side: row `i`'s word `128 q + l` is word `l` of row `4 i + q`. -/
theorem xcat {N : ℕ} (w : Cert.Kernel.S2560x128.Idx → BitVec 32) (i0 i1 i2 i3)
    (hc : Shape.Concatenates [⟨2, ![N, 128]⟩, ⟨2, ![N, 128]⟩, ⟨2, ![N, 128]⟩, ⟨2, ![N, 128]⟩] (⟨2, ![N, 512]⟩ : Shape) 1)
    (x : (⟨2, ![N, 512]⟩ : Shape).Idx) (i : Cert.Kernel.S2560x128.Idx) (h0 : (i 0).val = 4 * (x 0).val + (x 1).val / 128) (h1 : (i 1).val = (x 1).val % 128) :
    concatenate (⟨2, ![N, 512]⟩ : Shape) 1 [⟨⟨2, ![N, 128]⟩, xld (⟨![0, 0], ![N, 128], ![4, 1], i0⟩ : LoadRect Cert.Kernel.S2560x128) w⟩,
      ⟨⟨2, ![N, 128]⟩, xld (⟨![1, 0], ![N, 128], ![4, 1], i1⟩ : LoadRect Cert.Kernel.S2560x128) w⟩,
      ⟨⟨2, ![N, 128]⟩, xld (⟨![2, 0], ![N, 128], ![4, 1], i2⟩ : LoadRect Cert.Kernel.S2560x128) w⟩,
      ⟨⟨2, ![N, 128]⟩, xld (⟨![3, 0], ![N, 128], ![4, 1], i3⟩ : LoadRect Cert.Kernel.S2560x128) w⟩] hc x = w i := by
  have hx : (x 1).val < 512 := (x 1).isLt
  have hn : (x 1).val / 128 < 4 := by omega
  refine (cat4 _ _ _ _ hc x ⟨(x 1).val / 128, hn⟩ rfl (ValueIdx.ix2 (x 0) ⟨(x 1).val % 128, Nat.mod_lt _ (by norm_num)⟩) rfl rfl).trans ?_
  have key : ∀ n : Fin 4, n.val = (x 1).val / 128 → (![xld (⟨![0, 0], ![N, 128], ![4, 1], i0⟩ : LoadRect Cert.Kernel.S2560x128) w,
      xld (⟨![1, 0], ![N, 128], ![4, 1], i1⟩ : LoadRect Cert.Kernel.S2560x128) w,
      xld (⟨![2, 0], ![N, 128], ![4, 1], i2⟩ : LoadRect Cert.Kernel.S2560x128) w,
      xld (⟨![3, 0], ![N, 128], ![4, 1], i3⟩ : LoadRect Cert.Kernel.S2560x128) w] : Fin 4 → _) n (ValueIdx.ix2 (x 0) ⟨(x 1).val % 128, Nat.mod_lt _ (by norm_num)⟩) = w i := by
    intro n hn
    match n with
    | ⟨0, _⟩ => exact xld_at w 0 i0 _ i (by rw [h0, ← hn]; exact Nat.add_comm _ _) h1
    | ⟨1, _⟩ => exact xld_at w 1 i1 _ i (by rw [h0, ← hn]; exact Nat.add_comm _ _) h1
    | ⟨2, _⟩ => exact xld_at w 2 i2 _ i (by rw [h0, ← hn]; exact Nat.add_comm _ _) h1
    | ⟨3, _⟩ => exact xld_at w 3 i3 _ i (by rw [h0, ← hn]; exact Nat.add_comm _ _) h1
  exact key _ rfl

theorem zw_eq : zw F = zr F := rfl

theorem trans_symm {α β γ : Type} (e : α ≃ β) (g : β ↪ γ) (x : β) : (e.toEmbedding.trans g) (e.symm x) = g x := by simp

theorem gvec_eq (c : Dev Cert.Kernel.nD) (f : Cert.Kernel.S32x1024x512.Idx → Elt F .f32) (e : ℕ) (he : e < 32) : gvec c f e he = wIn f e := by
  funext x
  unfold gvec wIn
  have hx0 : (x 0).val < 1 := (x 0).isLt
  have hv : ∀ a : Fin 3, ((Cert.Kernel.Hand.asrc Cert.Kernel.Hand.wgM ![e, 0, 0] (Cert.Kernel.Hand.inbE e he)).view.emb
      ((Shape.reshapeEquiv Cert.Kernel.Gen.squeezes_S1x1024x512_S1024x512.numel_eq).symm x) a).val
      = ((ValueIdx.ix3 ⟨e % 32, Nat.mod_lt _ (by decide)⟩ (x 1) (x 2) : Cert.Kernel.S32x1024x512.Idx) a).val := by
    have hs : (Cert.Kernel.Hand.asrc Cert.Kernel.Hand.wgM ![e, 0, 0] (Cert.Kernel.Hand.inbE e he)).view.emb
      ((Shape.reshapeEquiv Cert.Kernel.Gen.squeezes_S1x1024x512_S1024x512.numel_eq).symm x)
      = (Cert.Kernel.Hand.wgM.slice (Rect.unit (s := Cert.Kernel.S32x1024x512) ![e, 0, 0] Cert.Kernel.S1x1024x512.size (Cert.Kernel.Hand.inbE e he)) (fun _ => rfl)).view.emb x := by
      show ((Cert.Kernel.Hand.wgM.slice (Rect.unit (s := Cert.Kernel.S32x1024x512) ![e, 0, 0] Cert.Kernel.S1x1024x512.size (Cert.Kernel.Hand.inbE e he)) (fun _ => rfl)).view.reshape _ _).emb _ = _
      rw [View.emb_reshape]
      exact trans_symm _ _ x
    rw [hs]
    intro a
    match a with
    | ⟨0, _⟩ => show e + 1 * (x 0).val = e % 32; rw [Nat.mod_eq_of_lt he]; omega
    | ⟨1, _⟩ => show 0 + 1 * (x 1).val = (x 1).val; omega
    | ⟨2, _⟩ => show 0 + 1 * (x 2).val = (x 2).val; omega
  exact congrArg f (funext fun a => Fin.ext (hv a))

theorem uvec_eq (c : Dev Cert.Kernel.nD) (f : Cert.Kernel.S32x1024x512.Idx → Elt F .f32) (e : ℕ) (he : e < 32) : uvec c f e he = wIn f e := by
  funext x
  unfold uvec wIn
  have hx0 : (x 0).val < 1 := (x 0).isLt
  have hv : ∀ a : Fin 3, ((Cert.Kernel.Hand.asrc Cert.Kernel.Hand.wuM ![e, 0, 0] (Cert.Kernel.Hand.inbE e he)).view.emb
      ((Shape.reshapeEquiv Cert.Kernel.Gen.squeezes_S1x1024x512_S1024x512.numel_eq).symm x) a).val
      = ((ValueIdx.ix3 ⟨e % 32, Nat.mod_lt _ (by decide)⟩ (x 1) (x 2) : Cert.Kernel.S32x1024x512.Idx) a).val := by
    have hs : (Cert.Kernel.Hand.asrc Cert.Kernel.Hand.wuM ![e, 0, 0] (Cert.Kernel.Hand.inbE e he)).view.emb
      ((Shape.reshapeEquiv Cert.Kernel.Gen.squeezes_S1x1024x512_S1024x512.numel_eq).symm x)
      = (Cert.Kernel.Hand.wuM.slice (Rect.unit (s := Cert.Kernel.S32x1024x512) ![e, 0, 0] Cert.Kernel.S1x1024x512.size (Cert.Kernel.Hand.inbE e he)) (fun _ => rfl)).view.emb x := by
      show ((Cert.Kernel.Hand.wuM.slice (Rect.unit (s := Cert.Kernel.S32x1024x512) ![e, 0, 0] Cert.Kernel.S1x1024x512.size (Cert.Kernel.Hand.inbE e he)) (fun _ => rfl)).view.reshape _ _).emb _ = _
      rw [View.emb_reshape]
      exact trans_symm _ _ x
    rw [hs]
    intro a
    match a with
    | ⟨0, _⟩ => show e + 1 * (x 0).val = e % 32; rw [Nat.mod_eq_of_lt he]; omega
    | ⟨1, _⟩ => show 0 + 1 * (x 1).val = (x 1).val; omega
    | ⟨2, _⟩ => show 0 + 1 * (x 2).val = (x 2).val; omega
  exact congrArg f (funext fun a => Fin.ext (hv a))

theorem dvec_eq (c : Dev Cert.Kernel.nD) (f : Cert.Kernel.S32x512x1024.Idx → Elt F .f32) (e : ℕ) (he : e < 32) : dvec c f e he = wOut f e := by
  funext x
  unfold dvec wOut
  have hx0 : (x 0).val < 1 := (x 0).isLt
  have hv : ∀ a : Fin 3, ((Cert.Kernel.Hand.dsrc ![e, 0, 0] (Cert.Kernel.Hand.inbE' e he)).view.emb
      ((Shape.reshapeEquiv Cert.Kernel.Gen.squeezes_S1x512x1024_S512x1024.numel_eq).symm x) a).val
      = ((ValueIdx.ix3 ⟨e % 32, Nat.mod_lt _ (by decide)⟩ (x 1) (x 2) : Cert.Kernel.S32x512x1024.Idx) a).val := by
    have hs : (Cert.Kernel.Hand.dsrc ![e, 0, 0] (Cert.Kernel.Hand.inbE' e he)).view.emb
      ((Shape.reshapeEquiv Cert.Kernel.Gen.squeezes_S1x512x1024_S512x1024.numel_eq).symm x)
      = (Cert.Kernel.Hand.wdM.slice (Rect.unit (s := Cert.Kernel.S32x512x1024) ![e, 0, 0] Cert.Kernel.S1x512x1024.size (Cert.Kernel.Hand.inbE' e he)) (fun _ => rfl)).view.emb x := by
      show ((Cert.Kernel.Hand.wdM.slice (Rect.unit (s := Cert.Kernel.S32x512x1024) ![e, 0, 0] Cert.Kernel.S1x512x1024.size (Cert.Kernel.Hand.inbE' e he)) (fun _ => rfl)).view.reshape _ _).emb _ = _
      rw [View.emb_reshape]
      exact trans_symm _ _ x
    rw [hs]
    intro a
    match a with
    | ⟨0, _⟩ => show e + 1 * (x 0).val = e % 32; rw [Nat.mod_eq_of_lt he]; omega
    | ⟨1, _⟩ => show 0 + 1 * (x 1).val = (x 1).val; omega
    | ⟨2, _⟩ => show 0 + 1 * (x 2).val = (x 2).val; omega
  exact congrArg f (funext fun a => Fin.ext (hv a))

theorem xpay_eq (c : Dev Cert.Kernel.nD) (fx : Cert.Kernel.S230432x128.Idx → Elt F .i32) (t : ℕ) (ht : t < 90) (y : Cert.Kernel.S2560x128.Idx)
    (i : Cert.Kernel.S230432x128.Idx) (h0 : (i 0).val = 2560 * t + (y 0).val) (h1 : (i 1).val = (y 1).val) : xpay c fx t ht y = fx i := by
  have hv : ∀ a : Fin 2, ((Cert.Kernel.Hand.xtile ![2560 * t, 0] (Cert.Kernel.Hand.inbT t ht)).view.emb y a).val = (i a).val := by
    intro a
    match a with
    | ⟨0, _⟩ => show 2560 * t + 1 * (y 0).val = (i 0).val; rw [Nat.one_mul, h0]
    | ⟨1, _⟩ => show 0 + 1 * (y 1).val = (i 1).val; rw [Nat.one_mul, Nat.zero_add, h1]
  refine congrArg fx (funext fun a => Fin.ext (hv a))

end Cert.Join

end
-- ==== Proof.Join.lean ====
/-
  Hand-written. A tile of the kernel's result and the same rows of the plain program's result hold the same words.
-/
module

public import proofs.«01_k».proof.Proof.JoinRows
public import proofs.«01_k».proof.Proof.Counts

@[expose] public section

set_option maxRecDepth 20000

noncomputable section

namespace Cert.Join

open Idealize.ShloMosaic Idealize.ShloMosaic.TcCoe
open Cert.Kernel.Hand (xld xpay gvec uvec dvec zw bG bU bD ofV mlp1 mlp2 mlp3 mlp4 mlp5 mlpN mlpN_1 mlpN_2 mlpN_3 mlpN_4 mlpN_5 tileG tileV planOf plan_ex offOf gOf expOf Good Plan)
open Cert.Reference.Hand (xrows wIn wOut at2 zr mlpR mlpR_1 mlpR_2 mlpR_3 mlpR_4 mlpR_5 tileR)

variable {F : FTy → Type} [BitOps F]
variable (c : Dev Cert.Kernel.nD) (fx : Cert.Kernel.S230432x128.Idx → Elt F .i32) (fg fu : Cert.Kernel.S32x1024x512.Idx → Elt F .f32) (fd : Cert.Kernel.S32x512x1024.Idx → Elt F .f32)
variable (X : Cert.Reference.S57608x512.Idx → BitVec 32)
  (hX : ∀ (x : Cert.Reference.S57608x512.Idx) (i : Cert.Kernel.S230432x128.Idx), (i 0).val * 128 + (i 1).val = (x 0).val * 512 + (x 1).val → X x = fx i)

include hX in
/-- The rows a tile multiplies. -/
theorem rows_eq {N : ℕ} (hN : N ≤ 640) (t : ℕ) (ht : t < 90) (i0 i1 i2 i3)
    (hc : Shape.Concatenates [⟨2, ![N, 128]⟩, ⟨2, ![N, 128]⟩, ⟨2, ![N, 128]⟩, ⟨2, ![N, 128]⟩] (⟨2, ![N, 512]⟩ : Shape) 1) :
    concatenate (⟨2, ![N, 512]⟩ : Shape) 1 [⟨⟨2, ![N, 128]⟩, xld (⟨![0, 0], ![N, 128], ![4, 1], i0⟩ : LoadRect Cert.Kernel.S2560x128) (xpay c fx t ht)⟩,
      ⟨⟨2, ![N, 128]⟩, xld (⟨![1, 0], ![N, 128], ![4, 1], i1⟩ : LoadRect Cert.Kernel.S2560x128) (xpay c fx t ht)⟩,
      ⟨⟨2, ![N, 128]⟩, xld (⟨![2, 0], ![N, 128], ![4, 1], i2⟩ : LoadRect Cert.Kernel.S2560x128) (xpay c fx t ht)⟩,
      ⟨⟨2, ![N, 128]⟩, xld (⟨![3, 0], ![N, 128], ![4, 1], i3⟩ : LoadRect Cert.Kernel.S2560x128) (xpay c fx t ht)⟩] hc = xrows X N (640 * t) := by
  funext x
  have hx0 : (x 0).val < N := (x 0).isLt
  have hx1 : (x 1).val < 512 := (x 1).isLt
  have hi : 4 * (x 0).val + (x 1).val / 128 < 2560 := by omega
  have hj : 2560 * t + (4 * (x 0).val + (x 1).val / 128) < 230432 := by omega
  have hl : (x 1).val % 128 < 128 := Nat.mod_lt _ (by norm_num)
  have hr : (640 * t + (x 0).val) % 57608 = 640 * t + (x 0).val := Nat.mod_eq_of_lt (by omega)
  refine (xcat (xpay c fx t ht) i0 i1 i2 i3 hc x (ValueIdx.ix2 ⟨_, hi⟩ ⟨_, hl⟩) rfl rfl).trans ?_
  refine (xpay_eq c fx t ht _ (ValueIdx.ix2 ⟨_, hj⟩ ⟨_, hl⟩) rfl rfl).trans (hX _ _ ?_).symm
  show (2560 * t + (4 * (x 0).val + (x 1).val / 128)) * 128 + (x 1).val % 128 = (640 * t + (x 0).val) % 57608 * 512 + (x 1).val
  rw [hr]
  omega

theorem ofV_at2 {N : ℕ} (v : (⟨2, ![N, 512]⟩ : Shape).Idx → BitVec 32) : ofV v = at2 v := rfl

include hX in
theorem mlp_1 (t : ℕ) (ht : t < 90) (e : ℕ) :
    mlpN 1 (xpay c fx t ht) (Cert.Kernel.Gen.k0_pay9 (wIn fg e)) (Cert.Kernel.Gen.k0_pay52 (wIn fu e)) (Cert.Kernel.Gen.k0_pay53 (wOut fd e))
      = mlpR X fg fu fd 1 (640 * t) e := by
  rw [mlpN_1, mlpR_1, ofV_at2]
  refine congrArg at2 ?_
  unfold mlp1
  exact pay1 _ _ _ _ _ _ _ _ (rows_eq c fx X hX (by norm_num) t ht _ _ _ _ _)

include hX in
theorem mlp_2 (t : ℕ) (ht : t < 90) (e : ℕ) :
    mlpN 2 (xpay c fx t ht) (Cert.Kernel.Gen.k0_pay9 (wIn fg e)) (Cert.Kernel.Gen.k0_pay52 (wIn fu e)) (Cert.Kernel.Gen.k0_pay53 (wOut fd e))
      = mlpR X fg fu fd 2 (640 * t) e := by
  rw [mlpN_2, mlpR_2, ofV_at2]
  refine congrArg at2 ?_
  unfold mlp2
  exact pay2 _ _ _ _ _ _ _ _ (rows_eq c fx X hX (by norm_num) t ht _ _ _ _ _)

include hX in
theorem mlp_3 (t : ℕ) (ht : t < 90) (e : ℕ) :
    mlpN 3 (xpay c fx t ht) (Cert.Kernel.Gen.k0_pay9 (wIn fg e)) (Cert.Kernel.Gen.k0_pay52 (wIn fu e)) (Cert.Kernel.Gen.k0_pay53 (wOut fd e))
      = mlpR X fg fu fd 3 (640 * t) e := by
  rw [mlpN_3, mlpR_3, ofV_at2]
  refine congrArg at2 ?_
  unfold mlp3
  exact pay3 _ _ _ _ _ _ _ _ (rows_eq c fx X hX (by norm_num) t ht _ _ _ _ _)

include hX in
theorem mlp_4 (t : ℕ) (ht : t < 90) (e : ℕ) :
    mlpN 4 (xpay c fx t ht) (Cert.Kernel.Gen.k0_pay9 (wIn fg e)) (Cert.Kernel.Gen.k0_pay52 (wIn fu e)) (Cert.Kernel.Gen.k0_pay53 (wOut fd e))
      = mlpR X fg fu fd 4 (640 * t) e := by
  rw [mlpN_4, mlpR_4, ofV_at2]
  refine congrArg at2 ?_
  unfold mlp4
  exact pay4 _ _ _ _ _ _ _ _ (rows_eq c fx X hX (by norm_num) t ht _ _ _ _ _)

include hX in
theorem mlp_5 (t : ℕ) (ht : t < 90) (e : ℕ) :
    mlpN 5 (xpay c fx t ht) (Cert.Kernel.Gen.k0_pay9 (wIn fg e)) (Cert.Kernel.Gen.k0_pay52 (wIn fu e)) (Cert.Kernel.Gen.k0_pay53 (wOut fd e))
      = mlpR X fg fu fd 5 (640 * t) e := by
  rw [mlpN_5, mlpR_5, ofV_at2]
  refine congrArg at2 ?_
  unfold mlp5
  exact pay5 _ _ _ _ _ _ _ _ (rows_eq c fx X hX (by norm_num) t ht _ _ _ _ _)

include hX in
theorem mlp_eq (g : ℕ) (h1 : 1 ≤ g) (h5 : g ≤ 5) (t : ℕ) (ht : t < 90) (e : ℕ) :
    mlpN g (xpay c fx t ht) (Cert.Kernel.Gen.k0_pay9 (wIn fg e)) (Cert.Kernel.Gen.k0_pay52 (wIn fu e)) (Cert.Kernel.Gen.k0_pay53 (wOut fd e))
      = mlpR X fg fu fd g (640 * t) e := by
  have h : g = 1 ∨ g = 2 ∨ g = 3 ∨ g = 4 ∨ g = 5 := by omega
  rcases h with h | h | h | h | h <;> subst h
  · exact mlp_1 c fx fg fu fd X hX t ht e
  · exact mlp_2 c fx fg fu fd X hX t ht e
  · exact mlp_3 c fx fg fu fd X hX t ht e
  · exact mlp_4 c fx fg fu fd X hX t ht e
  · exact mlp_5 c fx fg fu fd X hX t ht e

variable {cn : ℕ → ℕ} (hG : Good cn)

theorem bG_eq (p : Plan) (k e : ℕ) (h : p.E k = e) : bG c fg p k = Cert.Kernel.Gen.k0_pay9 (wIn fg e) := by
  unfold bG; rw [gvec_eq, h]
theorem bU_eq (p : Plan) (k e : ℕ) (h : p.E k = e) : bU c fu p k = Cert.Kernel.Gen.k0_pay52 (wIn fu e) := by
  unfold bU; rw [uvec_eq, h]
theorem bD_eq (p : Plan) (k e : ℕ) (h : p.E k = e) : bD c fd p k = Cert.Kernel.Gen.k0_pay53 (wOut fd e) := by
  unfold bD; rw [dvec_eq, h]

theorem g_bounds (t : ℕ) : 1 ≤ gOf cn t ∧ gOf cn t ≤ 5 := by unfold gOf; omega

include hX in
/-- Tile `t`, word by word. -/
theorem tile_eq (t : ℕ) (y : Cert.Kernel.S2560x128.Idx) :
    tileV c fx fg fu fd (planOf cn hG) t y
      = if t < offOf cn 32 then tileR cn X fg fu fd t ((y 0).val / 4) (128 * ((y 0).val % 4) + (y 1).val) else zr F := by
  have hn : offOf cn 32 ≤ 89 := hG.n_le
  by_cases h : t < offOf cn 32
  · rw [if_pos h]
    have hE : (planOf cn hG).E ((planOf cn hG).K (t + 1) - 1) = expOf cn t := plan_ex hG h
    unfold tileV
    rw [dif_pos (show t < (planOf cn hG).n from h), bG_eq c fg _ _ _ hE, bU_eq c fu _ _ _ hE, bD_eq c fd _ _ _ hE]
    rw [show (planOf cn hG).g t = gOf cn t from rfl, mlp_eq c fx fg fu fd X hX (gOf cn t) (g_bounds t).1 (g_bounds t).2 t (by omega) (expOf cn t)]
    unfold tileG tileR
    by_cases h2 : (y 0).val < 512 * gOf cn t
    · rw [if_pos h2, if_pos (by omega)]
    · rw [if_neg h2, if_neg (by omega)]; rfl
  · rw [if_neg h]
    unfold tileV
    rw [dif_neg (show ¬ t < (planOf cn hG).n from h)]; rfl

end Cert.Join

end
-- ==== Proof.KRun.lean ====
/-
  Hand-written. What the kernel's run leaves in its result: tile `t`'s rows at rows `2560 t …` of the array.
-/
module

public import proofs.«01_k».proof.Proof.Launch
public import Idealize.ShloMosaic.Lib.StableHlo.RunRead
public import Idealize.ShloMosaic.Lib.Pipeline.ValueKit
public import Idealize.ShloMosaic.Lib.Pipeline.Covers

@[expose] public section

set_option maxRecDepth 20000
set_option maxHeartbeats 800000

noncomputable section

namespace Cert.Kernel.Hand

open Idealize.ShloMosaic Idealize.ShloMosaic.TcCoe
open Cert.Kernel Cert.Kernel.Gen
open Idealize.SL.Sem

variable {F : FTy → Type} [BitOps F]
variable (m : (ℓ : Loc nD τ sig) → Buf (Elt F) ℓ) (c : Dev nD)

theorem e90 : (V m c main_v90 : FVec F S32x1024x512 .f32) = shapeCast S32x1024x512 (V m c main_arg2 : FVec F S1x32x1024x512 .f32) shapeCasts_S1x32x1024x512_S32x1024x512 := by
  unfold V V0 lines
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e91 : (V m c main_v91 : FVec F S32x1024x512 .f32) = shapeCast S32x1024x512 (V m c main_arg3 : FVec F S1x32x1024x512 .f32) shapeCasts_S1x32x1024x512_S32x1024x512 := by
  unfold V V0 lines
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e92 : (V m c main_v92 : FVec F S32x512x1024 .f32) = shapeCast S32x512x1024 (V m c main_arg4 : FVec F S1x32x512x1024 .f32) shapeCasts_S1x32x512x1024_S32x512x1024 := by
  unfold V V0 lines
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

variable (P : Dev nD → Plan)

/-- The result's words: row `2560 t + y` is row `y` of tile `t`. -/
def resK : S230400x128.Idx → BitVec 32 := fun x =>
  outs m P c ((x 0).val / 2560) (ValueIdx.ix2 ⟨(x 0).val % 2560, Nat.mod_lt _ (by norm_num)⟩ (x 1))

theorem emb0 (t : Fin (cfgA (F := F) m).N) (y : S2560x128.Idx) (a : Fin 2) :
    ((((cfgA m).win 0).blk t).view.emb y a).val = cc0_transform_4 (grid0.coords t) a * S2560x128.size a + (y a).val := by
  blk_simp
  rfl

theorem tr4 (t : Fin grid0.N) : cc0_transform_4 (grid0.coords t) 0 = t.val ∧ cc0_transform_4 (grid0.coords t) 1 = 0 :=
  (by decide +kernel : ∀ t : Fin grid0.N, cc0_transform_4 (grid0.coords t) 0 = t.val ∧ cc0_transform_4 (grid0.coords t) 1 = 0) t

theorem tr4_surj : ∀ b : Fin 90, ∃ i : grid0.Coords, cc0_transform_4 i 0 = b.val ∧ cc0_transform_4 i 1 = 0 := by decide +kernel

theorem arr0 : (dats m P 0 c).arrAt 0 (cfgA m).N = resK m c P := by
  have hcov : ((cfgA m).win 0).Covers := by
    refine Pipeline.Window.covers_of_indexMap_surj _ rfl ?_ ?_
    · exact (by decide : ∀ a : Fin 2, 0 < S2560x128.size a)
    · intro β
      have hn : ((cfgA m).win 0).nblk (0 : Fin 2) = 90 := by show (230400 + 2560 - 1) / 2560 = 90; norm_num
      have hn1 : ((cfgA m).win 0).nblk (1 : Fin 2) = 1 := by show (128 + 128 - 1) / 128 = 1; norm_num
      obtain ⟨i, h0, h1⟩ := tr4_surj ((β (0 : Fin 2)).cast hn)
      refine ⟨i, fun a => ?_⟩
      have ha : ∀ a : Fin 2, cc0_transform_4 i a = (β a).val := by
        intro a
        fin_cases a
        · exact h0
        · exact h1.trans (Nat.lt_one_iff.1 (Nat.lt_of_lt_of_eq (β (1 : Fin 2)).isLt hn1)).symm
      exact ha a
  refine (dats m P 0 c).arrAt_eq_of_covers 0 _ hcov fun t hf y => ?_
  blk_simp
  rw [show (dats m P 0 c).after 0 t = outs m P c t.val from rfl]
  have ht := tr4 t
  have e0 : ((((cfgA m).win 0).blk t).view.emb y (0 : Fin 2)).val = t.val * 2560 + (y (0 : Fin 2)).val := by
    rw [emb0 m t y 0, ht.1]; rfl
  have e1 : ((((cfgA m).win 0).blk t).view.emb y (1 : Fin 2)).val = (y (1 : Fin 2)).val := by
    rw [emb0 m t y 1, ht.2, Nat.zero_mul, Nat.zero_add]
  have hy : (y (0 : Fin 2)).val < 2560 := (y (0 : Fin 2)).isLt
  have k0 : ((((cfgA m).win 0).blk t).view.emb y (0 : Fin 2)).val / 2560 = t.val := by rw [e0]; omega
  have k1 : ((((cfgA m).win 0).blk t).view.emb y (0 : Fin 2)).val % 2560 = (y (0 : Fin 2)).val := by rw [e0]; omega
  have kI : (ValueIdx.ix2 ⟨((((cfgA m).win 0).blk t).view.emb y (0 : Fin 2)).val % 2560, Nat.mod_lt _ (by norm_num)⟩ (((((cfgA m).win 0).blk t).view.emb y (1 : Fin 2))) : S2560x128.Idx) = y := by
    funext a
    apply Fin.ext
    have ha : ∀ a : Fin 2, ((ValueIdx.ix2 ⟨((((cfgA m).win 0).blk t).view.emb y (0 : Fin 2)).val % 2560, Nat.mod_lt _ (by norm_num)⟩ (((((cfgA m).win 0).blk t).view.emb y (1 : Fin 2))) : S2560x128.Idx) a).val = (y a).val := by
      intro a
      fin_cases a
      · exact k1
      · exact e1
    exact ha a
  unfold resK
  exact (congrArg₂ (outs m P c) k0 kI).symm

end Cert.Kernel.Hand

end
-- ==== Proof.RBody.lean ====
/-
  Hand-written. The plain program's body: the branches, a block, an expert's blocks, all experts.
-/
module

public import proofs.«01_k».proof.Proof.RCells
public import proofs.«01_k».proof.Proof.Counts
public import proofs.«01_k».proof.Proof.Gen.Reference.Frame
public import Idealize.ShloMosaic.Lib.Tactic

@[expose] public section

noncomputable section

namespace Cert.Reference.Hand

open Cert.Reference Cert.Reference.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Hand (nbOf offOf expOf gOf Good off_succ off_mono off_zero nb_pos exp_spec)

variable {F : FTy → Type} [BitOps F]

/-- The proof's algebra: the pipeline library's. -/
local notation "𝕄" => MT nD τ sig Unit (Elt F) ℕ (UR sig nD τ) ℕ

section
variable (c : Dev nD)
variable (arg0 : Memref sig .tc .smem S32 .i32) (harg0 : arg0.IsWhole) (arg1 : Memref sig .tc .smem S32 .i32) (harg1 : arg1.IsWhole) (arg2 : Memref sig .tc .vmem S57608x512 .i32) (harg2 : arg2.IsWhole) (arg3 : Memref sig .tc .vmem S32x1024x512 .f32) (harg3 : arg3.IsWhole) (arg4 : Memref sig .tc .vmem S32x1024x512 .f32) (harg4 : arg4.IsWhole) (arg5 : Memref sig .tc .vmem S32x512x1024 .f32) (harg5 : arg5.IsWhole) (arg6 : Memref sig .tc .vmem S57600x512 .i32) (harg6 : arg6.IsWhole)
variable (cn : ℕ → ℕ) (X : S57608x512.Idx → BitVec 32) (wg wu : S32x1024x512.Idx → Elt F .f32) (wd : S32x512x1024.Idx → Elt F .f32)

/-- The arrays read and the result with its first `b` tiles done. -/
def Bufs (b : ℕ) : sProp 𝕄 :=
  iprop(Held (F := F) c arg2 X ∗ Held c arg3 wg ∗ Held c arg4 wu ∗ Held c arg5 wd ∗ Held (F := F) c arg6 (GR cn X wg wu wd b))

/-- A branch computes its tile. -/
theorem branch {n t g e : ℕ} (hn : n = 128 * g) (h5 : g ≤ 5) (hg : gOf cn t = g) (hE : expOf cn t = e) (he : e < 32) {o2 o6 : Fin 2 → ℕ} {o3 o4 o5 : Fin 3 → ℕ}
    (e2 : o2 = ![640 * t, 0]) (e3 : o3 = ![e, 0, 0]) (e4 : o4 = ![e, 0, 0]) (e5 : o5 = ![e, 0, 0]) (e6 : o6 = ![640 * t, 0])
    {b2 : ∀ a, o2 a + (⟨2, ![n, 512]⟩ : Shape).size a ≤ S57608x512.size a} {b3 : ∀ a, o3 a + S1x1024x512.size a ≤ S32x1024x512.size a}
    {b4 : ∀ a, o4 a + S1x1024x512.size a ≤ S32x1024x512.size a} {b5 : ∀ a, o5 a + S1x512x1024.size a ≤ S32x512x1024.size a}
    {b6 : ∀ a, o6 a + (⟨2, ![n, 512]⟩ : Shape).size a ≤ S57600x512.size a}
    {l2 : arg2.view.LoadsAt (Rect.unit (s := S57608x512) o2 (⟨2, ![n, 512]⟩ : Shape).size b2).toLoadRect}
    {l3 : arg3.view.LoadsAt (Rect.unit (s := S32x1024x512) o3 S1x1024x512.size b3).toLoadRect}
    {l4 : arg4.view.LoadsAt (Rect.unit (s := S32x1024x512) o4 S1x1024x512.size b4).toLoadRect}
    {l5 : arg5.view.LoadsAt (Rect.unit (s := S32x512x1024) o5 S1x512x1024.size b5).toLoadRect}
    {l6 : arg6.view.LoadsAt (Rect.unit (s := S57600x512) o6 (⟨2, ![n, 512]⟩ : Shape).size b6).toLoadRect}
    {hx : (arg6.access (Rect.unit (s := S57600x512) o6 (⟨2, ![n, 512]⟩ : Shape).size b6)).Stores Finset.univ} {hm}
    {pf : ((⟨2, ![n, 512]⟩ : Shape).Idx → BitVec 32) → (S1x1024x512.Idx → Elt F .f32) → (S1x1024x512.Idx → Elt F .f32) → (S1x512x1024.Idx → Elt F .f32) → (⟨2, ![n, 512]⟩ : Shape).Idx → BitVec 32}
    (hv : mlpR X wg wu wd g (640 * t) e = at2 (pf (xrows X n (640 * t)) (wIn wg e) (wIn wu e) (wOut wd e)))
    {α : Type} {K : Prog (TpuEff nD τ sig (Elt F) Λ₀ .tc) α} {Q : α → sProp 𝕄} :
    Bufs c arg2 arg3 arg4 arg5 arg6 cn X wg wu wd t ⊢ iprop((Bufs c arg2 arg3 arg4 arg5 arg6 cn X wg wu wd (t + 1)
        -∗ wp frame (wpE (defs₀ (F := F)) Variants.none (c : Thread nD τ) none) Set.univ K Q)
      -∗ wp frame (wpE (defs₀ (F := F)) Variants.none (c : Thread nD τ) none) Set.univ (do
        let v49 : Vec F (⟨2, ![n, 512]⟩ : Shape) .i32 ← Prog.lift (.load arg2 (Rect.unit (s := S57608x512) o2 (⟨2, ![n, 512]⟩ : Shape).size b2).toLoadRect l2)
        let v56 : Vec F S1x1024x512 .f32 ← Prog.lift (.load arg3 (Rect.unit (s := S32x1024x512) o3 S1x1024x512.size b3).toLoadRect l3)
        let v61 : Vec F S1x1024x512 .f32 ← Prog.lift (.load arg4 (Rect.unit (s := S32x1024x512) o4 S1x1024x512.size b4).toLoadRect l4)
        let v70 : Vec F S1x512x1024 .f32 ← Prog.lift (.load arg5 (Rect.unit (s := S32x512x1024) o5 S1x512x1024.size b5).toLoadRect l5)
        let v78 : Vec F (⟨2, ![n, 512]⟩ : Shape) .i32 ← Prog.lift (.load arg6 (Rect.unit (s := S57600x512) o6 (⟨2, ![n, 512]⟩ : Shape).size b6).toLoadRect l6)
        Prog.lift (.store arg6 (Rect.unit (s := S57600x512) o6 (⟨2, ![n, 512]⟩ : Shape).size b6) (pf v49 v56 v61 v70) Finset.univ hx hm)
        K) Q) := by
  unfold Bufs
  iintro ⟨H2, H3, H4, H5, H6⟩ Hk
  iapply (xLoad (F := F) c e2) $$ H2
  iintro H2
  iapply (gLoad (F := F) c he e3) $$ H3
  iintro H3
  iapply (gLoad (F := F) c he e4) $$ H4
  iintro H4
  iapply (dLoad (F := F) c he e5) $$ H5
  iintro H5
  iapply (anyLoad (F := F) c) $$ H6
  iintro H6
  iapply (tileStore (F := F) c cn X wg wu wd hn hg h5 e6 (by rw [hE]; exact hv)) $$ H6
  iintro H6
  iapply Hk
  iframe

/-- A branch that may or may not be taken, of five of which at most one is. -/
theorem opt {P : Prop} [Decidable P] {s q q0 : ℕ} {live : Prop} [Decidable live] (hq : 0 < q) (hP : P ↔ live ∧ q0 = q)
    {α : Type} {B : P → Prog (TpuEff nD τ sig (Elt F) Λ₀ .tc) α} {K : Prog (TpuEff nD τ sig (Elt F) Λ₀ .tc) α} {Q : α → sProp 𝕄}
    (hB : live ∧ q0 = q → ∀ h, Bufs c arg2 arg3 arg4 arg5 arg6 cn X wg wu wd s ⊢ iprop((Bufs c arg2 arg3 arg4 arg5 arg6 cn X wg wu wd (s + 1)
        -∗ wp frame (wpE (defs₀ (F := F)) Variants.none (c : Thread nD τ) none) Set.univ K Q)
      -∗ wp frame (wpE (defs₀ (F := F)) Variants.none (c : Thread nD τ) none) Set.univ (B h) Q)) :
    Bufs c arg2 arg3 arg4 arg5 arg6 cn X wg wu wd (s + if live ∧ q0 ≤ q - 1 then 1 else 0)
      ⊢ iprop((Bufs c arg2 arg3 arg4 arg5 arg6 cn X wg wu wd (s + if live ∧ q0 ≤ q then 1 else 0)
          -∗ wp frame (wpE (defs₀ (F := F)) Variants.none (c : Thread nD τ) none) Set.univ K Q)
        -∗ wp frame (wpE (defs₀ (F := F)) Variants.none (c : Thread nD τ) none) Set.univ (if h : P then B h else K) Q) := by
  by_cases h : P
  · obtain ⟨hl, h0⟩ := hP.1 h
    rw [dif_pos h, if_neg (by omega), if_pos ⟨hl, by omega⟩, Nat.add_zero]
    exact hB ⟨hl, h0⟩ h
  · have e : (live ∧ q0 ≤ q) = (live ∧ q0 ≤ q - 1) := by
      apply propext
      constructor
      · rintro ⟨a, b⟩
        refine ⟨a, ?_⟩
        by_contra hlt
        exact h (hP.2 ⟨a, by omega⟩)
      · rintro ⟨a, b⟩; exact ⟨a, by omega⟩
    rw [dif_neg h]
    simp only [e]
    iintro H Hk
    iapply Hk $$ H

variable (hG : Good cn)
include hG

theorem cn_le {e : ℕ} (he : e < 32) : cn e ≤ 36992 :=
  le_trans (List.single_le_sum (fun _ _ => Nat.zero_le _) _ (List.mem_map_of_mem (List.mem_range.2 he))) hG.tot
theorem off_le89 {e : ℕ} (he : e ≤ 32) : offOf cn e ≤ 89 := le_trans (off_mono cn he) hG.n_le

omit hG in
theorem live_spec {e t : ℕ} (he : e < 32) (h : 640 * t < cn e) : gOf cn (offOf cn e + t) = min ((cn e + 127 - 640 * t) / 128) 5 ∧ expOf cn (offOf cn e + t) = e := by
  have hs := off_succ cn e
  have hn : t < nbOf cn e := by unfold nbOf; omega
  have hE : expOf cn (offOf cn e + t) = e := Cert.Kernel.Hand.pos_unique (off_mono cn) (off_zero cn) he (by omega) (by omega)
  refine ⟨?_, hE⟩
  unfold gOf
  rw [hE]
  omega

set_option maxHeartbeats 4000000 in
/-- One block of an expert's rows. -/
theorem innerStep (e : Fin k0_t1_loop.trips) (arg7 : BitVec 32) (hw : k0_chk1 (BitVec.ofNat 32 (640 * offOf cn e.val)) (BitVec.ofNat 32 (cn e.val))) (t : Fin k0_t2_loop.trips) (acc : Unit) :
    Bufs c arg2 arg3 arg4 arg5 arg6 cn X wg wu wd (offOf cn e.val + min t.val (nbOf cn e.val))
      ⊢ wp frame (wpE (defs₀ (F := F)) Variants.none (c : Thread nD τ) none) Set.univ (k0_t2_body (F := F) arg0 harg0 arg1 harg1 arg2 harg2 arg3 harg3 arg4 harg4 arg5 harg5 arg6 harg6 e arg7 (BitVec.ofNat 32 (640 * offOf cn e.val)) (BitVec.ofNat 32 (cn e.val)) hw t acc)
        (fun _ => Bufs c arg2 arg3 arg4 arg5 arg6 cn X wg wu wd (offOf cn e.val + min (t.val + 1) (nbOf cn e.val))) := by
  have he : ∀ e : Fin k0_t1_loop.trips, e.val < 32 := fun e => Nat.lt_of_lt_of_eq e.isLt trips1
  have hc := cn_le cn hG (he e)
  have ho := off_le89 cn hG (le_of_lt (he e))
  have hlive := fun h : 640 * t.val < cn e.val => live_spec cn (he e) h
  obtain ⟨q0, hq0⟩ : ∃ q0, q0 = min ((cn e.val + 127 - 640 * t.val) / 128) 5 := ⟨_, rfl⟩
  have hq1 : 640 * t.val < cn e.val → 0 < q0 := fun h => by omega
  have hq5 : q0 ≤ 5 := by omega
  have c0 : ∀ h : t.val < nbOf cn e.val ∨ nbOf cn e.val ≤ t.val, True := fun _ => trivial
  have hlt : t.val < nbOf cn e.val ↔ 640 * t.val < cn e.val := by unfold nbOf; omega
  have s0 : offOf cn e.val + min t.val (nbOf cn e.val) = (offOf cn e.val + min t.val (nbOf cn e.val)) + if 640 * t.val < cn e.val ∧ q0 ≤ 1 - 1 then 1 else 0 := by
    rw [if_neg (fun h => by have := hq1 h.1; omega)]; rfl
  have s5 : offOf cn e.val + min (t.val + 1) (nbOf cn e.val) = (offOf cn e.val + min t.val (nbOf cn e.val)) + if 640 * t.val < cn e.val ∧ q0 ≤ 5 then 1 else 0 := by
    by_cases h : 640 * t.val < cn e.val
    · rw [if_pos ⟨h, hq5⟩]; have := hlt.2 h; omega
    · rw [if_neg (fun h' => h h'.1)]; have := mt hlt.1 h; omega
  have hmin : 640 * t.val < cn e.val → offOf cn e.val + min t.val (nbOf cn e.val) = offOf cn e.val + t.val := fun h => by have := hlt.2 h; omega
  rw [s5]
  conv_lhs => rw [s0]
  generalize offOf cn e.val + min t.val (nbOf cn e.val) = s at *
  unfold k0_t2_body
  rw [k0_part1_eq_skeleton]
  unfold k0_part1_skel
  iintro H
  irw [wp_bind]
  iapply (opt c arg2 arg3 arg4 arg5 arg6 cn X wg wu wd (s := s) (q := 1) (q0 := q0) (live := 640 * t.val < cn e.val) (by omega) (hq0 ▸ cond1_iff hc t) (fun hp h => by
    rw [hmin hp.1]
    have hb := fun b2 b3 b4 b5 b6 l2 l3 l4 l5 l6 hx hm α K Q => @branch F _ c arg2 arg3 arg4 arg5 arg6 cn X wg wu wd 128 (offOf cn e.val + t.val) 1 e.val
      rfl (by omega) ((hlive hp.1).1.trans (hq0.symm.trans hp.2)) (hlive hp.1).2 (he e) _ _ _ _ _ (off2_eq ho t) (off3_eq e) (off3_eq e) (off4_eq e) (off5_eq ho t)
      b2 b3 b4 b5 b6 l2 l3 l4 l5 l6 hx hm k0_pay4 (mlpR_1 X wg wu wd _ _) α K Q
    apply hb)) $$ H
  iintro H
  iapply (opt c arg2 arg3 arg4 arg5 arg6 cn X wg wu wd (s := s) (q := 2) (q0 := q0) (live := 640 * t.val < cn e.val) (by omega) (hq0 ▸ cond2_iff hc t) (fun hp h => by
    rw [hmin hp.1]
    have hb := fun b2 b3 b4 b5 b6 l2 l3 l4 l5 l6 hx hm α K Q => @branch F _ c arg2 arg3 arg4 arg5 arg6 cn X wg wu wd 256 (offOf cn e.val + t.val) 2 e.val
      rfl (by omega) ((hlive hp.1).1.trans (hq0.symm.trans hp.2)) (hlive hp.1).2 (he e) _ _ _ _ _ (off6_eq ho t) (off7_eq e) (off7_eq e) (off8_eq e) (off9_eq ho t)
      b2 b3 b4 b5 b6 l2 l3 l4 l5 l6 hx hm k0_pay5 (mlpR_2 X wg wu wd _ _) α K Q
    apply hb)) $$ H
  iintro H
  iapply (opt c arg2 arg3 arg4 arg5 arg6 cn X wg wu wd (s := s) (q := 3) (q0 := q0) (live := 640 * t.val < cn e.val) (by omega) (hq0 ▸ cond3_iff hc t) (fun hp h => by
    rw [hmin hp.1]
    have hb := fun b2 b3 b4 b5 b6 l2 l3 l4 l5 l6 hx hm α K Q => @branch F _ c arg2 arg3 arg4 arg5 arg6 cn X wg wu wd 384 (offOf cn e.val + t.val) 3 e.val
      rfl (by omega) ((hlive hp.1).1.trans (hq0.symm.trans hp.2)) (hlive hp.1).2 (he e) _ _ _ _ _ (off10_eq ho t) (off11_eq e) (off11_eq e) (off12_eq e) (off13_eq ho t)
      b2 b3 b4 b5 b6 l2 l3 l4 l5 l6 hx hm k0_pay6 (mlpR_3 X wg wu wd _ _) α K Q
    apply hb)) $$ H
  iintro H
  iapply (Idealize.SL.Sem.le_wp_ret _ _)
  iapply (opt c arg2 arg3 arg4 arg5 arg6 cn X wg wu wd (s := s) (q := 4) (q0 := q0) (live := 640 * t.val < cn e.val) (by omega) (hq0 ▸ cond4_iff hc t) (fun hp h => by
    rw [hmin hp.1]
    have hb := fun b2 b3 b4 b5 b6 l2 l3 l4 l5 l6 hx hm α K Q => @branch F _ c arg2 arg3 arg4 arg5 arg6 cn X wg wu wd 512 (offOf cn e.val + t.val) 4 e.val
      rfl (by omega) ((hlive hp.1).1.trans (hq0.symm.trans hp.2)) (hlive hp.1).2 (he e) _ _ _ _ _ (off14_eq ho t) (off15_eq e) (off15_eq e) (off16_eq e) (off17_eq ho t)
      b2 b3 b4 b5 b6 l2 l3 l4 l5 l6 hx hm k0_pay2 (mlpR_4 X wg wu wd _ _) α K Q
    apply hb)) $$ H
  iintro H
  iapply (opt c arg2 arg3 arg4 arg5 arg6 cn X wg wu wd (s := s) (q := 5) (q0 := q0) (live := 640 * t.val < cn e.val) (by omega) (hq0 ▸ cond5_iff hc t) (fun hp h => by
    rw [hmin hp.1]
    have hb := fun b2 b3 b4 b5 b6 l2 l3 l4 l5 l6 hx hm α K Q => @branch F _ c arg2 arg3 arg4 arg5 arg6 cn X wg wu wd 640 (offOf cn e.val + t.val) 5 e.val
      rfl (by omega) ((hlive hp.1).1.trans (hq0.symm.trans hp.2)) (hlive hp.1).2 (he e) _ _ _ _ _ (off18_eq ho t) (off19_eq e) (off19_eq e) (off20_eq e) (off21_eq ho t)
      b2 b3 b4 b5 b6 l2 l3 l4 l5 l6 hx hm k0_pay3 (mlpR_5 X wg wu wd _ _) α K Q
    apply hb)) $$ H
  iintro H
  iapply (Idealize.SL.Sem.le_wp_ret _ _)
  iexact H

/-- One expert: its word of each table, then its blocks. -/
theorem outerStep {st ct : S32.Idx → BitVec 32} (hst : ∀ e : Fin 32, st (ValueIdx.ix1 e) = BitVec.ofNat 32 (640 * offOf cn e.val)) (hct : ∀ e : Fin 32, ct (ValueIdx.ix1 e) = BitVec.ofNat 32 (cn e.val))
    (e : Fin k0_t1_loop.trips) (acc : Unit) :
    iprop(Held (F := F) c arg0 st ∗ Held (F := F) c arg1 ct ∗ Bufs c arg2 arg3 arg4 arg5 arg6 cn X wg wu wd (offOf cn e.val))
      ⊢ wp frame (wpE (defs₀ (F := F)) Variants.none (c : Thread nD τ) none) Set.univ (k0_t1_body (F := F) arg0 harg0 arg1 harg1 arg2 harg2 arg3 harg3 arg4 harg4 arg5 harg5 arg6 harg6 e acc)
        (fun _ => iprop(Held (F := F) c arg0 st ∗ Held (F := F) c arg1 ct ∗ Bufs c arg2 arg3 arg4 arg5 arg6 cn X wg wu wd (offOf cn (e.val + 1)))) := by
  have he : e.val < 32 := Nat.lt_of_lt_of_eq e.isLt trips1
  have hx : ∀ x : S1.Idx, (Rect.unit (s := S32) (k0_off1 e) S1.size (k0_off1_inb e)).emb x = ValueIdx.ix1 ⟨e.val, he⟩ := by
    intro x
    funext a
    apply Fin.ext
    rw [Rect.emb_apply]
    have h0 : (x 0).val < 1 := (x 0).isLt
    match a with
    | ⟨0, _⟩ => show k0_off1 e 0 + 1 * (x 0).val = e.val; rw [off1_eq]; show e.val + 1 * (x 0).val = e.val; omega
  have hc := cn_le cn hG he
  have ho : offOf cn e.val + (cn e.val + 639) / 640 ≤ 89 := by
    have h1 := off_le89 cn hG (show e.val + 1 ≤ 32 by omega)
    rw [off_succ] at h1; exact h1
  have hchk := chk_of hc ho
  unfold k0_t1_body
  iintro ⟨H0, H1, H⟩
  iapply (wordLoad (F := F) c (w := st) (v := BitVec.ofNat 32 (640 * offOf cn e.val)) (fun x => (congrArg st (hx x)).trans (hst ⟨e.val, he⟩))) $$ H0
  iintro H0
  iapply (wordLoad (F := F) c (w := ct) (v := BitVec.ofNat 32 (cn e.val)) (fun x => (congrArg ct (hx x)).trans (hct ⟨e.val, he⟩))) $$ H1
  iintro H1
  iapply liftOp
  iapply (wp_assume _ _ _ _ hchk)
  have i0 : offOf cn e.val = offOf cn e.val + min 0 (nbOf cn e.val) := by omega
  have i1 : offOf cn (e.val + 1) = offOf cn e.val + min k0_t2_loop.trips (nbOf cn e.val) := by
    rw [off_succ, trips2]; unfold nbOf; omega
  rw [i1]
  ihave H := (Entails.of_eq (congrArg (Bufs c arg2 arg3 arg4 arg5 arg6 cn X wg wu wd) i0)) $$ H
  iapply (Idealize.ShloMosaic.Scf.wp_for_bind Idealize.ShloMosaic.frame (wpE (defs₀ (F := F)) Variants.none (c : Thread nD τ) none) Set.univ k0_t2_loop.lb k0_t2_loop.ub k0_t2_loop.st k0_t2_ok ()
    (k0_t2_body (F := F) arg0 harg0 arg1 harg1 arg2 harg2 arg3 harg3 arg4 harg4 arg5 harg5 arg6 harg6 e (Scf.iv 0#32 1#32 e) (BitVec.ofNat 32 (640 * offOf cn e.val)) (BitVec.ofNat 32 (cn e.val)) hchk)
    (fun j _ => Bufs c arg2 arg3 arg4 arg5 arg6 cn X wg wu wd (offOf cn e.val + min j (nbOf cn e.val)))
    (fun t acc => innerStep c arg0 harg0 arg1 harg1 arg2 harg2 arg3 harg3 arg4 harg4 arg5 harg5 arg6 harg6 cn X wg wu wd hG e _ hchk t acc)) $$ H
  iintro %acc' H
  iapply (Idealize.SL.Sem.le_wp_ret _ _)
  iframe

/-- The whole body, from any contents of the result. -/
theorem wholeBody {st ct : S32.Idx → BitVec 32} (hst : ∀ e : Fin 32, st (ValueIdx.ix1 e) = BitVec.ofNat 32 (640 * offOf cn e.val)) (hct : ∀ e : Fin 32, ct (ValueIdx.ix1 e) = BitVec.ofNat 32 (cn e.val))
    {w : S57600x512.Idx → BitVec 32} {Q : PUnit → sProp 𝕄} :
    iprop(Held (F := F) c arg0 st ∗ Held (F := F) c arg1 ct ∗ Held (F := F) c arg2 X ∗ Held c arg3 wg ∗ Held c arg4 wu ∗ Held c arg5 wd ∗ Held (F := F) c arg6 w)
      ⊢ iprop((iprop(Held (F := F) c arg0 st ∗ Held (F := F) c arg1 ct ∗ Held (F := F) c arg2 X ∗ Held c arg3 wg ∗ Held c arg4 wu ∗ Held c arg5 wd
            ∗ Held (F := F) c arg6 (GR cn X wg wu wd (offOf cn 32))) -∗ Q ⟨⟩)
        -∗ wp frame (wpE (defs₀ (F := F)) Variants.none (c : Thread nD τ) none) Set.univ (cc0_expert_rows (F := F) arg0 harg0 arg1 harg1 arg2 harg2 arg3 harg3 arg4 harg4 arg5 harg5 arg6 harg6) Q) := by
  rw [cc0_expert_rows_eq_skeleton]
  unfold cc0_expert_rows_skel
  iintro ⟨H0, H1, H2, H3, H4, H5, H6⟩ Hk
  iapply (anyLoad (F := F) c) $$ H6
  iintro H6
  iapply (heldStore (F := F) c (w' := GR cn X wg wu wd (offOf cn 0)) (fun x => by
      rw [off_zero, GR_zero]; rfl) (fun y hy => absurd (show (Rect.unit (s := S57600x512) ![0, 0] S57600x512.size inb_S57600x512_S57600x512_0_0).emb y = y from by
      funext a
      apply Fin.ext
      rw [Rect.emb_apply]
      match a with
      | ⟨0, _⟩ => show 0 + 1 * (y 0).val = (y 0).val; omega
      | ⟨1, _⟩ => show 0 + 1 * (y 1).val = (y 1).val; omega) (hy y))) $$ H6
  iintro H6
  iapply (Idealize.ShloMosaic.Scf.wp_for_bind Idealize.ShloMosaic.frame (wpE (defs₀ (F := F)) Variants.none (c : Thread nD τ) none) Set.univ k0_t1_loop.lb k0_t1_loop.ub k0_t1_loop.st k0_t1_ok ()
    (k0_t1_body (F := F) arg0 harg0 arg1 harg1 arg2 harg2 arg3 harg3 arg4 harg4 arg5 harg5 arg6 harg6)
    (fun j _ => iprop(Held (F := F) c arg0 st ∗ Held (F := F) c arg1 ct ∗ Bufs c arg2 arg3 arg4 arg5 arg6 cn X wg wu wd (offOf cn j)))
    (fun t acc => outerStep c arg0 harg0 arg1 harg1 arg2 harg2 arg3 harg3 arg4 harg4 arg5 harg5 arg6 harg6 cn X wg wu wd hG hst hct t acc)) $$ [H0 H1 H2 H3 H4 H5 H6]
  · unfold Bufs
    iframe
  have i1 : offOf cn k0_t1_loop.trips = offOf cn 32 := congrArg _ trips1
  iintro %acc ⟨H0, H1, H⟩
  unfold Bufs
  icases H with ⟨H2, H3, H4, H5, H6⟩
  iapply (Idealize.SL.Sem.le_wp_ret _ _)
  iapply Hk
  irw [← i1]
  iframe

end

end Cert.Reference.Hand

end
-- ==== Proof.RHost.lean ====
/-
  Hand-written. What the plain program's host lines leave: the first row of each expert's rows, and the arrays in the shapes the body reads.
-/
module

public import proofs.«01_k».proof.Proof.Gen.Reference.Frame
public import proofs.«01_k».proof.Proof.Counts
public import Idealize.ShloMosaic.Lib.StableHlo.RunRead
public import Idealize.ShloMosaic.Lib.Routing.OpsSearch
public import Idealize.ShloMosaic.Lib.Routing.Words

@[expose] public section

set_option maxRecDepth 20000
set_option maxHeartbeats 800000

noncomputable section

namespace Cert.Reference.Hand

open Idealize.ShloMosaic Idealize.ShloMosaic.TcCoe Idealize.ShloMosaic.Routing Idealize.ShloMosaic.WordCmp Idealize.ShloMosaic.ValueIdx
open Cert.Reference Cert.Reference.Gen
open Cert.Kernel.Hand (nbOf offOf Good off_succ off_mono)

variable {F : FTy → Type} [BitOps F]
variable (m : (ℓ : Loc nD τ sig) → Buf (Elt F) ℓ) (c : Dev nD)

theorem e4 : (V m c main_v4 : IVec S32 32) = pyDiv bcast_S_S32 (subi (addi (V m c main_arg0 : IVec S32 32) (broadcastInDim S32 ![] bcast_S_S32 (constantI S_ 32 640#32))) (broadcastInDim S32 ![] bcast_S_S32 (constantI S_ 32 1#32))) (constantI S_ 32 640#32) := by
  unfold V V0
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e5 : (V m c main_v5 : IVec S32 32) = Host.reduceWindow IntOp.addi ![32] ![1] ![31] ![0] (V m c main_v4 : IVec S32 32) (broadcastInDim S_ ![] bcast_S_S_ (constantI S_ 32 0#32)) reduceWindows_S32_S32_w32s1p31_0 h_S_ := by
  unfold V V0
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e6 : (V m c main_v6 : IVec S32 32) = subi (V m c main_v5 : IVec S32 32) (V m c main_v4 : IVec S32 32) := by
  unfold V V0
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e8 : (V m c main_v8 : IVec S32 32) = muli (broadcastInDim S32 ![] bcast_S_S32 (constantI S_ 32 640#32)) (V m c main_v6 : IVec S32 32) := by
  unfold V V0
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e9 : (V m c main_v9 : IVec S57608x512 32) = shapeCast S57608x512 (V m c main_arg1 : IVec S230432x128 32) shapeCasts_S230432x128_S57608x512 := by
  unfold V V0
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e10 : (V m c main_v10 : Vec F S32x1024x512 .f32) = shapeCast S32x1024x512 (V m c main_arg2 : Vec F S1x32x1024x512 .f32) shapeCasts_S1x32x1024x512_S32x1024x512 := by
  unfold V V0
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e11 : (V m c main_v11 : Vec F S32x1024x512 .f32) = shapeCast S32x1024x512 (V m c main_arg3 : Vec F S1x32x1024x512 .f32) shapeCasts_S1x32x1024x512_S32x1024x512 := by
  unfold V V0
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

theorem e12 : (V m c main_v12 : Vec F S32x512x1024 .f32) = shapeCast S32x512x1024 (V m c main_arg4 : Vec F S1x32x512x1024 .f32) shapeCasts_S1x32x512x1024_S32x512x1024 := by
  unfold V V0
  simp only [List.flatten_cons, List.flatten_nil, List.append_nil, List.cons_append, List.nil_append]
  after_reads_simp
  all_goals try simp -implicitDefEqProofs only [StableHlo.TRef.toBuf, StableHlo.TRef.ofBuf, cast_cast, cast_eq, id]
  all_goals first | done | rfl

variable {cn : ℕ → ℕ} (hG : Good cn) (hc : ∀ e : Fin 32, (V m c main_arg0 : IVec S32 32) (ix1 e) = BitVec.ofNat 32 (cn e.val))
include hG hc

theorem w4 (e : Fin 32) : (V m c main_v4 : IVec S32 32) (ix1 e) = BitVec.ofNat 32 (nbOf cn e.val) := by
  have hb : cn e.val ≤ 36992 := le_trans (List.single_le_sum (fun _ _ => Nat.zero_le _) _ (List.mem_map.2 ⟨e.val, List.mem_range.2 e.isLt, rfl⟩)) hG.tot
  rw [e4]
  refine pyDiv_ap bcast_S_S32 _ _ _ ?_ rfl (show cn e.val + 639 < 2 ^ 31 by omega) (by omega) (by omega)
  rw [subi_ap, addi_ap, bc0, bc0, constantI_at, constantI_at, hc e, ← BitVec.ofNat_add, ofNat32_sub (by omega)]
  rfl

theorem w5 (e : Fin 32) : (V m c main_v5 : IVec S32 32) (ix1 e) = BitVec.ofNat 32 (offOf cn (e.val + 1)) := by
  rw [e5]
  refine (cumsum1 (N := 32) rfl _ (fun q => nbOf cn q) (w4 m c hG hc) _ (bc0 _ _ _) reduceWindows_S32_S32_w32s1p31_0 h_S_ e).trans ?_
  rfl

/-- Expert `e`'s rows begin at row `640 · offOf e`. -/
theorem w8 (e : Fin 32) : (V m c main_v8 : IVec S32 32) (ix1 e) = BitVec.ofNat 32 (640 * offOf cn e.val) := by
  rw [e8, muli_ap, bc0, constantI_at, e6, subi_ap, w5 m c hG hc, w4 m c hG hc, off_succ, ofNat32_sub (by omega), ← BitVec.ofNat_mul]
  congr 2; omega

end Cert.Reference.Hand

end
-- ==== Proof.RLaunch.lean ====
/-
  Hand-written. The plain program's launch: its one point's body, and the run of the whole program.
-/
module

public import proofs.«01_k».proof.Proof.RBody
public import proofs.«01_k».proof.Proof.RHost
public import proofs.«01_k».proof.Proof.Counts
public import proofs.«01_k».proof.Proof.Gen.Reference.Frame
public import Idealize.ShloMosaic.Lib.Tactic
public import Idealize.ShloMosaic.Lib.Pipeline.FrameSuffix
public import Idealize.ShloMosaic.Lib.Pipeline.ValueKit

@[expose] public section

set_option maxRecDepth 16384

noncomputable section

namespace Cert.Reference.Hand

open Cert.Reference Cert.Reference.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Hand (nbOf offOf expOf gOf Good off_succ off_mono off_zero nb_pos exp_spec)

open Idealize.ShloMosaic.Pipeline (Dat Cfg Window BodyObligation BodyObligationLoose cellOf)

variable {F : FTy → Type} [BitOps F]

/-- The proof's algebra: the pipeline library's. -/
local notation "𝕄" => MT nD τ sig Unit (Elt F) ℕ (UR sig nD τ) ℕ

variable (m : (ℓ : Loc nD τ sig) → Buf (Elt F) ℓ) (ρ : Dev nD → PrngReg)

/-! ## A block is its array -/

theorem iblk0 (c : Dev nD) (t : Fin cfg0.N) : (iblk m c 0 t : S32.Idx → Elt F .i32) = V m c main_v8 := by
  funext x
  unfold iblk
  rw [View.read_apply]
  refine congrArg (V m c main_v8) ?_
  funext a
  apply Fin.ext
  blk_simp

  have h : ∀ a, win0_0.index t0_0 a * win0_0.size a = 0 := by decide +kernel
  exact (congrArg (· + (x a).val) (h a)).trans (Nat.zero_add _)

theorem iblk1 (c : Dev nD) (t : Fin cfg0.N) : (iblk m c 1 t : S32.Idx → Elt F .i32) = V m c main_arg0 := by
  funext x
  unfold iblk
  rw [View.read_apply]
  refine congrArg (V m c main_arg0) ?_
  funext a
  apply Fin.ext
  blk_simp
  rw [fin_N0 t]
  have h : ∀ a, win0_1.index t0_0 a * win0_1.size a = 0 := by decide +kernel
  exact (congrArg (· + (x a).val) (h a)).trans (Nat.zero_add _)

theorem iblk2 (c : Dev nD) (t : Fin cfg0.N) : (iblk m c 2 t : S57608x512.Idx → Elt F .i32) = V m c main_v9 := by
  funext x
  unfold iblk
  rw [View.read_apply]
  refine congrArg (V m c main_v9) ?_
  funext a
  apply Fin.ext
  blk_simp
  rw [fin_N0 t]
  have h : ∀ a, win0_2.index t0_0 a * win0_2.size a = 0 := by decide +kernel
  exact (congrArg (· + (x a).val) (h a)).trans (Nat.zero_add _)

theorem iblk3 (c : Dev nD) (t : Fin cfg0.N) : (iblk m c 3 t : S32x1024x512.Idx → Elt F .f32) = V m c main_v10 := by
  funext x
  unfold iblk
  rw [View.read_apply]
  refine congrArg (V m c main_v10) ?_
  funext a
  apply Fin.ext
  blk_simp
  rw [fin_N0 t]
  have h : ∀ a, win0_3.index t0_0 a * win0_3.size a = 0 := by decide +kernel
  exact (congrArg (· + (x a).val) (h a)).trans (Nat.zero_add _)

theorem iblk4 (c : Dev nD) (t : Fin cfg0.N) : (iblk m c 4 t : S32x1024x512.Idx → Elt F .f32) = V m c main_v11 := by
  funext x
  unfold iblk
  rw [View.read_apply]
  refine congrArg (V m c main_v11) ?_
  funext a
  apply Fin.ext
  blk_simp
  rw [fin_N0 t]
  have h : ∀ a, win0_4.index t0_0 a * win0_4.size a = 0 := by decide +kernel
  exact (congrArg (· + (x a).val) (h a)).trans (Nat.zero_add _)

theorem iblk5 (c : Dev nD) (t : Fin cfg0.N) : (iblk m c 5 t : S32x512x1024.Idx → Elt F .f32) = V m c main_v12 := by
  funext x
  unfold iblk
  rw [View.read_apply]
  refine congrArg (V m c main_v12) ?_
  funext a
  apply Fin.ext
  blk_simp
  rw [fin_N0 t]
  have h : ∀ a, win0_5.index t0_0 a * win0_5.size a = 0 := by decide +kernel
  exact (congrArg (· + (x a).val) (h a)).trans (Nat.zero_add _)

/-- What the body leaves in the result's buffer. -/
def outR (cn : Dev nD → ℕ → ℕ) (c : Dev nD) : S57600x512.Idx → BitVec 32 :=
  GR (cn c) (V m c main_v9) (V m c main_v10) (V m c main_v11) (V m c main_v12) (offOf (cn c) 32)

def dats (cn : Dev nD → ℕ → ℕ) (q : Fin 1) (c : Dev nD) : Dat τ (Elt F) Unit ℕ (UR sig nD τ) ℕ (cfgs q) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outR m cn c
  Φ _ := Pipeline.ΦA spec0 c
  q _ := fullShare
  owed _ := 0

/-- A body obligation where no point is idle. -/
theorem obligation_of {cfg : Cfg sig Λ₀} {c : Dev nD} (dat : Dat τ (Elt F) Unit ℕ (UR sig nD τ) ℕ cfg c) (D : Defs nD τ sig (Elt F) Λ₀)
    (hi : ∀ w t, cfg.idle w (cfg.grid.coords t) = false)
    (h : ∀ t, iprop(dat.Φ t.castSucc ∗ dat.owesAt () t.castSucc
        ∗ bigSep Finset.univ fun w => iprop(∃ d, owns c ((cfg.win w).stage (cfg.slots t w)) fullShare (dat.before w t d)))
      ⊢ wp frame (wpE D Variants.none (c : Thread nD τ) none) Set.univ (D .tc cfg.body (cfg.bodyArgs t (cfg.slots t))) (fun _ =>
        iprop(dat.Φ t.succ ∗ dat.owesAt () t.succ ∗ bigSep Finset.univ fun w => owns c ((cfg.win w).stage (cfg.slots t w)) fullShare (dat.after w t)))) :
    BodyObligation dat D Variants.none () Set.univ := fun t => by
  have h := h t
  rw [show (fun w => owns c ((cfg.win w).stage (cfg.slots t w)) fullShare (dat.after w t)) = (fun w => dat.leavesExact w t) from
    funext fun w => by unfold Dat.leavesExact; rw [hi w t]] at h
  exact h

variable (cnv : Dev nD → ℕ → ℕ)

theorem after0 (c : Dev nD) (t : Fin cfg0.N) : (dats m cnv 0 c).after 0 t = iblk m c 0 t := by dsimp only [dats]

theorem after1 (c : Dev nD) (t : Fin cfg0.N) : (dats m cnv 0 c).after 1 t = iblk m c 1 t := by dsimp only [dats]

theorem after2 (c : Dev nD) (t : Fin cfg0.N) : (dats m cnv 0 c).after 2 t = iblk m c 2 t := by dsimp only [dats]

theorem after3 (c : Dev nD) (t : Fin cfg0.N) : (dats m cnv 0 c).after 3 t = iblk m c 3 t := by dsimp only [dats]

theorem after4 (c : Dev nD) (t : Fin cfg0.N) : (dats m cnv 0 c).after 4 t = iblk m c 4 t := by dsimp only [dats]

theorem after5 (c : Dev nD) (t : Fin cfg0.N) : (dats m cnv 0 c).after 5 t = iblk m c 5 t := by dsimp only [dats]

theorem A_eq (c : Dev nD) (w : Fin cfg0.W) : (dats m cnv 0 c).A w = V m c (Pipeline.arrRef spec0 w) := by dsimp only [dats]

theorem after6 (c : Dev nD) (t : Fin cfg0.N) : (dats m cnv 0 c).after 6 t = outR m cnv c := by dsimp only [dats]

theorem before0 (c : Dev nD) (t : Fin cfg0.N) (d : _) : (dats m cnv 0 c).before 0 t d = iblk m c 0 t :=
  before0_0_of m (dats m cnv 0 c) (A_eq m cnv c 0) (fun t => after0 m cnv c t) t d

theorem before1 (c : Dev nD) (t : Fin cfg0.N) (d : _) : (dats m cnv 0 c).before 1 t d = iblk m c 1 t :=
  before0_1_of m (dats m cnv 0 c) (A_eq m cnv c 1) (fun t => after1 m cnv c t) t d

theorem before2 (c : Dev nD) (t : Fin cfg0.N) (d : _) : (dats m cnv 0 c).before 2 t d = iblk m c 2 t :=
  before0_2_of m (dats m cnv 0 c) (A_eq m cnv c 2) (fun t => after2 m cnv c t) t d

theorem before3 (c : Dev nD) (t : Fin cfg0.N) (d : _) : (dats m cnv 0 c).before 3 t d = iblk m c 3 t :=
  before0_3_of m (dats m cnv 0 c) (A_eq m cnv c 3) (fun t => after3 m cnv c t) t d

theorem before4 (c : Dev nD) (t : Fin cfg0.N) (d : _) : (dats m cnv 0 c).before 4 t d = iblk m c 4 t :=
  before0_4_of m (dats m cnv 0 c) (A_eq m cnv c 4) (fun t => after4 m cnv c t) t d

theorem before5 (c : Dev nD) (t : Fin cfg0.N) (d : _) : (dats m cnv 0 c).before 5 t d = iblk m c 5 t :=
  before0_5_of m (dats m cnv 0 c) (A_eq m cnv c 5) (fun t => after5 m cnv c t) t d

variable (cn : Dev nD → ℕ → ℕ) (hG : ∀ c, Good (cn c)) (hc : ∀ c, ∀ e : Fin 32, (V m c main_arg0 : IVec S32 32) (ValueIdx.ix1 e) = BitVec.ofNat 32 (cn c e.val))

theorem defs₀_row (t : Fin cfg0.N) : defs₀ (F := F) .tc cfg0.body (cfg0.bodyArgs t (cfg0.slots t)) = bodyAt0 t := by
  unfold defs₀; rw [Defs.onTc_tc]

/-- What a staging buffer holds is the buffer held at it. -/
theorem owns_held (c : Dev nD) {sp : Space} {S : Shape} {e : EltTy} (M : Memref sig .tc sp S e) (w : S.Idx → Elt F e) :
    (owns (c : Thread nD τ) M fullShare w : sProp 𝕄) = Held c M w := by unfold owns Held; rfl

include hG hc

theorem sound_body (c : Dev nD) (t : Fin cfg0.N) :
    iprop((dats m cn 0 c).Φ t.castSucc ∗ (dats m cn 0 c).owesAt () t.castSucc
      ∗ (∃ d, owns (c : Thread nD τ) (st0_0 t) fullShare ((dats m cn 0 c).before 0 t d))
      ∗ (∃ d, owns (c : Thread nD τ) (st0_1 t) fullShare ((dats m cn 0 c).before 1 t d))
      ∗ (∃ d, owns (c : Thread nD τ) (st0_2 t) fullShare ((dats m cn 0 c).before 2 t d))
      ∗ (∃ d, owns (c : Thread nD τ) (st0_3 t) fullShare ((dats m cn 0 c).before 3 t d))
      ∗ (∃ d, owns (c : Thread nD τ) (st0_4 t) fullShare ((dats m cn 0 c).before 4 t d))
      ∗ (∃ d, owns (c : Thread nD τ) (st0_5 t) fullShare ((dats m cn 0 c).before 5 t d))
      ∗ (∃ d, owns (c : Thread nD τ) (st0_6 t) fullShare ((dats m cn 0 c).before 6 t d)))
    ⊢ wp frame (wpE (defs₀ (F := F)) Variants.none (c : Thread nD τ) none) Set.univ (bodyAt0 (F := F) t)
        (fun _ => iprop((dats m cn 0 c).Φ t.succ ∗ (dats m cn 0 c).owesAt () t.succ
          ∗ owns (c : Thread nD τ) (st0_0 t) fullShare ((dats m cn 0 c).after 0 t)
          ∗ owns (c : Thread nD τ) (st0_1 t) fullShare ((dats m cn 0 c).after 1 t)
          ∗ owns (c : Thread nD τ) (st0_2 t) fullShare ((dats m cn 0 c).after 2 t)
          ∗ owns (c : Thread nD τ) (st0_3 t) fullShare ((dats m cn 0 c).after 3 t)
          ∗ owns (c : Thread nD τ) (st0_4 t) fullShare ((dats m cn 0 c).after 4 t)
          ∗ owns (c : Thread nD τ) (st0_5 t) fullShare ((dats m cn 0 c).after 5 t)
          ∗ owns (c : Thread nD τ) (st0_6 t) fullShare ((dats m cn 0 c).after 6 t))) := by
  simp only [before0, before1, before2, before3, before4, before5, after0, after1, after2, after3, after4, after5, after6]
  rw [show (dats m cn 0 c).Φ t.succ = (dats m cn 0 c).Φ t.castSucc from rfl, show (dats m cn 0 c).owesAt () t.succ = (dats m cn 0 c).owesAt () t.castSucc from rfl]
  generalize hb : (dats m cn 0 c).before 6 t = b6
  have e0 := iblk0 m c t
  have e1 := iblk1 m c t
  have e2 := iblk2 m c t
  have e3 := iblk3 m c t
  have e4 := iblk4 m c t
  have e5 := iblk5 m c t
  have hw := fun w Q => wholeBody (F := F) c (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0)
    (cn c) (V m c main_v9) (V m c main_v10) (V m c main_v11) (V m c main_v12) (hG c) (st := V m c main_v8) (ct := V m c main_arg0)
    (fun e => w8 m c (hG c) (hc c) e) (hc c) (w := w) (Q := Q)
  rw [← e0, ← e1, ← e2, ← e3, ← e4, ← e5] at hw
  simp only [← owns_held] at hw
  iintro ⟨HΦ, HO, ⟨%d0, H0⟩, ⟨%d1, H1⟩, ⟨%d2, H2⟩, ⟨%d3, H3⟩, ⟨%d4, H4⟩, ⟨%d5, H5⟩, ⟨%d6, H6⟩⟩
  iapply (hw _ _) $$ [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  unfold outR
  rw [← e2, ← e3, ← e4, ← e5]
  iexact H6

theorem body_obligation (c : Dev nD) : BodyObligation (dats (F := F) m cn 0 c) (defs₀ (F := F)) Variants.none () Set.univ := by
  refine obligation_of (dats m cn 0 c) defs₀ (fun _ _ => rfl) (fun t => ?_)
  rw [bigSep_W0, bigSep_W0, defs₀_row t]
  exact sound_body m cn hG hc c t

/-- The run: the arrays at what the point leaves, then the last host line, and no semaphore held. -/
theorem run_post : θ_run defs (onTc (τ := τ) (main (F := F))) (s₀ m ρ) (fun r =>
    Pipeline.FramePost cfgs (dats m cn) 0 (Pipeline.afterTail₀ cfgs (dats m cn) 0 (V0 m) [hostOps1]) r ∧ r.2.sem = fun _ => 0) :=
  Pipeline.θ_run_frame_around cfgs (dats m cn) (0 : Fin 1) launch0 defs₀ Variants.none m ρ main
    (hbody := fun c => (body_obligation m cn hG hc c).loose) (hshare := fun c => (dats m cn 0 c).share_full fun _ => rfl)
    (howed := fun _ _ => rfl) (V₀ := V0 m) (opss := [hostOps1]) (hsub := sfx_sub) (hfresh := sfx_fresh) (hkeep := sfx_keeps)
    (hmain := hmain m Variants.none) (hA := fun _ _ => rfl) (hΦ := fun _ _ => rfl) (Q' := _) (hQ' := fun _ h => h)

end Cert.Reference.Hand

end
-- ==== Proof.RRun.lean ====
/-
  Hand-written. What the plain program's run leaves: its arguments as launched, its result at the rows it computes.
-/
module

public import proofs.«01_k».proof.Proof.RLaunch
public import Idealize.ShloMosaic.Lib.StableHlo.RunRead

@[expose] public section

set_option maxRecDepth 20000
set_option maxHeartbeats 800000

noncomputable section

namespace Cert.Reference.Hand

open Idealize.ShloMosaic Idealize.ShloMosaic.TcCoe
open Cert.Reference Cert.Reference.Gen
open Idealize.SL.Sem
open Cert.Kernel.Hand (offOf Good)

variable {F : FTy → Type} [BitOps F]
variable (m : (ℓ : Loc nD τ sig) → Buf (Elt F) ℓ) (ρ : Dev nD → PrngReg) (cn : Dev nD → ℕ → ℕ)

/-- The one point's block of the result is the result. -/
theorem arr6 (c : Dev nD) : (dats m cn 0 c).arrAt 6 cfg0.N = outR m cn c := by
  refine (dats m cn 0 c).arrAt_eq_of_covers 6 _ (by decide +kernel) fun t hf y => ?_
  blk_simp
  rw [after6]
  refine congrArg (outR m cn c) ?_
  funext a
  apply Fin.ext
  blk_simp
  rw [fin_N0 t]
  have h : ∀ a, win0_6.index t0_0 a * win0_6.size a = 0 := by decide +kernel
  exact ((congrArg (· + (y a).val) (h a)).trans (Nat.zero_add _)).symm

/-- The result's words, in the shape the program returns them. -/
def resR (c : Dev nD) : S230400x128.Idx → BitVec 32 :=
  shapeCast S230400x128 (outR m cn c : IVec S57600x512 32) shapeCasts_S57600x512_S230400x128

theorem tail14 (c : Dev nD) : Pipeline.afterTail₀ cfgs (dats m cn) 0 (V0 m) [hostOps1] c main_v14 = resR m cn c := by
  unfold Pipeline.afterTail₀
  simp only [List.flatten_cons, List.flatten_nil, List.append_nil]
  after_reads_simp
  have h : Pipeline.withArrays spec0 c (V0 m c) (fun w => (dats m cn 0 c).arrAt w cfg0.N) (Proc.devRef .tc main_v13) = outR m cn c :=
    (Pipeline.withArrays_arr spec0 (by decide) c (V0 m c) (fun w => (dats m cn 0 c).arrAt w cfg0.N) 6).trans (arr6 m cn c)
  all_goals try simp -implicitDefEqProofs only [StableHlo.TRef.toBuf, StableHlo.TRef.ofBuf, cast_cast, cast_eq, id]
  unfold resR
  exact congrArg (fun v => shapeCast S230400x128 v shapeCasts_S57600x512_S230400x128) h

theorem v14_post (c : Dev nD) (r : PUnit × MemSt nD τ sig (Elt F))
    (h : Pipeline.FramePost cfgs (dats m cn) 0 (Pipeline.afterTail₀ cfgs (dats m cn) 0 (V0 m) [hostOps1]) r) :
    r.2.mem ((c : Thread nD τ).loc main_v14) = resR m cn c :=
  ((h c).2 main_v14 (Pipeline.mem_restRefs_of main_v14 (by decide) (by decide))).trans (tail14 m cn c)

theorem args_post (c : Dev nD) (r : PUnit × MemSt nD τ sig (Elt F))
    (h : Pipeline.FramePost cfgs (dats m cn) 0 (Pipeline.afterTail₀ cfgs (dats m cn) 0 (V0 m) [hostOps1]) r) :
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  ⟨((h c).1 1).trans (((dats m cn 0 c).arrAt_in 1 rfl _).trans ((A_eq m cn c 1).trans (V_main_arg0 m c))),
    ((h c).2 main_arg1 (Pipeline.mem_restRefs_of main_arg1 (by decide) (by decide))).trans (W_main_arg1 m (dats m cn) c),
    ((h c).2 main_arg2 (Pipeline.mem_restRefs_of main_arg2 (by decide) (by decide))).trans (W_main_arg2 m (dats m cn) c),
    ((h c).2 main_arg3 (Pipeline.mem_restRefs_of main_arg3 (by decide) (by decide))).trans (W_main_arg3 m (dats m cn) c),
    ((h c).2 main_arg4 (Pipeline.mem_restRefs_of main_arg4 (by decide) (by decide))).trans (W_main_arg4 m (dats m cn) c)⟩

end Cert.Reference.Hand

end
-- ==== Proof.Result.lean ====
/-
  Hand-written. The two programs' results are the same array, when they are given the same arguments.
-/
module

public import proofs.«01_k».proof.Proof.Join
public import proofs.«01_k».proof.Proof.KRun
public import proofs.«01_k».proof.Proof.RRun

@[expose] public section

set_option maxRecDepth 20000

noncomputable section

namespace Cert.Join

open Idealize.ShloMosaic Idealize.ShloMosaic.TcCoe
open Cert.Kernel.Hand (planOf offOf Good resK tileV)
open Cert.Reference.Hand (tileR zr GR outR resR)

variable {F : FTy → Type} [BitOps F]

/-- The rows the plain program reads are the kernel's, four rows of 128 words to one of 512. -/
theorem rows_flat (f : Cert.Kernel.S230432x128.Idx → BitVec 32) (h : Cert.Kernel.S230432x128.ShapeCasts Cert.Reference.S57608x512)
    (x : Cert.Reference.S57608x512.Idx) (i : Cert.Kernel.S230432x128.Idx) (hi : (i 0).val * 128 + (i 1).val = (x 0).val * 512 + (x 1).val) :
    shapeCast Cert.Reference.S57608x512 f h x = f i := by
  refine shapeCast_apply f h x i ?_
  rw [Shape.rowMajor_val_two, Shape.rowMajor_val_two]
  exact hi

/-- A word of the plain program's result, from the rows of 512 words. -/
theorem res_flat (f : Cert.Reference.S57600x512.Idx → BitVec 32) (h : Cert.Reference.S57600x512.ShapeCasts Cert.Reference.S230400x128)
    (x : Cert.Reference.S230400x128.Idx) :
    shapeCast Cert.Reference.S230400x128 f h x
      = f (ValueIdx.ix2 ⟨(x 0).val / 4, by have : (x 0).val < 230400 := (x 0).isLt; omega⟩ ⟨128 * ((x 0).val % 4) + (x 1).val, by have : (x 1).val < 128 := (x 1).isLt; omega⟩) := by
  refine shapeCast_apply f h x _ ?_
  rw [Shape.rowMajor_val_two, Shape.rowMajor_val_two]
  show (x 0).val / 4 * 512 + (128 * ((x 0).val % 4) + (x 1).val) = (x 0).val * 128 + (x 1).val
  omega

variable (m : (ℓ : Loc Cert.Kernel.nD Cert.Kernel.τ Cert.Kernel.sig) → Buf (Elt F) ℓ)
variable (m' : (ℓ : Loc Cert.Reference.nD Cert.Reference.τ Cert.Reference.sig) → Buf (Elt F) ℓ)
variable (c : Dev Cert.Kernel.nD)

theorem res_eq (cn : Dev Cert.Kernel.nD → ℕ → ℕ) (hG : ∀ c, Good (cn c))
    (h1 : m' ((c.tc : Thread Cert.Reference.nD Cert.Reference.τ).loc Cert.Reference.main_arg1) = m ((c.tc : Thread Cert.Kernel.nD Cert.Kernel.τ).loc Cert.Kernel.main_arg1))
    (h2 : m' ((c.tc : Thread Cert.Reference.nD Cert.Reference.τ).loc Cert.Reference.main_arg2) = m ((c.tc : Thread Cert.Kernel.nD Cert.Kernel.τ).loc Cert.Kernel.main_arg2))
    (h3 : m' ((c.tc : Thread Cert.Reference.nD Cert.Reference.τ).loc Cert.Reference.main_arg3) = m ((c.tc : Thread Cert.Kernel.nD Cert.Kernel.τ).loc Cert.Kernel.main_arg3))
    (h4 : m' ((c.tc : Thread Cert.Reference.nD Cert.Reference.τ).loc Cert.Reference.main_arg4) = m ((c.tc : Thread Cert.Kernel.nD Cert.Kernel.τ).loc Cert.Kernel.main_arg4)) :
    resK m c (fun c => planOf (cn c) (hG c)) = resR m' cn c := by
  have a1 := (Cert.Reference.Gen.V_main_arg1 m' c).trans (h1.trans (Cert.Kernel.Hand.V_arg m c Cert.Kernel.main_arg1 (.inr (.inl rfl))).symm)
  have a2 := (Cert.Reference.Gen.V_main_arg2 m' c).trans (h2.trans (Cert.Kernel.Hand.V_arg m c Cert.Kernel.main_arg2 (.inr (.inr (.inl rfl)))).symm)
  have a3 := (Cert.Reference.Gen.V_main_arg3 m' c).trans (h3.trans (Cert.Kernel.Hand.V_arg m c Cert.Kernel.main_arg3 (.inr (.inr (.inr (.inl rfl))))).symm)
  have a4 := (Cert.Reference.Gen.V_main_arg4 m' c).trans (h4.trans (Cert.Kernel.Hand.V_arg m c Cert.Kernel.main_arg4 (.inr (.inr (.inr (.inr rfl))))).symm)
  have b9 : Cert.Reference.Gen.V m' c Cert.Reference.main_v9 = shapeCast Cert.Reference.S57608x512 (Cert.Kernel.Hand.V m c Cert.Kernel.main_arg1 : IVec Cert.Kernel.S230432x128 32) Cert.Reference.Gen.shapeCasts_S230432x128_S57608x512 :=
    (Cert.Reference.Hand.e9 m' c).trans (congrArg (fun v => shapeCast Cert.Reference.S57608x512 v Cert.Reference.Gen.shapeCasts_S230432x128_S57608x512) a1)
  have b10 : Cert.Reference.Gen.V m' c Cert.Reference.main_v10 = Cert.Kernel.Hand.V m c Cert.Kernel.main_v90 :=
    ((Cert.Reference.Hand.e10 m' c).trans (congrArg (fun v => shapeCast Cert.Reference.S32x1024x512 v Cert.Reference.Gen.shapeCasts_S1x32x1024x512_S32x1024x512) a2)).trans (Cert.Kernel.Hand.e90 m c).symm
  have b11 : Cert.Reference.Gen.V m' c Cert.Reference.main_v11 = Cert.Kernel.Hand.V m c Cert.Kernel.main_v91 :=
    ((Cert.Reference.Hand.e11 m' c).trans (congrArg (fun v => shapeCast Cert.Reference.S32x1024x512 v Cert.Reference.Gen.shapeCasts_S1x32x1024x512_S32x1024x512) a3)).trans (Cert.Kernel.Hand.e91 m c).symm
  have b12 : Cert.Reference.Gen.V m' c Cert.Reference.main_v12 = Cert.Kernel.Hand.V m c Cert.Kernel.main_v92 :=
    ((Cert.Reference.Hand.e12 m' c).trans (congrArg (fun v => shapeCast Cert.Reference.S32x512x1024 v Cert.Reference.Gen.shapeCasts_S1x32x512x1024_S32x512x1024) a4)).trans (Cert.Kernel.Hand.e92 m c).symm
  funext x
  have hx0 : (x 0).val < 230400 := (x 0).isLt
  have hx1 : (x 1).val < 128 := (x 1).isLt
  unfold resR
  rw [res_flat]
  unfold outR
  rw [b10, b11, b12]
  unfold resK Cert.Kernel.Hand.outs
  rw [tile_eq c _ _ _ _ (Cert.Reference.Gen.V m' c Cert.Reference.main_v9) (fun x i hi => by rw [b9]; exact rows_flat _ _ x i hi) (hG c)]
  unfold GR
  show (if (x 0).val / 2560 < offOf (cn c) 32 then tileR (cn c) _ _ _ _ ((x 0).val / 2560) ((x 0).val % 2560 / 4) (128 * ((x 0).val % 2560 % 4) + (x 1).val) else zr F)
    = if (x 0).val / 4 / 640 < offOf (cn c) 32 then tileR (cn c) _ _ _ _ ((x 0).val / 4 / 640) ((x 0).val / 4 % 640) (128 * ((x 0).val % 4) + (x 1).val) else zr F
  rw [show (x 0).val / 4 / 640 = (x 0).val / 2560 by omega, show (x 0).val / 4 % 640 = (x 0).val % 2560 / 4 by omega, show (x 0).val % 2560 % 4 = (x 0).val % 4 by omega]

end Cert.Join

end
-- ==== Proof.MixVal.lean ====
/-
  Hand-written. The mixer's projection on the extended reals: the kernel multiplies the normalised rows by the gain folded into the matrix, and the product
  read at a row and a column is one sum.
-/
module

public import proofs.«01_k».proof.Proof.Gen.MixKernelIdeal
public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.PureOps.Ideal.Laws
public import Idealize.ShloMosaic.Lib.IdealHost

@[expose] public section

noncomputable section

namespace Cert.MixKernelIdeal.Hand

open Cert.MixKernelIdeal Cert.MixKernelIdeal.Gen
open Idealize.ShloMosaic Idealize.ShloMosaic.TcCoe Idealize.SL.Sem Idealize.ShloMosaic.ValueIdx

/-! ## The projection -/

/-- The mean square of a row, and a little more, as the kernel has it. -/
def msK {F : FTy → Type} [FloatOps F] (v : FVec F S1024x1024 .f32) : FVec F S1024x1 .f32 :=
  addf (divf (shapeCast S1024x1 (multiReduction .add [1] S1024 (mulf v v) 0x00000000#32 reduces_S1024x1024_S1024 (.inl rfl) rfl) shapeCasts_S1024_S1024x1)
    (broadcast S1024x1 (Scalar.ofBits .f32 0x44800000#32))) (broadcast S1024x1 (Scalar.ofBits .f32 0x358637BD#32))

/-- The projection of the normalised rows, as the kernel has it. -/
def zK {F : FTy → Type} [FloatOps F] (v : FVec F S1024x1024 .f32) (w : FVec F S1024x1536 .bf16) : FVec F S1024x1536 .f32 :=
  matmul dot_S1024x1024_S1024x1536_S1024x1536_1_0_0_1_n_n none
    (truncf .bf16 (mulf v (broadcastTo S1024x1024 (rsqrt (msK v)) broadcasts_S1024x1_S1024x1024)) bitsLt_bf16_f32) w (constant S1024x1536 .f32 0x00000000#32)

/-- The factor a row is normalised by. -/
def rowR (x : Fin 1024 → EReal) : EReal :=
  Ideal.rsqrt (Ideal.div (∑ l : Fin 1024, x l * x l) (FloatOps.ofBits (F := Ideal) .f32 0x44800000#32) + FloatOps.ofBits (F := Ideal) .f32 0x358637BD#32)

theorem msK_apply (v : FVec Ideal S1024x1024 .f32) (p : Fin 1024) :
    Ideal.rsqrt (msK v (ix2 p (0 : Fin 1))) = rowR fun l => v (ix2 p l) := by
  unfold msK rowR
  refine congrArg Ideal.rsqrt (congrArg₂ (· + ·) (congrArg₂ Ideal.div ?_ rfl) rfl)
  rw [shapeCast_a_a1_apply]
  refine (Ideal.multiReduction_add_single (mulf v v) 0x00000000#32 reduces_S1024x1024_S1024 (.inl rfl) rfl (ix1 p)).trans ?_
  refine Finset.sum_congr rfl fun k _ => ?_
  have e : (reduces_S1024x1024_S1024.lift (ix1 p) k : S1024x1024.Idx) = ix2 p k :=
    funext fun a => Fin.ext (by match a with | ⟨0, _⟩ => rfl | ⟨1, _⟩ => rfl)
  rw [e]; rfl

theorem zK_apply (v : FVec Ideal S1024x1024 .f32) (w : FVec Ideal S1024x1536 .bf16) (p : Fin 1024) (q : Fin 1536) :
    zK v w (ix2 p q) = ∑ k : Fin 1024, (v (ix2 p k) * rowR fun l => v (ix2 p l)) * w (ix2 k q) := by
  unfold zK
  simp only [matmul]
  rw [Ideal.matmul_apply, ← Equiv.sum_comp (ValueIdx.contrEquiv1 dot_S1024x1024_S1024x1536_S1024x1536_1_0_0_1_n_n 1024 rfl rfl).symm]
  rw [show (constant S1024x1536 .f32 0x00000000#32 : FVec Ideal S1024x1536 .f32) (ix2 p q) = 0 from Ideal.ofBits_zero_f32, zero_add]
  refine Finset.sum_congr rfl fun k _ => ?_
  have hk := ValueIdx.contrEquiv1_symm_val dot_S1024x1024_S1024x1536_S1024x1536_1_0_0_1_n_n 1024 rfl rfl k
  have el : dot_S1024x1024_S1024x1536_S1024x1536_1_0_0_1_n_n.lhsIdx (ix2 p q) ((ValueIdx.contrEquiv1 dot_S1024x1024_S1024x1536_S1024x1536_1_0_0_1_n_n 1024 rfl rfl).symm k) = ix2 p k :=
    funext fun a => Fin.ext (by
      match a with
      | ⟨0, _⟩ => rfl
      | ⟨1, _⟩ => exact hk)
  have er : dot_S1024x1024_S1024x1536_S1024x1536_1_0_0_1_n_n.rhsIdx (ix2 p q) ((ValueIdx.contrEquiv1 dot_S1024x1024_S1024x1536_S1024x1536_1_0_0_1_n_n 1024 rfl rfl).symm k) = ix2 k q :=
    funext fun a => Fin.ext (by
      match a with
      | ⟨0, _⟩ => exact hk
      | ⟨1, _⟩ => rfl)
  rw [el, er]
  show (v (ix2 p k) * broadcastTo S1024x1024 (rsqrt (msK v)) broadcasts_S1024x1_S1024x1024 (ix2 p k)) * w (ix2 k q) = _
  refine congrArg (fun r => (v (ix2 p k) * r) * w (ix2 k q)) ?_
  rw [show ∀ y : FVec Ideal S1024x1 .f32, broadcastTo S1024x1024 y broadcasts_S1024x1_S1024x1024 (ix2 p k) = y (ix2 p (0 : Fin 1)) from fun y =>
    broadcastTo_apply y broadcasts_S1024x1_S1024x1024 (ix2 p k) (ix2 p (0 : Fin 1)) (fun a => match a with | ⟨0, _⟩ => rfl | ⟨1, _⟩ => rfl)]
  exact msK_apply v p

end Cert.MixKernelIdeal.Hand

end
-- ==== Proof.MixOut.lean ====
/-
  Hand-written. The history the mixer of the sample puts out, read at an index: eight steps of the pool's history are kept and each of the seven or eight
  newest steps is a row of the projection. The kernel lays the projection out by groups of columns in a scratch and reads it back eight rows apart.
-/
module

public import proofs.«01_k».proof.Proof.MixVal
public import proofs.«01_k».proof.Proof.Gen.MixKernelIdeal.Frame
public import Idealize.ShloMosaic.Lib.WholeRead

@[expose] public section

set_option maxRecDepth 16384

noncomputable section

namespace Cert.MixKernelIdeal.Hand

open Cert.MixKernelIdeal Cert.MixKernelIdeal.Gen
open Idealize.ShloMosaic Idealize.ShloMosaic.TcCoe Idealize.SL.Sem Idealize.ShloMosaic.ValueIdx

variable {F : FTy → Type} [FloatOps F]

/-! ## The projection's scratch -/

/-- The scratch of the projection, entry by entry: plane `g` holds the columns from `128 * g` on. -/
def G24 (z : FVec F S1024x512 .f32) : S4x1024x128.Idx → F .f32 := fun y =>
  z (ix2 (⟨(y 1).val, (y 1).isLt⟩ : Fin 1024) (⟨128 * (y 0).val + (y 2).val, by
    have h0 : (y 0).val < 4 := (y 0).isLt
    have h2 : (y 2).val < 128 := (y 2).isLt
    omega⟩ : Fin 512))

theorem plane_in (g : Fin 4) : ∀ a : Fin 3, (![g.val, 0, 0] : Fin 3 → Nat) a + S1x1024x128.size a ≤ S4x1024x128.size a
  | ⟨0, _⟩ => by have := g.isLt; show g.val + 1 ≤ 4; omega
  | ⟨1, _⟩ => by show 0 + 1024 ≤ 1024; omega
  | ⟨2, _⟩ => by show 0 + 128 ≤ 128; omega

theorem plane_col (g : Fin 4) (p : Fin 1024) (l : Fin 128) (z : FVec F S1024x512 .f32) (h : S1024x512.Slices ![0, 128 * g.val] S1024x128) (u : Fin 1) :
    shapeCast S1x1024x128 (extractStridedSlice S1024x128 ![0, 128 * g.val] z h) shapeCasts_S1024x128_S1x1024x128 (ix3 u p l)
      = z (ix2 p (⟨128 * g.val + l.val, by have := g.isLt; have := l.isLt; omega⟩ : Fin 512)) := by
  rw [shapeCast_ab_1ab_apply]
  exact extractStridedSlice_apply _ z h (ix2 p l) _ fun a => match a with
    | ⟨0, _⟩ => (Nat.zero_add _).symm
    | ⟨1, _⟩ => rfl

/-- The four stores into the scratch, the newest first. -/
abbrev L24 (z : FVec F S1024x512 .f32) : List (View.Piece (Elt F) S4x1024x128 .f32) :=
  [⟨Rect.unit ![3, 0, 0] S1x1024x128.size (plane_in 3), k0_pay18 z⟩, ⟨Rect.unit ![2, 0, 0] S1x1024x128.size (plane_in 2), k0_pay17 z⟩,
   ⟨Rect.unit ![1, 0, 0] S1x1024x128.size (plane_in 1), k0_pay16 z⟩, ⟨Rect.unit ![0, 0, 0] S1x1024x128.size (plane_in 0), k0_pay15 z⟩]

theorem plane_piece (g : Fin 4) (z : FVec F S1024x512 .f32) (h : S1024x512.Slices ![0, 128 * g.val] S1024x128)
    (x : (Rect.unit (s := S4x1024x128) ![g.val, 0, 0] S1x1024x128.size (plane_in g)).shape.Idx) :
    shapeCast S1x1024x128 (extractStridedSlice S1024x128 ![0, 128 * g.val] z h) shapeCasts_S1024x128_S1x1024x128 x
      = G24 z ((Rect.unit (s := S4x1024x128) ![g.val, 0, 0] S1x1024x128.size (plane_in g)).emb x) := by
  have h0 : (x 0).val < 1 := (x 0).isLt
  have ex : x = ix3 (⟨(x 0).val, (x 0).isLt⟩ : Fin 1) (⟨(x 1).val, (x 1).isLt⟩ : Fin 1024) (⟨(x 2).val, (x 2).isLt⟩ : Fin 128) :=
    funext fun a => match a with | ⟨0, _⟩ => rfl | ⟨1, _⟩ => rfl | ⟨2, _⟩ => rfl
  refine (congrArg _ ex).trans ((plane_col g _ _ z h _).trans ?_)
  refine congrArg z (funext fun a => Fin.ext ?_)
  match a with
  | ⟨0, _⟩ => show (x 1).val = 0 + 1 * (x 1).val; omega
  | ⟨1, _⟩ => show 128 * g.val + (x 2).val = 128 * (g.val + 1 * (x 0).val) + (0 + 1 * (x 2).val); omega

theorem L24_pieces (z : FVec F S1024x512 .f32) : ∀ p ∈ L24 z, ∀ x : p.1.shape.Idx, p.2 x = G24 z (p.1.emb x) := by
  intro p hp x
  simp only [List.mem_cons, List.not_mem_nil, or_false] at hp
  rcases hp with rfl | rfl | rfl | rfl
  · exact plane_piece 3 z slices_S1024x512_o0_384_S1024x128 x
  · exact plane_piece 2 z slices_S1024x512_o0_256_S1024x128 x
  · exact plane_piece 1 z slices_S1024x512_o0_128_S1024x128 x
  · exact plane_piece 0 z slices_S1024x512_o0_0_S1024x128 x

theorem plane_mem (g : Fin 4) (p : Fin 1024) (l : Fin 128) :
    (ix3 g p l : S4x1024x128.Idx) ∈ (Rect.unit (s := S4x1024x128) ![g.val, 0, 0] S1x1024x128.size (plane_in g)).set :=
  Rect.mem_set_unit.mpr fun a => match a with
    | ⟨0, _⟩ => ⟨Nat.le_refl _, Nat.lt_succ_self _⟩
    | ⟨1, _⟩ => ⟨Nat.zero_le _, by show p.val < 0 + 1024; have := p.isLt; omega⟩
    | ⟨2, _⟩ => ⟨Nat.zero_le _, by show l.val < 0 + 128; have := l.isLt; omega⟩

theorem L24_cover (z : FVec F S1024x512 .f32) (g : Fin 4) (p : Fin 1024) (l : Fin 128) :
    ∃ q ∈ L24 z, (ix3 g p l : S4x1024x128.Idx) ∈ q.1.set := by
  match g with
  | ⟨0, _⟩ => exact ⟨_, List.mem_cons_of_mem _ (List.mem_cons_of_mem _ (List.mem_cons_of_mem _ List.mem_cons_self)), plane_mem 0 p l⟩
  | ⟨1, _⟩ => exact ⟨_, List.mem_cons_of_mem _ (List.mem_cons_of_mem _ List.mem_cons_self), plane_mem 1 p l⟩
  | ⟨2, _⟩ => exact ⟨_, List.mem_cons_of_mem _ List.mem_cons_self, plane_mem 2 p l⟩
  | ⟨3, _⟩ => exact ⟨_, List.mem_cons_self, plane_mem 3 p l⟩

/-- The rows read together: plane `g`, every eighth row from `i` on. -/
abbrev B24 (g : Fin 4) (i : Fin 8) : LoadRect S4x1024x128 :=
  { off := ![g.val, i.val, 0], size := S1x128x128.size, stride := ![1, 8, 1], inb := fun a => match a with
    | ⟨0, _⟩ => Or.inr (by have := g.isLt; show g.val + 1 * (1 - 1) < 4; omega)
    | ⟨1, _⟩ => Or.inr (by have := i.isLt; show i.val + 8 * (128 - 1) < 1024; omega)
    | ⟨2, _⟩ => Or.inr (by show 0 + 1 * (128 - 1) < 128; omega) }

/-- Row `8 * n + i` of the sample's rows: position `i` of sequence `n`. -/
abbrev row8 (n : Fin 128) (i : Fin 8) : Fin 1024 := ⟨8 * n.val + i.val, by have := n.isLt; have := i.isLt; omega⟩

theorem load24 (v : Memref sig .tc .vmem S4x1024x128 .f32) (z : FVec F S1024x512 .f32) (g : Fin 4) (i : Fin 8) (n l : Fin 128) :
    (v.view.readCov (L24 z) (B24 g i) : FVec F S1x128x128 .f32) (ix3 (0 : Fin 1) n l)
      = z (ix2 (row8 n i) (⟨128 * g.val + l.val, by have := g.isLt; have := l.isLt; omega⟩ : Fin 512)) := by
  rw [View.readCov_eq_canon']
  show View.canon (L24 z) ((B24 g i).idx (ix3 (0 : Fin 1) n l)) = _
  rw [show (B24 g i).idx (ix3 (0 : Fin 1) n l) = ix3 g (row8 n i) l from funext fun a => Fin.ext (match a with
    | ⟨0, _⟩ => by show g.val + 1 * 0 = g.val; omega
    | ⟨1, _⟩ => by show i.val + 8 * n.val = 8 * n.val + i.val; omega
    | ⟨2, _⟩ => by show 0 + 1 * l.val = l.val; omega)]
  exact View.canon_apply_of_pieces (G24 z) (L24 z) (L24_pieces z) _ (L24_cover z g _ l)

/-! ## One step of the history -/

/-- The four groups of columns side by side. -/
theorem groups_apply (y : Fin 4 → FVec F S1x128x128 .f32) (u : Fin 1) (n : Fin 128) (l : Fin 512) :
    k0_pay19 (y 0) (y 1) (y 2) (y 3) (ix3 u n l)
      = y (⟨l.val / 128, by have := l.isLt; omega⟩ : Fin 4) (ix3 (0 : Fin 1) n (⟨l.val % 128, Nat.mod_lt _ (by decide)⟩ : Fin 128)) := by
  unfold k0_pay19
  rw [shapeCast_ab_1ab_apply]
  let xs : List ((s : Shape) × (s.Idx → F .f32)) :=
    [⟨S128x128, shapeCast S128x128 (y 0) shapeCasts_S1x128x128_S128x128⟩, ⟨S128x128, shapeCast S128x128 (y 1) shapeCasts_S1x128x128_S128x128⟩,
     ⟨S128x128, shapeCast S128x128 (y 2) shapeCasts_S1x128x128_S128x128⟩, ⟨S128x128, shapeCast S128x128 (y 3) shapeCasts_S1x128x128_S128x128⟩]
  have h : Shape.Concatenates (xs.map (·.1)) S128x512 1 := concatenates_S128x128_S128x128_S128x128_S128x128_S128x512_d1
  have key : ∀ (g : Fin 4) (hl : l.val / 128 = g.val), concatenate S128x512 1 xs h (ix2 n l)
      = shapeCast S128x128 (y g) shapeCasts_S1x128x128_S128x128 (ix2 n (⟨l.val % 128, Nat.mod_lt _ (by decide)⟩ : Fin 128)) := by
    intro g hl
    have hm : 128 * g.val + l.val % 128 = l.val := by rw [← hl]; exact Nat.div_add_mod _ _
    match g with
    | ⟨0, _⟩ =>
      exact concatenate_apply_piece (1 : Fin 2) xs h (ix2 n l) 0 (show 0 < 4 by decide) S128x128 (shapeCast S128x128 (y 0) shapeCasts_S1x128x128_S128x128) rfl rfl
        0 rfl (ix2 n (⟨l.val % 128, Nat.mod_lt _ (by decide)⟩ : Fin 128)) (fun b hb => match b with | ⟨0, _⟩ => rfl | ⟨1, _⟩ => absurd rfl hb) hm
    | ⟨1, _⟩ =>
      exact concatenate_apply_piece (1 : Fin 2) xs h (ix2 n l) 1 (show 1 < 4 by decide) S128x128 (shapeCast S128x128 (y 1) shapeCasts_S1x128x128_S128x128) rfl rfl
        128 rfl (ix2 n (⟨l.val % 128, Nat.mod_lt _ (by decide)⟩ : Fin 128)) (fun b hb => match b with | ⟨0, _⟩ => rfl | ⟨1, _⟩ => absurd rfl hb) hm
    | ⟨2, _⟩ =>
      exact concatenate_apply_piece (1 : Fin 2) xs h (ix2 n l) 2 (show 2 < 4 by decide) S128x128 (shapeCast S128x128 (y 2) shapeCasts_S1x128x128_S128x128) rfl rfl
        256 rfl (ix2 n (⟨l.val % 128, Nat.mod_lt _ (by decide)⟩ : Fin 128)) (fun b hb => match b with | ⟨0, _⟩ => rfl | ⟨1, _⟩ => absurd rfl hb) hm
    | ⟨3, _⟩ =>
      exact concatenate_apply_piece (1 : Fin 2) xs h (ix2 n l) 3 (show 3 < 4 by decide) S128x128 (shapeCast S128x128 (y 3) shapeCasts_S1x128x128_S128x128) rfl rfl
        384 rfl (ix2 n (⟨l.val % 128, Nat.mod_lt _ (by decide)⟩ : Fin 128)) (fun b hb => match b with | ⟨0, _⟩ => rfl | ⟨1, _⟩ => absurd rfl hb) hm
  refine (key (⟨l.val / 128, by have := l.isLt; omega⟩ : Fin 4) rfl).trans ?_
  exact shapeCast_1ab_ab_apply _ _ _ _

/-- The four groups read from the scratch are one strip of the projection. -/
theorem strip_apply (v : Memref sig .tc .vmem S4x1024x128 .f32) (z : FVec F S1024x512 .f32) (i : Fin 8) (u : Fin 1) (n : Fin 128) (l : Fin 512) :
    (k0_pay19 (v.view.readCov (L24 z) (B24 0 i) : FVec F S1x128x128 .f32) (v.view.readCov (L24 z) (B24 1 i) : FVec F S1x128x128 .f32)
        (v.view.readCov (L24 z) (B24 2 i) : FVec F S1x128x128 .f32) (v.view.readCov (L24 z) (B24 3 i) : FVec F S1x128x128 .f32)) (ix3 u n l)
      = z (ix2 (row8 n i) l) := by
  refine (groups_apply (fun g => (v.view.readCov (L24 z) (B24 g i) : FVec F S1x128x128 .f32)) u n l).trans ?_
  refine (load24 v z _ i n _).trans ?_
  exact congrArg (fun q => z (ix2 (row8 n i) q)) (Fin.ext (Nat.div_add_mod _ _))

section
variable (c : Dev nD) (arg1 : Memref sig .tc .vmem S1024x1024 .f32) (harg1 : arg1.IsWhole) (arg2 : Memref sig .tc .vmem S15x128x512 .f32) (harg2 : arg2.IsWhole)
  (arg3 : Memref sig .tc .vmem S1024x1536 .bf16) (harg3 : arg3.IsWhole) (arg24 : Memref sig .tc .vmem S4x1024x128 .f32)
  (x0 : Vec F S1024x1024 .f32) (x1 : Vec F S15x128x512 .f32) (x2 : Vec F S1024x1536 .bf16)

theorem r_1_eq : kernelRun0_A.sl.r_1 c arg1 harg1 arg3 harg3 x0 x2 = k0_pay7 x0 x2 := by
  have e0 : View.readAt (Elt F) arg1.view (Rect.unit (s := S1024x1024) ![0, 0] S1024x1024.size inb_S1024x1024_S1024x1024_0_0).toLoadRect (harg1.unread x0) = x0 :=
    funext fun j => (harg1.readAt_unread x0 _ j).trans (congrArg x0 (funext fun a => Fin.ext (match a with
      | ⟨0, _⟩ => by show 0 + 1 * (j 0).val = (j 0).val; omega
      | ⟨1, _⟩ => by show 0 + 1 * (j 1).val = (j 1).val; omega)))
  have e2 : View.readAt (Elt F) arg3.view (Rect.unit (s := S1024x1536) ![0, 0] S1024x1536.size inb_S1024x1536_S1024x1536_0_0).toLoadRect (harg3.unread x2) = x2 :=
    funext fun j => (harg3.readAt_unread x2 _ j).trans (congrArg x2 (funext fun a => Fin.ext (match a with
      | ⟨0, _⟩ => by show 0 + 1 * (j 0).val = (j 0).val; omega
      | ⟨1, _⟩ => by show 0 + 1 * (j 1).val = (j 1).val; omega)))
  refine (show kernelRun0_A.sl.r_1 c arg1 harg1 arg3 harg3 x0 x2 = k0_pay7 _ _ from rfl).trans ?_
  exact congrArg₂ k0_pay7 e0 e2

theorem strip0 (u : Fin 1) (n : Fin 128) (l : Fin 512) :
    kernelRun0_A.sl.v87 c arg1 harg1 arg3 harg3 arg24 x0 x2 (ix3 u n l) = k0_pay7 x0 x2 (ix2 (row8 n 0) l) :=
  (strip_apply arg24 (kernelRun0_A.sl.r_1 c arg1 harg1 arg3 harg3 x0 x2) 0 u n l).trans (congrFun (r_1_eq c arg1 harg1 arg3 harg3 x0 x2) _)

theorem strip1 (u : Fin 1) (n : Fin 128) (l : Fin 512) :
    kernelRun0_A.sl.v99 c arg1 harg1 arg3 harg3 arg24 x0 x2 (ix3 u n l) = k0_pay7 x0 x2 (ix2 (row8 n 1) l) :=
  (strip_apply arg24 (kernelRun0_A.sl.r_1 c arg1 harg1 arg3 harg3 x0 x2) 1 u n l).trans (congrFun (r_1_eq c arg1 harg1 arg3 harg3 x0 x2) _)

theorem strip2 (u : Fin 1) (n : Fin 128) (l : Fin 512) :
    kernelRun0_A.sl.v111 c arg1 harg1 arg3 harg3 arg24 x0 x2 (ix3 u n l) = k0_pay7 x0 x2 (ix2 (row8 n 2) l) :=
  (strip_apply arg24 (kernelRun0_A.sl.r_1 c arg1 harg1 arg3 harg3 x0 x2) 2 u n l).trans (congrFun (r_1_eq c arg1 harg1 arg3 harg3 x0 x2) _)

theorem strip3 (u : Fin 1) (n : Fin 128) (l : Fin 512) :
    kernelRun0_A.sl.v123 c arg1 harg1 arg3 harg3 arg24 x0 x2 (ix3 u n l) = k0_pay7 x0 x2 (ix2 (row8 n 3) l) :=
  (strip_apply arg24 (kernelRun0_A.sl.r_1 c arg1 harg1 arg3 harg3 x0 x2) 3 u n l).trans (congrFun (r_1_eq c arg1 harg1 arg3 harg3 x0 x2) _)

theorem strip4 (u : Fin 1) (n : Fin 128) (l : Fin 512) :
    kernelRun0_A.sl.v135 c arg1 harg1 arg3 harg3 arg24 x0 x2 (ix3 u n l) = k0_pay7 x0 x2 (ix2 (row8 n 4) l) :=
  (strip_apply arg24 (kernelRun0_A.sl.r_1 c arg1 harg1 arg3 harg3 x0 x2) 4 u n l).trans (congrFun (r_1_eq c arg1 harg1 arg3 harg3 x0 x2) _)

theorem strip5 (u : Fin 1) (n : Fin 128) (l : Fin 512) :
    kernelRun0_A.sl.v147 c arg1 harg1 arg3 harg3 arg24 x0 x2 (ix3 u n l) = k0_pay7 x0 x2 (ix2 (row8 n 5) l) :=
  (strip_apply arg24 (kernelRun0_A.sl.r_1 c arg1 harg1 arg3 harg3 x0 x2) 5 u n l).trans (congrFun (r_1_eq c arg1 harg1 arg3 harg3 x0 x2) _)

theorem strip6 (u : Fin 1) (n : Fin 128) (l : Fin 512) :
    kernelRun0_A.sl.v159 c arg1 harg1 arg3 harg3 arg24 x0 x2 (ix3 u n l) = k0_pay7 x0 x2 (ix2 (row8 n 6) l) :=
  (strip_apply arg24 (kernelRun0_A.sl.r_1 c arg1 harg1 arg3 harg3 x0 x2) 6 u n l).trans (congrFun (r_1_eq c arg1 harg1 arg3 harg3 x0 x2) _)

theorem strip7 (u : Fin 1) (n : Fin 128) (l : Fin 512) :
    kernelRun0_A.sl.v171 c arg1 harg1 arg3 harg3 arg24 x0 x2 (ix3 u n l) = k0_pay7 x0 x2 (ix2 (row8 n 7) l) :=
  (strip_apply arg24 (kernelRun0_A.sl.r_1 c arg1 harg1 arg3 harg3 x0 x2) 7 u n l).trans (congrFun (r_1_eq c arg1 harg1 arg3 harg3 x0 x2) _)

/-! ## The history -/

/-- The scratch of the history, entry by entry: row 0 is not used, rows 1 to 15 hold the pool's history and row `16 + i` step `i` of the sample. -/
def G23 (z : FVec F S1024x512 .f32) (x1 : Vec F S15x128x512 .f32) : S24x128x512.Idx → F .f32 := fun y =>
  if h : 16 ≤ (y 0).val then
    z (ix2 (row8 (⟨(y 1).val, (y 1).isLt⟩ : Fin 128) (⟨(y 0).val - 16, by have h0 : (y 0).val < 24 := (y 0).isLt; omega⟩ : Fin 8)) (⟨(y 2).val, (y 2).isLt⟩ : Fin 512))
  else x1 (ix3 (⟨(y 0).val - 1, by omega⟩ : Fin 15) (⟨(y 1).val, (y 1).isLt⟩ : Fin 128) (⟨(y 2).val, (y 2).isLt⟩ : Fin 512))

theorem G23_new (z : FVec F S1024x512 .f32) (x1 : Vec F S15x128x512 .f32) (y : S24x128x512.Idx) (i : Fin 8) (n : Fin 128) (l : Fin 512)
    (h0 : (y 0).val = 16 + i.val) (h1 : (y 1).val = n.val) (h2 : (y 2).val = l.val) : G23 z x1 y = z (ix2 (row8 n i) l) := by
  refine (dif_pos (show 16 ≤ (y 0).val by omega)).trans (congrArg z (funext fun a => Fin.ext ?_))
  match a with
  | ⟨0, _⟩ => show 8 * (y 1).val + ((y 0).val - 16) = 8 * n.val + i.val; omega
  | ⟨1, _⟩ => exact h2

theorem G23_old (z : FVec F S1024x512 .f32) (x1 : Vec F S15x128x512 .f32) (y : S24x128x512.Idx) (j : Fin 15) (n : Fin 128) (l : Fin 512)
    (h0 : (y 0).val = j.val + 1) (h1 : (y 1).val = n.val) (h2 : (y 2).val = l.val) : G23 z x1 y = x1 (ix3 j n l) := by
  have hj := j.isLt
  refine (dif_neg (show ¬ 16 ≤ (y 0).val by omega)).trans (congrArg x1 (funext fun a => Fin.ext ?_))
  match a with
  | ⟨0, _⟩ => show (y 0).val - 1 = j.val; omega
  | ⟨1, _⟩ => exact h1
  | ⟨2, _⟩ => exact h2

theorem step_in (i : Fin 8) : ∀ a : Fin 3, (![16 + i.val, 0, 0] : Fin 3 → Nat) a + S1x128x512.size a ≤ S24x128x512.size a
  | ⟨0, _⟩ => by have := i.isLt; show 16 + i.val + 1 ≤ 24; omega
  | ⟨1, _⟩ => by show 0 + 128 ≤ 128; omega
  | ⟨2, _⟩ => by show 0 + 512 ≤ 512; omega

theorem pool_in : ∀ a : Fin 3, (![1, 0, 0] : Fin 3 → Nat) a + S15x128x512.size a ≤ S24x128x512.size a
  | ⟨0, _⟩ => by show 1 + 15 ≤ 24; omega
  | ⟨1, _⟩ => by show 0 + 128 ≤ 128; omega
  | ⟨2, _⟩ => by show 0 + 512 ≤ 512; omega

theorem last_in : ∀ a : Fin 3, (![9, 0, 0] : Fin 3 → Nat) a + S15x128x512.size a ≤ S24x128x512.size a
  | ⟨0, _⟩ => by show 9 + 15 ≤ 24; omega
  | ⟨1, _⟩ => by show 0 + 128 ≤ 128; omega
  | ⟨2, _⟩ => by show 0 + 512 ≤ 512; omega

/-- A strip is a row of the scratch. -/
theorem step_piece (z : FVec F S1024x512 .f32) (x1 : Vec F S15x128x512 .f32) (i : Fin 8) (w : FVec F S1x128x512 .f32)
    (hw : ∀ (u : Fin 1) (n : Fin 128) (l : Fin 512), w (ix3 u n l) = z (ix2 (row8 n i) l))
    (x : (Rect.unit (s := S24x128x512) ![16 + i.val, 0, 0] S1x128x512.size (step_in i)).shape.Idx) :
    w x = G23 z x1 ((Rect.unit (s := S24x128x512) ![16 + i.val, 0, 0] S1x128x512.size (step_in i)).emb x) := by
  have h0 : (x 0).val < 1 := (x 0).isLt
  have ex : x = ix3 (⟨(x 0).val, (x 0).isLt⟩ : Fin 1) (⟨(x 1).val, (x 1).isLt⟩ : Fin 128) (⟨(x 2).val, (x 2).isLt⟩ : Fin 512) :=
    funext fun a => match a with | ⟨0, _⟩ => rfl | ⟨1, _⟩ => rfl | ⟨2, _⟩ => rfl
  refine (congrArg w ex).trans ((hw _ _ _).trans (G23_new z x1 _ i _ _ ?_ ?_ ?_).symm)
  · show 16 + i.val + 1 * (x 0).val = 16 + i.val; omega
  · show 0 + 1 * (x 1).val = (x 1).val; omega
  · show 0 + 1 * (x 2).val = (x 2).val; omega

/-- The pool's history fills rows 1 to 15. -/
theorem pool_piece (z : FVec F S1024x512 .f32) (x1 : Vec F S15x128x512 .f32) (w : FVec F S15x128x512 .f32) (hw : w = x1)
    (x : (Rect.unit (s := S24x128x512) ![1, 0, 0] S15x128x512.size pool_in).shape.Idx) :
    w x = G23 z x1 ((Rect.unit (s := S24x128x512) ![1, 0, 0] S15x128x512.size pool_in).emb x) := by
  subst hw
  have ex : x = ix3 (⟨(x 0).val, (x 0).isLt⟩ : Fin 15) (⟨(x 1).val, (x 1).isLt⟩ : Fin 128) (⟨(x 2).val, (x 2).isLt⟩ : Fin 512) :=
    funext fun a => match a with | ⟨0, _⟩ => rfl | ⟨1, _⟩ => rfl | ⟨2, _⟩ => rfl
  refine (congrArg w ex).trans (G23_old z w _ _ _ _ ?_ ?_ ?_).symm
  · show 1 + 1 * (x 0).val = (x 0).val + 1; omega
  · show 0 + 1 * (x 1).val = (x 1).val; omega
  · show 0 + 1 * (x 2).val = (x 2).val; omega

/-- The stores into the scratch of the history, the newest first. -/
abbrev L23 (w : Fin 8 → FVec F S1x128x512 .f32) (p : FVec F S15x128x512 .f32) : List (View.Piece (Elt F) S24x128x512 .f32) :=
  [⟨Rect.unit ![23, 0, 0] S1x128x512.size (step_in 7), w 7⟩, ⟨Rect.unit ![22, 0, 0] S1x128x512.size (step_in 6), w 6⟩,
   ⟨Rect.unit ![21, 0, 0] S1x128x512.size (step_in 5), w 5⟩, ⟨Rect.unit ![20, 0, 0] S1x128x512.size (step_in 4), w 4⟩,
   ⟨Rect.unit ![19, 0, 0] S1x128x512.size (step_in 3), w 3⟩, ⟨Rect.unit ![18, 0, 0] S1x128x512.size (step_in 2), w 2⟩,
   ⟨Rect.unit ![17, 0, 0] S1x128x512.size (step_in 1), w 1⟩, ⟨Rect.unit ![16, 0, 0] S1x128x512.size (step_in 0), w 0⟩,
   ⟨Rect.unit ![1, 0, 0] S15x128x512.size pool_in, p⟩]

theorem L23_pieces (z : FVec F S1024x512 .f32) (x1 : Vec F S15x128x512 .f32) (w : Fin 8 → FVec F S1x128x512 .f32) (p : FVec F S15x128x512 .f32)
    (hw : ∀ (i : Fin 8) (u : Fin 1) (n : Fin 128) (l : Fin 512), w i (ix3 u n l) = z (ix2 (row8 n i) l)) (hp : p = x1) :
    ∀ q ∈ L23 w p, ∀ x : q.1.shape.Idx, q.2 x = G23 z x1 (q.1.emb x) := by
  intro q hq x
  simp only [List.mem_cons, List.not_mem_nil, or_false] at hq
  rcases hq with rfl | rfl | rfl | rfl | rfl | rfl | rfl | rfl | rfl
  · exact step_piece z x1 7 (w 7) (hw 7) x
  · exact step_piece z x1 6 (w 6) (hw 6) x
  · exact step_piece z x1 5 (w 5) (hw 5) x
  · exact step_piece z x1 4 (w 4) (hw 4) x
  · exact step_piece z x1 3 (w 3) (hw 3) x
  · exact step_piece z x1 2 (w 2) (hw 2) x
  · exact step_piece z x1 1 (w 1) (hw 1) x
  · exact step_piece z x1 0 (w 0) (hw 0) x
  · exact pool_piece z x1 p hp x

theorem step_mem (i : Fin 8) (y : S24x128x512.Idx) (hy : (y 0).val = 16 + i.val) :
    y ∈ (Rect.unit (s := S24x128x512) ![16 + i.val, 0, 0] S1x128x512.size (step_in i)).set :=
  Rect.mem_set_unit.mpr fun a => match a with
    | ⟨0, _⟩ => ⟨Nat.le_of_eq hy.symm, by show (y 0).val < 16 + i.val + 1; omega⟩
    | ⟨1, _⟩ => ⟨Nat.zero_le _, by have h1 : (y 1).val < 128 := (y 1).isLt; show (y 1).val < 0 + 128; omega⟩
    | ⟨2, _⟩ => ⟨Nat.zero_le _, by have h2 : (y 2).val < 512 := (y 2).isLt; show (y 2).val < 0 + 512; omega⟩

theorem pool_mem (y : S24x128x512.Idx) (hy : 1 ≤ (y 0).val) (hy' : (y 0).val < 16) :
    y ∈ (Rect.unit (s := S24x128x512) ![1, 0, 0] S15x128x512.size pool_in).set :=
  Rect.mem_set_unit.mpr fun a => match a with
    | ⟨0, _⟩ => ⟨hy, by show (y 0).val < 1 + 15; omega⟩
    | ⟨1, _⟩ => ⟨Nat.zero_le _, by have h1 : (y 1).val < 128 := (y 1).isLt; show (y 1).val < 0 + 128; omega⟩
    | ⟨2, _⟩ => ⟨Nat.zero_le _, by have h2 : (y 2).val < 512 := (y 2).isLt; show (y 2).val < 0 + 512; omega⟩

theorem L23_cover (w : Fin 8 → FVec F S1x128x512 .f32) (p : FVec F S15x128x512 .f32) (y : S24x128x512.Idx) (hy : 1 ≤ (y 0).val) :
    ∃ q ∈ L23 w p, y ∈ q.1.set := by
  have h0 : (y 0).val < 24 := (y 0).isLt
  simp only [L23, List.mem_cons, exists_eq_or_imp, List.not_mem_nil, false_and, exists_false, or_false]
  rcases (by omega : (y 0).val = 16 + 7 ∨ (y 0).val = 16 + 6 ∨ (y 0).val = 16 + 5 ∨ (y 0).val = 16 + 4
    ∨ (y 0).val = 16 + 3 ∨ (y 0).val = 16 + 2 ∨ (y 0).val = 16 + 1 ∨ (y 0).val = 16 + 0 ∨ (y 0).val < 16) with h | h | h | h | h | h | h | h | h
  · exact Or.inl (step_mem 7 y h)
  · exact Or.inr (Or.inl (step_mem 6 y h))
  · exact Or.inr (Or.inr (Or.inl (step_mem 5 y h)))
  · exact Or.inr (Or.inr (Or.inr (Or.inl (step_mem 4 y h))))
  · exact Or.inr (Or.inr (Or.inr (Or.inr (Or.inl (step_mem 3 y h)))))
  · exact Or.inr (Or.inr (Or.inr (Or.inr (Or.inr (Or.inl (step_mem 2 y h))))))
  · exact Or.inr (Or.inr (Or.inr (Or.inr (Or.inr (Or.inr (Or.inl (step_mem 1 y h)))))))
  · exact Or.inr (Or.inr (Or.inr (Or.inr (Or.inr (Or.inr (Or.inr (Or.inl (step_mem 0 y h))))))))
  · exact Or.inr (Or.inr (Or.inr (Or.inr (Or.inr (Or.inr (Or.inr (Or.inr ⟨_, rfl, pool_mem y hy h⟩)))))))

theorem pool_eq : k0_pay14 (View.readAt (Elt F) arg2.view (Rect.unit (s := S15x128x512) ![0, 0, 0] S15x128x512.size inb_S15x128x512_S15x128x512_0_0_0).toLoadRect (harg2.unread x1)) = x1 := by
  refine (shapeCast_self _ _).trans ((shapeCast_self _ _).trans ?_)
  exact funext fun j => (harg2.readAt_unread x1 _ j).trans (congrArg x1 (funext fun a => Fin.ext (match a with
    | ⟨0, _⟩ => by show 0 + 1 * (j 0).val = (j 0).val; omega
    | ⟨1, _⟩ => by show 0 + 1 * (j 1).val = (j 1).val; omega
    | ⟨2, _⟩ => by show 0 + 1 * (j 2).val = (j 2).val; omega)))

/-- The last fifteen rows of the scratch. -/
theorem last15 (arg23 : Memref sig .tc .vmem S24x128x512 .f32) (j : Fin 15) (n : Fin 128) (l : Fin 512) :
    kernelRun0_A.sl.v172 c arg1 harg1 arg2 harg2 arg3 harg3 arg23 arg24 x0 x1 x2 (ix3 j n l)
      = G23 (k0_pay7 x0 x2) x1 (ix3 (⟨9 + j.val, by have := j.isLt; omega⟩ : Fin 24) n l) := by
  let w : Fin 8 → FVec F S1x128x512 .f32 := fun i => match i with
    | ⟨0, _⟩ => kernelRun0_A.sl.v87 c arg1 harg1 arg3 harg3 arg24 x0 x2
    | ⟨1, _⟩ => kernelRun0_A.sl.v99 c arg1 harg1 arg3 harg3 arg24 x0 x2
    | ⟨2, _⟩ => kernelRun0_A.sl.v111 c arg1 harg1 arg3 harg3 arg24 x0 x2
    | ⟨3, _⟩ => kernelRun0_A.sl.v123 c arg1 harg1 arg3 harg3 arg24 x0 x2
    | ⟨4, _⟩ => kernelRun0_A.sl.v135 c arg1 harg1 arg3 harg3 arg24 x0 x2
    | ⟨5, _⟩ => kernelRun0_A.sl.v147 c arg1 harg1 arg3 harg3 arg24 x0 x2
    | ⟨6, _⟩ => kernelRun0_A.sl.v159 c arg1 harg1 arg3 harg3 arg24 x0 x2
    | ⟨7, _⟩ => kernelRun0_A.sl.v171 c arg1 harg1 arg3 harg3 arg24 x0 x2
  have hw : ∀ (i : Fin 8) (u : Fin 1) (n : Fin 128) (l : Fin 512), w i (ix3 u n l) = k0_pay7 x0 x2 (ix2 (row8 n i) l) := fun i => match i with
    | ⟨0, _⟩ => strip0 c arg1 harg1 arg3 harg3 arg24 x0 x2
    | ⟨1, _⟩ => strip1 c arg1 harg1 arg3 harg3 arg24 x0 x2
    | ⟨2, _⟩ => strip2 c arg1 harg1 arg3 harg3 arg24 x0 x2
    | ⟨3, _⟩ => strip3 c arg1 harg1 arg3 harg3 arg24 x0 x2
    | ⟨4, _⟩ => strip4 c arg1 harg1 arg3 harg3 arg24 x0 x2
    | ⟨5, _⟩ => strip5 c arg1 harg1 arg3 harg3 arg24 x0 x2
    | ⟨6, _⟩ => strip6 c arg1 harg1 arg3 harg3 arg24 x0 x2
    | ⟨7, _⟩ => strip7 c arg1 harg1 arg3 harg3 arg24 x0 x2
  let p : FVec F S15x128x512 .f32 :=
    k0_pay14 (View.readAt (Elt F) arg2.view (Rect.unit (s := S15x128x512) ![0, 0, 0] S15x128x512.size inb_S15x128x512_S15x128x512_0_0_0).toLoadRect (harg2.unread x1))
  have e : kernelRun0_A.sl.v172 c arg1 harg1 arg2 harg2 arg3 harg3 arg23 arg24 x0 x1 x2
      = arg23.view.readCov (L23 w p) (Rect.unit (s := S24x128x512) ![9, 0, 0] S15x128x512.size last_in).toLoadRect := rfl
  rw [e, View.readCov_eq_canon']
  show View.canon (L23 w p) ((Rect.unit (s := S24x128x512) ![9, 0, 0] S15x128x512.size last_in).toLoadRect.idx (ix3 j n l)) = _
  rw [show (Rect.unit (s := S24x128x512) ![9, 0, 0] S15x128x512.size last_in).toLoadRect.idx (ix3 j n l) = ix3 (⟨9 + j.val, by have := j.isLt; omega⟩ : Fin 24) n l from
    funext fun a => Fin.ext (match a with
    | ⟨0, _⟩ => by show 9 + 1 * j.val = 9 + j.val; omega
    | ⟨1, _⟩ => by show 0 + 1 * n.val = n.val; omega
    | ⟨2, _⟩ => by show 0 + 1 * l.val = l.val; omega)]
  exact View.canon_apply_of_pieces (G23 (k0_pay7 x0 x2) x1) (L23 w p) (L23_pieces _ x1 w p hw (pool_eq arg2 harg2 x1)) _
    (L23_cover w p (ix3 (⟨9 + j.val, by have := j.isLt; omega⟩ : Fin 24) n l) (by show 1 ≤ 9 + j.val; omega))

end

/-- The block of the history, entry by entry. -/
theorem out20_apply (c : Dev nD) (i : grid0.Coords) (arg1 : Memref sig .tc .vmem S1024x1024 .f32) (harg1 : arg1.IsWhole) (arg2 : Memref sig .tc .vmem S15x128x512 .f32) (harg2 : arg2.IsWhole) (arg3 : Memref sig .tc .vmem S1024x1536 .bf16) (harg3 : arg3.IsWhole) (arg4 : Memref sig .tc .vmem S4x128x128 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4x128x128 .bf16) (harg8 : arg8.IsWhole) (arg9 : Memref sig .tc .vmem S128x512 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S128x1024 .bf16) (harg12 : arg12.IsWhole) (arg13 : Memref sig .tc .vmem S128x1 .f32) (harg13 : arg13.IsWhole) (arg14 : Memref sig .tc .vmem S4x128x144 .bf16) (harg14 : arg14.IsWhole) (arg15 : Memref sig .tc .vmem S4x128x144 .bf16) (harg15 : arg15.IsWhole) (arg16 : Memref sig .tc .vmem S1024x1024 .f32) (harg16 : arg16.IsWhole) (arg17 : Memref sig .tc .vmem S1024x1024 .bf16) (harg17 : arg17.IsWhole) (arg18 : Memref sig .tc .vmem S1024x8 .f32) (harg18 : arg18.IsWhole) (arg19 : Memref sig .tc .vmem S32x256 .f32) (harg19 : arg19.IsWhole) (arg20 : Memref sig .tc .vmem S4x1x128 .f32) (harg20 : arg20.IsWhole) (arg21 : Memref sig .tc .vmem S15x128x512 .f32) (harg21 : arg21.IsWhole) (arg22 : Memref sig .tc .vmem S1024x512 .f32) (harg22 : arg22.IsWhole) (arg23 : Memref sig .tc .vmem S24x128x512 .f32) (harg23 : arg23.IsWhole) (arg24 : Memref sig .tc .vmem S4x1024x128 .f32) (harg24 : arg24.IsWhole)
    (x0 : Vec F S1024x1024 .f32) (x1 : Vec F S15x128x512 .f32) (x2 : Vec F S1024x1536 .bf16) (x3 : Vec F S4x128x128 .bf16) (x4 : Vec F S1x512 .f32) (x5 : Vec F S1x512 .f32) (x6 : Vec F S1x512 .f32) (x7 : Vec F S4x128x128 .bf16) (x8 : Vec F S128x512 .f32) (x9 : Vec F S1024x1024 .bf16) (x10 : Vec F S1x1024 .f32) (x11 : Vec F S128x1024 .bf16) (x12 : Vec F S128x1 .f32) (x13 : Vec F S4x128x144 .bf16) (x14 : Vec F S4x128x144 .bf16)
    (j : Fin 15) (n : Fin 128) (l : Fin 512) :
    out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 (ix3 j n l)
      = G23 (k0_pay7 x0 x2) x1 (ix3 (⟨9 + j.val, by have := j.isLt; omega⟩ : Fin 24) n l) := by
  let w : Vec F S15x128x512 .f32 := kernelRun0_A.sl.v172 c arg1 harg1 arg2 harg2 arg3 harg3 arg23 arg24 x0 x1 x2
  let L : List (View.Piece (Elt F) S15x128x512 .f32) := [⟨Rect.unit ![0, 0, 0] S15x128x512.size inb_S15x128x512_S15x128x512_0_0_0, w⟩]
  have hL : ∀ q ∈ L, ∀ x : q.1.shape.Idx, q.2 x = w (q.1.emb x) := by
    intro q hq x
    obtain rfl := List.mem_singleton.mp hq
    refine congrArg w (funext fun a => Fin.ext ?_)
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega
  have hm : (ix3 j n l : S15x128x512.Idx) ∈ (Rect.unit (s := S15x128x512) ![0, 0, 0] S15x128x512.size inb_S15x128x512_S15x128x512_0_0_0).set :=
    Rect.mem_set_unit.mpr fun a => match a with
    | ⟨0, _⟩ => ⟨Nat.zero_le _, by have := j.isLt; show j.val < 0 + 15; omega⟩
    | ⟨1, _⟩ => ⟨Nat.zero_le _, by have := n.isLt; show n.val < 0 + 128; omega⟩
    | ⟨2, _⟩ => ⟨Nat.zero_le _, by have := l.isLt; show l.val < 0 + 512; omega⟩
  have h := View.read_writes_apply_of_pieces VO0_20 (VO0_20.junk (Val := Elt F)) w L hL (ix3 j n l) ⟨_, List.mem_cons_self, hm⟩
  exact (show _ = VO0_20.read (Elt F) (VO0_20.writes (Elt F) VO0_20.junk L) (ix3 j n l) from rfl).trans
    (h.trans (last15 c arg1 harg1 arg2 harg2 arg3 harg3 arg24 x0 x1 x2 arg23 j n l))

end Cert.MixKernelIdeal.Hand

end
-- ==== Proof.MixHost.lean ====
/-
  Hand-written. What the region of the mixer is entered with: the rows of the sample, the history of the pool, and the gain folded into the matrix.
-/
module

public import proofs.«01_k».proof.Proof.Gen.MixKernelIdeal.Frame.Runs
public import Idealize.ShloMosaic.Lib.StableHlo.RunRead

@[expose] public section

set_option maxRecDepth 16384

noncomputable section

namespace Cert.MixKernelIdeal.Hand

open Cert.MixKernelIdeal Cert.MixKernelIdeal.Gen
open Idealize.ShloMosaic Idealize.ShloMosaic.TcCoe Idealize.SL.Sem

variable {F : FTy → Type} [FloatOps F]
variable (m : (ℓ : Loc nD τ sig) → Buf (Elt F) ℓ) (c : Dev nD)

/-- The lines after the first one. -/
abbrev lines₁ : List (HloOp τ sig (Elt F)) := List.flatten [hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

theorem V_first (b : Ref sig .tc) (h : (lines₁ (F := F)).Forall fun op => Proc.devRef .tc b ∉ op.writes) :
    V m c b = StableHlo.after (hostOps0 (F := F)) (fun b => m (c, b)) (Proc.devRef .tc b) := by
  show StableHlo.after (hostOps0 ++ lines₁) (fun b => m (c, b)) (Proc.devRef .tc b) = _
  rw [StableHlo.after_append]
  exact StableHlo.after_of_forall_not_mem _ _ (List.forall_iff_forall_mem.mp h)

theorem V25 : (V m c main_v25 : Vec F S1024x1024 .f32)
    = shapeCast S1024x1024 (m ((c : Thread nD τ).loc main_arg0) : Vec F S128x8x1024 .f32) shapeCasts_S128x8x1024_S1024x1024 := by
  refine (V_first m c main_v25 (by
    simp only [hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))).trans ?_
  after_reads_simp
  all_goals try simp -implicitDefEqProofs only [StableHlo.TRef.toBuf, StableHlo.TRef.ofBuf, cast_cast, cast_eq, id]
  all_goals first | done | rfl

theorem V27 : (V m c main_v27 : Vec F S15x128x512 .f32)
    = transpose S15x128x512 [1, 0, 2] (shapeCast S128x15x512 (m ((c : Thread nD τ).loc main_arg1) : Vec F S1x128x15x512 .f32) shapeCasts_S1x128x15x512_S128x15x512)
        transposes_S128x15x512_S15x128x512_1_0_2 := by
  refine (V_first m c main_v27 (by
    simp only [hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))).trans ?_
  after_reads_simp
  all_goals try simp -implicitDefEqProofs only [StableHlo.TRef.toBuf, StableHlo.TRef.ofBuf, cast_cast, cast_eq, id]
  all_goals first | done | rfl

theorem V33 : (V m c main_v33 : Vec F S1024x1536 .bf16)
    = truncf .bf16 (mulf (broadcastInDim S1024x1536 ![0, 1] bcast_S1024x1_S1024x1536_0_1 (broadcastInDim S1024x1 ![0] bcast_S1024_S1024x1_0
          (shapeCast S1024 (m ((c : Thread nD τ).loc main_arg2) : Vec F S1x1024 .f32) shapeCasts_S1x1024_S1024)))
        (shapeCast S1024x1536 (m ((c : Thread nD τ).loc main_arg3) : Vec F S1x1024x1536 .f32) shapeCasts_S1x1024x1536_S1024x1536) : FVec F S1024x1536 .f32)
        bitsLt_bf16_f32 := by
  refine (V_first m c main_v33 (by
    simp only [hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))).trans ?_
  after_reads_simp
  all_goals try simp -implicitDefEqProofs only [StableHlo.TRef.toBuf, StableHlo.TRef.ofBuf, cast_cast, cast_eq, id]
  all_goals first | done | rfl

end Cert.MixKernelIdeal.Hand

end
-- ==== Proof.MixRef.lean ====
/-
  Hand-written. What the plain mixer puts out, read at an index: the last fifteen steps of the pool's history followed by the projected rows.
-/
module

public import proofs.«01_k».proof.Proof.MixVal
public import proofs.«01_k».proof.Proof.Gen.MixReferenceIdeal.Read

@[expose] public section

set_option maxRecDepth 16384

noncomputable section

namespace Cert.MixReferenceIdeal.Hand

open Cert.MixReferenceIdeal Cert.MixReferenceIdeal.Gen Cert.MixReferenceIdeal.Read
open Idealize.ShloMosaic Idealize.ShloMosaic.TcCoe Idealize.SL.Sem Idealize.ShloMosaic.ValueIdx
open Cert.MixKernelIdeal.Hand (rowR)

variable (x0 : (⟨S128x8x1024, .f32⟩ : BufTy).Contents (Elt Ideal)) (x1 : (⟨S1x128x15x512, .f32⟩ : BufTy).Contents (Elt Ideal))
  (x2 : (⟨S1x1024, .f32⟩ : BufTy).Contents (Elt Ideal)) (x3 : (⟨S1x1024x1536, .f32⟩ : BufTy).Contents (Elt Ideal))

/-- The factor of a row. -/
theorem norm_apply (n : Fin 128) (i : Fin 8) : val_main_v7 (F := Ideal) x0 (ix3 n i (0 : Fin 1)) = rowR fun l => x0 (ix3 n i l) := by
  rw [val_main_v7_apply, val_main_v6_apply, val_main_v4_apply, val_main_v2_apply, val_main_v3_apply, val_main_v5_apply, val_main_v1_apply]
  have hs : ((val_main_cst (F := Ideal)) (Shape.Idx.first h_S_) + ∑ k : Fin 1024, (val_main_v0 (F := Ideal) x0) (idx_main_v1 (idx_main_v2 (ix3 n i (0 : Fin 1))) k) : EReal)
      = ∑ l : Fin 1024, x0 (ix3 n i l) * x0 (ix3 n i l) := by
    rw [show ((val_main_cst (F := Ideal)) (Shape.Idx.first h_S_) : EReal) = 0 from Ideal.ofBits_zero_f32, zero_add]
    refine Finset.sum_congr rfl fun k _ => ?_
    have e : idx_main_v1 (idx_main_v2 (ix3 n i (0 : Fin 1))) k = ix3 n i k := funext fun a => match a with | ⟨0, _⟩ => rfl | ⟨1, _⟩ => rfl | ⟨2, _⟩ => rfl
    rw [e]; rfl
  exact congrArg Ideal.rsqrt (congrArg₂ (· + ·) (congrArg₂ Ideal.div hs rfl) rfl)

/-- A projected row at a column. -/
theorem proj_apply (n : Fin 128) (i : Fin 8) (l : Fin 1536) : val_main_v15 (F := Ideal) x0 x2 x3 (ix3 n i l)
    = ∑ k : Fin 1024, ((x0 (ix3 n i k) * rowR fun q => x0 (ix3 n i q)) * x2 (ix2 (0 : Fin 1) k)) * x3 (ix3 (0 : Fin 1) k l) := by
  rw [val_main_v15_apply]
  refine Finset.sum_congr rfl fun k _ => ?_
  have el : lidx_main_v15 (ix3 n i l) k = ix3 n i k := funext fun a => match a with | ⟨0, _⟩ => rfl | ⟨1, _⟩ => rfl | ⟨2, _⟩ => rfl
  have er : ridx_main_v15 (ix3 n i l) k = ix2 k l := funext fun a => match a with | ⟨0, _⟩ => rfl | ⟨1, _⟩ => rfl
  rw [el, er, val_main_v13_apply, val_main_v9_apply, val_main_v8_apply, val_main_v12_apply, val_main_v11_apply, val_main_v10_apply, val_main_v14_apply]
  have e8 : idx_main_v8 (ix3 n i k) = ix3 n i (0 : Fin 1) := funext fun a => match a with | ⟨0, _⟩ => rfl | ⟨1, _⟩ => rfl | ⟨2, _⟩ => rfl
  have e10 : idx_main_v10 (idx_main_v11 (idx_main_v12 (ix3 n i k))) = ix2 (0 : Fin 1) k := funext fun a => Fin.ext (match a with
    | ⟨0, _⟩ => rfl
    | ⟨1, _⟩ => by show k.val % 1024 = k.val; exact Nat.mod_eq_of_lt k.isLt)
  have e14 : idx_main_v14 (ix2 k l) = ix3 (0 : Fin 1) k l := funext fun a => Fin.ext (match a with
    | ⟨0, _⟩ => rfl
    | ⟨1, _⟩ => by have := k.isLt; have := l.isLt; show (k.val * 1536 + l.val) / 1536 % 1024 = k.val; omega
    | ⟨2, _⟩ => by have := l.isLt; show (k.val * 1536 + l.val) % 1536 = l.val; omega)
  rw [e8, e10, e14, norm_apply]
  rfl

/-- The history's kept steps. -/
theorem hist_old (j : Fin 15) (n : Fin 128) (l : Fin 512) (hj : j.val < 7) : val_main_v20 (F := Ideal) x0 x1 x2 x3 (ix3 j n l)
    = x1 (ix4 (0 : Fin 1) n (⟨8 + j.val, by omega⟩ : Fin 15) l) := by
  rw [val_main_v20_apply, val_main_v19_apply]
  unfold val_main_v18
  refine (concatenate_pair_apply_left (t := S128x23x512) (s₁ := S128x15x512) (s₂ := S128x8x512) (1 : Fin 3) (val_main_v17 (F := Ideal) x1) (val_main_v16 (F := Ideal) x0 x2 x3) concatenates_S128x15x512_S128x8x512_S128x23x512_d1
    (idx_main_v19 (idx_main_v20 (ix3 j n l))) rfl
    (ix3 n (⟨8 + j.val, by omega⟩ : Fin 15) l) (fun b => match b with | ⟨0, _⟩ => rfl | ⟨1, _⟩ => rfl | ⟨2, _⟩ => rfl)).trans ?_
  rw [val_main_v17_apply]
  refine congrArg x1 (funext fun a => Fin.ext ?_)
  have hn := n.isLt
  have hl := l.isLt
  match a with
  | ⟨0, _⟩ => rfl
  | ⟨1, _⟩ => show ((n.val * 15 + (8 + j.val)) * 512 + l.val) / 7680 % 128 = n.val; omega
  | ⟨2, _⟩ => show ((n.val * 15 + (8 + j.val)) * 512 + l.val) / 512 % 15 = 8 + j.val; omega
  | ⟨3, _⟩ => show ((n.val * 15 + (8 + j.val)) * 512 + l.val) % 512 = l.val; omega

/-- The history's new steps. -/
theorem hist_new (j : Fin 15) (n : Fin 128) (l : Fin 512) (i : Fin 8) (hj : j.val = 7 + i.val) : val_main_v20 (F := Ideal) x0 x1 x2 x3 (ix3 j n l)
    = ∑ k : Fin 1024, ((x0 (ix3 n i k) * rowR fun q => x0 (ix3 n i q)) * x2 (ix2 (0 : Fin 1) k))
        * x3 (ix3 (0 : Fin 1) k (⟨l.val, by have := l.isLt; omega⟩ : Fin 1536)) := by
  rw [val_main_v20_apply, val_main_v19_apply]
  unfold val_main_v18
  refine (concatenate_pair_apply_right (t := S128x23x512) (s₁ := S128x15x512) (s₂ := S128x8x512) (1 : Fin 3) (val_main_v17 (F := Ideal) x1) (val_main_v16 (F := Ideal) x0 x2 x3) concatenates_S128x15x512_S128x8x512_S128x23x512_d1
    (idx_main_v19 (idx_main_v20 (ix3 j n l))) rfl rfl
    (ix3 n i l) (fun b hb => match b with | ⟨0, _⟩ => rfl | ⟨1, _⟩ => absurd rfl hb | ⟨2, _⟩ => rfl) (by show i.val + 15 = 8 + j.val; omega)).trans ?_
  rw [val_main_v16_apply]
  have e : idx_main_v16 (ix3 n i l) = ix3 n i (⟨l.val, by have := l.isLt; omega⟩ : Fin 1536) :=
    funext fun a => match a with | ⟨0, _⟩ => rfl | ⟨1, _⟩ => rfl | ⟨2, _⟩ => rfl
  rw [e, proj_apply]

end Cert.MixReferenceIdeal.Hand

end
-- ==== Proof.MixJoin.lean ====
/-
  Hand-written. The mixer's call and the plain mixer end with the same history, from the inputs: the call's blocks are its arrays, the gain folded into the
  matrix meets the gain on the rows by associativity, and the two runs are put side by side.
-/
module

public import proofs.«01_k».proof.Proof.MixOut
public import proofs.«01_k».proof.Proof.MixHost
public import proofs.«01_k».proof.Proof.MixRef
public import proofs.«01_k».proof.Proof.Gen.MixKernelIdeal.Value
public import proofs.«01_k».proof.Proof.Gen.MixReferenceIdeal.Run
public import Idealize.ShloMosaic.Lib.Pipeline.ValueKit

@[expose] public section

set_option maxRecDepth 16384

noncomputable section

namespace Cert.MixKernelIdeal.Hand

open Cert.MixKernelIdeal Cert.MixKernelIdeal.Gen
open Idealize.ShloMosaic hiding ix1 ix2 ix3 ix4
open Idealize.ShloMosaic.TcCoe Idealize.SL.Sem Idealize.ShloMosaic.ValueIdx

section
variable {F : FTy → Type} [FloatOps F]
variable (m : (ℓ : Loc nD τ sig) → Buf (Elt F) ℓ)

/-! ## A block is its array -/

theorem iblk0 (c : Dev nD) (t : Fin cfg0.N) : (iblk m c 0 t : S1024x1024.Idx → Elt F .f32) = V m c main_v25 := by
  funext x
  unfold iblk
  rw [View.read_apply]
  refine congrArg (V m c main_v25) ?_
  funext a
  apply Fin.ext
  blk_simp
  rw [fin_N0 t]
  have h : ∀ a, win0_0.index t0_0 a * win0_0.size a = 0 := by decide +kernel
  exact (congrArg (· + (x a).val) (h a)).trans (Nat.zero_add _)

theorem iblk1 (c : Dev nD) (t : Fin cfg0.N) : (iblk m c 1 t : S15x128x512.Idx → Elt F .f32) = V m c main_v27 := by
  funext x
  unfold iblk
  rw [View.read_apply]
  refine congrArg (V m c main_v27) ?_
  funext a
  apply Fin.ext
  blk_simp
  rw [fin_N0 t]
  have h : ∀ a, win0_1.index t0_0 a * win0_1.size a = 0 := by decide +kernel
  exact (congrArg (· + (x a).val) (h a)).trans (Nat.zero_add _)

theorem iblk2 (c : Dev nD) (t : Fin cfg0.N) : (iblk m c 2 t : S1024x1536.Idx → Elt F .bf16) = V m c main_v33 := by
  funext x
  unfold iblk
  rw [View.read_apply]
  refine congrArg (V m c main_v33) ?_
  funext a
  apply Fin.ext
  blk_simp
  rw [fin_N0 t]
  have h : ∀ a, win0_2.index t0_0 a * win0_2.size a = 0 := by decide +kernel
  exact (congrArg (· + (x a).val) (h a)).trans (Nat.zero_add _)

/-- What the call leaves in the history's array. -/
def histK (c : Dev nD) : Vec F S15x128x512 .f32 := fun y =>
  G23 (k0_pay7 (V m c main_v25 : Vec F S1024x1024 .f32) (V m c main_v33 : Vec F S1024x1536 .bf16)) (V m c main_v27 : Vec F S15x128x512 .f32)
    (ix3 (⟨9 + (y 0).val, by have h : (y 0).val < 15 := (y 0).isLt; omega⟩ : Fin 24) (⟨(y 1).val, (y 1).isLt⟩ : Fin 128) (⟨(y 2).val, (y 2).isLt⟩ : Fin 512))

theorem after20 (c : Dev nD) (t : Fin cfg0.N) : ((dats m 0 c).after 20 t : S15x128x512.Idx → Elt F .f32) = histK m c := by
  rw [after0_20]
  funext y
  have ey : y = ix3 (⟨(y 0).val, (y 0).isLt⟩ : Fin 15) (⟨(y 1).val, (y 1).isLt⟩ : Fin 128) (⟨(y 2).val, (y 2).isLt⟩ : Fin 512) :=
    funext fun a => match a with | ⟨0, _⟩ => rfl | ⟨1, _⟩ => rfl | ⟨2, _⟩ => rfl
  rw [ey]
  simp only [outsAt0]
  refine (out20_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    (⟨(y 0).val, (y 0).isLt⟩ : Fin 15) (⟨(y 1).val, (y 1).isLt⟩ : Fin 128) (⟨(y 2).val, (y 2).isLt⟩ : Fin 512)).trans ?_
  rw [iblk0 m c t, iblk1 m c t, iblk2 m c t]
  rfl

theorem arr20 (c : Dev nD) : (dats m 0 c).arrAt 20 cfg0.N = histK m c := by
  refine (dats m 0 c).arrAt_eq_of_covers 20 _ (by decide +kernel) fun t hf y => ?_
  blk_simp
  rw [after20]
  refine congrArg (histK m c) ?_
  funext a
  apply Fin.ext
  blk_simp
  rw [fin_N0 t]
  have h : ∀ a, win0_20.index t0_0 a * win0_20.size a = 0 := by decide +kernel
  exact ((congrArg (· + (y a).val) (h a)).trans (Nat.zero_add _)).symm

end

/-! ## On the extended reals -/

section
variable (m : (ℓ : Loc nD τ sig) → Buf (Elt Ideal) ℓ) (c : Dev nD)

/-- The call's projection, at a row and a column. -/
theorem pay7_apply (v : Vec Ideal S1024x1024 .f32) (w : Vec Ideal S1024x1536 .bf16) (p : Fin 1024) (l : Fin 512) :
    k0_pay7 v w (ix2 p l) = ∑ k : Fin 1024, (v (ix2 p k) * rowR fun q => v (ix2 p q)) * w (ix2 k (⟨l.val, by have := l.isLt; omega⟩ : Fin 1536)) := by
  have e6 : k0_pay6 v w = zK v w := by
    refine (show k0_pay6 v w = zK (k0_pay5 v) (shapeCast S1024x1536 w shapeCasts_S1024x1536_S1024x1536) from rfl).trans ?_
    exact congrArg₂ zK (shapeCast_self v _) (shapeCast_self w _)
  refine (show k0_pay7 v w (ix2 p l) = extractStridedSlice S1024x512 ![0, 0] (k0_pay6 v w) slices_S1024x1536_o0_0_S1024x512 (ix2 p l) from rfl).trans ?_
  refine (extractStridedSlice_apply _ (k0_pay6 v w) slices_S1024x1536_o0_0_S1024x512 (ix2 p l) (ix2 p (⟨l.val, by have := l.isLt; omega⟩ : Fin 1536)) (fun a => match a with
    | ⟨0, _⟩ => (Nat.zero_add _).symm
    | ⟨1, _⟩ => (Nat.zero_add _).symm)).trans ?_
  rw [e6]
  exact zK_apply v w p _

/-- The rows the call is entered with. -/
theorem V25_apply (n : Fin 128) (i : Fin 8) (k : Fin 1024) : (V m c main_v25 : Vec Ideal S1024x1024 .f32) (ix2 (row8 n i) k)
    = (m ((c : Thread nD τ).loc main_arg0) : Vec Ideal S128x8x1024 .f32) (ix3 n i k) := by
  rw [V25]
  exact shapeCast_apply _ shapeCasts_S128x8x1024_S1024x1024 (ix2 (row8 n i) k) (ix3 n i k) (by
    rw [Shape.rowMajor_val_three, Shape.rowMajor_val_two]
    show (n.val * 8 + i.val) * 1024 + k.val = (8 * n.val + i.val) * 1024 + k.val
    omega)

/-- The history it is entered with. -/
theorem V27_apply (j : Fin 15) (n : Fin 128) (l : Fin 512) : (V m c main_v27 : Vec Ideal S15x128x512 .f32) (ix3 j n l)
    = (m ((c : Thread nD τ).loc main_arg1) : Vec Ideal S1x128x15x512 .f32) (ix4 (0 : Fin 1) n j l) := by
  rw [V27]
  refine (transpose_apply [1, 0, 2] _ transposes_S128x15x512_S15x128x512_1_0_2 (ix3 j n l) (ix3 n j l) (fun b => match b with
    | ⟨0, _⟩ => rfl
    | ⟨1, _⟩ => rfl
    | ⟨2, _⟩ => rfl)).trans ?_
  exact shapeCast_apply _ shapeCasts_S1x128x15x512_S128x15x512 (ix3 n j l) (ix4 (0 : Fin 1) n j l) (by
    rw [Shape.rowMajor_val_four, Shape.rowMajor_val_three]
    show ((0 * 128 + n.val) * 15 + j.val) * 512 + l.val = (n.val * 15 + j.val) * 512 + l.val
    omega)

/-- The matrix it is entered with: the gain folded in. -/
theorem V33_apply (k : Fin 1024) (l : Fin 1536) : (V m c main_v33 : Vec Ideal S1024x1536 .bf16) (ix2 k l)
    = @HMul.hMul EReal EReal EReal _ ((m ((c : Thread nD τ).loc main_arg2) : Vec Ideal S1x1024 .f32) (ix2 (0 : Fin 1) k))
        ((m ((c : Thread nD τ).loc main_arg3) : Vec Ideal S1x1024x1536 .f32) (ix3 (0 : Fin 1) k l)) := by
  rw [V33]
  refine congrArg₂ (fun a b : EReal => a * b) ?_ ?_
  · refine (broadcastInDim_apply _ bcast_S1024x1_S1024x1536_0_1 _ (ix2 k l) (ix2 k (0 : Fin 1)) (fun a => match a with
      | ⟨0, _⟩ => by show k.val = if (1024 : Nat) = 1 then 0 else k.val; rw [if_neg (by decide)]
      | ⟨1, _⟩ => by show 0 = if (1 : Nat) = 1 then 0 else l.val; rw [if_pos rfl])).trans ?_
    refine (broadcastInDim_apply _ bcast_S1024_S1024x1_0 _ (ix2 k (0 : Fin 1)) (ix1 k) (fun a => match a with
      | ⟨0, _⟩ => by show k.val = if (1024 : Nat) = 1 then 0 else k.val; rw [if_neg (by decide)])).trans ?_
    exact shapeCast_apply _ shapeCasts_S1x1024_S1024 (ix1 k) (ix2 (0 : Fin 1) k) (by
      rw [Shape.rowMajor_val_two, Shape.rowMajor_val_one]
      show 0 * 1024 + k.val = k.val
      omega)
  · exact shapeCast_apply _ shapeCasts_S1x1024x1536_S1024x1536 (ix2 k l) (ix3 (0 : Fin 1) k l) (by
      rw [Shape.rowMajor_val_three, Shape.rowMajor_val_two]
      show (0 * 1024 + k.val) * 1536 + l.val = k.val * 1536 + l.val
      omega)

/-- The two histories are equal. -/
theorem histK_eq : histK m c = Cert.MixReferenceIdeal.Read.val_main_v20 (F := Ideal) (m ((c : Thread nD τ).loc main_arg0)) (m ((c : Thread nD τ).loc main_arg1))
    (m ((c : Thread nD τ).loc main_arg2)) (m ((c : Thread nD τ).loc main_arg3)) := by
  funext y
  obtain ⟨j, n, l, rfl⟩ : ∃ (j : Fin 15) (n : Fin 128) (l : Fin 512), y = ix3 j n l :=
    ⟨⟨(y 0).val, (y 0).isLt⟩, ⟨(y 1).val, (y 1).isLt⟩, ⟨(y 2).val, (y 2).isLt⟩, funext fun a => match a with | ⟨0, _⟩ => rfl | ⟨1, _⟩ => rfl | ⟨2, _⟩ => rfl⟩
  have hj := j.isLt
  by_cases h : j.val < 7
  · refine (G23_old _ _ _ (⟨8 + j.val, by omega⟩ : Fin 15) n l (by show 9 + j.val = 8 + j.val + 1; omega) rfl rfl).trans ?_
    rw [V27_apply]
    exact (Cert.MixReferenceIdeal.Hand.hist_old _ _ _ _ j n l h).symm
  · refine (G23_new _ _ _ (⟨j.val - 7, by omega⟩ : Fin 8) n l (by show 9 + j.val = 16 + (j.val - 7); omega) rfl rfl).trans ?_
    refine Eq.trans ?_ (Cert.MixReferenceIdeal.Hand.hist_new _ _ _ _ j n l (⟨j.val - 7, by omega⟩ : Fin 8) (by show j.val = 7 + (j.val - 7); omega)).symm
    rw [pay7_apply]
    refine Finset.sum_congr rfl fun k _ => ?_
    have er : (rowR fun q => (V m c main_v25 : Vec Ideal S1024x1024 .f32) (ix2 (row8 n (⟨j.val - 7, by omega⟩ : Fin 8)) q))
        = rowR fun q => (m ((c : Thread nD τ).loc main_arg0) : Vec Ideal S128x8x1024 .f32) (ix3 n (⟨j.val - 7, by omega⟩ : Fin 8) q) :=
      congrArg rowR (funext fun q => V25_apply m c n _ q)
    rw [V33_apply, V25_apply, ← mul_assoc, er]

end

end Cert.MixKernelIdeal.Hand

end
-- ==== Proof.MixRun.lean ====
/-
  Hand-written. The claims about the mixer of the sampled tokens: its program runs over the floats and over the extended reals, so
  does the plain one over the extended reals, each leaves its arguments as they were, and over the extended reals both end with the
  same history.
-/
module

public import proofs.«01_k».proof.Defs
public import proofs.«01_k».proof.Proof.Gen.MixKernel
public import proofs.«01_k».proof.Proof.Gen.MixKernel.Frame
public import proofs.«01_k».proof.Proof.Gen.MixKernelIdeal
public import proofs.«01_k».proof.Proof.Gen.MixKernelIdeal.Frame
public import proofs.«01_k».proof.Proof.Gen.MixKernelIdeal.Value
public import proofs.«01_k».proof.Proof.Gen.MixReferenceIdeal
public import proofs.«01_k».proof.Proof.Gen.MixReferenceIdeal.Run
public import proofs.«01_k».proof.Proof.Gen.MixReferenceIdeal.Read
public import proofs.«01_k».proof.Proof.MixJoin

@[expose] public section

set_option maxRecDepth 20000

noncomputable section

namespace Cert.Proof

open Idealize.ShloMosaic Idealize.SL.Sem

/-- The mixer over the extended reals runs, leaves its arguments and every semaphore at zero. -/
theorem mixKernelIdeal_quiescent : Cert.quiescent_MixKernelIdeal := fun m g _ => Cert.MixKernelIdeal.Gen.frame m g

/-- So does the mixer over the floats. -/
theorem mixKernel_quiescent : Cert.quiescent_MixKernel := fun m g _ => Cert.MixKernel.Gen.frame (F := Bits) m g

/-- The plain program runs and leaves its arguments; it has no semaphore. -/
theorem mixReferenceIdeal_quiescent : Cert.quiescent_MixReferenceIdeal := fun m g _ =>
  (θ_run (Cert.MixReferenceIdeal.defs (F := Ideal)) _ _).mono
    (fun r h => ⟨fun c => (h c).2, sem_eq_zero_of_no_sems (by decide) r.2⟩) (Cert.MixReferenceIdeal.Value.run (F := Ideal) m g)

/-- Both end with the same history. -/
theorem mix_algebraic : Cert.algebraic_MixKernelIdeal_MixReferenceIdeal := fun m g m' g' _ hag =>
  ⟨fun c => Cert.MixKernelIdeal.Hand.histK m c,
    (θ_run (Cert.MixKernelIdeal.defs (F := Ideal)) _ _).mono
      (fun r h c => ⟨(h c).2.2.2.2.2.1.trans (Cert.MixKernelIdeal.Hand.arr20 m c), (h c).2.2.2.2.2.2.2⟩)
      (Cert.MixKernelIdeal.Value.run_blocks (F := Ideal) m g),
    (θ_run (Cert.MixReferenceIdeal.defs (F := Ideal)) _ _).mono
      (fun r h c => ⟨(h c).1.trans (by
        refine (Cert.MixReferenceIdeal.Read.val_main_v20_eq (F := Ideal) _ _ _ _).trans ?_
        rw [(hag c).1, (hag c).2.1, (hag c).2.2.1, (hag c).2.2.2.1]
        exact (Cert.MixKernelIdeal.Hand.histK_eq m c).symm), (h c).2⟩)
      (Cert.MixReferenceIdeal.Value.run (F := Ideal) m' g')⟩

end Cert.Proof

end
-- ==== Proof.lean ====
/-
  Hand-written. The claims: every program runs, leaves its arguments as they were and every semaphore at zero; the experts and
  their plain program end with the same words in their results; the mixer and its plain program end with the same history.
-/
module

public import proofs.«01_k».proof.Defs
public import proofs.«01_k».proof.Proof.Gen.Kernel
public import proofs.«01_k».proof.Proof.Gen.Reference
public import proofs.«01_k».proof.Proof.Gen.Pre_counts_ok
public import proofs.«01_k».proof.Proof.PreFacts
public import proofs.«01_k».proof.Proof.Ready
public import proofs.«01_k».proof.Proof.Result
public import proofs.«01_k».proof.Proof.Gen.MixKernel.Frame
public import proofs.«01_k».proof.Proof.MixRun

@[expose] public section

set_option maxRecDepth 20000

noncomputable section

namespace Cert.Proof

open Idealize.ShloMosaic Idealize.SL.Sem
open Cert.Kernel.Hand (cnOf cnOf_word good_of_pre planOf Good resK)

section Kernel
variable (m : (ℓ : Loc Cert.Kernel.nD Cert.Kernel.τ Cert.Kernel.sig) → Buf (Elt Bits) ℓ) (g : Dev Cert.Kernel.nD → PrngReg)

/-- How many rows each expert has. -/
def cnK (c : Dev Cert.Kernel.nD) : ℕ → ℕ := cnOf (m ((c.tc : Thread Cert.Kernel.nD Cert.Kernel.τ).loc Cert.Kernel.main_arg0))

theorem goodK (h : Cert.Pre_Kernel m) (c : Dev Cert.Kernel.nD) : Good (cnK m c) := good_of_pre _ _ _ _ _ (h c)

/-- The kernel's run. -/
theorem runK (h : Cert.Pre_Kernel m) :
    θ_run (Cert.Kernel.defs (F := Bits)) (onTc (τ := Cert.Kernel.τ) (Cert.Kernel.main (F := Bits))) ⟨m, fun _ => 0, g⟩ (fun r =>
      (∀ c : Dev Cert.Kernel.nD,
        r.2.mem ((c.tc : Thread Cert.Kernel.nD Cert.Kernel.τ).loc Cert.Kernel.main_v93) = resK m c (fun c => planOf (cnK m c) (goodK m h c))
        ∧ ∀ b : Ref Cert.Kernel.sig .tc, b = Cert.Kernel.main_arg0 ∨ b = Cert.Kernel.main_arg1 ∨ b = Cert.Kernel.main_arg2 ∨ b = Cert.Kernel.main_arg3 ∨ b = Cert.Kernel.main_arg4 →
          r.2.mem ((c.tc : Thread Cert.Kernel.nD Cert.Kernel.τ).loc b) = m ((c.tc : Thread Cert.Kernel.nD Cert.Kernel.τ).loc b))
      ∧ r.2.sem = fun _ => 0) :=
  (θ_run (Cert.Kernel.defs (F := Bits)) _ _).mono (fun r hr =>
    ⟨fun c => ⟨((hr.1 c).1 0).trans (Cert.Kernel.Hand.arr0 m c _), fun b hb => Cert.Kernel.Hand.tail_arg m _ c b hb r hr.1⟩, hr.2⟩)
    (Cert.Kernel.Hand.run_post m g (fun c => planOf (cnK m c) (goodK m h c)) (fun c => Cert.Kernel.Hand.ready m c (goodK m h c) (cnOf_word _)))

theorem kernel_quiescent : Cert.quiescent_Kernel := fun m g h =>
  (θ_run (Cert.Kernel.defs (F := Bits)) _ _).mono (fun r hr =>
    ⟨fun c => ⟨(hr.1 c).2 _ (.inl rfl), (hr.1 c).2 _ (.inr (.inl rfl)), (hr.1 c).2 _ (.inr (.inr (.inl rfl))),
      (hr.1 c).2 _ (.inr (.inr (.inr (.inl rfl)))), (hr.1 c).2 _ (.inr (.inr (.inr (.inr rfl))))⟩, hr.2⟩) (runK m g h)

end Kernel

section Reference
variable (m : (ℓ : Loc Cert.Reference.nD Cert.Reference.τ Cert.Reference.sig) → Buf (Elt Bits) ℓ) (g : Dev Cert.Reference.nD → PrngReg)

/-- The plain program's run, the rows of each expert given. -/
theorem runR (cn : Dev Cert.Reference.nD → ℕ → ℕ) (hG : ∀ c, Good (cn c))
    (hc : ∀ c, cn c = cnOf (m ((c.tc : Thread Cert.Reference.nD Cert.Reference.τ).loc Cert.Reference.main_arg0))) :
    θ_run (Cert.Reference.defs (F := Bits)) (onTc (τ := Cert.Reference.τ) (Cert.Reference.main (F := Bits))) ⟨m, fun _ => 0, g⟩ (fun r =>
      (∀ c : Dev Cert.Reference.nD,
        r.2.mem ((c.tc : Thread Cert.Reference.nD Cert.Reference.τ).loc Cert.Reference.main_v14) = Cert.Reference.Hand.resR m cn c
        ∧ r.2.mem ((c.tc : Thread Cert.Reference.nD Cert.Reference.τ).loc Cert.Reference.main_arg0) = m ((c.tc : Thread Cert.Reference.nD Cert.Reference.τ).loc Cert.Reference.main_arg0)
        ∧ r.2.mem ((c.tc : Thread Cert.Reference.nD Cert.Reference.τ).loc Cert.Reference.main_arg1) = m ((c.tc : Thread Cert.Reference.nD Cert.Reference.τ).loc Cert.Reference.main_arg1)
        ∧ r.2.mem ((c.tc : Thread Cert.Reference.nD Cert.Reference.τ).loc Cert.Reference.main_arg2) = m ((c.tc : Thread Cert.Reference.nD Cert.Reference.τ).loc Cert.Reference.main_arg2)
        ∧ r.2.mem ((c.tc : Thread Cert.Reference.nD Cert.Reference.τ).loc Cert.Reference.main_arg3) = m ((c.tc : Thread Cert.Reference.nD Cert.Reference.τ).loc Cert.Reference.main_arg3)
        ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0) :=
  (θ_run (Cert.Reference.defs (F := Bits)) _ _).mono (fun r hr =>
    ⟨fun c => ⟨Cert.Reference.Hand.v14_post m cn c r hr.1, Cert.Reference.Hand.args_post m cn c r hr.1⟩, hr.2⟩)
    (Cert.Reference.Hand.run_post m g cn hG (fun c e => by
      rw [hc c]; exact (congrFun (Cert.Reference.Gen.V_main_arg0 m c) _).trans (cnOf_word _ e)))

theorem reference_quiescent : Cert.quiescent_Reference := fun m g h =>
  (θ_run (Cert.Reference.defs (F := Bits)) _ _).mono (fun r hr => ⟨fun c => (hr.1 c).2, hr.2⟩)
    (runR m g (fun c => cnOf (m ((c.tc : Thread Cert.Reference.nD Cert.Reference.τ).loc Cert.Reference.main_arg0)))
      (fun c => good_of_pre _ _ _ _ _ (h c)) (fun _ => rfl))

end Reference

theorem bitexact : Cert.bitexact_Kernel_Reference := fun m g m' g' h hagree =>
  ⟨fun c => resK m c (fun c => planOf (cnK m c) (goodK m h c)),
    (θ_run (Cert.Kernel.defs (F := Bits)) _ _).mono (fun r hr c =>
      ⟨(hr.1 c).1, (hr.1 c).2 _ (.inl rfl), (hr.1 c).2 _ (.inr (.inl rfl)), (hr.1 c).2 _ (.inr (.inr (.inl rfl))),
        (hr.1 c).2 _ (.inr (.inr (.inr (.inl rfl)))), (hr.1 c).2 _ (.inr (.inr (.inr (.inr rfl))))⟩) (runK m g h),
    (θ_run (Cert.Reference.defs (F := Bits)) _ _).mono (fun r hr c =>
      ⟨(hr.1 c).1.trans (Cert.Join.res_eq m m' c (cnK m) (goodK m h) (hagree c).2.1 (hagree c).2.2.1 (hagree c).2.2.2.1 (hagree c).2.2.2.2).symm, (hr.1 c).2⟩)
      (runR m' g' (cnK m) (goodK m h) (fun c => congrArg cnOf (hagree c).1.symm))⟩

theorem claim : Cert.Claim :=
  ⟨Cert.Kernel.Gen.facts, Cert.Reference.Gen.facts, Cert.MixKernel.Gen.facts, Cert.MixKernelIdeal.Gen.facts,
    Cert.MixReferenceIdeal.Gen.facts, Cert.Pre_counts_ok.Gen.facts, kernel_quiescent, reference_quiescent, mixKernel_quiescent,
    mixKernelIdeal_quiescent, mixReferenceIdeal_quiescent, bitexact, trivial, mix_algebraic⟩

end Cert.Proof

end
